-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_inputs [hPre_finite_inputs : Cert.Pre_finite_inputs.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_inputs.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_inputs [hPre_finite_inputs : Cert.Pre_finite_inputs.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_inputs.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Kernel7Ideal_pre_finite_inputs [hKernel7Ideal : Cert.Kernel7Ideal.Facts] [hPre_finite_inputs : Cert.Pre_finite_inputs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_inputs m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Reference7Ideal_pre_finite_inputs [hReference7Ideal : Cert.Reference7Ideal.Facts] [hPre_finite_inputs : Cert.Pre_finite_inputs.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_inputs m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def preserves_Kernel_KernelIdeal : Prop :=
  IdealRules.named_const.Statement Cert.KernelIdeal.κ "floor" .f32 0xC2D20000#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_v67) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_inputs [hKernel7Ideal : Cert.Kernel7Ideal.Facts] [hReference7Ideal : Cert.Reference7Ideal.Facts] [hPre_finite_inputs : Cert.Pre_finite_inputs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_inputs m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v36)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v36) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v177) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_inputs : Cert.Pre_finite_inputs.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_inputs (hKernel7Ideal := hKernel7Ideal) (hPre_finite_inputs := hPre_finite_inputs)
    ∧ quiescent_Reference7Ideal (hReference7Ideal := hReference7Ideal)
    ∧ quiescent_Reference7Ideal_pre_finite_inputs (hReference7Ideal := hReference7Ideal) (hPre_finite_inputs := hPre_finite_inputs)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_inputs (hKernel7Ideal := hKernel7Ideal) (hReference7Ideal := hReference7Ideal) (hPre_finite_inputs := hPre_finite_inputs)
-- ==== Pre_finite_inputs.lean ====
abbrev S8x4096x1024 : Shape := ⟨3, ![8, 4096, 1024]⟩
abbrev S8x3x1024 : Shape := ⟨3, ![8, 3, 1024]⟩
abbrev S1024 : Shape := ⟨1, ![1024]⟩
abbrev S1024x4624 : Shape := ⟨2, ![1024, 4624]⟩
abbrev S2048x1024 : Shape := ⟨2, ![2048, 1024]⟩
abbrev S8x128x128 : Shape := ⟨3, ![8, 128, 128]⟩
abbrev S8x128 : Shape := ⟨2, ![8, 128]⟩
abbrev S4x1536 : Shape := ⟨2, ![4, 1536]⟩
abbrev S1536 : Shape := ⟨1, ![1536]⟩
abbrev S16 : Shape := ⟨1, ![16]⟩
abbrev S_ : Shape := ⟨0, ![]⟩

class Facts : Prop where
  bcast_S_S8x3x1024 : S_.BroadcastsInDim S8x3x1024 (![] : Fin 0 → Fin S8x3x1024.rank)
  reducesTo_S8x3x1024_S_d0_1_2 : S8x3x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4624 : S_.BroadcastsInDim S1024x4624 (![] : Fin 0 → Fin S1024x4624.rank)
  reducesTo_S1024x4624_S_d0_1 : S1024x4624.ReducesTo [0, 1] S_
  bcast_S_S4x1536 : S_.BroadcastsInDim S4x1536 (![] : Fin 0 → Fin S4x1536.rank)
  reducesTo_S4x1536_S_d0_1 : S4x1536.ReducesTo [0, 1] S_
  bcast_S_S1536 : S_.BroadcastsInDim S1536 (![] : Fin 0 → Fin S1536.rank)
  reducesTo_S1536_S_d0 : S1536.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg9 : FVec F S1536 .f32) (main_arg10 : FVec F S16 .f32) (main_arg11 : FVec F S16 .f32) (main_v3 : IVec S_ 1) (main_v7 : IVec S_ 1) (main_v11 : IVec S_ 1) (main_v15 : IVec S_ 1) : IVec S_ 1 :=
  let main_v16 : FVec F S1536 .f32 := Host.absf main_arg9
  let main_cst_6 : FVec F S_ .f32 := constant S_ .f32 0x7F800000#32
  let main_v17 : FVec F S1536 .f32 := broadcastInDim S1536 ![] bcast_S_S1536 main_cst_6
  let main_v18 : IVec S1536 1 := cmpf .olt main_v16 main_v17
  let main_c_7 : IVec S_ 1 := constantI S_ 1 1#1
  let main_v19 : IVec S_ 1 := (fun x v => Host.reduce IntOp.andi x v reducesTo_S1536_S_d0 h_S_) main_v18 main_c_7
  let main_v20 : FVec F S16 .f32 := Host.absf main_arg10
  let main_cst_8 : FVec F S_ .f32 := constant S_ .f32 0x7F800000#32
  let main_v21 : FVec F S16 .f32 := broadcastInDim S16 ![] bcast_S_S16 main_cst_8
  let main_v22 : IVec S16 1 := cmpf .olt main_v20 main_v21
  let main_c_9 : IVec S_ 1 := constantI S_ 1 1#1
  let main_v23 : IVec S_ 1 := (fun x v => Host.reduce IntOp.andi x v reducesTo_S16_S_d0 h_S_) main_v22 main_c_9
  let main_v24 : FVec F S16 .f32 := Host.absf main_arg11
  let main_cst_10 : FVec F S_ .f32 := constant S_ .f32 0x7F800000#32
  let main_v25 : FVec F S16 .f32 := broadcastInDim S16 ![] bcast_S_S16 main_cst_10
  let main_v26 : IVec S16 1 := cmpf .olt main_v24 main_v25
  let main_c_11 : IVec S_ 1 := constantI S_ 1 1#1
  let main_v27 : IVec S_ 1 := (fun x v => Host.reduce IntOp.andi x v reducesTo_S16_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8x4096x1024 .f32) (main_arg1 : FVec F S8x3x1024 .f32) (main_arg2 : FVec F S1024 .f32) (main_arg3 : FVec F S1024x4624 .f32) (main_arg4 : FVec F S2048x1024 .f32) (main_arg5 : FVec F S1024 .f32) (main_arg6 : FVec F S8x128x128 .f32) (main_arg7 : FVec F S8x128 .f32) (main_arg8 : FVec F S4x1536 .f32) (main_arg9 : FVec F S1536 .f32) (main_arg10 : FVec F S16 .f32) (main_arg11 : FVec F S16 .f32) (main_arg12 : FVec F S16 .f32) (main_arg13 : FVec F S1024 .f32) : IVec S_ 1 :=
  let main_v0 : FVec F S8x3x1024 .f32 := Host.absf main_arg1
  let main_cst : FVec F S_ .f32 := constant S_ .f32 0x7F800000#32
  let main_v1 : FVec F S8x3x1024 .f32 := broadcastInDim S8x3x1024 ![] bcast_S_S8x3x1024 main_cst
  let main_v2 : IVec S8x3x1024 1 := cmpf .olt main_v0 main_v1
  let main_c : IVec S_ 1 := constantI S_ 1 1#1
  let main_v3 : IVec S_ 1 := (fun x v => Host.reduce IntOp.andi x v reducesTo_S8x3x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x4624 .f32 := Host.absf main_arg3
  let main_cst_2 : FVec F S_ .f32 := constant S_ .f32 0x7F800000#32
  let main_v9 : FVec F S1024x4624 .f32 := broadcastInDim S1024x4624 ![] bcast_S_S1024x4624 main_cst_2
  let main_v10 : IVec S1024x4624 1 := cmpf .olt main_v8 main_v9
  let main_c_3 : IVec S_ 1 := constantI S_ 1 1#1
  let main_v11 : IVec S_ 1 := (fun x v => Host.reduce IntOp.andi x v reducesTo_S1024x4624_S_d0_1 h_S_) main_v10 main_c_3
  let main_v12 : FVec F S4x1536 .f32 := Host.absf main_arg8
  let main_cst_4 : FVec F S_ .f32 := constant S_ .f32 0x7F800000#32
  let main_v13 : FVec F S4x1536 .f32 := broadcastInDim S4x1536 ![] bcast_S_S4x1536 main_cst_4
  let main_v14 : IVec S4x1536 1 := cmpf .olt main_v12 main_v13
  let main_c_5 : IVec S_ 1 := constantI S_ 1 1#1
  let main_v15 : IVec S_ 1 := (fun x v => Host.reduce IntOp.andi x v reducesTo_S4x1536_S_d0_1 h_S_) main_v14 main_c_5
  fn_part1 (F := F) main_arg9 main_arg10 main_arg11 main_v3 main_v7 main_v11 main_v15
-- ==== Pre_finite_qk.lean ====
abbrev S8x4096x1024 : Shape := ⟨3, ![8, 4096, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel

variable [Facts]

def fn {F : FTy → Type} [FloatOps F] (main_arg0 : FVec F S8x4096x1024 .bf16) (main_arg1 : FVec F S8x4096x1024 .bf16) (main_arg2 : FVec F S8x4096x1024 .bf16) : IVec S_ 1 :=
  let main_v0 : FVec F S8x4096x1024 .bf16 := Host.absf main_arg0
  let main_cst : FVec F S_ .bf16 := constant S_ .bf16 0x7F80#16
  let main_v1 : FVec F S8x4096x1024 .bf16 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .bf16 := Host.absf main_arg1
  let main_cst_0 : FVec F S_ .bf16 := constant S_ .bf16 0x7F80#16
  let main_v5 : FVec F S8x4096x1024 .bf16 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  main_v8
-- ==== Kernel.lean ====
abbrev S8x4096x1024 : Shape := ⟨3, ![8, 4096, 1024]⟩
abbrev S_ : Shape := ⟨0, ![]⟩
abbrev S256x256 : Shape := ⟨2, ![256, 256]⟩
abbrev S512x256 : Shape := ⟨2, ![512, 256]⟩
abbrev S1x256x1024 : Shape := ⟨3, ![1, 256, 1024]⟩
abbrev S1x4096x1024 : Shape := ⟨3, ![1, 4096, 1024]⟩
abbrev S8x512x128 : Shape := ⟨3, ![8, 512, 128]⟩
abbrev S1x128 : Shape := ⟨2, ![1, 128]⟩
abbrev S1x256x128 : Shape := ⟨3, ![1, 256, 128]⟩
abbrev S256x128 : Shape := ⟨2, ![256, 128]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 20
  | .vmem => 11
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S_, .bf16⟩
  | .hbm, ⟨4, _⟩ => ⟨S8x4096x1024, .bf16⟩
  | .hbm, ⟨5, _⟩ => ⟨S8x4096x1024, .bf16⟩
  | .hbm, ⟨6, _⟩ => ⟨S_, .f32⟩
  | .hbm, ⟨7, _⟩ => ⟨S256x256, .f32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S512x256, .f32⟩
  | .hbm, ⟨18, _⟩ => ⟨S512x256, .bf16⟩
  | .hbm, ⟨19, _⟩ => ⟨S8x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S512x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S8x512x128, .f32⟩
  | .local _ .vmem, ⟨10, _⟩ => ⟨S8x512x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 16], ![false, false, false]⟩

def k0_cond1 (i : grid0.Coords) : BitVec 1 :=
  let arg2 : BitVec 32 := BitVec.ofNat 32 (i 2).val
  let c0_i32 : BitVec 32 := 0#32
  let v89 : BitVec 1 := Scalar.cmpi .eq arg2 c0_i32
  let v90 : BitVec 32 := Scalar.extui v89
  let c0_i32_25 : BitVec 32 := 0#32
  let v91 : BitVec 1 := Scalar.cmpi .ne v90 c0_i32_25
  v91

def k0_mult1 (i : grid0.Coords) : BitVec 32 :=
  let arg2 : BitVec 32 := BitVec.ofNat 32 (i 2).val
  let c256_i32 : BitVec 32 := 256#32
  let v183 : BitVec 32 := Scalar.muli arg2 c256_i32
  v183
def k0_off1 (i : grid0.Coords) : Fin 3 → Nat :=
  let c0_91 : Index := 0#32
  let arg2 : BitVec 32 := BitVec.ofNat 32 (i 2).val
  let c256_i32 : BitVec 32 := 256#32
  let v183 : BitVec 32 := Scalar.muli arg2 c256_i32
  let v184 : BitVec 32 := v183
  let v185 : Index := Scalar.indexCast v184
  let c0_92 : Index := 0#32
  ![0, v185.toNat, 0]
def k0_mult2 (i : grid0.Coords) : BitVec 32 :=
  let arg2 : BitVec 32 := BitVec.ofNat 32 (i 2).val
  let c256_i32_106 : BitVec 32 := 256#32
  let v220 : BitVec 32 := Scalar.muli arg2 c256_i32_106
  v220
def k0_off2 (i : grid0.Coords) : Fin 3 → Nat :=
  let c0_107 : Index := 0#32
  let arg2 : BitVec 32 := BitVec.ofNat 32 (i 2).val
  let c256_i32_106 : BitVec 32 := 256#32
  let v220 : BitVec 32 := Scalar.muli arg2 c256_i32_106
  let v221 : BitVec 32 := v220
  let v222 : Index := Scalar.indexCast v221
  let c128_108 : Index := 128#32
  ![0, v222.toNat, 128]
def k0_mult3 (i : grid0.Coords) : BitVec 32 :=
  let arg2 : BitVec 32 := BitVec.ofNat 32 (i 2).val
  let c256_i32_122 : BitVec 32 := 256#32
  let v257 : BitVec 32 := Scalar.muli arg2 c256_i32_122
  v257
def k0_off3 (i : grid0.Coords) : Fin 3 → Nat :=
  let c0_123 : Index := 0#32
  let arg2 : BitVec 32 := BitVec.ofNat 32 (i 2).val
  let c256_i32_122 : BitVec 32 := 256#32
  let v257 : BitVec 32 := Scalar.muli arg2 c256_i32_122
  let v258 : BitVec 32 := v257
  let v259 : Index := Scalar.indexCast v258
  let c256_124 : Index := 256#32
  ![0, v259.toNat, 256]
def k0_mult4 (i : grid0.Coords) : BitVec 32 :=
  let arg2 : BitVec 32 := BitVec.ofNat 32 (i 2).val
  let c256_i32_138 : BitVec 32 := 256#32
  let v294 : BitVec 32 := Scalar.muli arg2 c256_i32_138
  v294
def k0_off4 (i : grid0.Coords) : Fin 3 → Nat :=
  let c0_139 : Index := 0#32
  let arg2 : BitVec 32 := BitVec.ofNat 32 (i 2).val
  let c256_i32_138 : BitVec 32 := 256#32
  let v294 : BitVec 32 := Scalar.muli arg2 c256_i32_138
  let v295 : BitVec 32 := v294
  let v296 : Index := Scalar.indexCast v295
  let c384_140 : Index := 384#32
  ![0, v296.toNat, 384]
def k0_mult5 (i : grid0.Coords) : BitVec 32 :=
  let arg2 : BitVec 32 := BitVec.ofNat 32 (i 2).val
  let c256_i32_154 : BitVec 32 := 256#32
  let v331 : BitVec 32 := Scalar.muli arg2 c256_i32_154
  v331
def k0_off5 (i : grid0.Coords) : Fin 3 → Nat :=
  let c0_155 : Index := 0#32
  let arg2 : BitVec 32 := BitVec.ofNat 32 (i 2).val
  let c256_i32_154 : BitVec 32 := 256#32
  let v331 : BitVec 32 := Scalar.muli arg2 c256_i32_154
  let v332 : BitVec 32 := v331
  let v333 : Index := Scalar.indexCast v332
  let c512_156 : Index := 512#32
  ![0, v333.toNat, 512]
def k0_mult6 (i : grid0.Coords) : BitVec 32 :=
  let arg2 : BitVec 32 := BitVec.ofNat 32 (i 2).val
  let c256_i32_170 : BitVec 32 := 256#32
  let v368 : BitVec 32 := Scalar.muli arg2 c256_i32_170
  v368
def k0_off6 (i : grid0.Coords) : Fin 3 → Nat :=
  let c0_171 : Index := 0#32
  let arg2 : BitVec 32 := BitVec.ofNat 32 (i 2).val
  let c256_i32_170 : BitVec 32 := 256#32
  let v368 : BitVec 32 := Scalar.muli arg2 c256_i32_170
  let v369 : BitVec 32 := v368
  let v370 : Index := Scalar.indexCast v369
  let c640_172 : Index := 640#32
  ![0, v370.toNat, 640]
def k0_mult7 (i : grid0.Coords) : BitVec 32 :=
  let arg2 : BitVec 32 := BitVec.ofNat 32 (i 2).val
  let c256_i32_186 : BitVec 32 := 256#32
  let v405 : BitVec 32 := Scalar.muli arg2 c256_i32_186
  v405
def k0_off7 (i : grid0.Coords) : Fin 3 → Nat :=
  let c0_187 : Index := 0#32
  let arg2 : BitVec 32 := BitVec.ofNat 32 (i 2).val
  let c256_i32_186 : BitVec 32 := 256#32
  let v405 : BitVec 32 := Scalar.muli arg2 c256_i32_186
  let v406 : BitVec 32 := v405
  let v407 : Index := Scalar.indexCast v406
  let c768_188 : Index := 768#32
  ![0, v407.toNat, 768]
def k0_mult8 (i : grid0.Coords) : BitVec 32 :=
  let arg2 : BitVec 32 := BitVec.ofNat 32 (i 2).val
  let c256_i32_202 : BitVec 32 := 256#32
  let v442 : BitVec 32 := Scalar.muli arg2 c256_i32_202
  v442
def k0_off8 (i : grid0.Coords) : Fin 3 → Nat :=
  let c0_203 : Index := 0#32
  let arg2 : BitVec 32 := BitVec.ofNat 32 (i 2).val
  let c256_i32_202 : BitVec 32 := 256#32
  let v442 : BitVec 32 := Scalar.muli arg2 c256_i32_202
  let v443 : BitVec 32 := v442
  let v444 : Index := Scalar.indexCast v443
  let c896_204 : Index := 896#32
  ![0, v444.toNat, 896]
def k0_mult9 (i : grid0.Coords) : BitVec 32 :=
  let arg2 : BitVec 32 := BitVec.ofNat 32 (i 2).val
  let c256_i32 : BitVec 32 := 256#32
  let v183 : BitVec 32 := Scalar.muli arg2 c256_i32
  v183
def k0_off9 (i : grid0.Coords) : Fin 3 → Nat :=
  let c0_91 : Index := 0#32
  let arg2 : BitVec 32 := BitVec.ofNat 32 (i 2).val
  let c256_i32 : BitVec 32 := 256#32
  let v183 : BitVec 32 := Scalar.muli arg2 c256_i32
  let v184 : BitVec 32 := v183
  let v185 : Index := Scalar.indexCast v184
  let c0_92 : Index := 0#32
  ![0, v185.toNat, 0]
def k0_mult10 (i : grid0.Coords) : BitVec 32 :=
  let arg2 : BitVec 32 := BitVec.ofNat 32 (i 2).val
  let c1_i32 : BitVec 32 := 1#32
  let v191 : BitVec 32 := Scalar.subi arg2 c1_i32
  let c256_i32_95 : BitVec 32 := 256#32
  let v192 : BitVec 32 := Scalar.muli v191 c256_i32_95
  v192
def k0_off10 (i : grid0.Coords) : Fin 3 → Nat :=
  let c0_96 : Index := 0#32
  let arg2 : BitVec 32 := BitVec.ofNat 32 (i 2).val
  let c1_i32 : BitVec 32 := 1#32
  let v191 : BitVec 32 := Scalar.subi arg2 c1_i32
  let c256_i32_95 : BitVec 32 := 256#32
  let v192 : BitVec 32 := Scalar.muli v191 c256_i32_95
  let v193 : BitVec 32 := v192
  let v194 : Index := Scalar.indexCast v193
  let c0_97 : Index := 0#32
  ![0, v194.toNat, 0]
def k0_mult11 (i : grid0.Coords) : BitVec 32 :=
  let arg2 : BitVec 32 := BitVec.ofNat 32 (i 2).val
  let c256_i32_122 : BitVec 32 := 256#32
  let v264 : BitVec 32 := Scalar.muli arg2 c256_i32_122
  v264
def k0_off11 (i : grid0.Coords) : Fin 3 → Nat :=
  let c0_123 : Index := 0#32
  let arg2 : BitVec 32 := BitVec.ofNat 32 (i 2).val
  let c256_i32_122 : BitVec 32 := 256#32
  let v264 : BitVec 32 := Scalar.muli arg2 c256_i32_122
  let v265 : BitVec 32 := v264
  let v266 : Index := Scalar.indexCast v265
  let c128_124 : Index := 128#32
  ![0, v266.toNat, 128]
def k0_mult12 (i : grid0.Coords) : BitVec 32 :=
  let arg2 : BitVec 32 := BitVec.ofNat 32 (i 2).val
  let c1_i32_127 : BitVec 32 := 1#32
  let v272 : BitVec 32 := Scalar.subi arg2 c1_i32_127
  let c256_i32_128 : BitVec 32 := 256#32
  let v273 : BitVec 32 := Scalar.muli v272 c256_i32_128
  v273
def k0_off12 (i : grid0.Coords) : Fin 3 → Nat :=
  let c0_129 : Index := 0#32
  let arg2 : BitVec 32 := BitVec.ofNat 32 (i 2).val
  let c1_i32_127 : BitVec 32 := 1#32
  let v272 : BitVec 32 := Scalar.subi arg2 c1_i32_127
  let c256_i32_128 : BitVec 32 := 256#32
  let v273 : BitVec 32 := Scalar.muli v272 c256_i32_128
  let v274 : BitVec 32 := v273
  let v275 : Index := Scalar.indexCast v274
  let c128_130 : Index := 128#32
  ![0, v275.toNat, 128]
def k0_mult13 (i : grid0.Coords) : BitVec 32 :=
  let arg2 : BitVec 32 := BitVec.ofNat 32 (i 2).val
  let c256_i32_155 : BitVec 32 := 256#32
  let v346 : BitVec 32 := Scalar.muli arg2 c256_i32_155
  v346
def k0_off13 (i : grid0.Coords) : Fin 3 → Nat :=
  let c0_156 : Index := 0#32
  let arg2 : BitVec 32 := BitVec.ofNat 32 (i 2).val
  let c256_i32_155 : BitVec 32 := 256#32
  let v346 : BitVec 32 := Scalar.muli arg2 c256_i32_155
  let v347 : BitVec 32 := v346
  let v348 : Index := Scalar.indexCast v347
  let c256_157 : Index := 256#32
  ![0, v348.toNat, 256]
def k0_mult14 (i : grid0.Coords) : BitVec 32 :=
  let arg2 : BitVec 32 := BitVec.ofNat 32 (i 2).val
  let c1_i32_160 : BitVec 32 := 1#32
  let v354 : BitVec 32 := Scalar.subi arg2 c1_i32_160
  let c256_i32_161 : BitVec 32 := 256#32
  let v355 : BitVec 32 := Scalar.muli v354 c256_i32_161
  v355
def k0_off14 (i : grid0.Coords) : Fin 3 → Nat :=
  let c0_162 : Index := 0#32
  let arg2 : BitVec 32 := BitVec.ofNat 32 (i 2).val
  let c1_i32_160 : BitVec 32 := 1#32
  let v354 : BitVec 32 := Scalar.subi arg2 c1_i32_160
  let c256_i32_161 : BitVec 32 := 256#32
  let v355 : BitVec 32 := Scalar.muli v354 c256_i32_161
  let v356 : BitVec 32 := v355
  let v357 : Index := Scalar.indexCast v356
  let c256_163 : Index := 256#32
  ![0, v357.toNat, 256]
def k0_mult15 (i : grid0.Coords) : BitVec 32 :=
  let arg2 : BitVec 32 := BitVec.ofNat 32 (i 2).val
  let c256_i32_188 : BitVec 32 := 256#32
  let v428 : BitVec 32 := Scalar.muli arg2 c256_i32_188
  v428
def k0_off15 (i : grid0.Coords) : Fin 3 → Nat :=
  let c0_189 : Index := 0#32
  let arg2 : BitVec 32 := BitVec.ofNat 32 (i 2).val
  let c256_i32_188 : BitVec 32 := 256#32
  let v428 : BitVec 32 := Scalar.muli arg2 c256_i32_188
  let v429 : BitVec 32 := v428
  let v430 : Index := Scalar.indexCast v429
  let c384_190 : Index := 384#32
  ![0, v430.toNat, 384]
def k0_mult16 (i : grid0.Coords) : BitVec 32 :=
  let arg2 : BitVec 32 := BitVec.ofNat 32 (i 2).val
  let c1_i32_193 : BitVec 32 := 1#32
  let v436 : BitVec 32 := Scalar.subi arg2 c1_i32_193
  let c256_i32_194 : BitVec 32 := 256#32
  let v437 : BitVec 32 := Scalar.muli v436 c256_i32_194
  v437
def k0_off16 (i : grid0.Coords) : Fin 3 → Nat :=
  let c0_195 : Index := 0#32
  let arg2 : BitVec 32 := BitVec.ofNat 32 (i 2).val
  let c1_i32_193 : BitVec 32 := 1#32
  let v436 : BitVec 32 := Scalar.subi arg2 c1_i32_193
  let c256_i32_194 : BitVec 32 := 256#32
  let v437 : BitVec 32 := Scalar.muli v436 c256_i32_194
  let v438 : BitVec 32 := v437
  let v439 : Index := Scalar.indexCast v438
  let c384_196 : Index := 384#32
  ![0, v439.toNat, 384]
def k0_mult17 (i : grid0.Coords) : BitVec 32 :=
  let arg2 : BitVec 32 := BitVec.ofNat 32 (i 2).val
  let c256_i32_221 : BitVec 32 := 256#32
  let v510 : BitVec 32 := Scalar.muli arg2 c256_i32_221
  v510
def k0_off17 (i : grid0.Coords) : Fin 3 → Nat :=
  let c0_222 : Index := 0#32
  let arg2 : BitVec 32 := BitVec.ofNat 32 (i 2).val
  let c256_i32_221 : BitVec 32 := 256#32
  let v510 : BitVec 32 := Scalar.muli arg2 c256_i32_221
  let v511 : BitVec 32 := v510
  let v512 : Index := Scalar.indexCast v511
  let c512_223 : Index := 512#32
  ![0, v512.toNat, 512]
def k0_mult18 (i : grid0.Coords) : BitVec 32 :=
  let arg2 : BitVec 32 := BitVec.ofNat 32 (i 2).val
  let c1_i32_226 : BitVec 32 := 1#32
  let v518 : BitVec 32 := Scalar.subi arg2 c1_i32_226
  let c256_i32_227 : BitVec 32 := 256#32
  let v519 : BitVec 32 := Scalar.muli v518 c256_i32_227
  v519
def k0_off18 (i : grid0.Coords) : Fin 3 → Nat :=
  let c0_228 : Index := 0#32
  let arg2 : BitVec 32 := BitVec.ofNat 32 (i 2).val
  let c1_i32_226 : BitVec 32 := 1#32
  let v518 : BitVec 32 := Scalar.subi arg2 c1_i32_226
  let c256_i32_227 : BitVec 32 := 256#32
  let v519 : BitVec 32 := Scalar.muli v518 c256_i32_227
  let v520 : BitVec 32 := v519
  let v521 : Index := Scalar.indexCast v520
  let c512_229 : Index := 512#32
  ![0, v521.toNat, 512]
def k0_mult19 (i : grid0.Coords) : BitVec 32 :=
  let arg2 : BitVec 32 := BitVec.ofNat 32 (i 2).val
  let c256_i32_254 : BitVec 32 := 256#32
  let v592 : BitVec 32 := Scalar.muli arg2 c256_i32_254
  v592
def k0_off19 (i : grid0.Coords) : Fin 3 → Nat :=
  let c0_255 : Index := 0#32
  let arg2 : BitVec 32 := BitVec.ofNat 32 (i 2).val
  let c256_i32_254 : BitVec 32 := 256#32
  let v592 : BitVec 32 := Scalar.muli arg2 c256_i32_254
  let v593 : BitVec 32 := v592
  let v594 : Index := Scalar.indexCast v593
  let c640_256 : Index := 640#32
  ![0, v594.toNat, 640]
def k0_mult20 (i : grid0.Coords) : BitVec 32 :=
  let arg2 : BitVec 32 := BitVec.ofNat 32 (i 2).val
  let c1_i32_259 : BitVec 32 := 1#32
  let v600 : BitVec 32 := Scalar.subi arg2 c1_i32_259
  let c256_i32_260 : BitVec 32 := 256#32
  let v601 : BitVec 32 := Scalar.muli v600 c256_i32_260
  v601
def k0_off20 (i : grid0.Coords) : Fin 3 → Nat :=
  let c0_261 : Index := 0#32
  let arg2 : BitVec 32 := BitVec.ofNat 32 (i 2).val
  let c1_i32_259 : BitVec 32 := 1#32
  let v600 : BitVec 32 := Scalar.subi arg2 c1_i32_259
  let c256_i32_260 : BitVec 32 := 256#32
  let v601 : BitVec 32 := Scalar.muli v600 c256_i32_260
  let v602 : BitVec 32 := v601
  let v603 : Index := Scalar.indexCast v602
  let c640_262 : Index := 640#32
  ![0, v603.toNat, 640]
def k0_mult21 (i : grid0.Coords) : BitVec 32 :=
  let arg2 : BitVec 32 := BitVec.ofNat 32 (i 2).val
  let c256_i32_287 : BitVec 32 := 256#32
  let v674 : BitVec 32 := Scalar.muli arg2 c256_i32_287
  v674
def k0_off21 (i : grid0.Coords) : Fin 3 → Nat :=
  let c0_288 : Index := 0#32
  let arg2 : BitVec 32 := BitVec.ofNat 32 (i 2).val
  let c256_i32_287 : BitVec 32 := 256#32
  let v674 : BitVec 32 := Scalar.muli arg2 c256_i32_287
  let v675 : BitVec 32 := v674
  let v676 : Index := Scalar.indexCast v675
  let c768_289 : Index := 768#32
  ![0, v676.toNat, 768]
def k0_mult22 (i : grid0.Coords) : BitVec 32 :=
  let arg2 : BitVec 32 := BitVec.ofNat 32 (i 2).val
  let c1_i32_292 : BitVec 32 := 1#32
  let v682 : BitVec 32 := Scalar.subi arg2 c1_i32_292
  let c256_i32_293 : BitVec 32 := 256#32
  let v683 : BitVec 32 := Scalar.muli v682 c256_i32_293
  v683
def k0_off22 (i : grid0.Coords) : Fin 3 → Nat :=
  let c0_294 : Index := 0#32
  let arg2 : BitVec 32 := BitVec.ofNat 32 (i 2).val
  let c1_i32_292 : BitVec 32 := 1#32
  let v682 : BitVec 32 := Scalar.subi arg2 c1_i32_292
  let c256_i32_293 : BitVec 32 := 256#32
  let v683 : BitVec 32 := Scalar.muli v682 c256_i32_293
  let v684 : BitVec 32 := v683
  let v685 : Index := Scalar.indexCast v684
  let c768_295 : Index := 768#32
  ![0, v685.toNat, 768]
def k0_mult23 (i : grid0.Coords) : BitVec 32 :=
  let arg2 : BitVec 32 := BitVec.ofNat 32 (i 2).val
  let c256_i32_320 : BitVec 32 := 256#32
  let v756 : BitVec 32 := Scalar.muli arg2 c256_i32_320
  v756
def k0_off23 (i : grid0.Coords) : Fin 3 → Nat :=
  let c0_321 : Index := 0#32
  let arg2 : BitVec 32 := BitVec.ofNat 32 (i 2).val
  let c256_i32_320 : BitVec 32 := 256#32
  let v756 : BitVec 32 := Scalar.muli arg2 c256_i32_320
  let v757 : BitVec 32 := v756
  let v758 : Index := Scalar.indexCast v757
  let c896_322 : Index := 896#32
  ![0, v758.toNat, 896]
def k0_mult24 (i : grid0.Coords) : BitVec 32 :=
  let arg2 : BitVec 32 := BitVec.ofNat 32 (i 2).val
  let c1_i32_325 : BitVec 32 := 1#32
  let v764 : BitVec 32 := Scalar.subi arg2 c1_i32_325
  let c256_i32_326 : BitVec 32 := 256#32
  let v765 : BitVec 32 := Scalar.muli v764 c256_i32_326
  v765
def k0_off24 (i : grid0.Coords) : Fin 3 → Nat :=
  let c0_327 : Index := 0#32
  let arg2 : BitVec 32 := BitVec.ofNat 32 (i 2).val
  let c1_i32_325 : BitVec 32 := 1#32
  let v764 : BitVec 32 := Scalar.subi arg2 c1_i32_325
  let c256_i32_326 : BitVec 32 := 256#32
  let v765 : BitVec 32 := Scalar.muli v764 c256_i32_326
  let v766 : BitVec 32 := v765
  let v767 : Index := Scalar.indexCast v766
  let c896_328 : Index := 896#32
  ![0, v767.toNat, 896]
def k0_mult25 (arg10 : BitVec 32) : BitVec 32 :=
  let c256_i32 : BitVec 32 := 256#32
  let v183 : BitVec 32 := Scalar.muli arg10 c256_i32
  v183

def k0_off25 (arg10 : BitVec 32) : Fin 3 → Nat :=
  let c0_91 : Index := 0#32
  let c256_i32 : BitVec 32 := 256#32
  let v183 : BitVec 32 := Scalar.muli arg10 c256_i32
  let v184 : BitVec 32 := v183
  let v185 : Index := Scalar.indexCast v184
  let c0_92 : Index := 0#32
  ![0, v185.toNat, 0]
def k0_mult26 (arg10 : BitVec 32) : BitVec 32 :=
  let c256_i32_114 : BitVec 32 := 256#32
  let v231 : BitVec 32 := Scalar.muli arg10 c256_i32_114
  v231
def k0_off26 (arg10 : BitVec 32) : Fin 3 → Nat :=
  let c0_115 : Index := 0#32
  let c256_i32_114 : BitVec 32 := 256#32
  let v231 : BitVec 32 := Scalar.muli arg10 c256_i32_114
  let v232 : BitVec 32 := v231
  let v233 : Index := Scalar.indexCast v232
  let c128_116 : Index := 128#32
  ![0, v233.toNat, 128]
def k0_mult27 (arg10 : BitVec 32) : BitVec 32 :=
  let c256_i32_138 : BitVec 32 := 256#32
  let v280 : BitVec 32 := Scalar.muli arg10 c256_i32_138
  v280
def k0_off27 (arg10 : BitVec 32) : Fin 3 → Nat :=
  let c0_139 : Index := 0#32
  let c256_i32_138 : BitVec 32 := 256#32
  let v280 : BitVec 32 := Scalar.muli arg10 c256_i32_138
  let v281 : BitVec 32 := v280
  let v282 : Index := Scalar.indexCast v281
  let c256_140 : Index := 256#32
  ![0, v282.toNat, 256]
def k0_mult28 (arg10 : BitVec 32) : BitVec 32 :=
  let c256_i32_162 : BitVec 32 := 256#32
  let v329 : BitVec 32 := Scalar.muli arg10 c256_i32_162
  v329
def k0_off28 (arg10 : BitVec 32) : Fin 3 → Nat :=
  let c0_163 : Index := 0#32
  let c256_i32_162 : BitVec 32 := 256#32
  let v329 : BitVec 32 := Scalar.muli arg10 c256_i32_162
  let v330 : BitVec 32 := v329
  let v331 : Index := Scalar.indexCast v330
  let c384_164 : Index := 384#32
  ![0, v331.toNat, 384]
def k0_mult29 (arg10 : BitVec 32) : BitVec 32 :=
  let c256_i32_186 : BitVec 32 := 256#32
  let v378 : BitVec 32 := Scalar.muli arg10 c256_i32_186
  v378
def k0_off29 (arg10 : BitVec 32) : Fin 3 → Nat :=
  let c0_187 : Index := 0#32
  let c256_i32_186 : BitVec 32 := 256#32
  let v378 : BitVec 32 := Scalar.muli arg10 c256_i32_186
  let v379 : BitVec 32 := v378
  let v380 : Index := Scalar.indexCast v379
  let c512_188 : Index := 512#32
  ![0, v380.toNat, 512]
def k0_mult30 (arg10 : BitVec 32) : BitVec 32 :=
  let c256_i32_210 : BitVec 32 := 256#32
  let v427 : BitVec 32 := Scalar.muli arg10 c256_i32_210
  v427
def k0_off30 (arg10 : BitVec 32) : Fin 3 → Nat :=
  let c0_211 : Index := 0#32
  let c256_i32_210 : BitVec 32 := 256#32
  let v427 : BitVec 32 := Scalar.muli arg10 c256_i32_210
  let v428 : BitVec 32 := v427
  let v429 : Index := Scalar.indexCast v428
  let c640_212 : Index := 640#32
  ![0, v429.toNat, 640]
def k0_mult31 (arg10 : BitVec 32) : BitVec 32 :=
  let c256_i32_234 : BitVec 32 := 256#32
  let v476 : BitVec 32 := Scalar.muli arg10 c256_i32_234
  v476
def k0_off31 (arg10 : BitVec 32) : Fin 3 → Nat :=
  let c0_235 : Index := 0#32
  let c256_i32_234 : BitVec 32 := 256#32
  let v476 : BitVec 32 := Scalar.muli arg10 c256_i32_234
  let v477 : BitVec 32 := v476
  let v478 : Index := Scalar.indexCast v477
  let c768_236 : Index := 768#32
  ![0, v478.toNat, 768]
def k0_mult32 (arg10 : BitVec 32) : BitVec 32 :=
  let c256_i32_258 : BitVec 32 := 256#32
  let v525 : BitVec 32 := Scalar.muli arg10 c256_i32_258
  v525
def k0_off32 (arg10 : BitVec 32) : Fin 3 → Nat :=
  let c0_259 : Index := 0#32
  let c256_i32_258 : BitVec 32 := 256#32
  let v525 : BitVec 32 := Scalar.muli arg10 c256_i32_258
  let v526 : BitVec 32 := v525
  let v527 : Index := Scalar.indexCast v526
  let c896_260 : Index := 896#32
  ![0, v527.toNat, 896]

def k0_chk1 (arg10 : BitVec 32) : Prop :=
  (256 ∣ (k0_mult25 arg10).toNat) ∧
  (∀ a, (k0_off25 arg10) a + S1x256x128.size a ≤ S1x4096x1024.size a) ∧
  (256 ∣ (k0_mult26 arg10).toNat) ∧
  (∀ a, (k0_off26 arg10) a + S1x256x128.size a ≤ S1x4096x1024.size a) ∧
  (256 ∣ (k0_mult27 arg10).toNat) ∧
  (∀ a, (k0_off27 arg10) a + S1x256x128.size a ≤ S1x4096x1024.size a) ∧
  (256 ∣ (k0_mult28 arg10).toNat) ∧
  (∀ a, (k0_off28 arg10) a + S1x256x128.size a ≤ S1x4096x1024.size a) ∧
  (256 ∣ (k0_mult29 arg10).toNat) ∧
  (∀ a, (k0_off29 arg10) a + S1x256x128.size a ≤ S1x4096x1024.size a) ∧
  (256 ∣ (k0_mult30 arg10).toNat) ∧
  (∀ a, (k0_off30 arg10) a + S1x256x128.size a ≤ S1x4096x1024.size a) ∧
  (256 ∣ (k0_mult31 arg10).toNat) ∧
  (∀ a, (k0_off31 arg10) a + S1x256x128.size a ≤ S1x4096x1024.size a) ∧
  (256 ∣ (k0_mult32 arg10).toNat) ∧
  (∀ a, (k0_off32 arg10) a + S1x256x128.size a ≤ S1x4096x1024.size a)
theorem k0_mult25_dvd : ∀ (arg10 : BitVec 32) (k0_hw1 : k0_chk1 arg10), 256 ∣ (k0_mult25 arg10).toNat := fun arg10 k0_hw1 => k0_hw1.1
theorem k0_off25_inb : ∀ (arg10 : BitVec 32) (k0_hw1 : k0_chk1 arg10), ∀ a, (k0_off25 arg10) a + S1x256x128.size a ≤ S1x4096x1024.size a := fun arg10 k0_hw1 => k0_hw1.2.1
theorem k0_mult26_dvd : ∀ (arg10 : BitVec 32) (k0_hw1 : k0_chk1 arg10), 256 ∣ (k0_mult26 arg10).toNat := fun arg10 k0_hw1 => k0_hw1.2.2.1
theorem k0_off26_inb : ∀ (arg10 : BitVec 32) (k0_hw1 : k0_chk1 arg10), ∀ a, (k0_off26 arg10) a + S1x256x128.size a ≤ S1x4096x1024.size a := fun arg10 k0_hw1 => k0_hw1.2.2.2.1
theorem k0_mult27_dvd : ∀ (arg10 : BitVec 32) (k0_hw1 : k0_chk1 arg10), 256 ∣ (k0_mult27 arg10).toNat := fun arg10 k0_hw1 => k0_hw1.2.2.2.2.1
theorem k0_off27_inb : ∀ (arg10 : BitVec 32) (k0_hw1 : k0_chk1 arg10), ∀ a, (k0_off27 arg10) a + S1x256x128.size a ≤ S1x4096x1024.size a := fun arg10 k0_hw1 => k0_hw1.2.2.2.2.2.1
theorem k0_mult28_dvd : ∀ (arg10 : BitVec 32) (k0_hw1 : k0_chk1 arg10), 256 ∣ (k0_mult28 arg10).toNat := fun arg10 k0_hw1 => k0_hw1.2.2.2.2.2.2.1
theorem k0_off28_inb : ∀ (arg10 : BitVec 32) (k0_hw1 : k0_chk1 arg10), ∀ a, (k0_off28 arg10) a + S1x256x128.size a ≤ S1x4096x1024.size a := fun arg10 k0_hw1 => k0_hw1.2.2.2.2.2.2.2.1
theorem k0_mult29_dvd : ∀ (arg10 : BitVec 32) (k0_hw1 : k0_chk1 arg10), 256 ∣ (k0_mult29 arg10).toNat := fun arg10 k0_hw1 => k0_hw1.2.2.2.2.2.2.2.2.1
theorem k0_off29_inb : ∀ (arg10 : BitVec 32) (k0_hw1 : k0_chk1 arg10), ∀ a, (k0_off29 arg10) a + S1x256x128.size a ≤ S1x4096x1024.size a := fun arg10 k0_hw1 => k0_hw1.2.2.2.2.2.2.2.2.2.1
theorem k0_mult30_dvd : ∀ (arg10 : BitVec 32) (k0_hw1 : k0_chk1 arg10), 256 ∣ (k0_mult30 arg10).toNat := fun arg10 k0_hw1 => k0_hw1.2.2.2.2.2.2.2.2.2.2.1
theorem k0_off30_inb : ∀ (arg10 : BitVec 32) (k0_hw1 : k0_chk1 arg10), ∀ a, (k0_off30 arg10) a + S1x256x128.size a ≤ S1x4096x1024.size a := fun arg10 k0_hw1 => k0_hw1.2.2.2.2.2.2.2.2.2.2.2.1
theorem k0_mult31_dvd : ∀ (arg10 : BitVec 32) (k0_hw1 : k0_chk1 arg10), 256 ∣ (k0_mult31 arg10).toNat := fun arg10 k0_hw1 => k0_hw1.2.2.2.2.2.2.2.2.2.2.2.2.1
theorem k0_off31_inb : ∀ (arg10 : BitVec 32) (k0_hw1 : k0_chk1 arg10), ∀ a, (k0_off31 arg10) a + S1x256x128.size a ≤ S1x4096x1024.size a := fun arg10 k0_hw1 => k0_hw1.2.2.2.2.2.2.2.2.2.2.2.2.2.1
theorem k0_mult32_dvd : ∀ (arg10 : BitVec 32) (k0_hw1 : k0_chk1 arg10), 256 ∣ (k0_mult32 arg10).toNat := fun arg10 k0_hw1 => k0_hw1.2.2.2.2.2.2.2.2.2.2.2.2.2.2.1
theorem k0_off32_inb : ∀ (arg10 : BitVec 32) (k0_hw1 : k0_chk1 arg10), ∀ a, (k0_off32 arg10) a + S1x256x128.size a ≤ S1x4096x1024.size a := fun arg10 k0_hw1 => k0_hw1.2.2.2.2.2.2.2.2.2.2.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "floor" => some ⊥
  | _ => none
-- ==== ReferenceIdeal.lean ====
abbrev S8x4096x1024 : Shape := ⟨3, ![8, 4096, 1024]⟩
abbrev S8x4096x16x64 : Shape := ⟨4, ![8, 4096, 16, 64]⟩
abbrev S8x16x4096x64 : Shape := ⟨4, ![8, 16, 4096, 64]⟩
abbrev S8x16x4096x4096 : Shape := ⟨4, ![8, 16, 4096, 4096]⟩
abbrev S_ : Shape := ⟨0, ![]⟩
abbrev S4096x4096 : Shape := ⟨2, ![4096, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S8x4096x1024, .f32⟩
  | .hbm, ⟨4, _⟩ => ⟨S8x4096x16x64, .f32⟩
  | .hbm, ⟨5, _⟩ => ⟨S8x16x4096x64, .f32⟩
  | .hbm, ⟨6, _⟩ => ⟨S8x4096x1024, .f32⟩
  | .hbm, ⟨7, _⟩ => ⟨S8x4096x16x64, .f32⟩
  | .hbm, ⟨8, _⟩ => ⟨S8x16x4096x64, .f32⟩
  | .hbm, ⟨9, _⟩ => ⟨S8x4096x1024, .f32⟩
  | .hbm, ⟨10, _⟩ => ⟨S8x4096x16x64, .f32⟩
  | .hbm, ⟨11, _⟩ => ⟨S8x16x4096x64, .f32⟩
  | .hbm, ⟨12, _⟩ => ⟨S8x16x4096x4096, .f32⟩
  | .hbm, ⟨13, _⟩ => ⟨S_, .f32⟩
  | .hbm, ⟨14, _⟩ => ⟨S8x16x4096x4096, .f32⟩
  | .hbm, ⟨15, _⟩ => ⟨S8x16x4096x4096, .f32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S8x16x4096x4096, .f32⟩
  | .hbm, ⟨20, _⟩ => ⟨S_, .f32⟩
  | .hbm, ⟨21, _⟩ => ⟨S8x16x4096x4096, .f32⟩
  | .hbm, ⟨22, _⟩ => ⟨S8x16x4096x4096, .f32⟩
  | .hbm, ⟨23, _⟩ => ⟨S8x16x4096x4096, .f32⟩
  | .hbm, ⟨24, _⟩ => ⟨S8x16x4096x4096, .f32⟩
  | .hbm, ⟨25, _⟩ => ⟨S8x16x4096x4096, .i1⟩
  | .hbm, ⟨26, _⟩ => ⟨S8x16x4096x4096, .f32⟩
  | .hbm, ⟨27, _⟩ => ⟨S8x16x4096x4096, .f32⟩
  | .hbm, ⟨28, _⟩ => ⟨S8x16x4096x4096, .f32⟩
  | .hbm, ⟨29, _⟩ => ⟨S8x16x4096x4096, .f32⟩
  | .hbm, ⟨30, _⟩ => ⟨S8x16x4096x4096, .f32⟩
  | .hbm, ⟨31, _⟩ => ⟨S8x16x4096x4096, .f32⟩
  | .hbm, ⟨32, _⟩ => ⟨S8x16x4096x4096, .f32⟩
  | .hbm, ⟨33, _⟩ => ⟨S8x16x4096x4096, .f32⟩
  | .hbm, ⟨34, _⟩ => ⟨S8x16x4096x4096, .f32⟩
  | .hbm, ⟨35, _⟩ => ⟨S8x16x4096x4096, .f32⟩
  | .hbm, ⟨36, _⟩ => ⟨S8x16x4096x4096, .f32⟩
  | .hbm, ⟨37, _⟩ => ⟨S_, .f32⟩
  | .hbm, ⟨38, _⟩ => ⟨S8x16x4096x4096, .f32⟩
  | .hbm, ⟨39, _⟩ => ⟨S8x16x4096x4096, .f32⟩
  | .hbm, ⟨40, _⟩ => ⟨S8x16x4096x4096, .f32⟩
  | .hbm, ⟨41, _⟩ => ⟨S8x16x4096x4096, .f32⟩
  | .hbm, ⟨42, _⟩ => ⟨S8x16x4096x4096, .i1⟩
  | .hbm, ⟨43, _⟩ => ⟨S8x16x4096x4096, .f32⟩
  | .hbm, ⟨44, _⟩ => ⟨S8x16x4096x4096, .f32⟩
  | .hbm, ⟨45, _⟩ => ⟨S8x16x4096x4096, .f32⟩
  | .hbm, ⟨46, _⟩ => ⟨S8x16x4096x4096, .f32⟩
  | .hbm, ⟨47, _⟩ => ⟨S8x16x4096x4096, .f32⟩
  | .hbm, ⟨48, _⟩ => ⟨S8x16x4096x4096, .f32⟩
  | .hbm, ⟨49, _⟩ => ⟨S8x16x4096x4096, .f32⟩
  | .hbm, ⟨50, _⟩ => ⟨S8x16x4096x4096, .f32⟩
  | .hbm, ⟨51, _⟩ => ⟨S8x16x4096x4096, .f32⟩
  | .hbm, ⟨52, _⟩ => ⟨S_, .f32⟩
  | .hbm, ⟨53, _⟩ => ⟨S_, .f32⟩
  | .hbm, ⟨54, _⟩ => ⟨S8x16x4096x4096, .i1⟩
  | .hbm, ⟨55, _⟩ => ⟨S8x16x4096x4096, .f32⟩
  | .hbm, ⟨56, _⟩ => ⟨S8x16x4096x4096, .f32⟩
  | .hbm, ⟨57, _⟩ => ⟨S_, .f32⟩
  | .hbm, ⟨58, _⟩ => ⟨S_, .f32⟩
  | .hbm, ⟨59, _⟩ => ⟨S8x16x4096x4096, .f32⟩
  | .hbm, ⟨60, _⟩ => ⟨S8x16x4096x4096, .f32⟩
  | .hbm, ⟨61, _⟩ => ⟨S8x16x4096x4096, .f32⟩
  | .hbm, ⟨62, _⟩ => ⟨S8x16x4096x4096, .f32⟩
  | .hbm, ⟨63, _⟩ => ⟨S_, .f32⟩
  | .hbm, ⟨64, _⟩ => ⟨S_, .f32⟩
  | .hbm, ⟨65, _⟩ => ⟨S8x16x4096x4096, .i1⟩
  | .hbm, ⟨66, _⟩ => ⟨S8x16x4096x4096, .f32⟩
  | .hbm, ⟨67, _⟩ => ⟨S8x16x4096x4096, .f32⟩
  | .hbm, ⟨68, _⟩ => ⟨S8x16x4096x64, .f32⟩
  | .hbm, ⟨69, _⟩ => ⟨S8x4096x16x64, .f32⟩
  | .hbm, ⟨70, _⟩ => ⟨S8x4096x1024, .f32⟩
  | .hbm, ⟨71, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v17 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v18 : Ref sig .tc := ⟨.hbm, 56, rfl⟩
abbrev main_call3_cst : Ref sig .tc := ⟨.hbm, 57, rfl⟩
abbrev main_call3_v0 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x3x1024 : Shape := ⟨3, ![8, 3, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S1024x1024 : Shape := ⟨2, ![1024, 1024]⟩
abbrev S1x1024 : Shape := ⟨2, ![1, 1024]⟩
abbrev S1x1024x1024 : Shape := ⟨3, ![1, 1024, 1024]⟩
abbrev S1x3x1024 : Shape := ⟨3, ![1, 3, 1024]⟩
abbrev S1x1x1024x2816 : Shape := ⟨4, ![1, 1, 1024, 2816]⟩
abbrev S1x1x2816x1024 : Shape := ⟨4, ![1, 1, 2816, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S1x1x256x1024 : Shape := ⟨4, ![1, 1, 256, 1024]⟩
abbrev S1024x1 : Shape := ⟨2, ![1024, 1]⟩

abbrev nBuf : Space → Nat
  | .hbm => 13
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S2x2x1024x2816, .bf16⟩
  | .hbm, ⟨4, _⟩ => ⟨S2x2x1024x2816, .bf16⟩
  | .hbm, ⟨5, _⟩ => ⟨S2x2x2816x1024, .bf16⟩
  | .hbm, ⟨6, _⟩ => ⟨S1024, .f32⟩
  | .hbm, ⟨7, _⟩ => ⟨S8x4096x1024, .bf16⟩
  | .hbm, ⟨8, _⟩ => ⟨S8x3x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x3x1024, .f32⟩
  | .local _ .vmem, ⟨12, _⟩ => ⟨S1x3x1024, .f32⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S8x3x1024 : Shape := ⟨3, ![8, 3, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S1024x1024 : Shape := ⟨2, ![1024, 1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x4096x2816 : Shape := ⟨3, ![8, 4096, 2816]⟩

abbrev nBuf : Space → Nat
  | .hbm => 95
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S2x2x1024x2816, .bf16⟩
  | .hbm, ⟨4, _⟩ => ⟨S2x2x1024x2816, .bf16⟩
  | .hbm, ⟨5, _⟩ => ⟨S2x2x2816x1024, .bf16⟩
  | .hbm, ⟨6, _⟩ => ⟨S1024, .f32⟩
  | .hbm, ⟨7, _⟩ => ⟨S8x4096x1024, .bf16⟩
  | .hbm, ⟨8, _⟩ => ⟨S8x3x1024, .f32⟩
  | .hbm, ⟨9, _⟩ => ⟨S1024x1024, .bf16⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x4096x1024, .f32⟩
  | .hbm, ⟨14, _⟩ => ⟨S1024x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S8x1x1024, .f32⟩
  | .hbm, ⟨36, _⟩ => ⟨S8x1024, .f32⟩
  | .hbm, ⟨37, _⟩ => ⟨S8x1x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x4096x1024, .f32⟩
  | .hbm, ⟨42, _⟩ => ⟨S8x4096x1024, .f32⟩
  | .hbm, ⟨43, _⟩ => ⟨S8x1x1024, .f32⟩
  | .hbm, ⟨44, _⟩ => ⟨S8x1024, .f32⟩
  | .hbm, ⟨45, _⟩ => ⟨S8x1x1024, .f32⟩
  | .hbm, ⟨46, _⟩ => ⟨S8x4096x1024, .f32⟩
  | .hbm, ⟨47, _⟩ => ⟨S8x4096x1024, .f32⟩
  | .hbm, ⟨48, _⟩ => ⟨S1x1x1024x2816, .bf16⟩
  | .hbm, ⟨49, _⟩ => ⟨S1024x2816, .bf16⟩
  | .hbm, ⟨50, _⟩ => ⟨S1024x2816, .f32⟩
  | .hbm, ⟨51, _⟩ => ⟨S1x1x1024x2816, .bf16⟩
  | .hbm, ⟨52, _⟩ => ⟨S1024x2816, .bf16⟩
  | .hbm, ⟨53, _⟩ => ⟨S1024x2816, .f32⟩
  | .hbm, ⟨54, _⟩ => ⟨S1x1x2816x1024, .bf16⟩
  | .hbm, ⟨55, _⟩ => ⟨S2816x1024, .bf16⟩
  | .hbm, ⟨56, _⟩ => ⟨S2816x1024, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S_, .f32⟩
  | .hbm, ⟨61, _⟩ => ⟨S8x4096x2816, .f32⟩
  | .hbm, ⟨62, _⟩ => ⟨S8x4096x2816, .f32⟩
  | .hbm, ⟨63, _⟩ => ⟨S_, .f32⟩
  | .hbm, ⟨64, _⟩ => ⟨S8x4096x2816, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x1024, .f32⟩
  | .hbm, ⟨70, _⟩ => ⟨S8x1x1024, .f32⟩
  | .hbm, ⟨71, _⟩ => ⟨S8x1024, .f32⟩
  | .hbm, ⟨72, _⟩ => ⟨S8x1x1024, .f32⟩
  | .hbm, ⟨73, _⟩ => ⟨S_, .f32⟩
  | .hbm, ⟨74, _⟩ => ⟨S8x1x1024, .f32⟩
  | .hbm, ⟨75, _⟩ => ⟨S8x1x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S8x4096x1, .f32⟩
  | .hbm, ⟨90, _⟩ => ⟨S8x4096x1024, .f32⟩
  | .hbm, ⟨91, _⟩ => ⟨S8x4096x1024, .f32⟩
  | .hbm, ⟨92, _⟩ => ⟨S1x1x1024, .f32⟩
  | .hbm, ⟨93, _⟩ => ⟨S8x4096x1024, .f32⟩
  | .hbm, ⟨94, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x3x1024 : Shape := ⟨3, ![8, 3, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S1x1024 : Shape := ⟨2, ![1, 1024]⟩
abbrev S1x1024x1024 : Shape := ⟨3, ![1, 1024, 1024]⟩
abbrev S1x3x1024 : Shape := ⟨3, ![1, 3, 1024]⟩
abbrev S1x1x1024x2816 : Shape := ⟨4, ![1, 1, 1024, 2816]⟩
abbrev S1x1x2816x1024 : Shape := ⟨4, ![1, 1, 2816, 1024]⟩
abbrev S1024x1024 : Shape := ⟨2, ![1024, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S1x1x256x1024 : Shape := ⟨4, ![1, 1, 256, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S2x2x1024x2816, .bf16⟩
  | .hbm, ⟨4, _⟩ => ⟨S2x2x1024x2816, .bf16⟩
  | .hbm, ⟨5, _⟩ => ⟨S2x2x2816x1024, .bf16⟩
  | .hbm, ⟨6, _⟩ => ⟨S1x1024, .f32⟩
  | .hbm, ⟨7, _⟩ => ⟨S1x1024, .f32⟩
  | .hbm, ⟨8, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S8x3x1024 : Shape := ⟨3, ![8, 3, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x2816 : Shape := ⟨3, ![8, 4096, 2816]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S2x2x1024x2816, .bf16⟩
  | .hbm, ⟨4, _⟩ => ⟨S2x2x1024x2816, .bf16⟩
  | .hbm, ⟨5, _⟩ => ⟨S2x2x2816x1024, .bf16⟩
  | .hbm, ⟨6, _⟩ => ⟨S1x1x1024x2816, .bf16⟩
  | .hbm, ⟨7, _⟩ => ⟨S1024x2816, .bf16⟩
  | .hbm, ⟨8, _⟩ => ⟨S1024x2816, .f32⟩
  | .hbm, ⟨9, _⟩ => ⟨S1x1x1024x2816, .bf16⟩
  | .hbm, ⟨10, _⟩ => ⟨S1024x2816, .bf16⟩
  | .hbm, ⟨11, _⟩ => ⟨S1024x2816, .f32⟩
  | .hbm, ⟨12, _⟩ => ⟨S1x1x2816x1024, .bf16⟩
  | .hbm, ⟨13, _⟩ => ⟨S2816x1024, .bf16⟩
  | .hbm, ⟨14, _⟩ => ⟨S2816x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x1x1024, .f32⟩
  | .hbm, ⟨40, _⟩ => ⟨S8x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x1024, .f32⟩
  | .hbm, ⟨57, _⟩ => ⟨S8x1x1024, .f32⟩
  | .hbm, ⟨58, _⟩ => ⟨S8x1024, .f32⟩
  | .hbm, ⟨59, _⟩ => ⟨S8x1x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x3x1024 : Shape := ⟨3, ![8, 3, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S1x1024 : Shape := ⟨2, ![1, 1024]⟩
abbrev S1x1024x1024 : Shape := ⟨3, ![1, 1024, 1024]⟩
abbrev S1x3x1024 : Shape := ⟨3, ![1, 3, 1024]⟩
abbrev S1x1x1024x2816 : Shape := ⟨4, ![1, 1, 1024, 2816]⟩
abbrev S1x1x2816x1024 : Shape := ⟨4, ![1, 1, 2816, 1024]⟩
abbrev S1024x1024 : Shape := ⟨2, ![1024, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S1x1x256x1024 : Shape := ⟨4, ![1, 1, 256, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S2x2x1024x2816, .bf16⟩
  | .hbm, ⟨4, _⟩ => ⟨S2x2x1024x2816, .bf16⟩
  | .hbm, ⟨5, _⟩ => ⟨S2x2x2816x1024, .bf16⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x4096x1024 : Shape := ⟨3, ![8, 4096, 1024]⟩
abbrev S8x3x1024 : Shape := ⟨3, ![8, 3, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x2816 : Shape := ⟨3, ![8, 4096, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S2x2x1024x2816, .bf16⟩
  | .hbm, ⟨4, _⟩ => ⟨S2x2x1024x2816, .bf16⟩
  | .hbm, ⟨5, _⟩ => ⟨S2x2x2816x1024, .bf16⟩
  | .hbm, ⟨6, _⟩ => ⟨S1024, .f32⟩
  | .hbm, ⟨7, _⟩ => ⟨S1x1x1024x2816, .bf16⟩
  | .hbm, ⟨8, _⟩ => ⟨S1024x2816, .bf16⟩
  | .hbm, ⟨9, _⟩ => ⟨S1024x2816, .f32⟩
  | .hbm, ⟨10, _⟩ => ⟨S1x1x1024x2816, .bf16⟩
  | .hbm, ⟨11, _⟩ => ⟨S1024x2816, .bf16⟩
  | .hbm, ⟨12, _⟩ => ⟨S1024x2816, .f32⟩
  | .hbm, ⟨13, _⟩ => ⟨S1x1x2816x1024, .bf16⟩
  | .hbm, ⟨14, _⟩ => ⟨S2816x1024, .bf16⟩
  | .hbm, ⟨15, _⟩ => ⟨S2816x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S8x1x1024, .f32⟩
  | .hbm, ⟨33, _⟩ => ⟨S8x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x1x1024, .f32⟩
  | .hbm, ⟨41, _⟩ => ⟨S8x1024, .f32⟩
  | .hbm, ⟨42, _⟩ => ⟨S8x1x1024, .f32⟩
  | .hbm, ⟨43, _⟩ => ⟨S8x4096x1024, .f32⟩
  | .hbm, ⟨44, _⟩ => ⟨S8x4096x1024, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x1024, .f32⟩
  | .hbm, ⟨58, _⟩ => ⟨S8x1x1024, .f32⟩
  | .hbm, ⟨59, _⟩ => ⟨S8x1024, .f32⟩
  | .hbm, ⟨60, _⟩ => ⟨S8x1x1024, .f32⟩
  | .hbm, ⟨61, _⟩ => ⟨S_, .f32⟩
  | .hbm, ⟨62, _⟩ => ⟨S8x1x1024, .f32⟩
  | .hbm, ⟨63, _⟩ => ⟨S8x1x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S8x4096x1, .f32⟩
  | .hbm, ⟨78, _⟩ => ⟨S8x4096x1024, .f32⟩
  | .hbm, ⟨79, _⟩ => ⟨S8x4096x1024, .f32⟩
  | .hbm, ⟨80, _⟩ => ⟨S1x1x1024, .f32⟩
  | .hbm, ⟨81, _⟩ => ⟨S8x4096x1024, .f32⟩
  | .hbm, ⟨82, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x3x1024 : Shape := ⟨3, ![8, 3, 1024]⟩
abbrev S1024 : Shape := ⟨1, ![1024]⟩
abbrev S1024x3072 : Shape := ⟨2, ![1024, 3072]⟩
abbrev S64 : Shape := ⟨1, ![64]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1024x1024 : Shape := ⟨3, ![1, 1024, 1024]⟩
abbrev S1x3x1024 : Shape := ⟨3, ![1, 3, 1024]⟩
abbrev S1024x1024 : Shape := ⟨2, ![1024, 1024]⟩
abbrev S1x1x1024 : Shape := ⟨3, ![1, 1, 1024]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 18
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x3072, .bf16⟩
  | .hbm, ⟨4, _⟩ => ⟨S64, .f32⟩
  | .hbm, ⟨5, _⟩ => ⟨S64, .f32⟩
  | .hbm, ⟨6, _⟩ => ⟨S1x1024, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S8x4096x1024, .bf16⟩
  | .hbm, ⟨16, _⟩ => ⟨S8x4096x1024, .bf16⟩
  | .hbm, ⟨17, _⟩ => ⟨S8x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x3072, .bf16⟩
  | .local _ .vmem, ⟨6, _⟩ => ⟨S1x128, .f32⟩
  | .local _ .vmem, ⟨7, _⟩ => ⟨S1x128, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x4096x1024 : Shape := ⟨3, ![8, 4096, 1024]⟩
abbrev S8x3x1024 : Shape := ⟨3, ![8, 3, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x3072 : Shape := ⟨3, ![8, 4096, 3072]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x3072, .bf16⟩
  | .hbm, ⟨4, _⟩ => ⟨S64, .f32⟩
  | .hbm, ⟨5, _⟩ => ⟨S64, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S1024x3072, .f32⟩
  | .hbm, ⟨36, _⟩ => ⟨S8x4096x3072, .f32⟩
  | .hbm, ⟨37, _⟩ => ⟨S8x4096x3x16x64, .f32⟩
  | .hbm, ⟨38, _⟩ => ⟨S8x4096x1x16x64, .f32⟩
  | .hbm, ⟨39, _⟩ => ⟨S8x4096x16x64, .f32⟩
  | .hbm, ⟨40, _⟩ => ⟨S8x4096x16x64, .f32⟩
  | .hbm, ⟨41, _⟩ => ⟨S_, .f32⟩
  | .hbm, ⟨42, _⟩ => ⟨S8x4096x16, .f32⟩
  | .hbm, ⟨43, _⟩ => ⟨S8x4096x16x1, .f32⟩
  | .hbm, ⟨44, _⟩ => ⟨S_, .f32⟩
  | .hbm, ⟨45, _⟩ => ⟨S8x4096x16x1, .f32⟩
  | .hbm, ⟨46, _⟩ => ⟨S8x4096x16x1, .f32⟩
  | .hbm, ⟨47, _⟩ => ⟨S_, .f32⟩
  | .hbm, ⟨48, _⟩ => ⟨S8x4096x16x1, .f32⟩
  | .hbm, ⟨49, _⟩ => ⟨S8x4096x16x1, .f32⟩
  | .hbm, ⟨50, _⟩ => ⟨S8x4096x16x1, .f32⟩
  | .hbm, ⟨51, _⟩ => ⟨S8x4096x16x64, .f32⟩
  | .hbm, ⟨52, _⟩ => ⟨S8x4096x16x64, .f32⟩
  | .hbm, ⟨53, _⟩ => ⟨S1x1x1x64, .f32⟩
  | .hbm, ⟨54, _⟩ => ⟨S8x4096x16x64, .f32⟩
  | .hbm, ⟨55, _⟩ => ⟨S8x4096x16x64, .f32⟩
  | .hbm, ⟨56, _⟩ => ⟨S_, .f32⟩
  | .hbm, ⟨57, _⟩ => ⟨S8x4096x16x64, .f32⟩
  | .hbm, ⟨58, _⟩ => ⟨S8x4096x16x64, .f32⟩
  | .hbm, ⟨59, _⟩ => ⟨S8x4096x1x16x64, .f32⟩
  | .hbm, ⟨60, _⟩ => ⟨S8x4096x16x64, .f32⟩
  | .hbm, ⟨61, _⟩ => ⟨S8x4096x16x64, .f32⟩
  | .hbm, ⟨62, _⟩ => ⟨S_, .f32⟩
  | .hbm, ⟨63, _⟩ => ⟨S8x4096x16, .f32⟩
  | .hbm, ⟨64, _⟩ => ⟨S8x4096x16x1, .f32⟩
  | .hbm, ⟨65, _⟩ => ⟨S_, .f32⟩
  | .hbm, ⟨66, _⟩ => ⟨S8x4096x16x1, .f32⟩
  | .hbm, ⟨67, _⟩ => ⟨S8x4096x16x1, .f32⟩
  | .hbm, ⟨68, _⟩ => ⟨S_, .f32⟩
  | .hbm, ⟨69, _⟩ => ⟨S8x4096x16x1, .f32⟩
  | .hbm, ⟨70, _⟩ => ⟨S8x4096x16x1, .f32⟩
  | .hbm, ⟨71, _⟩ => ⟨S8x4096x16x1, .f32⟩
  | .hbm, ⟨72, _⟩ => ⟨S8x4096x16x64, .f32⟩
  | .hbm, ⟨73, _⟩ => ⟨S8x4096x16x64, .f32⟩
  | .hbm, ⟨74, _⟩ => ⟨S1x1x1x64, .f32⟩
  | .hbm, ⟨75, _⟩ => ⟨S8x4096x16x64, .f32⟩
  | .hbm, ⟨76, _⟩ => ⟨S8x4096x16x64, .f32⟩
  | .hbm, ⟨77, _⟩ => ⟨S8x4096x1x16x64, .f32⟩
  | .hbm, ⟨78, _⟩ => ⟨S8x4096x16x64, .f32⟩
  | .hbm, ⟨79, _⟩ => ⟨S8x4096x1024, .f32⟩
  | .hbm, ⟨80, _⟩ => ⟨S8x4096x1024, .bf16⟩
  | .hbm, ⟨81, _⟩ => ⟨S8x4096x1024, .f32⟩
  | .hbm, ⟨82, _⟩ => ⟨S8x4096x1024, .bf16⟩
  | .hbm, ⟨83, _⟩ => ⟨S8x4096x1024, .f32⟩
  | .hbm, ⟨84, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel6.lean ====
abbrev S8x1024 : Shape := ⟨2, ![8, 1024]⟩
abbrev S2x1024x9216 : Shape := ⟨3, ![2, 1024, 9216]⟩
abbrev S2x9216 : Shape := ⟨2, ![2, 9216]⟩
abbrev S2x1x9216 : Shape := ⟨3, ![2, 1, 9216]⟩
abbrev S2x8x9216 : Shape := ⟨3, ![2, 8, 9216]⟩
abbrev S1x1024x2304 : Shape := ⟨3, ![1, 1024, 2304]⟩
abbrev S1x1x2304 : Shape := ⟨3, ![1, 1, 2304]⟩
abbrev S1x8x2304 : Shape := ⟨3, ![1, 8, 2304]⟩
abbrev S1024x2304 : Shape := ⟨2, ![1024, 2304]⟩
abbrev S8x2304 : Shape := ⟨2, ![8, 2304]⟩
abbrev S1x2304 : Shape := ⟨2, ![1, 2304]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x9216, .f32⟩
  | .hbm, ⟨2, _⟩ => ⟨S2x9216, .f32⟩
  | .hbm, ⟨3, _⟩ => ⟨S2x1x9216, .f32⟩
  | .hbm, ⟨4, _⟩ => ⟨S2x8x9216, .f32⟩
  | .local _ .vmem, ⟨0, _⟩ => ⟨S8x1024, .f32⟩
  | .local _ .vmem, ⟨1, _⟩ => ⟨S1x1024x2304, .f32⟩
  | .local _ .vmem, ⟨2, _⟩ => ⟨S1x1024x2304, .f32⟩
  | .local _ .vmem, ⟨3, _⟩ => ⟨S1x1x2304, .f32⟩
  | .local _ .vmem, ⟨4, _⟩ => ⟨S1x1x2304, .f32⟩
  | .local _ .vmem, ⟨5, _⟩ => ⟨S1x8x2304, .f32⟩
  | .local _ .vmem, ⟨6, _⟩ => ⟨S1x8x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S2x1024x9216 : Shape := ⟨3, ![2, 1024, 9216]⟩
abbrev S2x9216 : Shape := ⟨2, ![2, 9216]⟩
abbrev S_ : Shape := ⟨0, ![]⟩
abbrev S2x9216x8 : Shape := ⟨3, ![2, 9216, 8]⟩
abbrev S2x8x9216 : Shape := ⟨3, ![2, 8, 9216]⟩
abbrev S2x1x9216 : Shape := ⟨3, ![2, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x9216, .f32⟩
  | .hbm, ⟨2, _⟩ => ⟨S2x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x9216x8, .f32⟩
  | .hbm, ⟨13, _⟩ => ⟨S2x8x9216, .f32⟩
  | .hbm, ⟨14, _⟩ => ⟨S2x1x9216, .f32⟩
  | .hbm, ⟨15, _⟩ => ⟨S2x8x9216, .f32⟩
  | .hbm, ⟨16, _⟩ => ⟨S2x8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S8x4096x1024 : Shape := ⟨3, ![8, 4096, 1024]⟩
abbrev S8x3x1024 : Shape := ⟨3, ![8, 3, 1024]⟩
abbrev S1024 : Shape := ⟨1, ![1024]⟩
abbrev S1024x4624 : Shape := ⟨2, ![1024, 4624]⟩
abbrev S2048x1024 : Shape := ⟨2, ![2048, 1024]⟩
abbrev S8x128x128 : Shape := ⟨3, ![8, 128, 128]⟩
abbrev S8x128 : Shape := ⟨2, ![8, 128]⟩
abbrev S4x1536 : Shape := ⟨2, ![4, 1536]⟩
abbrev S1536 : Shape := ⟨1, ![1536]⟩
abbrev S16 : Shape := ⟨1, ![16]⟩
abbrev S1024x16 : Shape := ⟨2, ![1024, 16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S128x8 : Shape := ⟨2, ![128, 8]⟩
abbrev S128x8x128 : Shape := ⟨3, ![128, 8, 128]⟩
abbrev S128x1024 : Shape := ⟨2, ![128, 1024]⟩
abbrev S128x2048 : Shape := ⟨2, ![128, 2048]⟩
abbrev S128x128 : Shape := ⟨2, ![128, 128]⟩
abbrev S1x1536 : Shape := ⟨2, ![1, 1536]⟩
abbrev S1x512x1024 : Shape := ⟨3, ![1, 512, 1024]⟩
abbrev S1x3x1024 : Shape := ⟨3, ![1, 3, 1024]⟩
abbrev S520x1536 : Shape := ⟨2, ![520, 1536]⟩
abbrev S2x128x512 : Shape := ⟨3, ![2, 128, 512]⟩
abbrev S8x1536 : Shape := ⟨2, ![8, 1536]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S512x128 : Shape := ⟨2, ![512, 128]⟩
abbrev S1x128x128 : Shape := ⟨3, ![1, 128, 128]⟩
abbrev S1024x1024 : Shape := ⟨2, ![1024, 1024]⟩
abbrev S1024x1536 : Shape := ⟨2, ![1024, 1536]⟩
abbrev S512x1536 : Shape := ⟨2, ![512, 1536]⟩
abbrev S504x1536 : Shape := ⟨2, ![504, 1536]⟩
abbrev S512x256 : Shape := ⟨2, ![512, 256]⟩
abbrev S128x384 : Shape := ⟨2, ![128, 384]⟩
abbrev S1x128x512 : Shape := ⟨3, ![1, 128, 512]⟩
abbrev S128x512 : Shape := ⟨2, ![128, 512]⟩
abbrev S1x512 : Shape := ⟨2, ![1, 512]⟩
abbrev S128x1 : Shape := ⟨2, ![128, 1]⟩
abbrev S256x128 : Shape := ⟨2, ![256, 128]⟩
abbrev S128x256 : Shape := ⟨2, ![128, 256]⟩

abbrev nBuf : Space → Nat
  | .hbm => 144
  | .vmem => 23
  | .smem => 0
  | _ => 0

abbrev hbmTy0_0 (i : Nat) : BufTy := match i % 128 with
  | 0 => ⟨S8x4096x1024, .f32⟩
  | 1 => ⟨S8x3x1024, .f32⟩
  | 2 => ⟨S1024, .f32⟩
  | 3 => ⟨S1024x4624, .f32⟩
  | 4 => ⟨S2048x1024, .f32⟩
  | 5 => ⟨S1024, .f32⟩
  | 6 => ⟨S8x128x128, .f32⟩
  | 7 => ⟨S8x128, .f32⟩
  | 8 => ⟨S4x1536, .f32⟩
  | 9 => ⟨S1536, .f32⟩
  | 10 => ⟨S16, .f32⟩
  | 11 => ⟨S16, .f32⟩
  | 12 => ⟨S16, .f32⟩
  | 13 => ⟨S1024, .f32⟩
  | 14 => ⟨S1024x4624, .bf16⟩
  | 15 => ⟨S1024x16, .bf16⟩
  | 16 => ⟨S_, .i32⟩
  | 17 => ⟨S_, .bf16⟩
  | 18 => ⟨S1024x128, .bf16⟩
  | 19 => ⟨S_, .i32⟩
  | 20 => ⟨S_, .f32⟩
  | 21 => ⟨S128, .f32⟩
  | 22 => ⟨S1x128, .f32⟩
  | 23 => ⟨S_, .i32⟩
  | 24 => ⟨S_, .f32⟩
  | 25 => ⟨S128, .f32⟩
  | 26 => ⟨S1x128, .f32⟩
  | 27 => ⟨S16x64, .f32⟩
  | 28 => ⟨S1024, .f32⟩
  | 29 => ⟨S1x1024, .f32⟩
  | 30 => ⟨S128x8, .f32⟩
  | 31 => ⟨S128x8x128, .f32⟩
  | 32 => ⟨S128x1024, .f32⟩
  | 33 => ⟨S128x2048, .i32⟩
  | 34 => ⟨S128x2048, .i32⟩
  | 35 => ⟨S_, .i32⟩
  | 36 => ⟨S_, .i32⟩
  | 37 => ⟨S128x2048, .i32⟩
  | 38 => ⟨S128x2048, .i32⟩
  | 39 => ⟨S128x2048, .i32⟩
  | 40 => ⟨S_, .i32⟩
  | 41 => ⟨S128x2048, .i32⟩
  | 42 => ⟨S128x2048, .i1⟩
  | 43 => ⟨S128x2048, .i32⟩
  | 44 => ⟨S128x2048, .i32⟩
  | 45 => ⟨S_, .i32⟩
  | 46 => ⟨S128x2048, .i32⟩
  | 47 => ⟨S128x2048, .i1⟩
  | 48 => ⟨S128x2048, .i1⟩
  | 49 => ⟨S_, .i32⟩
  | 50 => ⟨S128x2048, .i32⟩
  | 51 => ⟨S128x2048, .i32⟩
  | 52 => ⟨S128x2048, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S128x2048, .i32⟩
  | 60 => ⟨S128x2048, .i32⟩
  | 61 => ⟨S_, .i32⟩
  | 62 => ⟨S128x2048, .i32⟩
  | 63 => ⟨S128x2048, .i1⟩
  | 64 => ⟨S_, .i32⟩
  | 65 => ⟨S128x2048, .i32⟩
  | 66 => ⟨S128x2048, .i1⟩
  | 67 => ⟨S_, .i32⟩
  | 68 => ⟨S_, .i1⟩
  | 69 => ⟨S128x2048, .i1⟩
  | 70 => ⟨S128x2048, .i1⟩
  | 71 => ⟨S128x2048, .i1⟩
  | 72 => ⟨S128x2048, .i32⟩
  | 73 => ⟨S128x2048, .i32⟩
  | 74 => ⟨S128x2048, .i32⟩
  | 75 => ⟨S_, .i32⟩
  | 76 => ⟨S128x2048, .i32⟩
  | 77 => ⟨S128x2048, .i1⟩
  | 78 => ⟨S_, .i32⟩
  | 79 => ⟨S_, .i32⟩
  | 80 => ⟨S128x2048, .i32⟩
  | 81 => ⟨S128x2048, .i32⟩
  | 82 => ⟨S128x2048, .i32⟩
  | 83 => ⟨S_, .i32⟩
  | 84 => ⟨S128x2048, .i32⟩
  | 85 => ⟨S128x2048, .i1⟩
  | 86 => ⟨S128x2048, .i32⟩
  | 87 => ⟨S128x2048, .i32⟩
  | 88 => ⟨S_, .i32⟩
  | 89 => ⟨S128x2048, .i32⟩
  | 90 => ⟨S128x2048, .i1⟩
  | 91 => ⟨S128x2048, .i1⟩
  | 92 => ⟨S_, .i32⟩
  | 93 => ⟨S128x2048, .i32⟩
  | 94 => ⟨S128x2048, .i32⟩
  | 95 => ⟨S128x2048, .i32⟩
  | 96 => ⟨S_, .i32⟩
  | 97 => ⟨S_, .i32⟩
  | 98 => ⟨S128x2048, .i32⟩
  | 99 => ⟨S128x2048, .i32⟩
  | 100 => ⟨S128x2048, .i32⟩
  | 101 => ⟨S_, .i32⟩
  | 102 => ⟨S128x2048, .i32⟩
  | 103 => ⟨S128x2048, .i1⟩
  | 104 => ⟨S128x2048, .i32⟩
  | 105 => ⟨S128x2048, .i32⟩
  | 106 => ⟨S_, .i32⟩
  | 107 => ⟨S128x2048, .i32⟩
  | 108 => ⟨S128x2048, .i1⟩
  | 109 => ⟨S128x2048, .i1⟩
  | 110 => ⟨S_, .i32⟩
  | 111 => ⟨S128x2048, .i32⟩
  | 112 => ⟨S128x2048, .i32⟩
  | 113 => ⟨S128x2048, .i32⟩
  | 114 => ⟨S_, .i32⟩
  | 115 => ⟨S128x2048, .i32⟩
  | 116 => ⟨S128x2048, .i32⟩
  | 117 => ⟨S128x2048, .i32⟩
  | 118 => ⟨S128x2048, .i1⟩
  | 119 => ⟨S128x2048, .i1⟩
  | 120 => ⟨S_, .f32⟩
  | 121 => ⟨S_, .f32⟩
  | 122 => ⟨S128x2048, .f32⟩
  | 123 => ⟨S128x2048, .f32⟩
  | 124 => ⟨S128x2048, .f32⟩
  | 125 => ⟨S_, .f32⟩
  | 126 => ⟨S128x128, .f32⟩
  | 127 => ⟨S128x128, .i32⟩
  | _ => ⟨S8x4096x1024, .f32⟩

abbrev hbmTy0_1 (i : Nat) : BufTy := match i % 128 with
  | 0 => ⟨S_, .i32⟩
  | 1 => ⟨S128x128, .i32⟩
  | 2 => ⟨S128x128, .i32⟩
  | 3 => ⟨S128x128, .i32⟩
  | 4 => ⟨S128x128, .i1⟩
  | 5 => ⟨S_, .f32⟩
  | 6 => ⟨S128x128, .f32⟩
  | 7 => ⟨S128x128, .f32⟩
  | 8 => ⟨S1x1024, .f32⟩
  | 9 => ⟨S2048x1024, .bf16⟩
  | 10 => ⟨S1x1024, .f32⟩
  | 11 => ⟨S1x1536, .f32⟩
  | 12 => ⟨S1x1024, .f32⟩
  | 13 => ⟨S128x2048, .bf16⟩
  | 14 => ⟨S128x128, .bf16⟩
  | 15 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x4624, .bf16⟩
  | .local _ .vmem, ⟨6, _⟩ => ⟨S1024x128, .bf16⟩
  | .local _ .vmem, ⟨7, _⟩ => ⟨S2048x1024, .bf16⟩
  | .local _ .vmem, ⟨8, _⟩ => ⟨S1x1024, .f32⟩
  | .local _ .vmem, ⟨9, _⟩ => ⟨S8x128x128, .f32⟩
  | .local _ .vmem, ⟨10, _⟩ => ⟨S128x1024, .f32⟩
  | .local _ .vmem, ⟨11, _⟩ => ⟨S4x1536, .f32⟩
  | .local _ .vmem, ⟨12, _⟩ => ⟨S1x1536, .f32⟩
  | .local _ .vmem, ⟨13, _⟩ => ⟨S1x128, .f32⟩
  | .local _ .vmem, ⟨14, _⟩ => ⟨S1x128, .f32⟩
  | .local _ .vmem, ⟨15, _⟩ => ⟨S1x1024, .f32⟩
  | .local _ .vmem, ⟨16, _⟩ => ⟨S1x1024, .f32⟩
  | .local _ .vmem, ⟨17, _⟩ => ⟨S128x2048, .bf16⟩
  | .local _ .vmem, ⟨18, _⟩ => ⟨S128x128, .bf16⟩
  | .local _ .vmem, ⟨19, _⟩ => ⟨S1x512x1024, .f32⟩
  | .local _ .vmem, ⟨20, _⟩ => ⟨S1x512x1024, .f32⟩
  | .local _ .vmem, ⟨21, _⟩ => ⟨S520x1536, .f32⟩
  | .local _ .vmem, ⟨22, _⟩ => ⟨S2x128x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_call2_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_c : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_0 : Ref sig .tc := ⟨.hbm, 49, rfl⟩
abbrev main_call3_v12 : Ref sig .tc := ⟨.hbm, 50, rfl⟩
abbrev main_call3_v13 : Ref sig .tc := ⟨.hbm, 51, rfl⟩
abbrev main_v15 : Ref sig .tc := ⟨.hbm, 52, rfl⟩
abbrev main_c_3 : Ref sig .tc := ⟨.hbm, 53, rfl⟩
abbrev main_call4_v0 : Ref sig .tc := ⟨.hbm, 54, rfl⟩
abbrev main_call4_c : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_c_1 : Ref sig .tc := ⟨.hbm, 61, rfl⟩
abbrev main_call4_v5 : Ref sig .tc := ⟨.hbm, 62, rfl⟩
abbrev main_call4_v6 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_c_3 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v16 : Ref sig .tc := ⟨.hbm, 74, rfl⟩
abbrev main_c_4 : Ref sig .tc := ⟨.hbm, 75, rfl⟩
abbrev main_v17 : Ref sig .tc := ⟨.hbm, 76, rfl⟩
abbrev main_v18 : Ref sig .tc := ⟨.hbm, 77, rfl⟩
abbrev main_c_5 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_c : Ref sig .tc := ⟨.hbm, 88, rfl⟩
abbrev main_call5_v9 : Ref sig .tc := ⟨.hbm, 89, rfl⟩
abbrev main_call5_v10 : Ref sig .tc := ⟨.hbm, 90, rfl⟩
abbrev main_call5_v11 : Ref sig .tc := ⟨.hbm, 91, rfl⟩
abbrev main_call5_c_0 : Ref sig .tc := ⟨.hbm, 92, rfl⟩
abbrev main_call5_v12 : Ref sig .tc := ⟨.hbm, 93, rfl⟩
abbrev main_call5_v13 : Ref sig .tc := ⟨.hbm, 94, rfl⟩
abbrev main_v19 : Ref sig .tc := ⟨.hbm, 95, rfl⟩
abbrev main_c_6 : Ref sig .tc := ⟨.hbm, 96, rfl⟩
abbrev main_call6_v0 : Ref sig .tc := ⟨.hbm, 97, rfl⟩
abbrev main_call6_v1 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_v5 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_c : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_c_0 : Ref sig .tc := ⟨.hbm, 110, rfl⟩
abbrev main_call6_v12 : Ref sig .tc := ⟨.hbm, 111, rfl⟩
abbrev main_call6_v13 : Ref sig .tc := ⟨.hbm, 112, rfl⟩
abbrev main_v20 : Ref sig .tc := ⟨.hbm, 113, rfl⟩
abbrev main_c_7 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_v25 : Ref sig .tc := ⟨.hbm, 119, rfl⟩
abbrev main_cst : Ref sig .tc := ⟨.hbm, 120, rfl⟩
abbrev main_cst_8 : Ref sig .tc := ⟨.hbm, 121, rfl⟩
abbrev main_call7_v0 : Ref sig .tc := ⟨.hbm, 122, rfl⟩
abbrev main_call7_v1 : Ref sig .tc := ⟨.hbm, 123, rfl⟩
abbrev main_v26 : Ref sig .tc := ⟨.hbm, 124, rfl⟩
abbrev main_cst_9 : Ref sig .tc := ⟨.hbm, 125, rfl⟩
abbrev main_v27 : Ref sig .tc := ⟨.hbm, 126, rfl⟩
abbrev main_call8_v0 : Ref sig .tc := ⟨.hbm, 127, rfl⟩
abbrev main_call8_c : Ref sig .tc := ⟨.hbm, 128, rfl⟩
abbrev main_call8_v1 : Ref sig .tc := ⟨.hbm, 129, rfl⟩
abbrev main_call8_v2 : Ref sig .tc := ⟨.hbm, 130, rfl⟩
abbrev main_call8_v3 : Ref sig .tc := ⟨.hbm, 131, rfl⟩
abbrev main_call8_v4 : Ref sig .tc := ⟨.hbm, 132, rfl⟩
abbrev main_call8_cst : Ref sig .tc := ⟨.hbm, 133, rfl⟩
abbrev main_call8_v5 : Ref sig .tc := ⟨.hbm, 134, rfl⟩
abbrev main_v28 : Ref sig .tc := ⟨.hbm, 135, rfl⟩
abbrev main_v29 : Ref sig .tc := ⟨.hbm, 136, rfl⟩
abbrev main_v30 : Ref sig .tc := ⟨.hbm, 137, rfl⟩
abbrev main_v31 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩
abbrev main_v35 : Ref sig .tc := ⟨.hbm, 142, rfl⟩
abbrev main_v36 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4624 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference7Ideal.lean ====
abbrev S8x4096x1024 : Shape := ⟨3, ![8, 4096, 1024]⟩
abbrev S8x3x1024 : Shape := ⟨3, ![8, 3, 1024]⟩
abbrev S1024 : Shape := ⟨1, ![1024]⟩
abbrev S1024x4624 : Shape := ⟨2, ![1024, 4624]⟩
abbrev S2048x1024 : Shape := ⟨2, ![2048, 1024]⟩
abbrev S8x128x128 : Shape := ⟨3, ![8, 128, 128]⟩
abbrev S8x128 : Shape := ⟨2, ![8, 128]⟩
abbrev S4x1536 : Shape := ⟨2, ![4, 1536]⟩
abbrev S1536 : Shape := ⟨1, ![1536]⟩
abbrev S16 : Shape := ⟨1, ![16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x4624 : Shape := ⟨3, ![8, 4096, 4624]⟩
abbrev S8x4096x2048 : Shape := ⟨3, ![8, 4096, 2048]⟩
abbrev S8x4096x1536 : Shape := ⟨3, ![8, 4096, 1536]⟩
abbrev S8x4096x16 : Shape := ⟨3, ![8, 4096, 16]⟩
abbrev S8x32x128x8x128 : Shape := ⟨5, ![8, 32, 128, 8, 128]⟩
abbrev S8x32x128x8 : Shape := ⟨4, ![8, 32, 128, 8]⟩
abbrev S8x32x128x8x1 : Shape := ⟨5, ![8, 32, 128, 8, 1]⟩
abbrev S1x1x1x8x128 : Shape := ⟨5, ![1, 1, 1, 8, 128]⟩
abbrev S128x128 : Shape := ⟨2, ![128, 128]⟩
abbrev S8x8x32x128x128 : Shape := ⟨5, ![8, 8, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S8x4099x1536 : Shape := ⟨3, ![8, 4099, 1536]⟩
abbrev S1x1536 : Shape := ⟨2, ![1, 1536]⟩
abbrev S1x1x1536 : Shape := ⟨3, ![1, 1, 1536]⟩
abbrev S8x4096x256 : Shape := ⟨3, ![8, 4096, 256]⟩
abbrev S8x4096x2x8x64 : Shape := ⟨5, ![8, 4096, 2, 8, 64]⟩
abbrev S8x4096x2x128 : Shape := ⟨4, ![8, 4096, 2, 128]⟩
abbrev S1x1x16 : Shape := ⟨3, ![1, 1, 16]⟩
abbrev S8x4096x2x8 : Shape := ⟨4, ![8, 4096, 2, 8]⟩
abbrev S2x8 : Shape := ⟨2, ![2, 8]⟩
abbrev S1x1x2x8 : Shape := ⟨4, ![1, 1, 2, 8]⟩
abbrev S4096x4096 : Shape := ⟨2, ![4096, 4096]⟩
abbrev S4096x4096x1x1 : Shape := ⟨4, ![4096, 4096, 1, 1]⟩
abbrev S8x4096x1x2x8 : Shape := ⟨5, ![8, 4096, 1, 2, 8]⟩
abbrev S8x1x4096x2x8 : Shape := ⟨5, ![8, 1, 4096, 2, 8]⟩
abbrev S8x4096x4096x2x8 : Shape := ⟨5, ![8, 4096, 4096, 2, 8]⟩
abbrev S8x2x4096x4096 : Shape := ⟨4, ![8, 2, 4096, 4096]⟩
abbrev S8x4096x4096x2 : Shape := ⟨4, ![8, 4096, 4096, 2]⟩
abbrev S8x4096x4096x2x1 : Shape := ⟨5, ![8, 4096, 4096, 2, 1]⟩
abbrev S8x2x8x64x4096 : Shape := ⟨5, ![8, 2, 8, 64, 4096]⟩
abbrev S2x8x1 : Shape := ⟨3, ![2, 8, 1]⟩
abbrev S1x1x2x8x1 : Shape := ⟨5, ![1, 1, 2, 8, 1]⟩

abbrev nBuf : Space → Nat
  | .hbm => 282
  | .vmem => 0
  | .smem => 0
  | _ => 0

abbrev hbmTy0_0 (i : Nat) : BufTy := match i % 128 with
  | 0 => ⟨S8x4096x1024, .f32⟩
  | 1 => ⟨S8x3x1024, .f32⟩
  | 2 => ⟨S1024, .f32⟩
  | 3 => ⟨S1024x4624, .f32⟩
  | 4 => ⟨S2048x1024, .f32⟩
  | 5 => ⟨S1024, .f32⟩
  | 6 => ⟨S8x128x128, .f32⟩
  | 7 => ⟨S8x128, .f32⟩
  | 8 => ⟨S4x1536, .f32⟩
  | 9 => ⟨S1536, .f32⟩
  | 10 => ⟨S16, .f32⟩
  | 11 => ⟨S16, .f32⟩
  | 12 => ⟨S16, .f32⟩
  | 13 => ⟨S1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x1x1024, .f32⟩
  | 31 => ⟨S8x1024, .f32⟩
  | 32 => ⟨S8x1x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x1x1024, .f32⟩
  | 39 => ⟨S8x1024, .f32⟩
  | 40 => ⟨S8x1x1024, .f32⟩
  | 41 => ⟨S8x4096x1024, .f32⟩
  | 42 => ⟨S8x4096x1024, .f32⟩
  | 43 => ⟨S8x4096x4624, .f32⟩
  | 44 => ⟨S8x4096x2048, .f32⟩
  | 45 => ⟨S8x4096x1024, .f32⟩
  | 46 => ⟨S8x4096x1536, .f32⟩
  | 47 => ⟨S8x4096x16, .f32⟩
  | 48 => ⟨S8x4096x2048, .f32⟩
  | 49 => ⟨S8x4096x2048, .f32⟩
  | 50 => ⟨S_, .f32⟩
  | 51 => ⟨S8x4096x2048, .f32⟩
  | 52 => ⟨S8x4096x2048, .f32⟩
  | 53 => ⟨S8x4096x2048, .f32⟩
  | 54 => ⟨S_, .f32⟩
  | 55 => ⟨S8x4096x2048, .f32⟩
  | 56 => ⟨S8x4096x2048, .f32⟩
  | 57 => ⟨S8x4096x2048, .f32⟩
  | 58 => ⟨S_, .f32⟩
  | 59 => ⟨S8x4096x2048, .f32⟩
  | 60 => ⟨S8x4096x2048, .f32⟩
  | 61 => ⟨S_, .f32⟩
  | 62 => ⟨S8x4096x2048, .f32⟩
  | 63 => ⟨S8x4096x2048, .f32⟩
  | 64 => ⟨S8x4096x2048, .f32⟩
  | 65 => ⟨S8x4096x1024, .f32⟩
  | 66 => ⟨S8x4096x1024, .f32⟩
  | 67 => ⟨S8x32x128x8x128, .f32⟩
  | 68 => ⟨S8x128, .f32⟩
  | 69 => ⟨S8x32x128x8x128, .f32⟩
  | 70 => ⟨S_, .f32⟩
  | 71 => ⟨S8x32x128x8, .f32⟩
  | 72 => ⟨S8x32x128x8x1, .f32⟩
  | 73 => ⟨S_, .f32⟩
  | 74 => ⟨S8x32x128x8x1, .f32⟩
  | 75 => ⟨S8x32x128x8x1, .f32⟩
  | 76 => ⟨S_, .f32⟩
  | 77 => ⟨S8x32x128x8x1, .f32⟩
  | 78 => ⟨S8x32x128x8x1, .f32⟩
  | 79 => ⟨S8x32x128x8x1, .f32⟩
  | 80 => ⟨S8x32x128x8x128, .f32⟩
  | 81 => ⟨S8x32x128x8x128, .f32⟩
  | 82 => ⟨S1x1x1x8x128, .f32⟩
  | 83 => ⟨S8x32x128x8x128, .f32⟩
  | 84 => ⟨S8x32x128x8x128, .f32⟩
  | 85 => ⟨S128x128, .i32⟩
  | 86 => ⟨S128x128, .i32⟩
  | 87 => ⟨S_, .i32⟩
  | 88 => ⟨S_, .i32⟩
  | 89 => ⟨S128x128, .i32⟩
  | 90 => ⟨S128x128, .i32⟩
  | 91 => ⟨S128x128, .i32⟩
  | 92 => ⟨S_, .i32⟩
  | 93 => ⟨S128x128, .i32⟩
  | 94 => ⟨S128x128, .i1⟩
  | 95 => ⟨S128x128, .i32⟩
  | 96 => ⟨S128x128, .i32⟩
  | 97 => ⟨S_, .i32⟩
  | 98 => ⟨S128x128, .i32⟩
  | 99 => ⟨S128x128, .i1⟩
  | 100 => ⟨S128x128, .i1⟩
  | 101 => ⟨S_, .i32⟩
  | 102 => ⟨S128x128, .i32⟩
  | 103 => ⟨S128x128, .i32⟩
  | 104 => ⟨S128x128, .i32⟩
  | 105 => ⟨S_, .i32⟩
  | 106 => ⟨S_, .i32⟩
  | 107 => ⟨S128x128, .i32⟩
  | 108 => ⟨S128x128, .i32⟩
  | 109 => ⟨S128x128, .i32⟩
  | 110 => ⟨S_, .i32⟩
  | 111 => ⟨S128x128, .i32⟩
  | 112 => ⟨S128x128, .i1⟩
  | 113 => ⟨S128x128, .i32⟩
  | 114 => ⟨S128x128, .i32⟩
  | 115 => ⟨S_, .i32⟩
  | 116 => ⟨S128x128, .i32⟩
  | 117 => ⟨S128x128, .i1⟩
  | 118 => ⟨S128x128, .i1⟩
  | 119 => ⟨S_, .i32⟩
  | 120 => ⟨S128x128, .i32⟩
  | 121 => ⟨S128x128, .i32⟩
  | 122 => ⟨S128x128, .i32⟩
  | 123 => ⟨S128x128, .i1⟩
  | 124 => ⟨S_, .f32⟩
  | 125 => ⟨S_, .f32⟩
  | 126 => ⟨S8x128x128, .i1⟩
  | 127 => ⟨S8x128x128, .f32⟩
  | _ => ⟨S8x4096x1024, .f32⟩

abbrev hbmTy0_1 (i : Nat) : BufTy := match i % 128 with
  | 0 => ⟨S8x128x128, .f32⟩
  | 1 => ⟨S8x8x32x128x128, .f32⟩
  | 2 => ⟨S8x32x128x8x128, .f32⟩
  | 3 => ⟨S128x8, .f32⟩
  | 4 => ⟨S128x8x1, .f32⟩
  | 5 => ⟨S1x1x128x8x1, .f32⟩
  | 6 => ⟨S8x32x128x8x128, .f32⟩
  | 7 => ⟨S8x32x128x8x128, .f32⟩
  | 8 => ⟨S8x4096x1024, .f32⟩
  | 9 => ⟨S8x4096x1024, .f32⟩
  | 10 => ⟨S_, .i32⟩
  | 11 => ⟨S_, .f32⟩
  | 12 => ⟨S8x4099x1536, .f32⟩
  | 13 => ⟨S8x4096x1536, .f32⟩
  | 14 => ⟨S1x1536, .f32⟩
  | 15 => ⟨S1536, .f32⟩
  | 16 => ⟨S1x1x1536, .f32⟩
  | 17 => ⟨S8x4096x1536, .f32⟩
  | 18 => ⟨S8x4096x1536, .f32⟩
  | 19 => ⟨S_, .f32⟩
  | 20 => ⟨S8x4096x1536, .f32⟩
  | 21 => ⟨S8x4096x1536, .f32⟩
  | 22 => ⟨S8x4096x1536, .f32⟩
  | 23 => ⟨S1x1536, .f32⟩
  | 24 => ⟨S1536, .f32⟩
  | 25 => ⟨S1x1x1536, .f32⟩
  | 26 => ⟨S8x4096x1536, .f32⟩
  | 27 => ⟨S8x4096x1536, .f32⟩
  | 28 => ⟨S8x4096x1536, .f32⟩
  | 29 => ⟨S8x4096x1536, .f32⟩
  | 30 => ⟨S1x1536, .f32⟩
  | 31 => ⟨S1536, .f32⟩
  | 32 => ⟨S1x1x1536, .f32⟩
  | 33 => ⟨S8x4096x1536, .f32⟩
  | 34 => ⟨S8x4096x1536, .f32⟩
  | 35 => ⟨S8x4096x1536, .f32⟩
  | 36 => ⟨S8x4096x1536, .f32⟩
  | 37 => ⟨S1x1536, .f32⟩
  | 38 => ⟨S1536, .f32⟩
  | 39 => ⟨S1x1x1536, .f32⟩
  | 40 => ⟨S8x4096x1536, .f32⟩
  | 41 => ⟨S8x4096x1536, .f32⟩
  | 42 => ⟨S8x4096x1536, .f32⟩
  | 43 => ⟨S1x1x1536, .f32⟩
  | 44 => ⟨S8x4096x1536, .f32⟩
  | 45 => ⟨S8x4096x1536, .f32⟩
  | 46 => ⟨S8x4096x1536, .f32⟩
  | 47 => ⟨S8x4096x1536, .f32⟩
  | 48 => ⟨S_, .f32⟩
  | 49 => ⟨S8x4096x1536, .f32⟩
  | 50 => ⟨S8x4096x1536, .f32⟩
  | 51 => ⟨S_, .f32⟩
  | 52 => ⟨S8x4096x1536, .f32⟩
  | 53 => ⟨S8x4096x1536, .f32⟩
  | 54 => ⟨S8x4096x1536, .f32⟩
  | 55 => ⟨S8x4096x1024, .f32⟩
  | 56 => ⟨S8x4096x256, .f32⟩
  | 57 => ⟨S8x4096x256, .f32⟩
  | 58 => ⟨S8x4096x2x8x64, .f32⟩
  | 59 => ⟨S8x4096x2x128, .f32⟩
  | 60 => ⟨S8x4096x2x128, .f32⟩
  | 61 => ⟨S1x1x16, .f32⟩
  | 62 => ⟨S8x4096x16, .f32⟩
  | 63 => ⟨S8x4096x16, .f32⟩
  | 64 => ⟨S_, .f32⟩
  | 65 => ⟨S8x4096x16, .f32⟩
  | 66 => ⟨S8x4096x16, .f32⟩
  | 67 => ⟨S8x4096x16, .f32⟩
  | 68 => ⟨S8x4096x16, .f32⟩
  | 69 => ⟨S8x4096x16, .i1⟩
  | 70 => ⟨S8x4096x16, .f32⟩
  | 71 => ⟨S8x4096x16, .f32⟩
  | 72 => ⟨S8x4096x16, .f32⟩
  | 73 => ⟨S8x4096x16, .f32⟩
  | 74 => ⟨S8x4096x16, .f32⟩
  | 75 => ⟨S8x4096x16, .f32⟩
  | 76 => ⟨S8x4096x16, .f32⟩
  | 77 => ⟨S8x4096x16, .f32⟩
  | 78 => ⟨S8x4096x2x8, .f32⟩
  | 79 => ⟨S16, .f32⟩
  | 80 => ⟨S2x8, .f32⟩
  | 81 => ⟨S2x8, .f32⟩
  | 82 => ⟨S1x1x2x8, .f32⟩
  | 83 => ⟨S8x4096x2x8, .f32⟩
  | 84 => ⟨S8x4096x2x8, .f32⟩
  | 85 => ⟨S_, .f32⟩
  | 86 => ⟨S_, .f32⟩
  | 87 => ⟨S8x4096x2x8, .f32⟩
  | 88 => ⟨S4096x4096, .i32⟩
  | 89 => ⟨S4096x4096, .i32⟩
  | 90 => ⟨S4096x4096, .i1⟩
  | 91 => ⟨S4096x4096x1x1, .i1⟩
  | 92 => ⟨S8x4096x1x2x8, .f32⟩
  | 93 => ⟨S8x1x4096x2x8, .f32⟩
  | 94 => ⟨S8x4096x4096x2x8, .f32⟩
  | 95 => ⟨S8x4096x4096x2x8, .f32⟩
  | 96 => ⟨S8x4096x4096x2x8, .f32⟩
  | 97 => ⟨S_, .f32⟩
  | 98 => ⟨S_, .f32⟩
  | 99 => ⟨S8x4096x4096x2x8, .i1⟩
  | 100 => ⟨S8x4096x4096x2x8, .f32⟩
  | 101 => ⟨S8x4096x4096x2x8, .f32⟩
  | 102 => ⟨S8x4096x4096x2x8, .f32⟩
  | 103 => ⟨S8x2x4096x4096, .f32⟩
  | 104 => ⟨S8x4096x4096x2, .f32⟩
  | 105 => ⟨S8x4096x4096x2x1, .f32⟩
  | 106 => ⟨S8x4096x4096x2x8, .f32⟩
  | 107 => ⟨S8x4096x4096x2x8, .f32⟩
  | 108 => ⟨S8x1x4096x2x8, .f32⟩
  | 109 => ⟨S8x4096x4096x2x8, .f32⟩
  | 110 => ⟨S8x4096x4096x2x8, .f32⟩
  | 111 => ⟨S8x2x8x64x4096, .f32⟩
  | 112 => ⟨S8x4096x2x8x64, .f32⟩
  | 113 => ⟨S2x8, .f32⟩
  | 114 => ⟨S2x8x1, .f32⟩
  | 115 => ⟨S1x1x2x8x1, .f32⟩
  | 116 => ⟨S8x4096x2x8x64, .f32⟩
  | 117 => ⟨S8x4096x2x8x64, .f32⟩
  | 118 => ⟨S8x4096x2x8x64, .f32⟩
  | 119 => ⟨S8x4096x1024, .f32⟩
  | 120 => ⟨S8x4096x1024, .f32⟩
  | 121 => ⟨S8x4096x1024, .f32⟩
  | 122 => ⟨S_, .f32⟩
  | 123 => ⟨S8x4096x1024, .f32⟩
  | 124 => ⟨S8x4096x1024, .f32⟩
  | 125 => ⟨S_, .f32⟩
  | 126 => ⟨S8x4096x1024, .f32⟩
  | 127 => ⟨S8x4096x1024, .f32⟩
  | _ => ⟨S8x4096x1024, .f32⟩

abbrev hbmTy0_2 (i : Nat) : BufTy := match i % 128 with
  | 0 => ⟨S8x4096x1024, .f32⟩
  | 1 => ⟨S8x4096x1024, .f32⟩
  | 2 => ⟨S8x4096x1024, .f32⟩
  | 3 => ⟨S_, .f32⟩
  | 4 => ⟨S8x4096, .f32⟩
  | 5 => ⟨S8x4096x1, .f32⟩
  | 6 => ⟨S_, .f32⟩
  | 7 => ⟨S8x4096x1, .f32⟩
  | 8 => ⟨S8x4096x1, .f32⟩
  | 9 => ⟨S_, .f32⟩
  | 10 => ⟨S8x4096x1, .f32⟩
  | 11 => ⟨S8x4096x1, .f32⟩
  | 12 => ⟨S8x4096x1, .f32⟩
  | 13 => ⟨S8x4096x1024, .f32⟩
  | 14 => ⟨S8x4096x1024, .f32⟩
  | 15 => ⟨S1x1x1024, .f32⟩
  | 16 => ⟨S8x4096x1024, .f32⟩
  | 17 => ⟨S8x4096x1024, .f32⟩
  | 18 => ⟨S8x1x1024, .f32⟩
  | 19 => ⟨S8x1024, .f32⟩
  | 20 => ⟨S8x1x1024, .f32⟩
  | 21 => ⟨S8x4096x2048, .f32⟩
  | 22 => ⟨S8x4096x1024, .f32⟩
  | 23 => ⟨S8x4096x1024, .f32⟩
  | 24 => ⟨S8x4096x1024, .f32⟩
  | 25 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_c : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_c_0 : Ref sig .tc := ⟨.hbm, 101, rfl⟩
abbrev main_call0_v12 : Ref sig .tc := ⟨.hbm, 102, rfl⟩
abbrev main_call0_v13 : Ref sig .tc := ⟨.hbm, 103, rfl⟩
abbrev main_v62 : Ref sig .tc := ⟨.hbm, 104, rfl⟩
abbrev main_c_10 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_v7 : Ref sig .tc := ⟨.hbm, 113, rfl⟩
abbrev main_call1_v8 : Ref sig .tc := ⟨.hbm, 114, rfl⟩
abbrev main_call1_c : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_c_0 : Ref sig .tc := ⟨.hbm, 119, rfl⟩
abbrev main_call1_v12 : Ref sig .tc := ⟨.hbm, 120, rfl⟩
abbrev main_call1_v13 : Ref sig .tc := ⟨.hbm, 121, rfl⟩
abbrev main_v63 : Ref sig .tc := ⟨.hbm, 122, rfl⟩
abbrev main_v64 : Ref sig .tc := ⟨.hbm, 123, rfl⟩
abbrev main_cst_11 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_c_12 : Ref sig .tc := ⟨.hbm, 138, rfl⟩
abbrev main_call3_v0 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_cst_13 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_call4_v0 : Ref sig .tc := ⟨.hbm, 174, rfl⟩
abbrev main_call4_v1 : Ref sig .tc := ⟨.hbm, 175, rfl⟩
abbrev main_call4_cst : Ref sig .tc := ⟨.hbm, 176, rfl⟩
abbrev main_call4_v2 : Ref sig .tc := ⟨.hbm, 177, rfl⟩
abbrev main_call4_v3 : Ref sig .tc := ⟨.hbm, 178, rfl⟩
abbrev main_call4_cst_0 : Ref sig .tc := ⟨.hbm, 179, rfl⟩
abbrev main_call4_v4 : Ref sig .tc := ⟨.hbm, 180, rfl⟩
abbrev main_call4_v5 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_call5_cst : Ref sig .tc := ⟨.hbm, 192, rfl⟩
abbrev main_call5_v0 : Ref sig .tc := ⟨.hbm, 193, rfl⟩
abbrev main_call5_v1 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_call5_v5 : Ref sig .tc := ⟨.hbm, 198, rfl⟩
abbrev main_call5_v6 : Ref sig .tc := ⟨.hbm, 199, rfl⟩
abbrev main_call5_v7 : Ref sig .tc := ⟨.hbm, 200, rfl⟩
abbrev main_call5_v8 : Ref sig .tc := ⟨.hbm, 201, rfl⟩
abbrev main_call5_v9 : Ref sig .tc := ⟨.hbm, 202, rfl⟩
abbrev main_call5_v10 : Ref sig .tc := ⟨.hbm, 203, rfl⟩
abbrev main_call5_v11 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_call6_call0_cst : Ref sig .tc := ⟨.hbm, 213, rfl⟩
abbrev main_call6_call0_v0 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_cst_14 : Ref sig .tc := ⟨.hbm, 225, rfl⟩
abbrev main_call7_v0 : Ref sig .tc := ⟨.hbm, 226, rfl⟩
abbrev main_call7_v1 : Ref sig .tc := ⟨.hbm, 227, rfl⟩
abbrev main_call7_v2 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_call8_v0 : Ref sig .tc := ⟨.hbm, 248, rfl⟩
abbrev main_call8_v1 : Ref sig .tc := ⟨.hbm, 249, rfl⟩
abbrev main_call8_cst : Ref sig .tc := ⟨.hbm, 250, rfl⟩
abbrev main_call8_v2 : Ref sig .tc := ⟨.hbm, 251, rfl⟩
abbrev main_call8_v3 : Ref sig .tc := ⟨.hbm, 252, rfl⟩
abbrev main_call8_cst_0 : Ref sig .tc := ⟨.hbm, 253, rfl⟩
abbrev main_call8_v4 : Ref sig .tc := ⟨.hbm, 254, rfl⟩
abbrev main_call8_v5 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_cst_15 : Ref sig .tc := ⟨.hbm, 259, rfl⟩
abbrev main_v158 : Ref sig .tc := ⟨.hbm, 260, rfl⟩
abbrev main_v159 : Ref sig .tc := ⟨.hbm, 261, rfl⟩
abbrev main_cst_16 : Ref sig .tc := ⟨.hbm, 262, rfl⟩
abbrev main_v160 : Ref sig .tc := ⟨.hbm, 263, rfl⟩
abbrev main_v161 : Ref sig .tc := ⟨.hbm, 264, rfl⟩
abbrev main_cst_17 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩

abbrev nD : Nat := 1
abbrev τ : Topo := Topo.v7x

variable {F : FTy → Type} [FloatOps F]
-- ==== Proof.Attn.Model.lean ====
/-
  What one grid point of the stick-breaking attention computes, as functions of the blocks it reads: the stacked queries
  of a head pair, one tile of keys and values, the running sums, a trip of the loop over the earlier key tiles, the loop
  with its early exit, and the block of results.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-! ## One tile -/

/-- The logits of a head pair's stacked queries against one tile of keys. -/
def logits (q : FVec F S512x128 .bf16) (k : Vec F S1x256x128 .bf16) : FVec F S512x256 .f32 :=
  matmul dot_S512x128_S256x128_S512x256_1_1_0_0_n_n none q (shapeCast S256x128 k shapeCasts_S1x256x128_S256x128)
    (constant S512x256 .f32 0x00000000#32)

/-- The logarithm of the sigmoid, as the kernel writes it. -/
def logBeta (z : FVec F S512x256 .f32) : FVec F S512x256 .f32 :=
  subf (minimumf z (broadcast S512x256 (Scalar.ofBits .f32 0x00000000#32)))
    (log (addf (broadcast S512x256 (Scalar.ofBits .f32 0x3F800000#32))
      (exp (subf (broadcast S512x256 (Scalar.ofBits .f32 0x00000000#32)) (absf z)))))

/-- The logarithm of what a key leaves of the stick. -/
def logKeep (z : FVec F S512x256 .f32) : FVec F S512x256 .f32 := subf (logBeta z) z

/-- `logKeep` of the diagonal tile: zero where the key is not earlier than the query. -/
def keepMasked (z : FVec F S512x256 .f32) : FVec F S512x256 .f32 :=
  select k0_pay153 (logKeep z) (broadcast S512x256 (Scalar.ofBits .f32 0x00000000#32))

/-- The sums over a tile's later keys: the product of the high and the low halves of `l` with the stacked triangles. -/
def afters (l : FVec F S512x256 .f32) (u : FVec F S512x256 .bf16) : FVec F S512x256 .f32 :=
  matmul dot_S512x512_S512x256_S512x256_1_0_0_1_n_n none
    (concatenate S512x512 1 [⟨S512x256, truncf .bf16 l bitsLt_bf16_f32⟩,
      ⟨S512x256, truncf .bf16 (subf l (extf .f32 (truncf .bf16 l bitsLt_bf16_f32) bitsLt_bf16_f32)) bitsLt_bf16_f32⟩]
      concatenates_S512x256_S512x256_S512x512_d1) u (constant S512x256 .f32 0x00000000#32)

/-- A tile's sum of `l` over its keys. -/
def rowSum (l : FVec F S512x256 .f32) : FVec F S512x1 .f32 :=
  shapeCast S512x1 (multiReduction .add [1] S512 l 0x00000000#32 reduces_S512x256_S512 (.inl rfl) rfl) shapeCasts_S512_S512x1

/-- Weights against one tile of values. -/
def weighted (w : FVec F S512x256 .f32) (v : Vec F S1x256x128 .bf16) : FVec F S512x128 .f32 :=
  matmul dot_S512x256_S256x128_S512x128_1_0_0_1_n_n none (truncf .bf16 w bitsLt_bf16_f32)
    (shapeCast S256x128 v shapeCasts_S1x256x128_S256x128) (constant S512x128 .f32 0x00000000#32)

/-- The diagonal tile's contribution. -/
def pvDiag (q : FVec F S512x128 .bf16) (u : FVec F S512x256 .bf16) (k v : Vec F S1x256x128 .bf16) : FVec F S512x128 .f32 :=
  weighted (select k0_pay153 (exp (addf (logBeta (logits q k)) (afters (keepMasked (logits q k)) u)))
    (broadcast S512x256 (Scalar.ofBits .f32 0x00000000#32))) v

/-- An earlier tile's contribution, after the running sum `c`. -/
def pvTile (q : FVec F S512x128 .bf16) (u : FVec F S512x256 .bf16) (k v : Vec F S1x256x128 .bf16) (c : FVec F S512x1 .f32) :
    FVec F S512x128 .f32 :=
  weighted (exp (addf (logBeta (logits q k)) (addf (afters (logKeep (logits q k)) u) (broadcastTo S512x256 c broadcasts_S512x1_S512x256)))) v

/-- The running sum of the diagonal tile. -/
def sumDiag (q : FVec F S512x128 .bf16) (k : Vec F S1x256x128 .bf16) : FVec F S512x1 .f32 := rowSum (keepMasked (logits q k))

/-- The running sum of an earlier tile. -/
def sumTile (q : FVec F S512x128 .bf16) (k : Vec F S1x256x128 .bf16) : FVec F S512x1 .f32 := rowSum (logKeep (logits q k))

/-- A contribution as a slab of the accumulator. -/
def accSlab (a : FVec F S512x128 .f32) : Vec F S1x512x128 .f32 := shapeCast S1x512x128 a shapeCasts_S512x128_S1x512x128

/-- A running sum as a slab of the running sums' buffer. -/
def sumSlab (c : FVec F S512x1 .f32) : Vec F S1x512x128 .f32 :=
  shapeCast S1x512x128 (broadcastTo S512x128 (shapeCast S512x1 c shapeCasts_S512x1_S512x1) broadcasts_S512x1_S512x128)
    shapeCasts_S512x128_S1x512x128

/-- The greatest of the eight pairs' running sums. -/
def topOf (c : Fin 8 → FVec F S512x1 .f32) : F .f32 :=
  k0_pay2 (maximumf (maximumf (maximumf (maximumf (maximumf (maximumf (maximumf (c 0) (c 1)) (c 2)) (c 3)) (c 4)) (c 5)) (c 6)) (c 7))

/-- The stacked queries of one head pair: the first head's lanes over the second head's. -/
def stackQ (q : Vec F S1x256x128 .bf16) : FVec F S512x128 .bf16 := k0_pay154 q

/-- The block of results of one pair: the first head's lanes of the upper half, the second head's of the lower half. -/
def mergeOut (a b : Vec F S1x256x128 .f32) : Vec F S1x256x128 .bf16 := k0_pay169 k0_pay151 a b

/-! ## Slabs -/

theorem slab_inb (p : Fin 8) : ∀ a, (![p.val, 0, 0] : Fin 3 → ℕ) a + S1x512x128.size a ≤ S8x512x128.size a := by
  revert p; decide
/-- Pair `p`'s slab of a scratch buffer. -/
def slab (p : Fin 8) : Rect S8x512x128 := Rect.unit ![p.val, 0, 0] S1x512x128.size (slab_inb p)
theorem col_inb (p : Fin 8) : ∀ a, (![p.val, 0, 0] : Fin 3 → ℕ) a + S1x512x1.size a ≤ S8x512x128.size a := by
  revert p; decide
/-- The first column of pair `p`'s slab. -/
def col (p : Fin 8) : Rect S8x512x128 := Rect.unit ![p.val, 0, 0] S1x512x1.size (col_inb p)
theorem upper_inb (p : Fin 8) : ∀ a, (![p.val, 0, 0] : Fin 3 → ℕ) a + S1x256x128.size a ≤ S8x512x128.size a := by
  revert p; decide
/-- The upper half of pair `p`'s slab. -/
def upper (p : Fin 8) : Rect S8x512x128 := Rect.unit ![p.val, 0, 0] S1x256x128.size (upper_inb p)
theorem lower_inb (p : Fin 8) : ∀ a, (![p.val, 256, 0] : Fin 3 → ℕ) a + S1x256x128.size a ≤ S8x512x128.size a := by
  revert p; decide
/-- The lower half of pair `p`'s slab. -/
def lower (p : Fin 8) : Rect S8x512x128 := Rect.unit ![p.val, 256, 0] S1x256x128.size (lower_inb p)
theorem lane_inb (p : Fin 8) : ∀ a, (![0, 0, 128 * p.val] : Fin 3 → ℕ) a + S1x256x128.size a ≤ S1x256x1024.size a := by
  revert p; decide
/-- Pair `p`'s lanes of a block of queries or results. -/
def lane (p : Fin 8) : Rect S1x256x1024 := Rect.unit ![0, 0, 128 * p.val] S1x256x128.size (lane_inb p)
theorem kv_inb (j : Fin 16) (p : Fin 8) :
    ∀ a, (![0, 256 * j.val, 128 * p.val] : Fin 3 → ℕ) a + S1x256x128.size a ≤ S1x4096x1024.size a := by
  revert j p; decide
/-- Tile `j`'s rows and pair `p`'s lanes of the keys or the values. -/
def kv (j : Fin 16) (p : Fin 8) : Rect S1x4096x1024 := Rect.unit ![0, 256 * j.val, 128 * p.val] S1x256x128.size (kv_inb j p)

/-- A scratch buffer from its eight slabs. -/
def ofSlabs (g : Fin 8 → Vec F S1x512x128 .f32) : Vec F S8x512x128 .f32 :=
  View.canon [⟨slab 7, g 7⟩, ⟨slab 6, g 6⟩, ⟨slab 5, g 5⟩, ⟨slab 4, g 4⟩, ⟨slab 3, g 3⟩, ⟨slab 2, g 2⟩, ⟨slab 1, g 1⟩, ⟨slab 0, g 0⟩]

/-- A block of results from its eight pairs' lanes. -/
def ofLanes (g : Fin 8 → Vec F S1x256x128 .bf16) : Vec F S1x256x1024 .bf16 :=
  View.canon [⟨lane 7, g 7⟩, ⟨lane 6, g 6⟩, ⟨lane 5, g 5⟩, ⟨lane 4, g 4⟩, ⟨lane 3, g 3⟩, ⟨lane 2, g 2⟩, ⟨lane 1, g 1⟩, ⟨lane 0, g 0⟩]

/-! ## The grid point -/

/-- The state of the loop over the earlier tiles: the accumulator, the running sums, the greatest running sum. -/
structure St (F : FTy → Type) where
  acc : Vec F S8x512x128 .f32
  sums : Vec F S8x512x128 .f32
  top : F .f32

/-- The stacked queries of all pairs. -/
def queries (xq : Vec F S1x256x1024 .bf16) (p : Fin 8) : FVec F S512x128 .bf16 := stackQ (View.ld xq (lane p))

/-- The triangles as the kernel loads them. -/
def tri (xu : Vec F S512x256 .bf16) : FVec F S512x256 .bf16 :=
  k0_pay152 (View.ld xu (Rect.unit ![0, 0] S512x256.size inb_S512x256_S512x256_0_0))

/-- The running sums a trip reads. -/
def sumAt (x : Vec F S8x512x128 .f32) (p : Fin 8) : FVec F S512x1 .f32 :=
  shapeCast S512x1 (View.ld x (col p) : Vec F S1x512x1 .f32) shapeCasts_S1x512x1_S512x1

/-- A trip on tile `j`. -/
def step (q : Fin 8 → FVec F S512x128 .bf16) (u : FVec F S512x256 .bf16) (xk xv : Vec F S1x4096x1024 .bf16) (j : Fin 16) (s : St F) : St F where
  acc := ofSlabs fun p => accSlab (addf (shapeCast S512x128 (View.ld s.acc (slab p) : Vec F S1x512x128 .f32) shapeCasts_S1x512x128_S512x128)
    (pvTile (q p) u (View.ld xk (kv j p)) (View.ld xv (kv j p)) (sumAt s.sums p)))
  sums := ofSlabs fun p => sumSlab (addf (sumAt s.sums p) (sumTile (q p) (View.ld xk (kv j p))))
  top := topOf fun p => addf (sumAt s.sums p) (sumTile (q p) (View.ld xk (kv j p)))

/-- The loop's test on the greatest running sum. -/
def goOn (top : F .f32) : Prop := Scalar.cmpf .ogt top (Named.named κ "floor" 0xC2D20000#32) = 1#1

instance (top : F .f32) : Decidable (goOn top) := inferInstanceAs (Decidable (_ = _))

/-- The accumulator after the loop with the tiles `n - 1, …, 0` still to take. -/
def loop (q : Fin 8 → FVec F S512x128 .bf16) (u : FVec F S512x256 .bf16) (xk xv : Vec F S1x4096x1024 .bf16) :
    (n : ℕ) → n ≤ 16 → St F → Vec F S8x512x128 .f32
  | 0, _, s => s.acc
  | n + 1, h, s => if goOn s.top then loop q u xk xv n (by omega) (step q u xk xv ⟨n, by omega⟩ s) else s.acc

/-- The accumulator of the first query tile: its diagonal tile alone. -/
def accFirst (q : Fin 8 → FVec F S512x128 .bf16) (u : FVec F S512x256 .bf16) (xk xv : Vec F S1x4096x1024 .bf16) : Vec F S8x512x128 .f32 :=
  ofSlabs fun p => accSlab (pvDiag (q p) u (View.ld xk (kv 0 p)) (View.ld xv (kv 0 p)))

/-- The running sums after the diagonal tile `i` and the tile before it, `j`. -/
def sum2 (q : Fin 8 → FVec F S512x128 .bf16) (xk : Vec F S1x4096x1024 .bf16) (i j : Fin 16) (p : Fin 8) : FVec F S512x1 .f32 :=
  addf (sumDiag (q p) (View.ld xk (kv i p))) (sumTile (q p) (View.ld xk (kv j p)))

/-- The state after the diagonal tile `i` and the tile before it, `j`. -/
def start (q : Fin 8 → FVec F S512x128 .bf16) (u : FVec F S512x256 .bf16) (xk xv : Vec F S1x4096x1024 .bf16) (i j : Fin 16) : St F where
  acc := ofSlabs fun p => accSlab (addf (pvDiag (q p) u (View.ld xk (kv i p)) (View.ld xv (kv i p)))
    (pvTile (q p) u (View.ld xk (kv j p)) (View.ld xv (kv j p)) (sumDiag (q p) (View.ld xk (kv i p)))))
  sums := ofSlabs fun p => sumSlab (sum2 q xk i j p)
  top := topOf (sum2 q xk i j)

/-- The accumulator query tile `i` ends with. -/
def accOf (q : Fin 8 → FVec F S512x128 .bf16) (u : FVec F S512x256 .bf16) (xk xv : Vec F S1x4096x1024 .bf16) : Fin 16 → Vec F S8x512x128 .f32
  | ⟨0, _⟩ => accFirst q u xk xv
  | ⟨i + 1, h⟩ => loop q u xk xv i (by omega) (start q u xk xv ⟨i + 1, h⟩ ⟨i, by omega⟩)

/-- The block of results query tile `i` leaves. -/
def outBlock (i : Fin 16) (xq : Vec F S1x256x1024 .bf16) (xk xv : Vec F S1x4096x1024 .bf16) (xu : Vec F S512x256 .bf16) : Vec F S1x256x1024 .bf16 :=
  ofLanes fun p => mergeOut (View.ld (accOf (queries xq) (tri xu) xk xv i) (upper p)) (View.ld (accOf (queries xq) (tri xu) xk xv i) (lower p))

end Cert.KernelIdeal.Attn

end
-- ==== Proof.Attn.Loop.lean ====
/-
  The loop over the earlier key tiles: one trip, and the loop's label by induction on the trips still to go.
-/
module

public import proofs.«01_k».proof.Proof.Attn.Model

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's variant: the trips still to go. -/
abbrev 𝒱₀ : Variants := Variants.nat

/-! ## The counter's arithmetic -/

/-- A load at equal offsets is the same load. -/
theorem ld_congr {s : Shape} {e : EltTy} (x : s.Idx → Elt F e) {off off' : Fin s.rank → ℕ} (sz : Fin s.rank → ℕ)
    (h : ∀ a, off a + sz a ≤ s.size a) (h' : ∀ a, off' a + sz a ≤ s.size a) (e' : off = off') :
    View.ld x (Rect.unit off sz h) = View.ld x (Rect.unit off' sz h') := by
  subst e'; rfl

theorem off25_eq : ∀ j : Fin 16, k0_off25 (BitVec.ofNat 32 j.val) = ![0, 256 * j.val, 128 * ((0 : Fin 8)).val] := by decide +kernel
theorem ld_off25 (x : Vec F S1x4096x1024 .bf16) (j : Fin 16) (hc : k0_chk1 (BitVec.ofNat 32 j.val)) :
    View.ld x (kv j 0) = View.ld x (Rect.unit (s := S1x4096x1024) (k0_off25 (BitVec.ofNat 32 j.val)) S1x256x128.size (k0_off25_inb _ hc)) :=
  (ld_congr x S1x256x128.size _ _ (off25_eq j)).symm
theorem off26_eq : ∀ j : Fin 16, k0_off26 (BitVec.ofNat 32 j.val) = ![0, 256 * j.val, 128 * ((1 : Fin 8)).val] := by decide +kernel
theorem ld_off26 (x : Vec F S1x4096x1024 .bf16) (j : Fin 16) (hc : k0_chk1 (BitVec.ofNat 32 j.val)) :
    View.ld x (kv j 1) = View.ld x (Rect.unit (s := S1x4096x1024) (k0_off26 (BitVec.ofNat 32 j.val)) S1x256x128.size (k0_off26_inb _ hc)) :=
  (ld_congr x S1x256x128.size _ _ (off26_eq j)).symm
theorem off27_eq : ∀ j : Fin 16, k0_off27 (BitVec.ofNat 32 j.val) = ![0, 256 * j.val, 128 * ((2 : Fin 8)).val] := by decide +kernel
theorem ld_off27 (x : Vec F S1x4096x1024 .bf16) (j : Fin 16) (hc : k0_chk1 (BitVec.ofNat 32 j.val)) :
    View.ld x (kv j 2) = View.ld x (Rect.unit (s := S1x4096x1024) (k0_off27 (BitVec.ofNat 32 j.val)) S1x256x128.size (k0_off27_inb _ hc)) :=
  (ld_congr x S1x256x128.size _ _ (off27_eq j)).symm
theorem off28_eq : ∀ j : Fin 16, k0_off28 (BitVec.ofNat 32 j.val) = ![0, 256 * j.val, 128 * ((3 : Fin 8)).val] := by decide +kernel
theorem ld_off28 (x : Vec F S1x4096x1024 .bf16) (j : Fin 16) (hc : k0_chk1 (BitVec.ofNat 32 j.val)) :
    View.ld x (kv j 3) = View.ld x (Rect.unit (s := S1x4096x1024) (k0_off28 (BitVec.ofNat 32 j.val)) S1x256x128.size (k0_off28_inb _ hc)) :=
  (ld_congr x S1x256x128.size _ _ (off28_eq j)).symm
theorem off29_eq : ∀ j : Fin 16, k0_off29 (BitVec.ofNat 32 j.val) = ![0, 256 * j.val, 128 * ((4 : Fin 8)).val] := by decide +kernel
theorem ld_off29 (x : Vec F S1x4096x1024 .bf16) (j : Fin 16) (hc : k0_chk1 (BitVec.ofNat 32 j.val)) :
    View.ld x (kv j 4) = View.ld x (Rect.unit (s := S1x4096x1024) (k0_off29 (BitVec.ofNat 32 j.val)) S1x256x128.size (k0_off29_inb _ hc)) :=
  (ld_congr x S1x256x128.size _ _ (off29_eq j)).symm
theorem off30_eq : ∀ j : Fin 16, k0_off30 (BitVec.ofNat 32 j.val) = ![0, 256 * j.val, 128 * ((5 : Fin 8)).val] := by decide +kernel
theorem ld_off30 (x : Vec F S1x4096x1024 .bf16) (j : Fin 16) (hc : k0_chk1 (BitVec.ofNat 32 j.val)) :
    View.ld x (kv j 5) = View.ld x (Rect.unit (s := S1x4096x1024) (k0_off30 (BitVec.ofNat 32 j.val)) S1x256x128.size (k0_off30_inb _ hc)) :=
  (ld_congr x S1x256x128.size _ _ (off30_eq j)).symm
theorem off31_eq : ∀ j : Fin 16, k0_off31 (BitVec.ofNat 32 j.val) = ![0, 256 * j.val, 128 * ((6 : Fin 8)).val] := by decide +kernel
theorem ld_off31 (x : Vec F S1x4096x1024 .bf16) (j : Fin 16) (hc : k0_chk1 (BitVec.ofNat 32 j.val)) :
    View.ld x (kv j 6) = View.ld x (Rect.unit (s := S1x4096x1024) (k0_off31 (BitVec.ofNat 32 j.val)) S1x256x128.size (k0_off31_inb _ hc)) :=
  (ld_congr x S1x256x128.size _ _ (off31_eq j)).symm
theorem off32_eq : ∀ j : Fin 16, k0_off32 (BitVec.ofNat 32 j.val) = ![0, 256 * j.val, 128 * ((7 : Fin 8)).val] := by decide +kernel
theorem ld_off32 (x : Vec F S1x4096x1024 .bf16) (j : Fin 16) (hc : k0_chk1 (BitVec.ofNat 32 j.val)) :
    View.ld x (kv j 7) = View.ld x (Rect.unit (s := S1x4096x1024) (k0_off32 (BitVec.ofNat 32 j.val)) S1x256x128.size (k0_off32_inb _ hc)) :=
  (ld_congr x S1x256x128.size _ _ (off32_eq j)).symm

/-- A tile of the loop lies inside the keys and the values. -/
theorem chk_of : ∀ j : Fin 16, k0_chk1 (BitVec.ofNat 32 j.val) := by decide +kernel

/-- A tile's number is not negative. -/
theorem sge_of : ∀ j : Fin 16, Scalar.cmpi .sge (BitVec.ofNat 32 j.val) 0#32 = 1#1 := by decide +kernel

theorem and_one (b : BitVec 1) : Scalar.andi 1#1 b = 1#1 ↔ b = 1#1 := by revert b; decide
theorem and_zero (b : BitVec 1) : ¬Scalar.andi 0#1 b = 1#1 := by revert b; decide

/-- The counter with `n` trips to go, if none of them stops the loop. -/
def Counter : ℕ → BitVec 32 → Prop
  | 0, w => Scalar.cmpi .sge w 0#32 = 0#1
  | n + 1, w => w = BitVec.ofNat 32 n

theorem counter_next : ∀ j : Fin 16, Counter j.val (Scalar.subi (BitVec.ofNat 32 j.val) 1#32) := by
  intro j
  match j with
  | ⟨0, _⟩ => show Scalar.cmpi .sge (Scalar.subi (BitVec.ofNat 32 0) 1#32) 0#32 = 0#1; decide
  | ⟨k + 1, h⟩ =>
    show Scalar.subi (BitVec.ofNat 32 (k + 1)) 1#32 = BitVec.ofNat 32 k
    have := (by decide +kernel : ∀ k : Fin 15, Scalar.subi (BitVec.ofNat 32 (k.val + 1)) 1#32 = BitVec.ofNat 32 k.val)
    exact this ⟨k, by omega⟩

/-- The eight slabs cover a scratch buffer. -/
theorem slabs_cover (w7 w6 w5 w4 w3 w2 w1 w0 : Vec F S1x512x128 .f32) (y : S8x512x128.Idx) :
    ∃ pc ∈ ([⟨slab 7, w7⟩, ⟨slab 6, w6⟩, ⟨slab 5, w5⟩, ⟨slab 4, w4⟩, ⟨slab 3, w3⟩, ⟨slab 2, w2⟩, ⟨slab 1, w1⟩, ⟨slab 0, w0⟩] : List (View.Piece (Elt F) S8x512x128 .f32)), y ∈ pc.1.set :=
  View.cover_of_tiled [⟨slab 7, w7⟩, ⟨slab 6, w6⟩, ⟨slab 5, w5⟩, ⟨slab 4, w4⟩, ⟨slab 3, w3⟩, ⟨slab 2, w2⟩, ⟨slab 1, w1⟩, ⟨slab 0, w0⟩] S1x512x128.size (by rfl) y

/-! ## One trip -/

section Trip

variable (c : Dev nD) (i : grid0.Coords) (arg4 : Memref sig .tc .vmem S1x4096x1024 .bf16) (harg4 : arg4.IsWhole) (arg5 : Memref sig .tc .vmem S1x4096x1024 .bf16) (harg5 : arg5.IsWhole) (arg9 : Memref sig .tc .vmem S8x512x128 .f32) (harg9 : arg9.IsWhole) (arg8 : Memref sig .tc .vmem S8x512x128 .f32) (harg8 : arg8.IsWhole)
  (q : Fin 8 → FVec F S512x128 .bf16) (u : FVec F S512x256 .bf16)

/-- The label's call on a counter and a greatest running sum. -/
abbrev callAt (w : BitVec 32) (top : F .f32) : Prog (TpuEff nD τ sig (Elt F) (Λ₀ F) .tc) (BitVec 32 × F .f32) :=
  Prog.op (.call (1 : (Λ₀ F).Label) ⟨i, arg4, harg4, arg5, harg5, arg9, harg9, q 0, u, arg8, harg8, q 1, q 2, q 3, q 4, q 5, q 6, q 7, w, top⟩) Prog.ret

theorem callAt_congr (bd : Option ℕ) (E : Set ℕ) (w : BitVec 32) (top top' : F .f32) (h : top = top') (K : BitVec 32 × F .f32 → sProp 𝕄) :
    wp frame (wpE (defs₀ (F := F)) 𝒱₀ (c : Thread nD τ) bd) E (callAt i arg4 harg4 arg5 harg5 arg9 harg9 arg8 harg8 q u w top') K
      ⊢ wp frame (wpE (defs₀ (F := F)) 𝒱₀ (c : Thread nD τ) bd) E (callAt i arg4 harg4 arg5 harg5 arg9 harg9 arg8 harg8 q u w top) K := by
  subst h; exact .rfl

/-- The four buffers a trip holds. -/
def held (x4 x5 : Vec F S1x4096x1024 .bf16) (x8 x9 : Vec F S8x512x128 .f32) : sProp 𝕄 :=
  iprop(owns (c : Thread nD τ) arg4 fullShare x4 ∗ owns (c : Thread nD τ) arg5 fullShare x5
    ∗ owns (c : Thread nD τ) arg8 fullShare x8 ∗ owns (c : Thread nD τ) arg9 fullShare x9)

set_option maxHeartbeats 4000000 in
/-- A trip on tile `j`: the buffers at `s` before, at `step … s` after, then the label's call on the next tile. -/
theorem trip (bd : Option ℕ) (E : Set ℕ) (j : Fin 16) (hc : k0_chk1 (BitVec.ofNat 32 j.val)) (s : St F) (hgo : goOn s.top)
    (x4 x5 : Vec F S1x4096x1024 .bf16) (K : BitVec 32 × F .f32 → sProp 𝕄) :
    iprop(held c arg4 arg5 arg9 arg8 x4 x5 s.acc s.sums
      ∗ (held c arg4 arg5 arg9 arg8 x4 x5 (step q u x4 x5 j s).acc (step q u x4 x5 j s).sums
          -∗ wp frame (wpE (defs₀ (F := F)) 𝒱₀ (c : Thread nD τ) bd) E
            (callAt i arg4 harg4 arg5 harg5 arg9 harg9 arg8 harg8 q u (Scalar.subi (BitVec.ofNat 32 j.val) 1#32) (step q u x4 x5 j s).top) K))
      ⊢ wp frame (wpE (defs₀ (F := F)) 𝒱₀ (c : Thread nD τ) bd) E (cc0_while1 i arg4 harg4 arg5 harg5 arg9 harg9 (q 0) u arg8 harg8 (q 1) (q 2) (q 3) (q 4) (q 5) (q 6) (q 7) (BitVec.ofNat 32 j.val) s.top) K := by
  have hC : Scalar.andi (Scalar.cmpi .sge (BitVec.ofNat 32 j.val) 0#32) (Scalar.cmpf .ogt s.top (Named.named κ "floor" 0xC2D20000#32)) = 1#1 := by
    rw [sge_of, and_one]; exact hgo
  simp only [cc0_while1_eq_skeleton]; unfold cc0_while1_skel
  simp only [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  simp only [hC, ↓reduceIte]
  unfold held owns
  iintro ⟨⟨⟨%f4, %h4, H4⟩, ⟨%f5, %h5, H5⟩, ⟨%f8, %h8, H8⟩, ⟨%f9, %h9, H9⟩⟩, Hk⟩
  sl_exec
  iapply (callAt_congr c i arg4 harg4 arg5 harg5 arg9 harg9 arg8 harg8 q u bd E _ _ (step q u x4 x5 j s).top ?htop K)
  case htop =>
    unfold step topOf
    subst h4
    dsimp only
    rw [ld_off25 _ _ hc, ld_off26 _ _ hc, ld_off27 _ _ hc, ld_off28 _ _ hc, ld_off29 _ _ hc, ld_off30 _ _ hc, ld_off31 _ _ hc, ld_off32 _ _ hc]
    rw [← h9]
    rfl
  iapply Hk
  isplitl [H4]
  · iexists f4; isplitr; · ipureintro; exact h4
    iexact H4
  isplitl [H5]
  · iexists f5; isplitr; · ipureintro; exact h5
    iexact H5
  isplitl [H8]
  · iexists _; isplitr; swap; · iexact H8
    ipureintro
    refine (View.read_writes_eq_canon _ _ _ (slabs_cover _ _ _ _ _ _ _ _)).trans ?_
    unfold step ofSlabs
    subst h4 h5
    dsimp only
    rw [ld_off25 _ _ hc, ld_off26 _ _ hc, ld_off27 _ _ hc, ld_off28 _ _ hc, ld_off29 _ _ hc, ld_off30 _ _ hc, ld_off31 _ _ hc, ld_off32 _ _ hc, ld_off25 _ _ hc, ld_off26 _ _ hc, ld_off27 _ _ hc, ld_off28 _ _ hc, ld_off29 _ _ hc, ld_off30 _ _ hc, ld_off31 _ _ hc, ld_off32 _ _ hc]
    rw [← h8, ← h9]
    rfl
  · iexists _; isplitr; swap; · iexact H9
    ipureintro
    refine (View.read_writes_eq_canon _ _ _ (slabs_cover _ _ _ _ _ _ _ _)).trans ?_
    unfold step ofSlabs
    subst h4 h5
    dsimp only
    rw [ld_off25 _ _ hc, ld_off26 _ _ hc, ld_off27 _ _ hc, ld_off28 _ _ hc, ld_off29 _ _ hc, ld_off30 _ _ hc, ld_off31 _ _ hc, ld_off32 _ _ hc]
    rw [← h9]
    rfl

/-! ## The label -/

/-- The label's specification with `n` tiles still to take: from the buffers at `s` it leaves the accumulator at `loop …`. -/
def spec (x4 x5 : Vec F S1x4096x1024 .bf16) (n : ℕ) (h : n ≤ 16) (s : St F) : sWPT 𝕄 (BitVec 32 × F .f32) := do
  sWPT.consume (held c arg4 arg5 arg9 arg8 x4 x5 s.acc s.sums)
  let r ← sWPT.arbitrary
  sWPT.produce (iprop(∃ x9, held c arg4 arg5 arg9 arg8 x4 x5 (loop q u x4 x5 n h s) x9))
  pure r

theorem spec_apply (x4 x5 : Vec F S1x4096x1024 .bf16) (n : ℕ) (h : n ≤ 16) (s : St F) (K : BitVec 32 × F .f32 → sProp 𝕄) :
    spec c arg4 arg5 arg9 arg8 q u x4 x5 n h s K
      = iprop(held c arg4 arg5 arg9 arg8 x4 x5 s.acc s.sums ∗ ∀ r : BitVec 32 × F .f32,
          ((∃ x9, held c arg4 arg5 arg9 arg8 x4 x5 (loop q u x4 x5 n h s) x9) -∗ K r)) := rfl

theorem spec_le (E : Set ℕ) (x4 x5 : Vec F S1x4096x1024 .bf16) :
    ∀ (n : ℕ) (h : n ≤ 16) (w : BitVec 32), Counter n w → ∀ (s : St F) (K : BitVec 32 × F .f32 → sProp 𝕄),
      spec c arg4 arg5 arg9 arg8 q u x4 x5 n h s K
        ⊢ wp frame (wpE (defs₀ (F := F)) 𝒱₀ (c : Thread nD τ) (some n)) E
            (defs₀ (F := F) .tc 1 ⟨i, arg4, harg4, arg5, harg5, arg9, harg9, q 0, u, arg8, harg8, q 1, q 2, q 3, q 4, q 5, q 6, q 7, w, s.top⟩) K := by
  intro n
  induction n with
  | zero =>
    intro h w hw s K
    rw [spec_apply]
    show _ ⊢ wp frame (wpE (defs₀ (F := F)) 𝒱₀ (c : Thread nD τ) (some 0)) E (cc0_while1 i arg4 harg4 arg5 harg5 arg9 harg9 (q 0) u arg8 harg8 (q 1) (q 2) (q 3) (q 4) (q 5) (q 6) (q 7) w s.top) K
    have hC : ¬Scalar.andi (Scalar.cmpi .sge w 0#32) (Scalar.cmpf .ogt s.top (Named.named κ "floor" 0xC2D20000#32)) = 1#1 := by
      rw [show Scalar.cmpi .sge w 0#32 = 0#1 from hw]; exact and_zero _
    simp only [cc0_while1_eq_skeleton]; unfold cc0_while1_skel
    simp only [hC, ↓reduceIte, Prog.pure_eq_ret]
    iintro ⟨H, Hk⟩
    rw [wp_ret]; imodintro
    iapply Hk
    iexists s.sums
    iexact H
  | succ n ih =>
    intro h w hw s K
    obtain rfl : w = BitVec.ofNat 32 n := hw
    rw [spec_apply]
    show _ ⊢ wp frame (wpE (defs₀ (F := F)) 𝒱₀ (c : Thread nD τ) (some (n + 1))) E (cc0_while1 i arg4 harg4 arg5 harg5 arg9 harg9 (q 0) u arg8 harg8 (q 1) (q 2) (q 3) (q 4) (q 5) (q 6) (q 7) (BitVec.ofNat 32 n) s.top) K
    by_cases hgo : goOn s.top
    · have hl : loop q u x4 x5 (n + 1) h s = loop q u x4 x5 n (by omega) (step q u x4 x5 ⟨n, by omega⟩ s) := by rw [loop, if_pos hgo]
      rw [hl]
      iintro ⟨H, Hk⟩
      iapply (trip c i arg4 harg4 arg5 harg5 arg9 harg9 arg8 harg8 q u (some (n + 1)) E ⟨n, by omega⟩ (chk_of ⟨n, by omega⟩) s hgo x4 x5 K)
      isplitl [H]; · iexact H
      iintro H
      iapply (wp_call_spec 𝒱₀ (c : Thread nD τ) (some (n + 1)) E
        (spec c arg4 arg5 arg9 arg8 q u x4 x5 n (by omega) (step q u x4 x5 ⟨n, by omega⟩ s)) n
        (fun u hu => by cases hu; exact Nat.lt_succ_self n) (ih (by omega) _ (counter_next ⟨n, by omega⟩) (step q u x4 x5 ⟨n, by omega⟩ s)))
      rw [spec_apply]
      isplitl [H]; · iexact H
      iintro %r H
      rw [wp_ret]; imodintro
      iapply Hk
      iexact H
    · have hl : loop q u x4 x5 (n + 1) h s = s.acc := by rw [loop, if_neg hgo]
      rw [hl]
      have hC : ¬Scalar.andi (Scalar.cmpi .sge (BitVec.ofNat 32 n) 0#32) (Scalar.cmpf .ogt s.top (Named.named κ "floor" 0xC2D20000#32)) = 1#1 := by
        rw [sge_of ⟨n, by omega⟩, and_one]; exact hgo
      simp only [cc0_while1_eq_skeleton]; unfold cc0_while1_skel
      simp only [hC, ↓reduceIte, Prog.pure_eq_ret]
      iintro ⟨H, Hk⟩
      rw [wp_ret]; imodintro
      iapply Hk
      iexists s.sums
      iexact H

end Trip

end Cert.KernelIdeal.Attn

end
-- ==== Proof.Attn.Body.lean ====
/-
  One grid point of the attention: the kernel's body, holding its blocks and its two scratch buffers, leaves `outBlock`
  in the block of results.
-/
module

public import proofs.«01_k».proof.Proof.Attn.Loop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The point's offsets -/

/-- The grid point's query tile. -/
def tile (i : grid0.Coords) : Fin 16 := i 2

/-- The tile before it. -/
def prev (i : grid0.Coords) : Fin 16 := ⟨(tile i).val - 1, by have := (tile i).isLt; omega⟩

theorem off1_eq (i : grid0.Coords) : k0_off1 i = ![0, 256 * (tile i).val, 128 * ((0 : Fin 8)).val] := by
  unfold k0_off1 tile; generalize i 2 = n; revert n; decide +kernel
theorem ld_off1 (x : Vec F S1x4096x1024 .bf16) (i : grid0.Coords) (h : k0_cond1 i = 1#1) :
    View.ld x (kv (tile i) 0) = View.ld x (Rect.unit (s := S1x4096x1024) (k0_off1 i) S1x256x128.size (k0_off1_inb i h)) :=
  (ld_congr x S1x256x128.size _ _ (off1_eq i)).symm
theorem off2_eq (i : grid0.Coords) : k0_off2 i = ![0, 256 * (tile i).val, 128 * ((1 : Fin 8)).val] := by
  unfold k0_off2 tile; generalize i 2 = n; revert n; decide +kernel
theorem ld_off2 (x : Vec F S1x4096x1024 .bf16) (i : grid0.Coords) (h : k0_cond1 i = 1#1) :
    View.ld x (kv (tile i) 1) = View.ld x (Rect.unit (s := S1x4096x1024) (k0_off2 i) S1x256x128.size (k0_off2_inb i h)) :=
  (ld_congr x S1x256x128.size _ _ (off2_eq i)).symm
theorem off3_eq (i : grid0.Coords) : k0_off3 i = ![0, 256 * (tile i).val, 128 * ((2 : Fin 8)).val] := by
  unfold k0_off3 tile; generalize i 2 = n; revert n; decide +kernel
theorem ld_off3 (x : Vec F S1x4096x1024 .bf16) (i : grid0.Coords) (h : k0_cond1 i = 1#1) :
    View.ld x (kv (tile i) 2) = View.ld x (Rect.unit (s := S1x4096x1024) (k0_off3 i) S1x256x128.size (k0_off3_inb i h)) :=
  (ld_congr x S1x256x128.size _ _ (off3_eq i)).symm
theorem off4_eq (i : grid0.Coords) : k0_off4 i = ![0, 256 * (tile i).val, 128 * ((3 : Fin 8)).val] := by
  unfold k0_off4 tile; generalize i 2 = n; revert n; decide +kernel
theorem ld_off4 (x : Vec F S1x4096x1024 .bf16) (i : grid0.Coords) (h : k0_cond1 i = 1#1) :
    View.ld x (kv (tile i) 3) = View.ld x (Rect.unit (s := S1x4096x1024) (k0_off4 i) S1x256x128.size (k0_off4_inb i h)) :=
  (ld_congr x S1x256x128.size _ _ (off4_eq i)).symm
theorem off5_eq (i : grid0.Coords) : k0_off5 i = ![0, 256 * (tile i).val, 128 * ((4 : Fin 8)).val] := by
  unfold k0_off5 tile; generalize i 2 = n; revert n; decide +kernel
theorem ld_off5 (x : Vec F S1x4096x1024 .bf16) (i : grid0.Coords) (h : k0_cond1 i = 1#1) :
    View.ld x (kv (tile i) 4) = View.ld x (Rect.unit (s := S1x4096x1024) (k0_off5 i) S1x256x128.size (k0_off5_inb i h)) :=
  (ld_congr x S1x256x128.size _ _ (off5_eq i)).symm
theorem off6_eq (i : grid0.Coords) : k0_off6 i = ![0, 256 * (tile i).val, 128 * ((5 : Fin 8)).val] := by
  unfold k0_off6 tile; generalize i 2 = n; revert n; decide +kernel
theorem ld_off6 (x : Vec F S1x4096x1024 .bf16) (i : grid0.Coords) (h : k0_cond1 i = 1#1) :
    View.ld x (kv (tile i) 5) = View.ld x (Rect.unit (s := S1x4096x1024) (k0_off6 i) S1x256x128.size (k0_off6_inb i h)) :=
  (ld_congr x S1x256x128.size _ _ (off6_eq i)).symm
theorem off7_eq (i : grid0.Coords) : k0_off7 i = ![0, 256 * (tile i).val, 128 * ((6 : Fin 8)).val] := by
  unfold k0_off7 tile; generalize i 2 = n; revert n; decide +kernel
theorem ld_off7 (x : Vec F S1x4096x1024 .bf16) (i : grid0.Coords) (h : k0_cond1 i = 1#1) :
    View.ld x (kv (tile i) 6) = View.ld x (Rect.unit (s := S1x4096x1024) (k0_off7 i) S1x256x128.size (k0_off7_inb i h)) :=
  (ld_congr x S1x256x128.size _ _ (off7_eq i)).symm
theorem off8_eq (i : grid0.Coords) : k0_off8 i = ![0, 256 * (tile i).val, 128 * ((7 : Fin 8)).val] := by
  unfold k0_off8 tile; generalize i 2 = n; revert n; decide +kernel
theorem ld_off8 (x : Vec F S1x4096x1024 .bf16) (i : grid0.Coords) (h : k0_cond1 i = 1#1) :
    View.ld x (kv (tile i) 7) = View.ld x (Rect.unit (s := S1x4096x1024) (k0_off8 i) S1x256x128.size (k0_off8_inb i h)) :=
  (ld_congr x S1x256x128.size _ _ (off8_eq i)).symm
theorem ld_first1 (x : Vec F S1x4096x1024 .bf16) (i : grid0.Coords) (h : k0_cond1 i = 1#1) (h0 : (tile i).val = 0) :
    View.ld x (kv 0 0) = View.ld x (Rect.unit (s := S1x4096x1024) (k0_off1 i) S1x256x128.size (k0_off1_inb i h)) := by
  rw [← ld_off1 x i h, show tile i = 0 from Fin.ext h0]
theorem ld_first2 (x : Vec F S1x4096x1024 .bf16) (i : grid0.Coords) (h : k0_cond1 i = 1#1) (h0 : (tile i).val = 0) :
    View.ld x (kv 0 1) = View.ld x (Rect.unit (s := S1x4096x1024) (k0_off2 i) S1x256x128.size (k0_off2_inb i h)) := by
  rw [← ld_off2 x i h, show tile i = 0 from Fin.ext h0]
theorem ld_first3 (x : Vec F S1x4096x1024 .bf16) (i : grid0.Coords) (h : k0_cond1 i = 1#1) (h0 : (tile i).val = 0) :
    View.ld x (kv 0 2) = View.ld x (Rect.unit (s := S1x4096x1024) (k0_off3 i) S1x256x128.size (k0_off3_inb i h)) := by
  rw [← ld_off3 x i h, show tile i = 0 from Fin.ext h0]
theorem ld_first4 (x : Vec F S1x4096x1024 .bf16) (i : grid0.Coords) (h : k0_cond1 i = 1#1) (h0 : (tile i).val = 0) :
    View.ld x (kv 0 3) = View.ld x (Rect.unit (s := S1x4096x1024) (k0_off4 i) S1x256x128.size (k0_off4_inb i h)) := by
  rw [← ld_off4 x i h, show tile i = 0 from Fin.ext h0]
theorem ld_first5 (x : Vec F S1x4096x1024 .bf16) (i : grid0.Coords) (h : k0_cond1 i = 1#1) (h0 : (tile i).val = 0) :
    View.ld x (kv 0 4) = View.ld x (Rect.unit (s := S1x4096x1024) (k0_off5 i) S1x256x128.size (k0_off5_inb i h)) := by
  rw [← ld_off5 x i h, show tile i = 0 from Fin.ext h0]
theorem ld_first6 (x : Vec F S1x4096x1024 .bf16) (i : grid0.Coords) (h : k0_cond1 i = 1#1) (h0 : (tile i).val = 0) :
    View.ld x (kv 0 5) = View.ld x (Rect.unit (s := S1x4096x1024) (k0_off6 i) S1x256x128.size (k0_off6_inb i h)) := by
  rw [← ld_off6 x i h, show tile i = 0 from Fin.ext h0]
theorem ld_first7 (x : Vec F S1x4096x1024 .bf16) (i : grid0.Coords) (h : k0_cond1 i = 1#1) (h0 : (tile i).val = 0) :
    View.ld x (kv 0 6) = View.ld x (Rect.unit (s := S1x4096x1024) (k0_off7 i) S1x256x128.size (k0_off7_inb i h)) := by
  rw [← ld_off7 x i h, show tile i = 0 from Fin.ext h0]
theorem ld_first8 (x : Vec F S1x4096x1024 .bf16) (i : grid0.Coords) (h : k0_cond1 i = 1#1) (h0 : (tile i).val = 0) :
    View.ld x (kv 0 7) = View.ld x (Rect.unit (s := S1x4096x1024) (k0_off8 i) S1x256x128.size (k0_off8_inb i h)) := by
  rw [← ld_off8 x i h, show tile i = 0 from Fin.ext h0]
theorem off9_eq (i : grid0.Coords) : k0_off9 i = ![0, 256 * (tile i).val, 128 * ((0 : Fin 8)).val] := by
  unfold k0_off9 tile; generalize i 2 = n; revert n; decide +kernel
theorem ld_off9 (x : Vec F S1x4096x1024 .bf16) (i : grid0.Coords) (h : ¬k0_cond1 i = 1#1) :
    View.ld x (kv (tile i) 0) = View.ld x (Rect.unit (s := S1x4096x1024) (k0_off9 i) S1x256x128.size (k0_off9_inb i h)) :=
  (ld_congr x S1x256x128.size _ _ (off9_eq i)).symm
theorem off10_eq (i : grid0.Coords) (h : (tile i).val ≠ 0) : k0_off10 i = ![0, 256 * (prev i).val, 128 * ((0 : Fin 8)).val] := by
  revert h; unfold k0_off10 prev tile; dsimp only; generalize i 2 = n; revert n; decide +kernel
theorem ld_off10 (x : Vec F S1x4096x1024 .bf16) (i : grid0.Coords) (h : ¬k0_cond1 i = 1#1) (h' : (tile i).val ≠ 0) :
    View.ld x (kv (prev i) 0) = View.ld x (Rect.unit (s := S1x4096x1024) (k0_off10 i) S1x256x128.size (k0_off10_inb i h)) :=
  (ld_congr x S1x256x128.size _ _ (off10_eq i h')).symm
theorem off11_eq (i : grid0.Coords) : k0_off11 i = ![0, 256 * (tile i).val, 128 * ((1 : Fin 8)).val] := by
  unfold k0_off11 tile; generalize i 2 = n; revert n; decide +kernel
theorem ld_off11 (x : Vec F S1x4096x1024 .bf16) (i : grid0.Coords) (h : ¬k0_cond1 i = 1#1) :
    View.ld x (kv (tile i) 1) = View.ld x (Rect.unit (s := S1x4096x1024) (k0_off11 i) S1x256x128.size (k0_off11_inb i h)) :=
  (ld_congr x S1x256x128.size _ _ (off11_eq i)).symm
theorem off12_eq (i : grid0.Coords) (h : (tile i).val ≠ 0) : k0_off12 i = ![0, 256 * (prev i).val, 128 * ((1 : Fin 8)).val] := by
  revert h; unfold k0_off12 prev tile; dsimp only; generalize i 2 = n; revert n; decide +kernel
theorem ld_off12 (x : Vec F S1x4096x1024 .bf16) (i : grid0.Coords) (h : ¬k0_cond1 i = 1#1) (h' : (tile i).val ≠ 0) :
    View.ld x (kv (prev i) 1) = View.ld x (Rect.unit (s := S1x4096x1024) (k0_off12 i) S1x256x128.size (k0_off12_inb i h)) :=
  (ld_congr x S1x256x128.size _ _ (off12_eq i h')).symm
theorem off13_eq (i : grid0.Coords) : k0_off13 i = ![0, 256 * (tile i).val, 128 * ((2 : Fin 8)).val] := by
  unfold k0_off13 tile; generalize i 2 = n; revert n; decide +kernel
theorem ld_off13 (x : Vec F S1x4096x1024 .bf16) (i : grid0.Coords) (h : ¬k0_cond1 i = 1#1) :
    View.ld x (kv (tile i) 2) = View.ld x (Rect.unit (s := S1x4096x1024) (k0_off13 i) S1x256x128.size (k0_off13_inb i h)) :=
  (ld_congr x S1x256x128.size _ _ (off13_eq i)).symm
theorem off14_eq (i : grid0.Coords) (h : (tile i).val ≠ 0) : k0_off14 i = ![0, 256 * (prev i).val, 128 * ((2 : Fin 8)).val] := by
  revert h; unfold k0_off14 prev tile; dsimp only; generalize i 2 = n; revert n; decide +kernel
theorem ld_off14 (x : Vec F S1x4096x1024 .bf16) (i : grid0.Coords) (h : ¬k0_cond1 i = 1#1) (h' : (tile i).val ≠ 0) :
    View.ld x (kv (prev i) 2) = View.ld x (Rect.unit (s := S1x4096x1024) (k0_off14 i) S1x256x128.size (k0_off14_inb i h)) :=
  (ld_congr x S1x256x128.size _ _ (off14_eq i h')).symm
theorem off15_eq (i : grid0.Coords) : k0_off15 i = ![0, 256 * (tile i).val, 128 * ((3 : Fin 8)).val] := by
  unfold k0_off15 tile; generalize i 2 = n; revert n; decide +kernel
theorem ld_off15 (x : Vec F S1x4096x1024 .bf16) (i : grid0.Coords) (h : ¬k0_cond1 i = 1#1) :
    View.ld x (kv (tile i) 3) = View.ld x (Rect.unit (s := S1x4096x1024) (k0_off15 i) S1x256x128.size (k0_off15_inb i h)) :=
  (ld_congr x S1x256x128.size _ _ (off15_eq i)).symm
theorem off16_eq (i : grid0.Coords) (h : (tile i).val ≠ 0) : k0_off16 i = ![0, 256 * (prev i).val, 128 * ((3 : Fin 8)).val] := by
  revert h; unfold k0_off16 prev tile; dsimp only; generalize i 2 = n; revert n; decide +kernel
theorem ld_off16 (x : Vec F S1x4096x1024 .bf16) (i : grid0.Coords) (h : ¬k0_cond1 i = 1#1) (h' : (tile i).val ≠ 0) :
    View.ld x (kv (prev i) 3) = View.ld x (Rect.unit (s := S1x4096x1024) (k0_off16 i) S1x256x128.size (k0_off16_inb i h)) :=
  (ld_congr x S1x256x128.size _ _ (off16_eq i h')).symm
theorem off17_eq (i : grid0.Coords) : k0_off17 i = ![0, 256 * (tile i).val, 128 * ((4 : Fin 8)).val] := by
  unfold k0_off17 tile; generalize i 2 = n; revert n; decide +kernel
theorem ld_off17 (x : Vec F S1x4096x1024 .bf16) (i : grid0.Coords) (h : ¬k0_cond1 i = 1#1) :
    View.ld x (kv (tile i) 4) = View.ld x (Rect.unit (s := S1x4096x1024) (k0_off17 i) S1x256x128.size (k0_off17_inb i h)) :=
  (ld_congr x S1x256x128.size _ _ (off17_eq i)).symm
theorem off18_eq (i : grid0.Coords) (h : (tile i).val ≠ 0) : k0_off18 i = ![0, 256 * (prev i).val, 128 * ((4 : Fin 8)).val] := by
  revert h; unfold k0_off18 prev tile; dsimp only; generalize i 2 = n; revert n; decide +kernel
theorem ld_off18 (x : Vec F S1x4096x1024 .bf16) (i : grid0.Coords) (h : ¬k0_cond1 i = 1#1) (h' : (tile i).val ≠ 0) :
    View.ld x (kv (prev i) 4) = View.ld x (Rect.unit (s := S1x4096x1024) (k0_off18 i) S1x256x128.size (k0_off18_inb i h)) :=
  (ld_congr x S1x256x128.size _ _ (off18_eq i h')).symm
theorem off19_eq (i : grid0.Coords) : k0_off19 i = ![0, 256 * (tile i).val, 128 * ((5 : Fin 8)).val] := by
  unfold k0_off19 tile; generalize i 2 = n; revert n; decide +kernel
theorem ld_off19 (x : Vec F S1x4096x1024 .bf16) (i : grid0.Coords) (h : ¬k0_cond1 i = 1#1) :
    View.ld x (kv (tile i) 5) = View.ld x (Rect.unit (s := S1x4096x1024) (k0_off19 i) S1x256x128.size (k0_off19_inb i h)) :=
  (ld_congr x S1x256x128.size _ _ (off19_eq i)).symm
theorem off20_eq (i : grid0.Coords) (h : (tile i).val ≠ 0) : k0_off20 i = ![0, 256 * (prev i).val, 128 * ((5 : Fin 8)).val] := by
  revert h; unfold k0_off20 prev tile; dsimp only; generalize i 2 = n; revert n; decide +kernel
theorem ld_off20 (x : Vec F S1x4096x1024 .bf16) (i : grid0.Coords) (h : ¬k0_cond1 i = 1#1) (h' : (tile i).val ≠ 0) :
    View.ld x (kv (prev i) 5) = View.ld x (Rect.unit (s := S1x4096x1024) (k0_off20 i) S1x256x128.size (k0_off20_inb i h)) :=
  (ld_congr x S1x256x128.size _ _ (off20_eq i h')).symm
theorem off21_eq (i : grid0.Coords) : k0_off21 i = ![0, 256 * (tile i).val, 128 * ((6 : Fin 8)).val] := by
  unfold k0_off21 tile; generalize i 2 = n; revert n; decide +kernel
theorem ld_off21 (x : Vec F S1x4096x1024 .bf16) (i : grid0.Coords) (h : ¬k0_cond1 i = 1#1) :
    View.ld x (kv (tile i) 6) = View.ld x (Rect.unit (s := S1x4096x1024) (k0_off21 i) S1x256x128.size (k0_off21_inb i h)) :=
  (ld_congr x S1x256x128.size _ _ (off21_eq i)).symm
theorem off22_eq (i : grid0.Coords) (h : (tile i).val ≠ 0) : k0_off22 i = ![0, 256 * (prev i).val, 128 * ((6 : Fin 8)).val] := by
  revert h; unfold k0_off22 prev tile; dsimp only; generalize i 2 = n; revert n; decide +kernel
theorem ld_off22 (x : Vec F S1x4096x1024 .bf16) (i : grid0.Coords) (h : ¬k0_cond1 i = 1#1) (h' : (tile i).val ≠ 0) :
    View.ld x (kv (prev i) 6) = View.ld x (Rect.unit (s := S1x4096x1024) (k0_off22 i) S1x256x128.size (k0_off22_inb i h)) :=
  (ld_congr x S1x256x128.size _ _ (off22_eq i h')).symm
theorem off23_eq (i : grid0.Coords) : k0_off23 i = ![0, 256 * (tile i).val, 128 * ((7 : Fin 8)).val] := by
  unfold k0_off23 tile; generalize i 2 = n; revert n; decide +kernel
theorem ld_off23 (x : Vec F S1x4096x1024 .bf16) (i : grid0.Coords) (h : ¬k0_cond1 i = 1#1) :
    View.ld x (kv (tile i) 7) = View.ld x (Rect.unit (s := S1x4096x1024) (k0_off23 i) S1x256x128.size (k0_off23_inb i h)) :=
  (ld_congr x S1x256x128.size _ _ (off23_eq i)).symm
theorem off24_eq (i : grid0.Coords) (h : (tile i).val ≠ 0) : k0_off24 i = ![0, 256 * (prev i).val, 128 * ((7 : Fin 8)).val] := by
  revert h; unfold k0_off24 prev tile; dsimp only; generalize i 2 = n; revert n; decide +kernel
theorem ld_off24 (x : Vec F S1x4096x1024 .bf16) (i : grid0.Coords) (h : ¬k0_cond1 i = 1#1) (h' : (tile i).val ≠ 0) :
    View.ld x (kv (prev i) 7) = View.ld x (Rect.unit (s := S1x4096x1024) (k0_off24 i) S1x256x128.size (k0_off24_inb i h)) :=
  (ld_congr x S1x256x128.size _ _ (off24_eq i h')).symm

theorem cond_iff (i : grid0.Coords) : k0_cond1 i = 1#1 ↔ (tile i).val = 0 := by
  unfold k0_cond1 tile; generalize i 2 = n; revert n; decide +kernel

/-- The loop's counter starts two tiles before the point's. -/
theorem counter_start (i : grid0.Coords) : Counter ((tile i).val - 1) (Scalar.subi (BitVec.ofNat 32 (i 2).val) 2#32) := by
  show Counter ((tile i).val - 1) (Scalar.subi (BitVec.ofNat 32 (tile i).val) 2#32)
  generalize tile i = n
  match n with
  | ⟨0, _⟩ => show Scalar.cmpi .sge (Scalar.subi (BitVec.ofNat 32 0) 2#32) 0#32 = 0#1; decide
  | ⟨1, _⟩ => show Scalar.cmpi .sge (Scalar.subi (BitVec.ofNat 32 1) 2#32) 0#32 = 0#1; decide
  | ⟨k + 2, h⟩ =>
    show Scalar.subi (BitVec.ofNat 32 (k + 2)) 2#32 = BitVec.ofNat 32 k
    have := (by decide +kernel : ∀ k : Fin 14, Scalar.subi (BitVec.ofNat 32 (k.val + 2)) 2#32 = BitVec.ofNat 32 k.val)
    exact this ⟨k, by omega⟩

theorem accOf_first (q : Fin 8 → FVec F S512x128 .bf16) (u : FVec F S512x256 .bf16) (xk xv : Vec F S1x4096x1024 .bf16) (i : grid0.Coords)
    (h : (tile i).val = 0) : accOf q u xk xv (tile i) = accFirst q u xk xv := by
  rw [show tile i = ⟨0, by omega⟩ from Fin.ext h]; rfl

theorem accOf_later (q : Fin 8 → FVec F S512x128 .bf16) (u : FVec F S512x256 .bf16) (xk xv : Vec F S1x4096x1024 .bf16) (i : grid0.Coords)
    (h : (tile i).val ≠ 0) : accOf q u xk xv (tile i)
      = loop q u xk xv ((tile i).val - 1) (by have := (tile i).isLt; omega) (start q u xk xv (tile i) (prev i)) := by
  have := (tile i).isLt
  have key : ∀ (n : Fin 16) (h : n.val ≠ 0) (hb : n.val - 1 ≤ 16) (hp : n.val - 1 < 16),
      accOf q u xk xv n = loop q u xk xv (n.val - 1) hb (start q u xk xv n ⟨n.val - 1, hp⟩) := fun n h _ _ =>
    match n, h with
    | ⟨k + 1, _⟩, _ => rfl
  exact key (tile i) h (by omega) (by omega)

/-- The eight pairs' lanes cover a block of results. -/
theorem lanes_cover (w7 w6 w5 w4 w3 w2 w1 w0 : Vec F S1x256x128 .bf16) (y : S1x256x1024.Idx) :
    ∃ pc ∈ ([⟨lane 7, w7⟩, ⟨lane 6, w6⟩, ⟨lane 5, w5⟩, ⟨lane 4, w4⟩, ⟨lane 3, w3⟩, ⟨lane 2, w2⟩, ⟨lane 1, w1⟩, ⟨lane 0, w0⟩] : List (View.Piece (Elt F) S1x256x1024 .bf16)), y ∈ pc.1.set :=
  View.cover_of_tiled [⟨lane 7, w7⟩, ⟨lane 6, w6⟩, ⟨lane 5, w5⟩, ⟨lane 4, w4⟩, ⟨lane 3, w3⟩, ⟨lane 2, w2⟩, ⟨lane 1, w1⟩, ⟨lane 0, w0⟩] S1x256x128.size (by rfl) y

/-- A call of the label on an equal record. -/
theorem call_congr (c : Dev nD) (bd : Option ℕ) (E : Set ℕ) {a a' : Cc0While1 F} (h : a = a')
    (kk : BitVec 32 × F .f32 → Prog (TpuEff nD τ sig (Elt F) (Λ₀ F) .tc) PUnit.{1}) (K : PUnit → sProp 𝕄) :
    wp frame (wpE (defs₀ (F := F)) 𝒱₀ (c : Thread nD τ) bd) E (Prog.op (.call (1 : (Λ₀ F).Label) a') kk) K
      ⊢ wp frame (wpE (defs₀ (F := F)) 𝒱₀ (c : Thread nD τ) bd) E (Prog.op (.call (1 : (Λ₀ F).Label) a) kk) K := by
  subst h; exact .rfl

/-- The record the body calls the label with. -/
abbrev recAt (i : grid0.Coords) (arg4 : Memref sig .tc .vmem S1x4096x1024 .bf16) (harg4 : arg4.IsWhole) (arg5 : Memref sig .tc .vmem S1x4096x1024 .bf16) (harg5 : arg5.IsWhole) (arg8 : Memref sig .tc .vmem S8x512x128 .f32) (harg8 : arg8.IsWhole) (arg9 : Memref sig .tc .vmem S8x512x128 .f32) (harg9 : arg9.IsWhole) (q : Fin 8 → FVec F S512x128 .bf16) (u : FVec F S512x256 .bf16) (w : BitVec 32) (top : F .f32) : Cc0While1 F :=
  ⟨i, arg4, harg4, arg5, harg5, arg9, harg9, q 0, u, arg8, harg8, q 1, q 2, q 3, q 4, q 5, q 6, q 7, w, top⟩

set_option maxHeartbeats 4000000 in
theorem body_first (c : Dev nD) (E : Set ℕ) (i : grid0.Coords) (h0 : (tile i).val = 0) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S512x256 .bf16) (harg6 : arg6.IsWhole) (arg7 : Memref sig .tc .vmem S1x256x1024 .bf16) (harg7 : arg7.IsWhole) (arg8 : Memref sig .tc .vmem S8x512x128 .f32) (harg8 : arg8.IsWhole) (arg9 : Memref sig .tc .vmem S8x512x128 .f32) (harg9 : arg9.IsWhole)
    (x3 : Vec F S1x256x1024 .bf16) (x4 x5 : Vec F S1x4096x1024 .bf16) (x6 : Vec F S512x256 .bf16) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outBlock (tile i) x3 x4 x5 x6) ∗ (∃ d, owns (c : Thread nD τ) arg8 fullShare d) ∗ (∃ d, owns (c : Thread nD τ) arg9 fullShare d)) -∗ K ⟨⟩))
      ⊢ wp frame (wpE (defs₀ (F := F)) 𝒱₀ (c : Thread nD τ) none) E (cc0_stickbreaking_attention i arg3 harg3 arg4 harg4 arg5 harg5 arg6 harg6 arg7 harg7 arg8 harg8 arg9 harg9) K := by
  have h1 : k0_cond1 i = 1#1 := (cond_iff i).2 h0
  simp only [cc0_stickbreaking_attention_eq_skeleton]; unfold cc0_stickbreaking_attention_skel
  simp only [k0_part23_eq_skeleton, k0_part24_eq_skeleton, k0_part25_eq_skeleton, k0_part26_eq_skeleton, k0_part27_eq_skeleton]
  unfold k0_part25_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, Hk⟩
  sl_exec
  have hq : queries x3 = queries (arg3.view.read (Elt F) f3) := by rw [h3]
  have hcnt : Counter 0 (Scalar.subi (BitVec.ofNat 32 (i 2).val) 2#32) := by have := counter_start i; rwa [show (tile i).val - 1 = 0 by omega] at this
  iapply (call_congr c none E (a' := recAt i arg4 harg4 arg5 harg5 arg8 harg8 arg9 harg9 (queries x3) (tri x6) (Scalar.subi (BitVec.ofNat 32 (i 2).val) 2#32) (Scalar.ofBits .f32 0x00000000#32)) ?hrec _ K)
  case hrec =>
    subst h3 h4 h6
    rfl
  iapply (wp_call_spec 𝒱₀ (c : Thread nD τ) none E (spec c arg4 arg5 arg9 arg8 (queries x3) (tri x6) x4 x5 0 (by omega) ⟨accFirst (queries x3) (tri x6) x4 x5, arg9.view.read (Elt F) f9, Scalar.ofBits .f32 0x00000000#32⟩) 0
    (fun u hu => nomatch hu) (spec_le c i arg4 harg4 arg5 harg5 arg9 harg9 arg8 harg8 (queries x3) (tri x6) E x4 x5 0 (by omega) _ hcnt ⟨accFirst (queries x3) (tri x6) x4 x5, arg9.view.read (Elt F) f9, Scalar.ofBits .f32 0x00000000#32⟩))
  rw [spec_apply]
  isplitl [H4 H5 H8 H9]
  · unfold held owns
    isplitl [H4]
    · iexists f4; isplitr; · ipureintro; exact h4
      iexact H4
    isplitl [H5]
    · iexists f5; isplitr; · ipureintro; exact h5
      iexact H5
    isplitl [H8]
    · iexists _; isplitr; swap; · iexact H8
      ipureintro
      refine (View.read_writes_eq_canon _ _ _ (slabs_cover _ _ _ _ _ _ _ _)).trans ?_
      unfold accFirst ofSlabs
      subst h3 h4 h5 h6
      dsimp only
      rw [ld_first1 _ _ h1 h0, ld_first2 _ _ h1 h0, ld_first3 _ _ h1 h0, ld_first4 _ _ h1 h0, ld_first5 _ _ h1 h0, ld_first6 _ _ h1 h0, ld_first7 _ _ h1 h0, ld_first8 _ _ h1 h0, ld_first1 _ _ h1 h0, ld_first2 _ _ h1 h0, ld_first3 _ _ h1 h0, ld_first4 _ _ h1 h0, ld_first5 _ _ h1 h0, ld_first6 _ _ h1 h0, ld_first7 _ _ h1 h0, ld_first8 _ _ h1 h0]
      rfl
    · iexists _; isplitr; swap; · iexact H9
      ipureintro
      rfl
  unfold held owns
  iintro %r ⟨%x9, ⟨%g4, %hg4, H4⟩, ⟨%g5, %hg5, H5⟩, ⟨%g8, %hg8, H8⟩, ⟨%g9, %hg9, H9⟩⟩
  sl_exec
  sl_step
  iapply Hk
  isplitl [H3]
  · iexists f3; isplitr; · ipureintro; exact h3
    iexact H3
  isplitl [H4]
  · iexists g4; isplitr; · ipureintro; exact hg4
    iexact H4
  isplitl [H5]
  · iexists g5; isplitr; · ipureintro; exact hg5
    iexact H5
  isplitl [H6]
  · iexists f6; isplitr; · ipureintro; exact h6
    iexact H6
  isplitl [H7]
  · iexists _; isplitr; swap; · iexact H7
    ipureintro
    refine (View.read_writes_eq_canon _ _ _ (lanes_cover _ _ _ _ _ _ _ _)).trans ?_
    unfold outBlock ofLanes
    dsimp only
    rw [accOf_first _ _ _ _ i h0]
    rw [show accFirst (queries x3) (tri x6) x4 x5 = _ from hg8.symm]
    rfl
  isplitl [H8]
  · iexists _; iexists g8; isplitr; · ipureintro; rfl
    iexact H8
  iexists _; iexists g9; isplitr; · ipureintro; rfl
  iexact H9

set_option maxHeartbeats 4000000 in
theorem body_later (c : Dev nD) (E : Set ℕ) (i : grid0.Coords) (h0 : (tile i).val ≠ 0) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S512x256 .bf16) (harg6 : arg6.IsWhole) (arg7 : Memref sig .tc .vmem S1x256x1024 .bf16) (harg7 : arg7.IsWhole) (arg8 : Memref sig .tc .vmem S8x512x128 .f32) (harg8 : arg8.IsWhole) (arg9 : Memref sig .tc .vmem S8x512x128 .f32) (harg9 : arg9.IsWhole)
    (x3 : Vec F S1x256x1024 .bf16) (x4 x5 : Vec F S1x4096x1024 .bf16) (x6 : Vec F S512x256 .bf16) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outBlock (tile i) x3 x4 x5 x6) ∗ (∃ d, owns (c : Thread nD τ) arg8 fullShare d) ∗ (∃ d, owns (c : Thread nD τ) arg9 fullShare d)) -∗ K ⟨⟩))
      ⊢ wp frame (wpE (defs₀ (F := F)) 𝒱₀ (c : Thread nD τ) none) E (cc0_stickbreaking_attention i arg3 harg3 arg4 harg4 arg5 harg5 arg6 harg6 arg7 harg7 arg8 harg8 arg9 harg9) K := by
  have h1 : ¬k0_cond1 i = 1#1 := fun h => h0 ((cond_iff i).1 h)
  simp only [cc0_stickbreaking_attention_eq_skeleton]; unfold cc0_stickbreaking_attention_skel
  simp only [k0_part23_eq_skeleton, k0_part24_eq_skeleton, k0_part25_eq_skeleton, k0_part26_eq_skeleton, k0_part27_eq_skeleton]
  unfold k0_part25_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, Hk⟩
  sl_exec
  have hq : queries x3 = queries (arg3.view.read (Elt F) f3) := by rw [h3]
  have hcnt : Counter ((tile i).val - 1) (Scalar.subi (BitVec.ofNat 32 (i 2).val) 2#32) := counter_start i
  iapply (call_congr c none E (a' := recAt i arg4 harg4 arg5 harg5 arg8 harg8 arg9 harg9 (queries x3) (tri x6) (Scalar.subi (BitVec.ofNat 32 (i 2).val) 2#32) (start (queries x3) (tri x6) x4 x5 (tile i) (prev i)).top) ?hrec _ K)
  case hrec =>
    subst h3 h4 h6
    unfold start topOf sum2
    dsimp only
    rw [ld_off9 _ _ h1, ld_off10 _ _ h1 h0, ld_off11 _ _ h1, ld_off12 _ _ h1 h0, ld_off13 _ _ h1, ld_off14 _ _ h1 h0, ld_off15 _ _ h1, ld_off16 _ _ h1 h0, ld_off17 _ _ h1, ld_off18 _ _ h1 h0, ld_off19 _ _ h1, ld_off20 _ _ h1 h0, ld_off21 _ _ h1, ld_off22 _ _ h1 h0, ld_off23 _ _ h1, ld_off24 _ _ h1 h0]
    rfl
  iapply (wp_call_spec 𝒱₀ (c : Thread nD τ) none E (spec c arg4 arg5 arg9 arg8 (queries x3) (tri x6) x4 x5 ((tile i).val - 1) (by have := (tile i).isLt; omega) (start (queries x3) (tri x6) x4 x5 (tile i) (prev i))) ((tile i).val - 1)
    (fun u hu => nomatch hu) (spec_le c i arg4 harg4 arg5 harg5 arg9 harg9 arg8 harg8 (queries x3) (tri x6) E x4 x5 ((tile i).val - 1) (by have := (tile i).isLt; omega) _ hcnt (start (queries x3) (tri x6) x4 x5 (tile i) (prev i))))
  rw [spec_apply]
  isplitl [H4 H5 H8 H9]
  · unfold held owns
    isplitl [H4]
    · iexists f4; isplitr; · ipureintro; exact h4
      iexact H4
    isplitl [H5]
    · iexists f5; isplitr; · ipureintro; exact h5
      iexact H5
    isplitl [H8]
    · iexists _; isplitr; swap; · iexact H8
      ipureintro
      refine (View.read_writes_eq_canon _ _ _ (slabs_cover _ _ _ _ _ _ _ _)).trans ?_
      unfold start ofSlabs
      subst h3 h4 h5 h6
      dsimp only
      rw [ld_off9 _ _ h1, ld_off10 _ _ h1 h0, ld_off11 _ _ h1, ld_off12 _ _ h1 h0, ld_off13 _ _ h1, ld_off14 _ _ h1 h0, ld_off15 _ _ h1, ld_off16 _ _ h1 h0, ld_off17 _ _ h1, ld_off18 _ _ h1 h0, ld_off19 _ _ h1, ld_off20 _ _ h1 h0, ld_off21 _ _ h1, ld_off22 _ _ h1 h0, ld_off23 _ _ h1, ld_off24 _ _ h1 h0, ld_off9 _ _ h1, ld_off10 _ _ h1 h0, ld_off11 _ _ h1, ld_off12 _ _ h1 h0, ld_off13 _ _ h1, ld_off14 _ _ h1 h0, ld_off15 _ _ h1, ld_off16 _ _ h1 h0, ld_off17 _ _ h1, ld_off18 _ _ h1 h0, ld_off19 _ _ h1, ld_off20 _ _ h1 h0, ld_off21 _ _ h1, ld_off22 _ _ h1 h0, ld_off23 _ _ h1, ld_off24 _ _ h1 h0]
      rfl
    · iexists _; isplitr; swap; · iexact H9
      ipureintro
      refine (View.read_writes_eq_canon _ _ _ (slabs_cover _ _ _ _ _ _ _ _)).trans ?_
      unfold start ofSlabs sum2
      subst h3 h4
      dsimp only
      rw [ld_off9 _ _ h1, ld_off10 _ _ h1 h0, ld_off11 _ _ h1, ld_off12 _ _ h1 h0, ld_off13 _ _ h1, ld_off14 _ _ h1 h0, ld_off15 _ _ h1, ld_off16 _ _ h1 h0, ld_off17 _ _ h1, ld_off18 _ _ h1 h0, ld_off19 _ _ h1, ld_off20 _ _ h1 h0, ld_off21 _ _ h1, ld_off22 _ _ h1 h0, ld_off23 _ _ h1, ld_off24 _ _ h1 h0]
      rfl
  unfold held owns
  iintro %r ⟨%x9, ⟨%g4, %hg4, H4⟩, ⟨%g5, %hg5, H5⟩, ⟨%g8, %hg8, H8⟩, ⟨%g9, %hg9, H9⟩⟩
  sl_exec
  sl_step
  iapply Hk
  isplitl [H3]
  · iexists f3; isplitr; · ipureintro; exact h3
    iexact H3
  isplitl [H4]
  · iexists g4; isplitr; · ipureintro; exact hg4
    iexact H4
  isplitl [H5]
  · iexists g5; isplitr; · ipureintro; exact hg5
    iexact H5
  isplitl [H6]
  · iexists f6; isplitr; · ipureintro; exact h6
    iexact H6
  isplitl [H7]
  · iexists _; isplitr; swap; · iexact H7
    ipureintro
    refine (View.read_writes_eq_canon _ _ _ (lanes_cover _ _ _ _ _ _ _ _)).trans ?_
    unfold outBlock ofLanes
    dsimp only
    rw [accOf_later _ _ _ _ i h0]
    rw [← hg8]
    rfl
  isplitl [H8]
  · iexists _; iexists g8; isplitr; · ipureintro; rfl
    iexact H8
  iexists _; iexists g9; isplitr; · ipureintro; rfl
  iexact H9

end Cert.KernelIdeal.Attn

end
-- ==== Proof.Attn.Frame.lean ====
module

public import proofs.«01_k».proof.Proof.Attn.Body
public import proofs.«01_k».proof.Proof.Gen.KernelIdeal.Launch
public import Idealize.ShloMosaic.Lib.Pipeline.FrameBody
public import Idealize.ShloMosaic.Lib.Claim

/-! # The launch of the attention

  The launch's set-up, the body's triple at every grid point, and the run: every argument ends as it was, every
  semaphore at zero, and the result's array holds, block after block, `outBlock` of the inputs' blocks. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the launch begins: after the host's operations. -/
abbrev V (c : Dev nD) (b : Ref sig .tc) : Buf (Elt F) ((c : Thread nD τ).loc b) :=
  StableHlo.after [hostOps0, hostOps0_1, hostOps0_2].flatten (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- The entry function up to its launch. -/
theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main [hostOps0, hostOps0_1, hostOps0_2]
    ⟨hostOps0_sub, hostOps0_1_sub, hostOps0_2_sub⟩ ⟨fresh0, fresh1, fresh2⟩ main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the launch finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result's block at point `t`. -/
def oblk (c : Dev nD) (t : Fin (cfg0 (F := F)).N) : Vec F S1x256x1024 .bf16 :=
  outBlock (tile (grid0.coords t)) (iblk m c 0 t) (iblk m c 1 t) (iblk m c 2 t) (iblk m c 3 t)

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data: each window's array as the launch finds it; each input's buffer holds its block after the body, the
    result's buffer `oblk`; the kernel's scratch is held at any contents. -/
def dats (p : Fin 1) (c : Dev nD) : Dat τ (Elt F) Unit ℕ (UR sig nD τ) ℕ (cfgs (F := F) p) c :=
  match p with
  | ⟨0, _⟩ =>
    { A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => iblk m c 3 t
        | ⟨4, _⟩ => oblk m c t
      Φ := fun _ => Pipeline.ΦA spec0 c
      q := fun _ => fullShare
      owed := fun _ => 0 }

theorem A_eq (c : Dev nD) (w) : (dats m 0 c).A w = V m c (Pipeline.arrRef spec0 w) := by dsimp only [dats]
theorem after_0 (c : Dev nD) (t) : (dats m 0 c).after 0 t = iblk m c 0 t := rfl
theorem after_1 (c : Dev nD) (t) : (dats m 0 c).after 1 t = iblk m c 1 t := rfl
theorem after_2 (c : Dev nD) (t) : (dats m 0 c).after 2 t = iblk m c 2 t := rfl
theorem after_3 (c : Dev nD) (t) : (dats m 0 c).after 3 t = iblk m c 3 t := rfl
attribute [local irreducible] oblk in
theorem after_4 (c : Dev nD) (t) : (dats m 0 c).after 4 t = oblk m c t := rfl

theorem before_0 (c : Dev nD) (t : Fin (cfg0 (F := F)).N) (d) : (dats m 0 c).before 0 t d = iblk m c 0 t :=
  before_0_of m (dats m 0 c) (A_eq m c 0) (after_0 m c) t d
theorem before_1 (c : Dev nD) (t : Fin (cfg0 (F := F)).N) (d) : (dats m 0 c).before 1 t d = iblk m c 1 t :=
  before_1_of m (dats m 0 c) (A_eq m c 1) (after_1 m c) t d
theorem before_2 (c : Dev nD) (t : Fin (cfg0 (F := F)).N) (d) : (dats m 0 c).before 2 t d = iblk m c 2 t :=
  before_2_of m (dats m 0 c) (A_eq m c 2) (after_2 m c) t d
theorem before_3 (c : Dev nD) (t : Fin (cfg0 (F := F)).N) (d) : (dats m 0 c).before 3 t d = iblk m c 3 t :=
  before_3_of m (dats m 0 c) (A_eq m c 3) (after_3 m c) t d

/-! ## The body at a grid point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The scratch at any contents and the generator's register, as the body's triple wants them. -/
theorem scratch_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ ∃ r, prngReg c r) := by
  unfold Pipeline.ΦA; rw [scopedRest0_eq]; simp only [owns_whole]

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4,
    show (dats m 0 c).Φ t.castSucc = (Pipeline.ΦA spec0 c : sProp 𝕄) from rfl, scratch_eq]
  by_cases h0 : (tile (grid0.coords t)).val = 0
  · iintro ⟨⟨⟨HS, HT⟩, Hr⟩, Ho, ⟨%d0, H0⟩, ⟨%d1, H1⟩, ⟨%d2, H2⟩, ⟨%d3, H3⟩, ⟨%d4, H4⟩⟩
    iapply (body_first c Set.univ (grid0.coords t) h0 _ _ _ _ _ _ _ _ _ _ _ _ _ _ (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [HS]; · iexact HS
    isplitl [HT]; · iexact HT
    iintro ⟨H0, H1, H2, H3, H4, HS, HT⟩
    isplitl [HS HT Hr]
    · isplitl [HS HT]
      · isplitl [HS]; · iexact HS
        iexact HT
      iexact Hr
    isplitl [Ho]; · iexact Ho
    isplitl [H0]; · iexact H0
    isplitl [H1]; · iexact H1
    isplitl [H2]; · iexact H2
    isplitl [H3]; · iexact H3
    iexact H4
  · iintro ⟨⟨⟨HS, HT⟩, Hr⟩, Ho, ⟨%d0, H0⟩, ⟨%d1, H1⟩, ⟨%d2, H2⟩, ⟨%d3, H3⟩, ⟨%d4, H4⟩⟩
    iapply (body_later c Set.univ (grid0.coords t) h0 _ _ _ _ _ _ _ _ _ _ _ _ _ _ (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [HS]; · iexact HS
    isplitl [HT]; · iexact HT
    iintro ⟨H0, H1, H2, H3, H4, HS, HT⟩
    isplitl [HS HT Hr]
    · isplitl [HS HT]
      · isplitl [HS]; · iexact HS
        iexact HT
      iexact Hr
    isplitl [Ho]; · iexact Ho
    isplitl [H0]; · iexact H0
    isplitl [H1]; · iexact H1
    isplitl [H2]; · iexact H2
    isplitl [H3]; · iexact H3
    iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The run: what the pipeline computes from the proof data, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The result's array after the run, as the pipeline leaves it, the arguments unchanged, every counter at zero. -/
theorem run : θ_run defs (onTc (τ := τ) (main (F := F))) ⟨m, fun _ => 0, ρ⟩ (fun r => (∀ c : Dev nD,
      r.2.mem ((c.tc : Thread nD τ).loc main_v6) = (dats m 0 c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 4,
    ((h.1 c).2 main_arg0 (Pipeline.mem_restRefs_of main_arg0 (by decide) (show ∀ w, (spec0 w).arr.view.ref ≠ main_arg0 by decide))).trans (V_main_arg0 m c),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c)))⟩, h.2⟩)
    (run_main_quiescent m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.KernelIdeal.Attn
end
-- ==== Proof.Attn.Claims.lean ====
/-
  The claims about the attention: its frames and the named floor of the loop's test.
-/
module

public import proofs.«01_k».proof.Defs
public import proofs.«01_k».proof.Proof.Gen.ReferenceIdeal.Run
public import proofs.«01_k».proof.Proof.Attn.Frame
public import proofs.«01_k».proof.Proof.AttnK.Frame
public import Idealize.ShloMosaic.Lib.Quiescent

@[expose] public section

set_option maxRecDepth 16384

noncomputable section

namespace Cert.Proof.Attn

open Idealize.ShloMosaic Idealize.ShloMosaic.TcCoe Idealize.SL.Sem

theorem frame : Cert.quiescent_Kernel := fun m ρ _ => Cert.Kernel.Attn.frame m ρ

theorem frame_ideal : Cert.quiescent_KernelIdeal := fun m ρ _ => Cert.KernelIdeal.Attn.frame m ρ

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "floor" .f32 0xC2D20000#32 ⊥ rfl

end Cert.Proof.Attn
end
-- ==== Proof.Stick.Spec.lean ====
/-
  Stick-breaking attention over the reals: the logarithm of the sigmoid, what a run of keys leaves of the stick, a key's
  weight, and sums over runs of keys.
-/
module

public import Idealize.ShloMosaic.Lib.Pointwise

@[expose] public section

noncomputable section

namespace Cert.Stick

open Idealize.ShloMosaic

/-- The logarithm of the sigmoid. -/
def logSig (x : ℝ) : ℝ := min x 0 - Real.log (1 + Real.exp (-|x|))

theorem logSig_neg (x : ℝ) : logSig (-x) = logSig x - x := by
  unfold logSig
  rw [abs_neg]
  have : min (-x) 0 = min x 0 - x := by
    rcases le_total x 0 with h | h
    · rw [min_eq_right (by linarith), min_eq_left h]; ring
    · rw [min_eq_left (by linarith), min_eq_right h]; ring
  rw [this]; ring

/-- The logarithm of what the keys `a, …, b - 1` leave of the stick. -/
def left (z : ℕ → ℝ) (a b : ℕ) : ℝ := ∑ j ∈ Finset.Ico a b, logSig (-z j)

/-- The weight of key `s` for query `t`: its own sigmoid times what the keys between leave. -/
def weight (z : ℕ → ℝ) (t s : ℕ) : ℝ := if s < t then Real.exp (logSig (z s) + left z (s + 1) t) else 0

/-- The weighted values of the keys `a, …, b - 1`. -/
def attend (z : ℕ → ℝ) (v : ℕ → EReal) (t a b : ℕ) : EReal := ∑ s ∈ Finset.Ico a b, (weight z t s : EReal) * v s

theorem left_append (z : ℕ → ℝ) {a b c : ℕ} (h : a ≤ b) (h' : b ≤ c) : left z a b + left z b c = left z a c :=
  Finset.sum_Ico_consecutive _ h h'

theorem attend_append (z : ℕ → ℝ) (v : ℕ → EReal) (t : ℕ) {a b c : ℕ} (h : a ≤ b) (h' : b ≤ c) :
    attend z v t a b + attend z v t b c = attend z v t a c :=
  Finset.sum_Ico_consecutive _ h h'

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The kernel's spelling of the logarithm of the sigmoid. -/
theorem logSig_coe (x : ℝ) :
    min (x : EReal) 0 - Ideal.log (1 + Ideal.exp (0 - FloatOps.absf (F := Ideal) (φ := .f32) (x : EReal))) = (logSig x : EReal) := by
  have h1 : (FloatOps.absf (F := Ideal) (φ := .f32) (x : EReal) : EReal) = ((|x| : ℝ) : EReal) := by
    rw [show (FloatOps.absf (F := Ideal) (φ := .f32) (x : EReal) : EReal) = max (x : EReal) (-(x : EReal)) from rfl]
    rw [← EReal.coe_neg, ← EReal.coe_strictMono.monotone.map_max]; rfl
  rw [h1, show (0 : EReal) - ((|x| : ℝ) : EReal) = ((-|x| : ℝ) : EReal) by rw [zero_sub, EReal.coe_neg]]
  rw [show Ideal.exp ((-|x| : ℝ) : EReal) = ((Real.exp (-|x|) : ℝ) : EReal) from rfl]
  rw [show (1 : EReal) + ((Real.exp (-|x|) : ℝ) : EReal) = ((1 + Real.exp (-|x|) : ℝ) : EReal) by rw [EReal.coe_add]; rfl]
  have hp : ¬ (1 + Real.exp (-|x|) ≤ 0) := by have := Real.exp_pos (-|x|); linarith
  rw [show Ideal.log ((1 + Real.exp (-|x|) : ℝ) : EReal) = ((Real.log (1 + Real.exp (-|x|)) : ℝ) : EReal) from if_neg hp]
  rw [show (0 : EReal) = ((0 : ℝ) : EReal) from rfl, ← EReal.coe_strictMono.monotone.map_min, ← EReal.coe_sub]
  rfl

/-- A sum over a tile's columns is a sum over the tile's keys. -/
theorem sum_tile {M : Type} [AddCommMonoid M] (f : ℕ → M) (j : ℕ) :
    ∑ c : Fin 256, f (256 * j + c) = ∑ s ∈ Finset.Ico (256 * j) (256 * (j + 1)), f s := by
  rw [Finset.sum_Ico_eq_sum_range, show 256 * (j + 1) - 256 * j = 256 by omega, Finset.sum_range]

/-- The keys of a tile after column `c`, up to a query in the tile or after it. -/
theorem sum_after (z : ℕ → ℝ) (j c b : ℕ) (hb : b ≤ 256) :
    ∑ x : Fin 256, (if c < x.val ∧ x.val < b then logSig (-z (256 * j + x)) else 0) = left z (256 * j + c + 1) (256 * j + b) := by
  refine Eq.trans (Finset.sum_congr rfl fun x _ => ?_)
    ((sum_tile (fun s => if c < s - 256 * j ∧ s - 256 * j < b then logSig (-z s) else 0) j).trans ?_)
  · rw [show 256 * j + (x : ℕ) - 256 * j = x by omega]
  rw [← Finset.sum_filter]
  unfold left
  refine Finset.sum_congr ?_ fun _ _ => rfl
  ext s
  simp only [Finset.mem_filter, Finset.mem_Ico]
  omega

theorem attend_later (z : ℕ → ℝ) (v : ℕ → EReal) (t a b : ℕ) (h : t ≤ a) : attend z v t a b = 0 := by
  refine Finset.sum_eq_zero fun s hs => ?_
  have := (Finset.mem_Ico.mp hs).1
  rw [weight, if_neg (by omega), EReal.coe_zero, zero_mul]

/-- The logit of head `h`: lanes `64 h, …` of a query's row `q` against those of a key's row `k`, over the square root of 64. -/
def logit (q k : ℕ → ℝ) (h : ℕ) : ℝ := (∑ e ∈ Finset.range 64, q (64 * h + e) * k (64 * h + e)) * (1 / 8)

/-- A head pair's product, one head's lanes masked away: the first head of pair `p`. -/
theorem logit_first (q k : ℕ → ℝ) (p : ℕ) :
    ∑ x : Fin 128, (if x.val < 64 then ((q (128 * p + x) * (1 / 8) : ℝ) : EReal) else 0) * (k (128 * p + x) : EReal)
      = (logit q k (2 * p) : EReal) := by
  rw [Fin.sum_univ_eq_sum_range (fun x => (if x < 64 then ((q (128 * p + x) * (1 / 8) : ℝ) : EReal) else 0) * (k (128 * p + x) : EReal)) 128,
    show (128 : ℕ) = 64 + 64 from rfl, Finset.sum_range_add]
  refine (congrArg₂ (· + ·) (Finset.sum_congr (g := fun x => ((q (64 * (2 * p) + x) * k (64 * (2 * p) + x) * (1 / 8) : ℝ) : EReal)) rfl fun x hx => ?_)
    (Finset.sum_eq_zero fun x hx => ?_)).trans ((add_zero _).trans ?_)
  · have := Finset.mem_range.mp hx
    rw [if_pos this, ← EReal.coe_mul, show (64 + 64) * p + x = 64 * (2 * p) + x by ring]
    congr 1; ring
  · rw [if_neg (by omega), zero_mul]
  · rw [← coe_sum, logit, Finset.sum_mul]

/-- The second head of pair `p`. -/
theorem logit_second (q k : ℕ → ℝ) (p : ℕ) :
    ∑ x : Fin 128, (if x.val < 64 then 0 else ((q (128 * p + x) * (1 / 8) : ℝ) : EReal)) * (k (128 * p + x) : EReal)
      = (logit q k (2 * p + 1) : EReal) := by
  rw [Fin.sum_univ_eq_sum_range (fun x => (if x < 64 then 0 else ((q (128 * p + x) * (1 / 8) : ℝ) : EReal)) * (k (128 * p + x) : EReal)) 128,
    show (128 : ℕ) = 64 + 64 from rfl, Finset.sum_range_add]
  refine (congrArg₂ (· + ·) (Finset.sum_eq_zero fun x hx => ?_)
    (Finset.sum_congr (g := fun x => ((q (64 * (2 * p + 1) + x) * k (64 * (2 * p + 1) + x) * (1 / 8) : ℝ) : EReal)) rfl fun x hx => ?_)).trans
    ((zero_add _).trans ?_)
  · have := Finset.mem_range.mp hx
    rw [if_pos this, zero_mul]
  · rw [if_neg (by omega), ← EReal.coe_mul, show (64 + 64) * p + (64 + x) = 64 * (2 * p + 1) + x by ring]
    congr 1; ring
  · rw [← coe_sum, logit, Finset.sum_mul]

end Cert.Stick
-- ==== Proof.Stick.Ref.lean ====
/-
  The attention's reference at one index: over finite queries and keys, the head's weighted values over all keys.
-/
module

public import proofs.«01_k».proof.Proof.Gen.ReferenceIdeal.Run
public import proofs.«01_k».proof.Proof.Stick.Spec
public import Idealize.ShloMosaic.Lib.WordCmp

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Stick

/-- The lanes as heads. -/
def heads (a : FVec Ideal S8x4096x1024 .bf16) : FVec Ideal S8x16x4096x64 .f32 :=
  transpose S8x16x4096x64 [0, 2, 1, 3] (shapeCast _ (extf (F := Ideal) (φ := .bf16) .f32 a bitsLt_bf16_f32) shapeCasts_S8x4096x1024_S8x4096x16x64)
    transposes_S8x4096x16x64_S8x16x4096x64_0_2_1_3

def logits (q k : FVec Ideal S8x4096x1024 .bf16) : FVec Ideal S8x16x4096x4096 .f32 :=
  mulf (Host.dotGeneral dot_S8x16x4096x64_S8x16x4096x64_S8x16x4096x4096_3_3_2_2_01_01 none (heads q) (heads k))
    (broadcastInDim S8x16x4096x4096 ![] bcast_S_S8x16x4096x4096 (constant S_ .f32 0x3E000000#32))

abbrev zeros : FVec Ideal S8x16x4096x4096 .f32 := broadcastInDim S8x16x4096x4096 ![] bcast_S_S8x16x4096x4096 (constant S_ .f32 0x00000000#32)

def softplus (x : FVec Ideal S8x16x4096x4096 .f32) : FVec Ideal S8x16x4096x4096 .f32 :=
  select (cmpf .une (subf x zeros) (subf x zeros)) (addf x zeros)
    (addf (maximumf x zeros) (Host.log1p (Host.exp (Host.negf (Host.absf (subf x zeros))))))

/-- The reference's logarithm of the sigmoid. -/
def logSigmoid (x : FVec Ideal S8x16x4096x4096 .f32) : FVec Ideal S8x16x4096x4096 .f32 := Host.negf (softplus (Host.negf x))

/-- Where the key is earlier than the query. -/
def strict : IVec S8x16x4096x4096 1 :=
  broadcastInDim S8x16x4096x4096 ![2, 3] bcast_S4096x4096_S8x16x4096x4096_2_3 (cmpi .slt (iotaInDim S4096x4096 32 1) (iotaInDim S4096x4096 32 0))

def keep (z : FVec Ideal S8x16x4096x4096 .f32) : FVec Ideal S8x16x4096x4096 .f32 := select strict (logSigmoid (Host.negf z)) zeros

def sums (l : FVec Ideal S8x16x4096x4096 .f32) : FVec Ideal S8x16x4096x4096 .f32 :=
  Host.reduceWindowAdd ![1, 1, 1, 4096] ![1, 1, 1, 1] ![0, 0, 0, 0] ![0, 0, 0, 4095] l
    (broadcastInDim S_ ![] bcast_S_S_ (constant S_ .f32 0x00000000#32))
    reduceWindows_S8x16x4096x4096_S8x16x4096x4096_w1s1p0_0_w1s1p0_0_w1s1p0_0_w4096s1p0_4095 h_S_

def weights (z : FVec Ideal S8x16x4096x4096 .f32) : FVec Ideal S8x16x4096x4096 .f32 :=
  select strict (Host.exp (addf (logSigmoid z) (subf (sums (keep z)) (keep z)))) zeros

def result (q k v : FVec Ideal S8x4096x1024 .bf16) : FVec Ideal S8x4096x1024 .bf16 :=
  truncf .bf16 (shapeCast _ (transpose S8x4096x16x64 [0, 2, 1, 3]
    (Host.dotGeneral dot_S8x16x4096x4096_S8x16x4096x64_S8x16x4096x64_3_2_2_3_01_01 none (weights (logits q k)) (heads v))
    transposes_S8x16x4096x64_S8x4096x16x64_0_2_1_3) shapeCasts_S8x4096x16x64_S8x4096x1024) bitsLt_bf16_f32

theorem res_eq (m : (ℓ : Loc nD τ sig) → Buf (Elt Ideal) ℓ) (c : Dev nD) :
    Value.res_main_v27 m c = result (m ((c.tc : Thread nD τ).loc main_arg0)) (m ((c.tc : Thread nD τ).loc main_arg1)) (m ((c.tc : Thread nD τ).loc main_arg2)) := rfl

theorem heads_at (a : FVec Ideal S8x4096x1024 .bf16) (b : Fin 8) (h : Fin 16) (t : Fin 4096) (e : Fin 64) :
    heads a (ix4 b h t e) = a (ix3 b t ⟨64 * h + e, by omega⟩) := by
  pointwise [heads]
  refine congrArg a (congrArg (ix3 b t) (Fin.ext ?_))
  show (h : ℕ) * 64 + e = 64 * h + e
  omega

theorem foldl_add {ι : Type} (l : List ι) (g : ι → EReal) (x : EReal) : l.foldl (fun r i => r + g i) x = x + (l.map g).sum := by
  induction l generalizing x with
  | nil => simp
  | cons a l ih => rw [List.foldl_cons, ih, List.map_cons, List.sum_cons, add_assoc]

/-- A window of `N` positions along the last axis, at the positions `s, s + 1, …` of it: their sum, positions past the end adding nothing. -/
theorem window_sum {A B C N P : ℕ} (x : (⟨4, ![A, B, C, N]⟩ : Shape).Idx → EReal) (init : (⟨0, ![]⟩ : Shape).Idx → EReal)
    (hr : (⟨4, ![A, B, C, N]⟩ : Shape).ReduceWindows (![1, 1, 1, N] : Fin 4 → ℕ) ![1, 1, 1, 1] ![0, 0, 0, 0] ![0, 0, 0, P] ⟨4, ![A, B, C, N]⟩)
    (hu : 0 < (⟨0, ![]⟩ : Shape).numel) (hi : ∀ i, init i = 0) (b : Fin A) (h : Fin B) (t : Fin C) (s : Fin N) (f : ℕ → EReal)
    (hf : ∀ j : Fin N, x (ix4 b h t j) = f j) :
    Host.reduceWindow (s := ⟨4, ![A, B, C, N]⟩) (t := ⟨4, ![A, B, C, N]⟩) (· + ·) ![1, 1, 1, N] ![1, 1, 1, 1] ![0, 0, 0, 0] ![0, 0, 0, P] x init hr hu (ix4 b h t s)
      = ∑ j ∈ Finset.Ico s.val N, f j := by
  have hN : (⟨4, ![1, 1, 1, N]⟩ : Shape).numel = N := by simp [Shape.numel, Fin.prod_univ_succ]
  have hl : ∀ n : Fin (⟨4, ![1, 1, 1, N]⟩ : Shape).numel, (((⟨4, ![1, 1, 1, N]⟩ : Shape).rowMajor.symm n) 0 : ℕ) = 0
      ∧ (((⟨4, ![1, 1, 1, N]⟩ : Shape).rowMajor.symm n) 1 : ℕ) = 0 ∧ (((⟨4, ![1, 1, 1, N]⟩ : Shape).rowMajor.symm n) 2 : ℕ) = 0
      ∧ (((⟨4, ![1, 1, 1, N]⟩ : Shape).rowMajor.symm n) 3 : ℕ) = n := fun n => by
    have e := Shape.rowMajor_val_four ((⟨4, ![1, 1, 1, N]⟩ : Shape).rowMajor.symm n)
    rw [Equiv.apply_symm_apply] at e
    have h0 : (((⟨4, ![1, 1, 1, N]⟩ : Shape).rowMajor.symm n) 0 : ℕ) < 1 := (((⟨4, ![1, 1, 1, N]⟩ : Shape).rowMajor.symm n) 0).isLt
    have h1 : (((⟨4, ![1, 1, 1, N]⟩ : Shape).rowMajor.symm n) 1 : ℕ) < 1 := (((⟨4, ![1, 1, 1, N]⟩ : Shape).rowMajor.symm n) 1).isLt
    have h2 : (((⟨4, ![1, 1, 1, N]⟩ : Shape).rowMajor.symm n) 2 : ℕ) < 1 := (((⟨4, ![1, 1, 1, N]⟩ : Shape).rowMajor.symm n) 2).isLt
    have e0 : (((⟨4, ![1, 1, 1, N]⟩ : Shape).rowMajor.symm n) 0 : ℕ) = 0 := by omega
    have e1 : (((⟨4, ![1, 1, 1, N]⟩ : Shape).rowMajor.symm n) 1 : ℕ) = 0 := by omega
    have e2 : (((⟨4, ![1, 1, 1, N]⟩ : Shape).rowMajor.symm n) 2 : ℕ) = 0 := by omega
    refine ⟨e0, e1, e2, ?_⟩
    rw [e0, e1, e2] at e
    rw [e]
    simp
  unfold Host.reduceWindow
  dsimp only
  rw [hi]
  refine (foldl_add _ _ _).trans ?_
  rw [zero_add, ← Fin.sum_univ_def]
  refine (Fintype.sum_equiv (finCongr hN) _ (fun n : Fin N => if s.val + n < N then f (s.val + n) else 0) fun n => ?_).trans ?_
  · obtain ⟨h0, h1, h2, h3⟩ := hl n
    show _ = if s.val + n < N then f (s.val + n) else 0
    split
    · next hin =>
      have h3' : 0 ≤ s.val * 1 + (((⟨4, ![1, 1, 1, N]⟩ : Shape).rowMajor.symm n) 3 : ℕ)
        ∧ s.val * 1 + (((⟨4, ![1, 1, 1, N]⟩ : Shape).rowMajor.symm n) 3 : ℕ) - 0 < N := hin 3
      rw [h3] at h3'
      rw [if_pos (by omega)]
      refine (congrArg x (funext fun a => Fin.ext ?_)).trans (hf ⟨s.val + n, by omega⟩)
      match a with
      | ⟨0, _⟩ => show b.val * 1 + (((⟨4, ![1, 1, 1, N]⟩ : Shape).rowMajor.symm n) 0 : ℕ) - 0 = b.val; rw [h0]; omega
      | ⟨1, _⟩ => show h.val * 1 + (((⟨4, ![1, 1, 1, N]⟩ : Shape).rowMajor.symm n) 1 : ℕ) - 0 = h.val; rw [h1]; omega
      | ⟨2, _⟩ => show t.val * 1 + (((⟨4, ![1, 1, 1, N]⟩ : Shape).rowMajor.symm n) 2 : ℕ) - 0 = t.val; rw [h2]; omega
      | ⟨3, _⟩ => show s.val * 1 + (((⟨4, ![1, 1, 1, N]⟩ : Shape).rowMajor.symm n) 3 : ℕ) - 0 = s.val + n; rw [h3]; omega
    · next hin =>
      rw [if_neg fun hle => hin fun a => ?_]
      have := b.isLt; have := h.isLt; have := t.isLt
      match a with
      | ⟨0, _⟩ => show 0 ≤ b.val * 1 + (((⟨4, ![1, 1, 1, N]⟩ : Shape).rowMajor.symm n) 0 : ℕ) ∧ b.val * 1 + (((⟨4, ![1, 1, 1, N]⟩ : Shape).rowMajor.symm n) 0 : ℕ) - 0 < A; rw [h0]; omega
      | ⟨1, _⟩ => show 0 ≤ h.val * 1 + (((⟨4, ![1, 1, 1, N]⟩ : Shape).rowMajor.symm n) 1 : ℕ) ∧ h.val * 1 + (((⟨4, ![1, 1, 1, N]⟩ : Shape).rowMajor.symm n) 1 : ℕ) - 0 < B; rw [h1]; omega
      | ⟨2, _⟩ => show 0 ≤ t.val * 1 + (((⟨4, ![1, 1, 1, N]⟩ : Shape).rowMajor.symm n) 2 : ℕ) ∧ t.val * 1 + (((⟨4, ![1, 1, 1, N]⟩ : Shape).rowMajor.symm n) 2 : ℕ) - 0 < C; rw [h2]; omega
      | ⟨3, _⟩ => show 0 ≤ s.val * 1 + (((⟨4, ![1, 1, 1, N]⟩ : Shape).rowMajor.symm n) 3 : ℕ) ∧ s.val * 1 + (((⟨4, ![1, 1, 1, N]⟩ : Shape).rowMajor.symm n) 3 : ℕ) - 0 < N; rw [h3]; omega
  · rw [Fin.sum_univ_eq_sum_range (fun n => if s.val + n < N then f (s.val + n) else 0) N, Finset.sum_Ico_eq_sum_range, ← Finset.sum_filter]
    refine Finset.sum_congr ?_ fun _ _ => rfl
    ext n
    simp only [Finset.mem_filter, Finset.mem_range]
    omega

/-- The same of the host's operation, from a starting value of zero. -/
theorem window_add {A B C N P : ℕ} (x : FVec Ideal ⟨4, ![A, B, C, N]⟩ .f32) (init : FVec Ideal ⟨0, ![]⟩ .f32)
    (hr : (⟨4, ![A, B, C, N]⟩ : Shape).ReduceWindows (![1, 1, 1, N] : Fin 4 → ℕ) ![1, 1, 1, 1] ![0, 0, 0, 0] ![0, 0, 0, P] ⟨4, ![A, B, C, N]⟩)
    (hu : 0 < (⟨0, ![]⟩ : Shape).numel) (hi : ∀ i, init i = 0) (b : Fin A) (h : Fin B) (t : Fin C) (s : Fin N) (f : ℕ → EReal)
    (hf : ∀ j : Fin N, x (ix4 b h t j) = f j) :
    Host.reduceWindowAdd (F := Ideal) (s := ⟨4, ![A, B, C, N]⟩) (t := ⟨4, ![A, B, C, N]⟩) ![1, 1, 1, N] ![1, 1, 1, 1] ![0, 0, 0, 0] ![0, 0, 0, P] x init hr hu (ix4 b h t s)
      = ∑ j ∈ Finset.Ico s.val N, f j :=
  window_sum x (fun _ => init (Shape.Idx.first hu)) hr (by decide) (fun _ => hi _) b h t s f hf

/-- The sum over the keys from `s` on. -/
theorem sums_at (l : FVec Ideal S8x16x4096x4096 .f32) (b : Fin 8) (h : Fin 16) (t s : Fin 4096) (f : ℕ → EReal)
    (hf : ∀ j : Fin 4096, l (ix4 b h t j) = f j) :
    sums l (ix4 b h t s) = ∑ j ∈ Finset.Ico s.val 4096, f j := by
  unfold sums
  exact window_add (A := 8) (B := 16) (C := 4096) (N := 4096) (P := 4095) l _ _ _ (fun i => by pointwise []) b h t s f hf

variable (x : FVec Ideal S8x16x4096x4096 .f32) (z : ℕ → ℝ) (b : Fin 8) (h : Fin 16) (t s : Fin 4096)

theorem logSigmoid_at (y : ℝ) (hx : x (ix4 b h t s) = (y : EReal)) : logSigmoid x (ix4 b h t s) = (logSig y : EReal) := by
  pointwise [logSigmoid, softplus]
  rw [hx, if_neg (by simp), ← EReal.coe_neg]
  have h1 : max ((-y : ℝ) : EReal) 0 = ((max (-y) 0 : ℝ) : EReal) := by
    rw [EReal.coe_strictMono.monotone.map_max]; rfl
  have h2 : (FloatOps.absf (F := Ideal) (φ := .f32) ((-y : ℝ) : EReal) : EReal) = ((|y| : ℝ) : EReal) := by
    rw [show (FloatOps.absf (F := Ideal) (φ := .f32) ((-y : ℝ) : EReal) : EReal) = max ((-y : ℝ) : EReal) (-((-y : ℝ) : EReal)) from rfl]
    rw [← EReal.coe_neg, ← EReal.coe_strictMono.monotone.map_max, ← abs_neg]; rfl
  have hp : ¬ (1 + Real.exp (-|y|) ≤ 0) := by have := Real.exp_pos (-|y|); linarith
  rw [h1, h2, ← EReal.coe_neg, show Ideal.exp ((-|y| : ℝ) : EReal) = ((Real.exp (-|y|) : ℝ) : EReal) from rfl,
    show Ideal.log1p ((Real.exp (-|y|) : ℝ) : EReal) = Ideal.log ((1 + Real.exp (-|y|) : ℝ) : EReal) by rw [EReal.coe_add]; rfl,
    show Ideal.log ((1 + Real.exp (-|y|) : ℝ) : EReal) = ((Real.log (1 + Real.exp (-|y|)) : ℝ) : EReal) from if_neg hp,
    ← EReal.coe_add, ← EReal.coe_neg]
  congr 1
  rw [logSig, neg_add, ← min_neg_neg, neg_neg, neg_zero, sub_eq_add_neg]

theorem keep_at (hx : ∀ j : Fin 4096, x (ix4 b h t j) = (z j : EReal)) (s : Fin 4096) :
    keep x (ix4 b h t s) = ((if s.val < t.val then logSig (-z s) else 0 : ℝ) : EReal) := by
  pointwise [keep, strict]
  simp (disch := word_cmp_side) only [hlo_ix]
  rw [logSigmoid_at (Host.negf x) b h t s (-z s) (by pointwise []; rw [hx]; rfl)]
  split <;> rfl

theorem weights_at (hx : ∀ j : Fin 4096, x (ix4 b h t j) = (z j : EReal)) (s : Fin 4096) :
    weights x (ix4 b h t s) = (weight z t s : EReal) := by
  have e1 := keep_at x z b h t hx s
  have e2 := sums_at (keep x) b h t s (fun j => ((if j < t.val then logSig (-z j) else 0 : ℝ) : EReal)) (keep_at x z b h t hx)
  rw [← coe_sum, ← Finset.sum_filter] at e2
  have e3 := logSigmoid_at x b h t s (z s) (hx s)
  show Scalar.select (strict (ix4 b h t s)) (Ideal.exp (logSigmoid x (ix4 b h t s) + (sums (keep x) (ix4 b h t s) - keep x (ix4 b h t s)))) (zeros (ix4 b h t s)) = _
  rw [e1, e2, e3, ← EReal.coe_sub, ← EReal.coe_add]
  pointwise [strict]
  simp (disch := word_cmp_side) only [hlo_ix]
  rw [weight]
  by_cases hs : s.val < t.val
  · rw [if_pos hs, if_pos hs, if_pos hs]
    have e : ∑ a ∈ Finset.Ico s.val 4096 with a < t.val, logSig (-z a) = logSig (-z s) + left z (s + 1) t := by
      rw [left, ← Finset.sum_eq_sum_Ico_succ_bot hs (fun j => logSig (-z j))]
      refine Finset.sum_congr ?_ fun _ _ => rfl
      ext j
      simp only [Finset.mem_filter, Finset.mem_Ico]
      omega
    rw [e, add_sub_cancel_left]
    rfl
  · rw [if_neg hs, if_neg hs]
    rfl

variable (q k v : FVec Ideal S8x4096x1024 .bf16) (qr kr : ℕ → ℕ → ℝ) (W : ℕ → ℕ → EReal)

theorem eighth : Ideal.ofBits .f32 0x3E000000#32 = ((1 / 8 : ℝ) : EReal) := by
  simp [Ideal.ofBits, Ideal.ieee, -EReal.coe_mul]; norm_num

theorem logits_at (hq : ∀ (t : Fin 4096) (d : Fin 1024), q (ix3 b t d) = (qr t d : EReal))
    (hk : ∀ (t : Fin 4096) (d : Fin 1024), k (ix3 b t d) = (kr t d : EReal)) :
    logits q k (ix4 b h t s) = (logit (qr t) (kr s) h : EReal) := by
  pointwise [logits]
  rw [eighth, logit, EReal.coe_mul, coe_sum, Finset.sum_range]
  refine congrArg (· * ((1 / 8 : ℝ) : EReal)) (Finset.sum_congr rfl fun e _ => ?_)
  rw [heads_at, heads_at, hq, hk, ← EReal.coe_mul]

/-- The reference over finite queries and keys. -/
theorem result_at (hq : ∀ (t : Fin 4096) (d : Fin 1024), q (ix3 b t d) = (qr t d : EReal))
    (hk : ∀ (t : Fin 4096) (d : Fin 1024), k (ix3 b t d) = (kr t d : EReal))
    (hv : ∀ (t : Fin 4096) (d : Fin 1024), v (ix3 b t d) = W d t) (d : Fin 1024) :
    result q k v (ix3 b t d) = attend (fun s => logit (qr t) (kr s) (d / 64)) (W d) t 0 4096 := by
  pointwise [result]
  rw [attend, ← Finset.range_eq_Ico, Finset.sum_range]
  refine Finset.sum_congr rfl fun s _ => ?_
  rw [weights_at (logits q k) (fun s => logit (qr t) (kr s) (d / 64)) b _ t (fun j => logits_at b _ t j q k qr kr hq hk) s, heads_at, hv]
  refine congrArg (fun n => _ * W n s) ?_
  show 64 * (d.val / 64) + d.val % 64 = d.val
  omega

end Cert.ReferenceIdeal.Attn
-- ==== Proof.Stick.Tile.lean ====
/-
  One tile of the attention at one row: its running sum and its weighted values over the reals.
-/
module

public import proofs.«01_k».proof.Proof.Attn.Model
public import proofs.«01_k».proof.Proof.Stick.Spec
public import Idealize.ShloMosaic.Lib.WordCmp

@[expose] public section

set_option maxRecDepth 16384

noncomputable section

namespace Cert.KernelIdeal.Attn

open Idealize.ShloMosaic Idealize.ShloMosaic.TcCoe
open Cert.KernelIdeal Cert.KernelIdeal.Gen Cert.Stick

theorem logBeta_at (z : FVec Ideal S512x256 .f32) (r : Fin 512) (c : Fin 256) (x : ℝ) (h : z (ix2 r c) = (x : EReal)) :
    logBeta z (ix2 r c) = (logSig x : EReal) := by
  pointwise [logBeta]
  rw [h]
  exact logSig_coe x

theorem logKeep_at (z : FVec Ideal S512x256 .f32) (r : Fin 512) (c : Fin 256) (x : ℝ) (h : z (ix2 r c) = (x : EReal)) :
    logKeep z (ix2 r c) = (logSig (-x) : EReal) := by
  pointwise [logKeep]
  rw [logBeta_at z r c x h, h, logSig_neg, EReal.coe_sub]

theorem diag_at (r : Fin 512) (c : Fin 256) : k0_pay153 (ix2 r c) = BitVec.ofBool (decide (c.val < r.val % 256)) := by
  have hr := r.isLt
  have hc := c.isLt
  pointwise [k0_pay153]
  by_cases h : (r : ℕ) < 256
  · rw [dif_pos h, Nat.mod_eq_of_lt h]
    simp (disch := word_cmp_side) only [hlo_ix]
  · rw [dif_neg h, show r.val % 256 = r.val - 256 by omega]
    simp (disch := word_cmp_side) only [hlo_ix]

theorem keepMasked_at (z : FVec Ideal S512x256 .f32) (r : Fin 512) (c : Fin 256) (x : ℝ) (h : z (ix2 r c) = (x : EReal)) :
    keepMasked z (ix2 r c) = ((if c.val < r.val % 256 then logSig (-x) else 0 : ℝ) : EReal) := by
  pointwise [keepMasked]
  rw [logKeep_at z r c x h, diag_at]
  by_cases hc : c.val < r.val % 256
  · simp [hc, Scalar.select]
  · simp [hc, Scalar.select]

variable (l : FVec Ideal S512x256 .f32) (u : FVec Ideal S512x256 .bf16)

theorem afters_at (hu : ∀ (x : Fin 512) (c : Fin 256), u (ix2 x c) = if c.val < x.val % 256 then 1 else 0)
    (r : Fin 512) (c : Fin 256) (f : Fin 256 → ℝ) (hl : ∀ x : Fin 256, l (ix2 r x) = (f x : EReal)) :
    afters l u (ix2 r c) = ((∑ x : Fin 256, if c.val < x.val then f x else 0 : ℝ) : EReal) := by
  pointwise [afters]
  rw [coe_sum]
  refine (congrArg₂ (· + ·) (Finset.sum_congr rfl fun x _ => ?_) (Finset.sum_eq_zero fun x _ => ?_)).trans (add_zero _)
  · rw [hl x, hu]
    have hx := x.isLt
    simp only [Nat.mod_eq_of_lt hx]
    by_cases h : c.val < x.val
    · rw [if_pos h, if_pos h, mul_one]
    · rw [if_neg h, if_neg h, mul_zero]; rfl
  · rw [hl x, ← EReal.coe_sub, sub_self, EReal.coe_zero, zero_mul]

theorem rowSum_at (r : Fin 512) (c : Fin 1) (f : Fin 256 → ℝ) (hl : ∀ x : Fin 256, l (ix2 r x) = (f x : EReal)) :
    rowSum l (ix2 r c) = ((∑ x : Fin 256, f x : ℝ) : EReal) := by
  pointwise [rowSum]
  rw [coe_sum]
  exact Finset.sum_congr rfl fun x _ => hl x

variable (q : FVec Ideal S512x128 .bf16) (k v : Vec Ideal S1x256x128 .bf16) (z : ℕ → ℝ) (V : ℕ → EReal) (r : Fin 512) (j : ℕ)

theorem sumTile_at (hz : ∀ c : Fin 256, logits q k (ix2 r c) = (z (256 * j + c) : EReal)) (c : Fin 1) :
    sumTile q k (ix2 r c) = (left z (256 * j) (256 * (j + 1)) : EReal) := by
  refine (rowSum_at _ r c _ fun x => logKeep_at _ r x _ (hz x)).trans ?_
  rw [sum_tile (fun s => logSig (-z s))]
  rfl

theorem sumDiag_at (hz : ∀ c : Fin 256, logits q k (ix2 r c) = (z (256 * j + c) : EReal)) (c : Fin 1) :
    sumDiag q k (ix2 r c) = (left z (256 * j) (256 * j + r.val % 256) : EReal) := by
  refine (rowSum_at _ r c _ fun x => keepMasked_at _ r x _ (hz x)).trans ?_
  congr 1
  refine (Finset.sum_congr rfl fun x _ => ?_).trans ((sum_tile (fun s => if s < 256 * j + r.val % 256 then logSig (-z s) else 0) j).trans ?_)
  · simp only [Nat.add_lt_add_iff_left]
  · rw [← Finset.sum_filter]
    unfold left
    refine Finset.sum_congr ?_ fun _ _ => rfl
    ext s
    simp only [Finset.mem_filter, Finset.mem_Ico]
    omega

theorem pvTile_at (hu : ∀ (x : Fin 512) (c : Fin 256), u (ix2 x c) = if c.val < x.val % 256 then 1 else 0)
    (hz : ∀ c : Fin 256, logits q k (ix2 r c) = (z (256 * j + c) : EReal))
    (c : FVec Ideal S512x1 .f32) (t : ℕ) (ht : 256 * (j + 1) ≤ t) (hc : c (ix2 r 0) = (left z (256 * (j + 1)) t : EReal))
    (e : Fin 128) (hv : ∀ x : Fin 256, v (ix3 0 x e) = V (256 * j + x)) :
    pvTile q u k v c (ix2 r e) = attend z V t (256 * j) (256 * (j + 1)) := by
  pointwise [pvTile, weighted]
  refine (Finset.sum_congr rfl fun x _ => ?_).trans (sum_tile (fun s => (weight z t s : EReal) * V s) j)
  have hx := x.isLt
  rw [hv x, hc, afters_at _ u hu r x _ (fun y => logKeep_at _ r y _ (hz y)), logBeta_at _ r x _ (hz x), ← EReal.coe_add, ← EReal.coe_add]
  congr 1
  rw [show Ideal.exp = fun y : EReal => Ideal.exp y from rfl]
  unfold weight
  rw [if_pos (by omega)]
  refine congrArg (fun y : ℝ => ((Real.exp y : ℝ) : EReal)) ?_
  congr 1
  rw [← left_append z (a := 256 * j + x + 1) (b := 256 * (j + 1)) (c := t) (by omega) ht]
  congr 1
  rw [show 256 * (j + 1) = 256 * j + 256 by ring, ← sum_after z j x 256 le_rfl]
  refine Finset.sum_congr rfl fun y _ => ?_
  have hy := y.isLt
  simp only [hy, and_true]

theorem pvDiag_at (hu : ∀ (x : Fin 512) (c : Fin 256), u (ix2 x c) = if c.val < x.val % 256 then 1 else 0)
    (hz : ∀ c : Fin 256, logits q k (ix2 r c) = (z (256 * j + c) : EReal))
    (e : Fin 128) (hv : ∀ x : Fin 256, v (ix3 0 x e) = V (256 * j + x)) :
    pvDiag q u k v (ix2 r e) = attend z V (256 * j + r.val % 256) (256 * j) (256 * (j + 1)) := by
  pointwise [pvDiag, weighted]
  refine (Finset.sum_congr rfl fun x _ => ?_).trans (sum_tile (fun s => (weight z (256 * j + r.val % 256) s : EReal) * V s) j)
  have hx := x.isLt
  rw [hv x, diag_at]
  unfold weight
  by_cases h : x.val < r.val % 256
  · rw [if_pos (by omega)]
    simp only [h, decide_true, Scalar.select, BitVec.ofBool_true, if_true]
    rw [afters_at _ u hu r x _ (fun y => keepMasked_at _ r y _ (hz y)), logBeta_at _ r x _ (hz x), ← EReal.coe_add]
    refine congrArg (fun y : ℝ => ((Real.exp y : ℝ) : EReal) * V (256 * j + x)) ?_
    congr 1
    rw [← sum_after z j x (r.val % 256) (by omega)]
    refine Finset.sum_congr rfl fun y _ => ?_
    by_cases h1 : x.val < y.val
    · simp only [h1, true_and, if_true]
    · simp only [h1, false_and, if_false]
  · rw [if_neg (by omega)]
    simp [h, Scalar.select]

end Cert.KernelIdeal.Attn
-- ==== Proof.Stick.Loop.lean ====
/-
  The loop over the earlier tiles: over the reals every trip is taken, and the accumulator ends with all earlier keys.
-/
module

public import proofs.«01_k».proof.Proof.Stick.Tile
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen Cert.Stick

theorem slab_emb (p p' : Fin 8) (x : (slab p').shape.Idx) (r : Fin 512) (e : Fin 128) (h : (slab p').emb x = ix3 p r e) :
    p' = p ∧ (x : S1x512x128.Idx) = ix3 0 r e := by
  have h0 : (slab p').off 0 + 1 * (x 0 : ℕ) = p := (congrArg Fin.val (congrFun h 0)).trans rfl
  have h1 : (slab p').off 1 + 1 * (x 1 : ℕ) = r := (congrArg Fin.val (congrFun h 1)).trans rfl
  have h2 : (slab p').off 2 + 1 * (x 2 : ℕ) = e := (congrArg Fin.val (congrFun h 2)).trans rfl
  have hx : (x 0 : ℕ) < 1 := (x 0).isLt
  have e0 : (slab p').off 0 = p' := rfl
  have e1 : (slab p').off 1 = 0 := rfl
  have e2 : (slab p').off 2 = 0 := rfl
  rw [e0] at h0; rw [e1] at h1; rw [e2] at h2
  refine ⟨Fin.ext (by omega), funext fun a => ?_⟩
  fin_cases a
  · exact Subsingleton.elim (α := Fin 1) _ _
  · exact Fin.ext (by show (x 1 : ℕ) = r; omega)
  · exact Fin.ext (by show (x 2 : ℕ) = e; omega)

theorem slab_mem (p : Fin 8) (r : Fin 512) (e : Fin 128) : (ix3 p r e : S8x512x128.Idx) ∈ (slab p).set := by
  refine Rect.mem_set_unit.mpr fun a => ?_
  fin_cases a
  · exact ⟨le_rfl, Nat.lt_succ_self _⟩
  · exact ⟨Nat.zero_le _, by have := r.isLt; show (r : ℕ) < 0 + 512; omega⟩
  · exact ⟨Nat.zero_le _, by have := e.isLt; show (e : ℕ) < 0 + 128; omega⟩

/-- A scratch buffer read at pair `p` is `p`'s slab. -/
theorem ofSlabs_at (g : Fin 8 → Vec Ideal S1x512x128 .f32) (p : Fin 8) (r : Fin 512) (e : Fin 128) :
    ofSlabs g (ix3 p r e) = g p (ix3 0 r e) := by
  unfold ofSlabs
  refine View.canon_eq_of_allAt _ _ _ ?_ ?_
  · refine ⟨⟨slab p, g p⟩, ?_, slab_mem p r e⟩
    fin_cases p <;> simp
  · have key : ∀ p' : Fin 8, View.RectAt (ix3 p r e : S8x512x128.Idx) (slab p') (g p') (g p (ix3 0 r e)) := by
      intro p' x hx
      obtain ⟨rfl, hx'⟩ := slab_emb p p' x r e hx
      exact congrArg (g p') hx'
    exact View.allAt_cons _ _ _ (key 7) <| View.allAt_cons _ _ _ (key 6) <| View.allAt_cons _ _ _ (key 5) <|
      View.allAt_cons _ _ _ (key 4) <| View.allAt_cons _ _ _ (key 3) <| View.allAt_cons _ _ _ (key 2) <|
      View.allAt_cons _ _ _ (key 1) <| View.allAt_cons _ _ _ (key 0) <| View.allAt_nil _ _

theorem top_gt (c : Fin 8 → FVec Ideal S512x1 .f32) (h : (⊥ : EReal) < c 7 (ix2 0 0)) : (⊥ : EReal) < topOf c := by
  unfold topOf
  pointwise [k0_pay2]
  refine lt_of_lt_of_le h ?_
  exact (Finset.le_fold_max _).mpr (.inr ⟨((0 : Fin 512), (0 : Fin 1)), Finset.mem_univ _, le_max_right _ _⟩)

theorem goOn_of_gt (x : EReal) (h : (⊥ : EReal) < x) : goOn (F := Ideal) x := by
  unfold goOn
  rw [IdealRules.named_const.ideal_named_scalar _ _ _ _ rfl]
  show BitVec.ofBool (decide ((⊥ : EReal) < x)) = 1#1
  simp [h]

/-- What the proof knows of one grid point's operands: the triangles, the logits of every tile, the values. -/
structure Reads (q : Fin 8 → FVec Ideal S512x128 .bf16) (u : FVec Ideal S512x256 .bf16) (xk xv : Vec Ideal S1x4096x1024 .bf16)
    (z : Fin 8 → Fin 512 → ℕ → ℝ) (V : Fin 8 → Fin 128 → ℕ → EReal) : Prop where
  tri : ∀ (x : Fin 512) (c : Fin 256), u (ix2 x c) = if c.val < x.val % 256 then 1 else 0
  logit : ∀ (j : Fin 16) (p : Fin 8) (r : Fin 512) (c : Fin 256),
    logits (q p) (View.ld xk (kv j p)) (ix2 r c) = (z p r (256 * j + c) : EReal)
  value : ∀ (j : Fin 16) (p : Fin 8) (x : Fin 256) (e : Fin 128),
    (View.ld xv (kv j p) : Vec Ideal S1x256x128 .bf16) (ix3 0 x e) = V p e (256 * j + x)

/-- The state with the tiles `n - 1, …, 0` still to take, at query tile `i`. -/
structure Good (z : Fin 8 → Fin 512 → ℕ → ℝ) (V : Fin 8 → Fin 128 → ℕ → EReal) (i n : ℕ) (s : St Ideal) : Prop where
  acc : ∀ (p : Fin 8) (r : Fin 512) (e : Fin 128),
    s.acc (ix3 p r e) = attend (z p r) (V p e) (256 * i + r.val % 256) (256 * n) (256 * (i + 1))
  sums : ∀ (p : Fin 8) (r : Fin 512) (e : Fin 128), s.sums (ix3 p r e) = (left (z p r) (256 * n) (256 * i + r.val % 256) : EReal)
  top : (⊥ : EReal) < s.top

variable {q : Fin 8 → FVec Ideal S512x128 .bf16} {u : FVec Ideal S512x256 .bf16} {xk xv : Vec Ideal S1x4096x1024 .bf16}
  {z : Fin 8 → Fin 512 → ℕ → ℝ} {V : Fin 8 → Fin 128 → ℕ → EReal}

theorem sumAt_at (x : Vec Ideal S8x512x128 .f32) (p : Fin 8) (r : Fin 512) (c : Fin 1) : sumAt x p (ix2 r c) = x (ix3 p r 0) := by
  pointwise [sumAt, col]

theorem sumSlab_at (c : FVec Ideal S512x1 .f32) (r : Fin 512) (e : Fin 128) : sumSlab c (ix3 0 r e) = c (ix2 r 0) := by
  pointwise [sumSlab]

theorem accSlab_at (a : FVec Ideal S512x128 .f32) (r : Fin 512) (e : Fin 128) : accSlab a (ix3 0 r e) = a (ix2 r e) := by
  pointwise [accSlab]

theorem cast_at (x : Vec Ideal S1x512x128 .f32) (r : Fin 512) (e : Fin 128) :
    shapeCast S512x128 x shapeCasts_S1x512x128_S512x128 (ix2 r e) = x (ix3 0 r e) := by
  pointwise

theorem slabOf_at (x : Vec Ideal S8x512x128 .f32) (p : Fin 8) (r : Fin 512) (e : Fin 128) :
    (shapeCast S512x128 (View.ld x (slab p) : Vec Ideal S1x512x128 .f32) shapeCasts_S1x512x128_S512x128 : FVec Ideal S512x128 .f32) (ix2 r e)
      = x (ix3 p r e) := by
  refine (cast_at _ r e).trans (congrArg x (funext fun a => Fin.ext ?_))
  have h : ∀ a, ((slab p).idx (ix3 (0 : Fin 1) r e : S1x512x128.Idx) a : ℕ) = (slab p).off a + 1 * ((ix3 (0 : Fin 1) r e : S1x512x128.Idx) a : ℕ) := fun _ => rfl
  rw [h]
  fin_cases a
  · show p.val + 1 * 0 = p.val
    omega
  · show 0 + 1 * r.val = r.val
    omega
  · show 0 + 1 * e.val = e.val
    omega

theorem addf1_at (a b : FVec Ideal S512x1 .f32) (i : S512x1.Idx) : addf a b i = (show EReal from a i) + (show EReal from b i) := rfl

theorem addf2_at (a b : FVec Ideal S512x128 .f32) (i : S512x128.Idx) : addf a b i = (show EReal from a i) + (show EReal from b i) := rfl

theorem step_sum (R : Reads q u xk xv z V) (i n : ℕ) (hn : n < 16) (hi : n + 1 ≤ i) (s : St Ideal) (G : Good z V i (n + 1) s)
    (p : Fin 8) (r : Fin 512) :
    addf (sumAt s.sums p) (sumTile (q p) (View.ld xk (kv ⟨n, hn⟩ p))) (ix2 r 0) = (left (z p r) (256 * n) (256 * i + r.val % 256) : EReal) := by
  refine (addf1_at _ _ _).trans ?_
  refine (congrArg₂ (· + ·) ((sumAt_at _ p r 0).trans (G.sums p r 0)) (sumTile_at (q p) _ (z p r) r n (fun c => R.logit ⟨n, hn⟩ p r c) 0)).trans ?_
  rw [← EReal.coe_add, add_comm, left_append _ (by omega) (by omega)]

theorem good_step (R : Reads q u xk xv z V) (i n : ℕ) (hn : n < 16) (hi : n + 1 ≤ i) (s : St Ideal) (G : Good z V i (n + 1) s) :
    Good z V i n (step q u xk xv ⟨n, hn⟩ s) where
  acc p r e := by
    unfold step
    dsimp only
    rw [ofSlabs_at]
    refine (accSlab_at _ r e).trans ?_
    refine (addf2_at _ _ _).trans ?_
    refine (congrArg₂ (· + ·) ((slabOf_at _ p r e).trans (G.acc p r e))
      (pvTile_at u (q p) _ _ (z p r) (V p e) r n R.tri (fun c => R.logit ⟨n, hn⟩ p r c) _ (256 * i + r.val % 256) (by omega)
        ((sumAt_at _ p r 0).trans (G.sums p r 0)) e (fun x => R.value ⟨n, hn⟩ p x e))).trans ?_
    rw [add_comm, attend_append _ _ _ (by omega) (by omega)]
  sums p r e := by
    unfold step
    dsimp only
    rw [ofSlabs_at]
    refine (sumSlab_at _ r e).trans ?_
    exact step_sum R i n hn hi s G p r
  top := by
    unfold step
    dsimp only
    refine top_gt _ ?_
    refine lt_of_lt_of_eq ?_ (step_sum R i n hn hi s G 7 0).symm
    exact EReal.bot_lt_coe _

theorem loop_acc (R : Reads q u xk xv z V) (i : ℕ) : ∀ (n : ℕ) (h : n ≤ 16) (hi : n ≤ i) (s : St Ideal), Good z V i n s →
    ∀ (p : Fin 8) (r : Fin 512) (e : Fin 128),
      loop q u xk xv n h s (ix3 p r e) = attend (z p r) (V p e) (256 * i + r.val % 256) 0 (256 * (i + 1))
  | 0, _, _, s, G, p, r, e => (G.acc p r e).trans (by rw [Nat.mul_zero])
  | n + 1, h, hi, s, G, p, r, e => by
    unfold loop
    rw [if_pos (goOn_of_gt _ G.top)]
    exact loop_acc R i n (by omega) (by omega) _ (good_step R i n (by omega) hi s G) p r e

theorem sum2_at (R : Reads q u xk xv z V) (i : ℕ) (h : i + 1 < 16) (h' : i < 16) (p : Fin 8) (r : Fin 512) :
    sum2 q xk ⟨i + 1, h⟩ ⟨i, h'⟩ p (ix2 r 0) = (left (z p r) (256 * i) (256 * (i + 1) + r.val % 256) : EReal) := by
  unfold sum2
  refine (addf1_at _ _ _).trans ?_
  refine (congrArg₂ (· + ·) (sumDiag_at (q p) _ (z p r) r (i + 1) (fun c => R.logit ⟨i + 1, h⟩ p r c) 0)
    (sumTile_at (q p) _ (z p r) r i (fun c => R.logit ⟨i, h'⟩ p r c) 0)).trans ?_
  rw [← EReal.coe_add, add_comm, left_append _ (by omega) (by omega)]

theorem good_start (R : Reads q u xk xv z V) (i : ℕ) (h : i + 1 < 16) (h' : i < 16) :
    Good z V (i + 1) i (start q u xk xv ⟨i + 1, h⟩ ⟨i, h'⟩) where
  acc p r e := by
    unfold start
    dsimp only
    rw [ofSlabs_at]
    refine (accSlab_at _ r e).trans ?_
    refine (addf2_at _ _ _).trans ?_
    refine (congrArg₂ (· + ·)
      (pvDiag_at u (q p) _ _ (z p r) (V p e) r (i + 1) R.tri (fun c => R.logit ⟨i + 1, h⟩ p r c) e (fun x => R.value ⟨i + 1, h⟩ p x e))
      (pvTile_at u (q p) _ _ (z p r) (V p e) r i R.tri (fun c => R.logit ⟨i, h'⟩ p r c) _ (256 * (i + 1) + r.val % 256) (by omega)
        (sumDiag_at (q p) _ (z p r) r (i + 1) (fun c => R.logit ⟨i + 1, h⟩ p r c) 0) e (fun x => R.value ⟨i, h'⟩ p x e))).trans ?_
    rw [add_comm, attend_append _ _ _ (by omega) (by omega)]
  sums p r e := by
    unfold start
    dsimp only
    rw [ofSlabs_at]
    refine (sumSlab_at _ r e).trans ?_
    exact sum2_at R i h h' p r
  top := by
    unfold start
    dsimp only
    exact top_gt _ (lt_of_lt_of_eq (EReal.bot_lt_coe _) (sum2_at R i h h' 7 0).symm)

/-- The accumulator of query tile `i`: all the keys up to the tile's end, weighted. -/
theorem accOf_at (R : Reads q u xk xv z V) : ∀ (i : Fin 16) (p : Fin 8) (r : Fin 512) (e : Fin 128),
    accOf q u xk xv i (ix3 p r e) = attend (z p r) (V p e) (256 * i + r.val % 256) 0 (256 * (i + 1))
  | ⟨0, h⟩, p, r, e => by
    show accFirst q u xk xv (ix3 p r e) = _
    unfold accFirst
    rw [ofSlabs_at]
    refine (accSlab_at _ r e).trans ?_
    exact pvDiag_at u (q p) _ _ (z p r) (V p e) r 0 R.tri (fun c => R.logit 0 p r c) e (fun x => R.value 0 p x e)
  | ⟨i + 1, h⟩, p, r, e => loop_acc R (i + 1) i (by omega) (by omega) _ (good_start R i h (by omega)) p r e

end Cert.KernelIdeal.Attn
-- ==== Proof.Stick.Block.lean ====
/-
  One grid point's block of results: every lane is its head's weighted values over all keys.
-/
module

public import proofs.«01_k».proof.Proof.Stick.Loop

@[expose] public section

set_option maxRecDepth 16384

noncomputable section

namespace Cert.KernelIdeal.Attn

open Idealize.ShloMosaic Idealize.ShloMosaic.TcCoe
open Cert.KernelIdeal Cert.KernelIdeal.Gen Cert.Stick

theorem lane_emb (p p' : Fin 8) (x : (lane p').shape.Idx) (r : Fin 256) (e : Fin 128)
    (h : (lane p').emb x = (ix3 (0 : Fin 1) r (⟨128 * p + e, by omega⟩ : Fin 1024) : S1x256x1024.Idx)) :
    p' = p ∧ (x : S1x256x128.Idx) = ix3 0 r e := by
  have h1 : (lane p').off 1 + 1 * (x 1 : ℕ) = r := (congrArg Fin.val (congrFun h 1)).trans rfl
  have h2 : (lane p').off 2 + 1 * (x 2 : ℕ) = 128 * p + e := (congrArg Fin.val (congrFun h 2)).trans rfl
  have hx : (x 2 : ℕ) < 128 := (x 2).isLt
  have he := e.isLt
  have e1 : (lane p').off 1 = 0 := rfl
  have e2 : (lane p').off 2 = 128 * p' := rfl
  rw [e1] at h1; rw [e2] at h2
  refine ⟨Fin.ext (by omega), funext fun a => ?_⟩
  fin_cases a
  · exact Subsingleton.elim (α := Fin 1) _ _
  · exact Fin.ext (by show (x 1 : ℕ) = r; omega)
  · exact Fin.ext (by show (x 2 : ℕ) = e; omega)

theorem lane_mem (p : Fin 8) (r : Fin 256) (e : Fin 128) :
    (ix3 (0 : Fin 1) r (⟨128 * p + e, by omega⟩ : Fin 1024) : S1x256x1024.Idx) ∈ (lane p).set := by
  refine Rect.mem_set_unit.mpr fun a => ?_
  fin_cases a
  · exact ⟨le_rfl, Nat.lt_succ_self _⟩
  · exact ⟨Nat.zero_le _, by have := r.isLt; show (r : ℕ) < 0 + 256; omega⟩
  · exact ⟨Nat.le_add_right _ _, by have := e.isLt; show 128 * (p : ℕ) + e < 128 * p + 128; omega⟩

/-- A block of results read at pair `p`'s lanes is `p`'s part. -/
theorem ofLanes_at (g : Fin 8 → Vec Ideal S1x256x128 .bf16) (p : Fin 8) (r : Fin 256) (e : Fin 128) :
    ofLanes g (ix3 (0 : Fin 1) r (⟨128 * p + e, by omega⟩ : Fin 1024)) = g p (ix3 0 r e) := by
  unfold ofLanes
  refine View.canon_eq_of_allAt _ _ _ ?_ ?_
  · refine ⟨⟨lane p, g p⟩, ?_, lane_mem p r e⟩
    fin_cases p <;> simp
  · have key : ∀ p' : Fin 8, View.RectAt (ix3 (0 : Fin 1) r (⟨128 * p + e, by omega⟩ : Fin 1024) : S1x256x1024.Idx) (lane p') (g p')
        (g p (ix3 0 r e)) := by
      intro p' x hx
      obtain ⟨rfl, hx'⟩ := lane_emb p p' x r e hx
      exact congrArg (g p') hx'
    exact View.allAt_cons _ _ _ (key 7) <| View.allAt_cons _ _ _ (key 6) <| View.allAt_cons _ _ _ (key 5) <|
      View.allAt_cons _ _ _ (key 4) <| View.allAt_cons _ _ _ (key 3) <| View.allAt_cons _ _ _ (key 2) <|
      View.allAt_cons _ _ _ (key 1) <| View.allAt_cons _ _ _ (key 0) <| View.allAt_nil _ _

theorem stackQ_at (q : Vec Ideal S1x256x128 .bf16) (r : Fin 512) (e : Fin 128) :
    stackQ q (ix2 r e) = if r.val < 256 then (if e.val < 64 then q (ix3 0 ⟨r.val % 256, by omega⟩ e) else 0)
      else (if e.val < 64 then 0 else q (ix3 0 ⟨r.val % 256, by omega⟩ e)) := by
  have hr := r.isLt
  pointwise [stackQ, k0_pay154, k0_pay151]
  by_cases h : (r : ℕ) < 256
  · rw [dif_pos h, if_pos h]
    simp (disch := word_cmp_side) only [hlo_ix]
    simp only [Nat.mod_eq_of_lt h]
  · rw [dif_neg h, if_neg h]
    simp (disch := word_cmp_side) only [hlo_ix]
    simp only [show r.val % 256 = r.val - 256 by omega]

theorem mergeOut_at (a b : Vec Ideal S1x256x128 .f32) (r : Fin 256) (e : Fin 128) :
    mergeOut a b (ix3 0 r e) = if e.val < 64 then a (ix3 0 r e) else b (ix3 0 r e) := by
  pointwise [mergeOut, k0_pay169, k0_pay151]
  simp (disch := word_cmp_side) only [hlo_ix]

theorem upper_at (x : Vec Ideal S8x512x128 .f32) (p : Fin 8) (r : Fin 256) (e : Fin 128) :
    (View.ld x (upper p) : Vec Ideal S1x256x128 .f32) (ix3 0 r e) = x (ix3 p ⟨r, by omega⟩ e) := by
  refine congrArg x (funext fun a => Fin.ext ?_)
  have h : ∀ a, ((upper p).idx (ix3 (0 : Fin 1) r e : S1x256x128.Idx) a : ℕ) = (upper p).off a + 1 * ((ix3 (0 : Fin 1) r e : S1x256x128.Idx) a : ℕ) := fun _ => rfl
  rw [h]
  fin_cases a
  · show p.val + 1 * 0 = p.val
    omega
  · show 0 + 1 * r.val = r.val
    omega
  · show 0 + 1 * e.val = e.val
    omega

theorem lower_at (x : Vec Ideal S8x512x128 .f32) (p : Fin 8) (r : Fin 256) (e : Fin 128) :
    (View.ld x (lower p) : Vec Ideal S1x256x128 .f32) (ix3 0 r e) = x (ix3 p ⟨256 + r, by omega⟩ e) := by
  refine congrArg x (funext fun a => Fin.ext ?_)
  have h : ∀ a, ((lower p).idx (ix3 (0 : Fin 1) r e : S1x256x128.Idx) a : ℕ) = (lower p).off a + 1 * ((ix3 (0 : Fin 1) r e : S1x256x128.Idx) a : ℕ) := fun _ => rfl
  rw [h]
  fin_cases a
  · show p.val + 1 * 0 = p.val
    omega
  · show 256 + 1 * r.val = 256 + r.val
    omega
  · show 0 + 1 * e.val = e.val
    omega

theorem laneOf_at (x : Vec Ideal S1x256x1024 .bf16) (p : Fin 8) (r : Fin 256) (e : Fin 128) :
    (View.ld x (lane p) : Vec Ideal S1x256x128 .bf16) (ix3 0 r e) = x (ix3 0 r ⟨128 * p + e, by omega⟩) := by
  refine congrArg x (funext fun a => Fin.ext ?_)
  have h : ∀ a, ((lane p).idx (ix3 (0 : Fin 1) r e : S1x256x128.Idx) a : ℕ) = (lane p).off a + 1 * ((ix3 (0 : Fin 1) r e : S1x256x128.Idx) a : ℕ) := fun _ => rfl
  rw [h]
  fin_cases a
  · rfl
  · show 0 + 1 * r.val = r.val
    omega
  · show 128 * p.val + 1 * e.val = 128 * p.val + e.val
    omega

theorem kvOf_at (x : Vec Ideal S1x4096x1024 .bf16) (j : Fin 16) (p : Fin 8) (r : Fin 256) (e : Fin 128) :
    (View.ld x (kv j p) : Vec Ideal S1x256x128 .bf16) (ix3 0 r e) = x (ix3 0 ⟨256 * j + r, by omega⟩ ⟨128 * p + e, by omega⟩) := by
  refine congrArg x (funext fun a => Fin.ext ?_)
  have h : ∀ a, ((kv j p).idx (ix3 (0 : Fin 1) r e : S1x256x128.Idx) a : ℕ) = (kv j p).off a + 1 * ((ix3 (0 : Fin 1) r e : S1x256x128.Idx) a : ℕ) := fun _ => rfl
  rw [h]
  fin_cases a
  · rfl
  · show 256 * j.val + 1 * r.val = 256 * j.val + r.val
    omega
  · show 128 * p.val + 1 * e.val = 128 * p.val + e.val
    omega

theorem logits_at (q : FVec Ideal S512x128 .bf16) (k : Vec Ideal S1x256x128 .bf16) (r : Fin 512) (c : Fin 256) :
    logits q k (ix2 r c) = ∑ x : Fin 128, q (ix2 r x) * (show EReal from k (ix3 0 c x)) := by
  pointwise [logits]

theorem tri_at (xu : Vec Ideal S512x256 .bf16) (x : Fin 512) (c : Fin 256) : tri xu (ix2 x c) = xu (ix2 x c) := by
  pointwise [tri, k0_pay152]

variable {xq : Vec Ideal S1x256x1024 .bf16} {xk xv : Vec Ideal S1x4096x1024 .bf16} {xu : Vec Ideal S512x256 .bf16}
  {qr kr : ℕ → ℕ → ℝ} {W : ℕ → ℕ → EReal}

/-- A grid point's blocks of finite queries and keys are what the loop's proof asks for. -/
theorem reads (hq : ∀ (r : Fin 256) (d : Fin 1024), xq (ix3 0 r d) = ((qr r d * (1 / 8) : ℝ) : EReal))
    (hk : ∀ (s : Fin 4096) (d : Fin 1024), xk (ix3 0 s d) = (kr s d : EReal))
    (hv : ∀ (s : Fin 4096) (d : Fin 1024), xv (ix3 0 s d) = W d s)
    (hu : ∀ (x : Fin 512) (c : Fin 256), xu (ix2 x c) = if c.val < x.val % 256 then 1 else 0) :
    Reads (queries xq) (tri xu) xk xv (fun p r s => logit (qr (r.val % 256)) (kr s) (2 * p + r.val / 256)) (fun p e => W (128 * p + e)) where
  tri x c := (tri_at xu x c).trans (hu x c)
  value j p x e := (kvOf_at xv j p x e).trans (hv _ _)
  logit j p r c := by
    refine (logits_at _ _ r c).trans ?_
    by_cases h : r.val < 256
    · rw [show 2 * p.val + r.val / 256 = 2 * p.val by omega, ← logit_first]
      refine Finset.sum_congr rfl fun x _ => congrArg₂ (· * ·) ?_ ((kvOf_at xk j p c x).trans (hk _ _))
      refine (stackQ_at _ r x).trans ?_
      rw [if_pos h]
      refine if_congr Iff.rfl ?_ rfl
      exact (laneOf_at xq p _ x).trans (hq _ _)
    · rw [show 2 * p.val + r.val / 256 = 2 * p.val + 1 by omega, ← logit_second]
      refine Finset.sum_congr rfl fun x _ => congrArg₂ (· * ·) ?_ ((kvOf_at xk j p c x).trans (hk _ _))
      refine (stackQ_at _ r x).trans ?_
      rw [if_neg h]
      refine if_congr Iff.rfl rfl ?_
      exact (laneOf_at xq p _ x).trans (hq _ _)

/-- The block of results of query tile `i` at row `r`, lane `d`. -/
theorem outBlock_at (hq : ∀ (r : Fin 256) (d : Fin 1024), xq (ix3 0 r d) = ((qr r d * (1 / 8) : ℝ) : EReal))
    (hk : ∀ (s : Fin 4096) (d : Fin 1024), xk (ix3 0 s d) = (kr s d : EReal))
    (hv : ∀ (s : Fin 4096) (d : Fin 1024), xv (ix3 0 s d) = W d s)
    (hu : ∀ (x : Fin 512) (c : Fin 256), xu (ix2 x c) = if c.val < x.val % 256 then 1 else 0)
    (i : Fin 16) (r : Fin 256) (d : Fin 1024) :
    outBlock i xq xk xv xu (ix3 0 r d) = attend (fun s => logit (qr r) (kr s) (d / 64)) (W d) (256 * i + r) 0 4096 := by
  have hi := i.isLt
  have hr := r.isLt
  have hd := d.isLt
  have R := reads hq hk hv hu
  have e0 : d = ⟨128 * (⟨d / 128, by omega⟩ : Fin 8) + (⟨d % 128, by omega⟩ : Fin 128), by show 128 * (d.val / 128) + d.val % 128 < 1024; omega⟩ :=
    Fin.ext (by show d.val = 128 * (d.val / 128) + d.val % 128; omega)
  have hs : attend (fun s => logit (qr r) (kr s) (d / 64)) (W d) (256 * i + r) 0 (256 * (i + 1))
      = attend (fun s => logit (qr r) (kr s) (d / 64)) (W d) (256 * i + r) 0 4096 := by
    rw [← attend_append _ _ _ (a := 0) (b := 256 * (i.val + 1)) (c := 4096) (by omega) (by omega),
      attend_later _ _ _ (256 * (i.val + 1)) 4096 (by omega), add_zero]
  refine Eq.trans ?_ hs
  unfold outBlock
  refine (congrArg (fun d => ofLanes _ (ix3 (0 : Fin 1) r d)) e0).trans ?_
  refine (ofLanes_at _ ⟨d / 128, by omega⟩ r ⟨d % 128, by omega⟩).trans ?_
  refine (mergeOut_at _ _ r _).trans ?_
  by_cases h : d.val % 128 < 64
  · rw [if_pos h]
    refine (upper_at _ _ r _).trans ((accOf_at R i _ _ _).trans ?_)
    show attend (fun s => logit (qr (r.val % 256)) (kr s) (2 * (d.val / 128) + r.val / 256)) (W (128 * (d.val / 128) + d.val % 128)) (256 * i + r.val % 256) 0 _ = _
    rw [Nat.mod_eq_of_lt hr, show 2 * (d.val / 128) + r.val / 256 = d.val / 64 by omega, show 128 * (d.val / 128) + d.val % 128 = d.val by omega]
  · rw [if_neg h]
    refine (lower_at _ _ r _).trans ((accOf_at R i _ _ _).trans ?_)
    show attend (fun s => logit (qr ((256 + r.val) % 256)) (kr s) (2 * (d.val / 128) + (256 + r.val) / 256)) (W (128 * (d.val / 128) + d.val % 128)) (256 * i + (256 + r.val) % 256) 0 _ = _
    rw [show (256 + r.val) % 256 = r.val by omega, show 2 * (d.val / 128) + (256 + r.val) / 256 = d.val / 64 by omega, show 128 * (d.val / 128) + d.val % 128 = d.val by omega]

end Cert.KernelIdeal.Attn
-- ==== Proof.Stick.Value.lean ====
/-
  The attention's result array: every grid point's block is the reference at the block's queries.
-/
module

public import proofs.«01_k».proof.Proof.Attn.Frame
public import proofs.«01_k».proof.Proof.Stick.Block
public import Idealize.ShloMosaic.Lib.Pipeline.ValueKit
public import Idealize.ShloMosaic.Lib.StableHlo.ReadAt

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Stick

variable (m : (ℓ : Loc nD τ sig) → Buf (Elt Ideal) ℓ)

/-- The queries. -/
abbrev argQ (c : Dev nD) : FVec Ideal S8x4096x1024 .bf16 := m ((c.tc : Thread nD τ).loc main_arg0)
/-- The keys. -/
abbrev argK (c : Dev nD) : FVec Ideal S8x4096x1024 .bf16 := m ((c.tc : Thread nD τ).loc main_arg1)
/-- The values. -/
abbrev argV (c : Dev nD) : FVec Ideal S8x4096x1024 .bf16 := m ((c.tc : Thread nD τ).loc main_arg2)

/-- The queries at an eighth, as the launch finds them. -/
theorem V_q (c : Dev nD) (b : Fin 8) (t : Fin 4096) (d : Fin 1024) :
    (V m c main_v1 : FVec Ideal S8x4096x1024 .bf16) (ix3 b t d) = argQ m c (ix3 b t d) * Ideal.ofBits .bf16 0x3E00#16 := by
  unfold V
  simp only [hostOps0, hostOps0_1, hostOps0_2, List.flatten_cons, List.flatten_nil, List.append_nil, List.cons_append, List.nil_append]
  after_results
  pointwise []

/-- The strict lower triangle's comparison. -/
theorem below_at (x j : ℕ) (hx : x < 256) (hj : j < 256) :
    Scalar.select (IntOp.cmpi CmpIPredicate.sge (IntOp.addi (BitVec.ofNat 32 x) 4294967295#32) (BitVec.ofNat 32 j)) (1 : EReal) 0 = if j < x then 1 else 0 := by
  rcases Nat.eq_zero_or_pos x with h0 | h0
  · have e : IntOp.cmpi CmpIPredicate.sge (IntOp.addi (BitVec.ofNat 32 x) 4294967295#32) (BitVec.ofNat 32 j) = 0#1 := by
      rw [h0]
      exact (by decide +kernel : ∀ j : Fin 256, IntOp.cmpi CmpIPredicate.sge (IntOp.addi (BitVec.ofNat 32 0) 4294967295#32) (BitVec.ofNat 32 ↑j) = 0#1) ⟨j, hj⟩
    rw [e, if_neg (by omega)]
    rfl
  · have e : IntOp.addi (BitVec.ofNat 32 x) 4294967295#32 = BitVec.ofNat 32 (x - 1) := by
      refine BitVec.eq_of_toNat_eq ?_
      show (BitVec.ofNat 32 x + 4294967295#32).toNat = _
      rw [BitVec.toNat_add, BitVec.toNat_ofNat, BitVec.toNat_ofNat, BitVec.toNat_ofNat]
      omega
    rw [e]
    simp (disch := word_cmp_side) only [hlo_ix]
    by_cases h : j < x
    · rw [if_pos h, if_pos (by omega)]
    · rw [if_neg h, if_neg (by omega)]

/-- A buffer's contents at the value's type. -/
theorem toBuf_v3 (w : FVec Ideal S256x256 .f32) : ((.of main_v3 : StableHlo.TRef sig ⟨S256x256, .f32⟩).toBuf (Val := Elt Ideal) w : FVec Ideal S256x256 .f32) = w := rfl
theorem ofBuf_v2 (w : FVec Ideal S256x256 .f32) : (.of main_v2 : StableHlo.TRef sig ⟨S256x256, .f32⟩).ofBuf (Val := Elt Ideal) w = w := rfl

/-- The triangle's operations, from any contents. -/
theorem after_tri (E : (b : DevRef τ sig) → b.ty.Contents (Elt Ideal)) :
    (StableHlo.after hostOps0_1 E main_v3 : FVec Ideal S256x256 .f32) = select (cmpi .sge (addi (iotaInDim S256x256 32 0) (broadcastInDim S256x256 ![] bcast_S_S256x256 (constantI S_ 32 4294967295#32))) (iotaInDim S256x256 32 1))
    (E main_v2 : FVec Ideal S256x256 .f32)
    (broadcastInDim S256x256 ![] bcast_S_S256x256 (constant (F := Ideal) S_ .f32 0x00000000#32)) := by
  unfold hostOps0_1
  after_results
  refine (toBuf_v3 _).trans ?_
  rw [ofBuf_v2]
  rw [StableHlo.TRef.ofBuf_toBuf]
  rfl
/-- A matrix on top of itself. -/
def doubled (x : FVec Ideal S256x256 .f32) : FVec Ideal S512x256 .bf16 :=
  truncf .bf16 (concatenate S512x256 0 [⟨S256x256, x⟩, ⟨S256x256, x⟩] concatenates_S256x256_S256x256_S512x256_d0) bitsLt_bf16_f32

theorem after_double (E : (b : DevRef τ sig) → b.ty.Contents (Elt Ideal)) :
    (StableHlo.after hostOps0_2 E main_v5 : FVec Ideal S512x256 .bf16)
      = doubled (E main_v3) := by
  unfold hostOps0_2
  after_results
  rfl

theorem after_ones (E : (b : DevRef τ sig) → b.ty.Contents (Elt Ideal)) :
    (StableHlo.after hostOps0 E main_v2 : FVec Ideal S256x256 .f32) = broadcastInDim S256x256 ![] bcast_S_S256x256 (constant (F := Ideal) S_ .f32 0x3F800000#32) := by
  unfold hostOps0
  after_results

/-- The doubled triangle, as the launch finds it. -/
theorem V_u (c : Dev nD) (x : Fin 512) (j : Fin 256) :
    (V m c main_v5 : FVec Ideal S512x256 .bf16) (ix2 x j) = (if j.val < x.val % 256 then 1 else 0 : EReal) := by
  have e : (V m c main_v5 : FVec Ideal S512x256 .bf16) = StableHlo.after hostOps0_2 (StableHlo.after hostOps0_1 (StableHlo.after hostOps0 (fun b => m (c, b)))) main_v5 := by
    unfold V
    rw [List.flatten_cons, List.flatten_cons, List.flatten_cons, List.flatten_nil, List.append_nil, StableHlo.after_append, StableHlo.after_append]
  refine (congrFun (e.trans (after_double _)) (ix2 x j)).trans ?_
  rw [after_tri, after_ones]
  pointwise [doubled]
  have hx := x.isLt
  split
  · next h =>
    exact (below_at _ _ h j.isLt).trans (by rw [Nat.mod_eq_of_lt h])
  · next h =>
    exact (below_at _ _ (by omega) j.isLt).trans (by rw [show x.val % 256 = x.val - 256 by omega])

theorem idx : ∀ t : Fin (cfg0 (F := Ideal)).N, win0_0.index t = ![t.val / 16, t.val % 16, 0] ∧ win0_1.index t = ![t.val / 16, 0, 0]
    ∧ win0_2.index t = ![t.val / 16, 0, 0] ∧ win0_3.index t = ![0, 0] ∧ win0_4.index t = ![t.val / 16, t.val % 16, 0] ∧ (tile (grid0.coords t)).val = t.val % 16 :=
  (by decide +kernel : ∀ t : Fin grid0.N, _)

/-- Entry `(b, t, d)` of a real array, the coordinates as numbers. -/
def at3 (x : FVec Ideal S8x4096x1024 .bf16) (b : Fin 8) (t d : ℕ) : EReal := if h : t < 4096 ∧ d < 1024 then x (ix3 b ⟨t, h.1⟩ ⟨d, h.2⟩) else 0

/-- The result over queries, keys and values. -/
def G (q k v : FVec Ideal S8x4096x1024 .bf16) : FVec Ideal S8x4096x1024 .bf16 := fun i =>
  attend (fun s => logit (fun d => (at3 q (i 0) (i 1 : Fin 4096) d).toReal) (fun d => (at3 k (i 0) s d).toReal) ((i 2 : Fin 1024) / 64))
    (fun s => at3 v (i 0) s (i 2 : Fin 1024)) (i 1 : Fin 4096) 0 4096

theorem at3_fin (x : FVec Ideal S8x4096x1024 .bf16) (b : Fin 8) (t : Fin 4096) (d : Fin 1024) : at3 x b t d = x (ix3 b t d) :=
  dif_pos ⟨t.isLt, d.isLt⟩

theorem at3_real (x : FVec Ideal S8x4096x1024 .bf16) (hx : ∀ i, ∃ r : ℝ, x i = (r : EReal)) (b : Fin 8) (t : Fin 4096) (d : Fin 1024) :
    x (ix3 b t d) = ((at3 x b t d).toReal : EReal) := by
  obtain ⟨r, h⟩ := hx (ix3 b t d)
  rw [at3_fin, h, EReal.toReal_coe]

theorem N_eq : (cfgs (F := Ideal) 0).grid.N = 128 := by decide

/-- The batch entry of grid point `t`. -/
abbrev batch (t : Fin (cfg0 (F := Ideal)).N) : Fin 8 := ⟨t.val / 16, by have : t.val < 128 := lt_of_lt_of_eq t.isLt N_eq; omega⟩

/-- Row `r` of grid point `t`'s queries. -/
abbrev row (t : Fin (cfg0 (F := Ideal)).N) (r : Fin 256) : Fin 4096 := ⟨256 * (t.val % 16) + r, by omega⟩

theorem blk_q (c : Dev nD) (t : Fin (cfg0 (F := Ideal)).N) (r : Fin 256) (d : Fin 1024) :
    iblk m c 0 t (ix3 0 r d) = (V m c main_v1 : FVec Ideal S8x4096x1024 .bf16) (ix3 (batch t) (row t r) d) := by
  blk_ext [iblk, idx t]

theorem blk_k (c : Dev nD) (t : Fin (cfg0 (F := Ideal)).N) (s : Fin 4096) (d : Fin 1024) :
    iblk m c 1 t (ix3 0 s d) = argK m c (ix3 (batch t) s d) := by
  refine Eq.trans (b := (V m c main_arg1 : FVec Ideal S8x4096x1024 .bf16) (ix3 (batch t) s d)) ?_ (congrFun (V_main_arg1 m c) _)
  blk_ext [iblk, idx t]

theorem blk_v (c : Dev nD) (t : Fin (cfg0 (F := Ideal)).N) (s : Fin 4096) (d : Fin 1024) :
    iblk m c 2 t (ix3 0 s d) = argV m c (ix3 (batch t) s d) := by
  refine Eq.trans (b := (V m c main_arg2 : FVec Ideal S8x4096x1024 .bf16) (ix3 (batch t) s d)) ?_ (congrFun (V_main_arg2 m c) _)
  blk_ext [iblk, idx t]

theorem blk_u (c : Dev nD) (t : Fin (cfg0 (F := Ideal)).N) (x : Fin 512) (j : Fin 256) :
    iblk m c 3 t (ix2 x j) = (V m c main_v5 : FVec Ideal S512x256 .bf16) (ix2 x j) := by
  blk_ext [iblk, idx t]

theorem eighth : Ideal.ofBits .bf16 0x3E00#16 = ((1 / 8 : ℝ) : EReal) := by
  simp [Ideal.ofBits, Ideal.ieee, -EReal.coe_mul]; norm_num

variable {m} in
set_option maxHeartbeats 1600000 in
theorem final (c : Dev nD) (hq : ∀ i, ∃ r : ℝ, argQ m c i = (r : EReal)) (hk : ∀ i, ∃ r : ℝ, argK m c i = (r : EReal)) :
    (dats m 0 c).arrAt 4 (cfg0 (F := Ideal)).N = G (argQ m c) (argK m c) (argV m c) := by
  refine (dats m 0 c).arrAt_eq_of_covers 4 _ (by decide +kernel) fun t _ y => ?_
  blk_simp
  rw [after_4]
  have hy : y = ix3 (0 : Fin 1) (y 1 : Fin 256) (y 2 : Fin 1024) := by
    refine (eq_ix3 y).trans ?_
    exact congrArg (fun z : Fin 1 => ix3 z (y 1 : Fin 256) (y 2 : Fin 1024)) (Subsingleton.elim (α := Fin 1) _ _)
  rw [hy, oblk]
  have e := outBlock_at (i := tile (grid0.coords t)) (r := (y 1 : Fin 256)) (d := (y 2 : Fin 1024))
    (xq := iblk m c 0 t) (xk := iblk m c 1 t) (xv := iblk m c 2 t) (xu := iblk m c 3 t)
    (qr := fun r d => (at3 (argQ m c) (batch t) (256 * (t.val % 16) + r) d).toReal)
    (kr := fun s d => (at3 (argK m c) (batch t) s d).toReal)
    (W := fun d s => at3 (argV m c) (batch t) s d)
    (fun r d => ?_) (fun s d => ?_) (fun s d => ?_) (fun x j => ?_)
  · refine e.trans ?_
    have hp : (win0_4.blk t).view.emb (ix3 (0 : Fin 1) (y 1 : Fin 256) (y 2 : Fin 1024)) = ix3 (batch t) (row t (y 1)) (y 2 : Fin 1024) := by
      blk_ext [idx t]
    refine Eq.trans ?_ (congrArg (G (argQ m c) (argK m c) (argV m c)) hp.symm)
    rw [(idx t).2.2.2.2.2]
    rfl
  · rw [blk_q, V_q, eighth, EReal.coe_mul]
    exact congrArg (· * ((1 / 8 : ℝ) : EReal)) (at3_real (argQ m c) hq (batch t) (row t r) d)
  · rw [blk_k]
    exact at3_real (argK m c) hk (batch t) s d
  · rw [blk_v]
    exact (at3_fin (argV m c) (batch t) s d).symm
  · rw [blk_u]
    exact V_u m c x j

end Cert.KernelIdeal.Attn
-- ==== Proof.Stick.Claims.lean ====
/-
  The attention over finite queries and keys: its result against the reference's.
-/
module

public import proofs.«01_k».proof.Defs
public import proofs.«01_k».proof.Proof.Attn.Claims
public import proofs.«01_k».proof.Proof.Stick.Ref
public import proofs.«01_k».proof.Proof.Stick.Value
public import Idealize.ShloMosaic.Lib.ReduceAll

@[expose] public section

set_option maxRecDepth 16384

noncomputable section

namespace Cert.Proof.Stick

open Idealize.ShloMosaic Idealize.ShloMosaic.TcCoe Idealize.SL.Sem
open Cert.Stick

/-- The precondition's shape relations. -/
theorem facts : Cert.Pre_finite_qk.Facts := ⟨by decide, by decide, by decide⟩

attribute [local instance] facts

theorem frame_ideal : Cert.quiescent_KernelIdeal_pre_finite_qk := fun m ρ _ => Cert.KernelIdeal.Attn.frame m ρ

theorem frame_reference : Cert.quiescent_ReferenceIdeal_pre_finite_qk := fun m ρ _ => Cert.Proof.Attn.frame_reference m ρ trivial

/-- An extended real whose absolute value is below infinity is a real. -/
theorem real_of_lt (x : EReal) (h : FloatOps.cmpf (F := Ideal) (φ := .bf16) .olt (FloatOps.hostAbsf (F := Ideal) (φ := .bf16) x) (Ideal.ofBits .bf16 0x7F80#16) = 1#1) :
    ∃ r : ℝ, x = (r : EReal) := by
  have ht : Ideal.ofBits .bf16 0x7F80#16 = ⊤ := by
    simp [Ideal.ofBits, Ideal.ieee]
  have hb : ¬ max x (-x) < ⊤ → False := fun hn => by
    rw [ht] at h
    have e : FloatOps.cmpf (F := Ideal) (φ := .bf16) .olt (FloatOps.hostAbsf (F := Ideal) (φ := .bf16) x) (⊤ : EReal) = BitVec.ofBool (decide (max x (-x) < ⊤)) := rfl
    rw [e, decide_eq_false hn] at h
    exact absurd h (by decide)
  induction x using EReal.rec with
  | bot => exact (hb (by simp)).elim
  | coe r => exact ⟨r, rfl⟩
  | top => exact (hb (by simp)).elim

theorem real_of_pre (q k v : FVec Ideal Cert.Pre_finite_qk.S8x4096x1024 .bf16) (h : Cert.Pre_finite_qk.fn (F := Ideal) q k v = fun _ => 1#1) :
    (∀ i, ∃ r : ℝ, q i = (r : EReal)) ∧ ∀ i, ∃ r : ℝ, k i = (r : EReal) := by
  have h0 := congrFun h ix0
  have h1 := IntOp.andi_eq_one.1 (show IntOp.andi _ _ = 1#1 from h0)
  haveI : Subsingleton Cert.Pre_finite_qk.S_.Idx := ⟨fun a b => funext fun i => i.elim0⟩
  exact ⟨fun i => real_of_lt _ (Host.reduce_andi_all _ _ _ _ _ h1.1 i), fun i => real_of_lt _ (Host.reduce_andi_all _ _ _ _ _ h1.2 i)⟩

theorem algebraic : Cert.algebraic_KernelIdeal_ReferenceIdeal_pre_finite_qk := by
  intro m ρ m' ρ' hpre hag
  have hr := fun c => real_of_pre _ _ _ (hpre c)
  refine ⟨fun c => Cert.KernelIdeal.Attn.G (Cert.KernelIdeal.Attn.argQ m c) (Cert.KernelIdeal.Attn.argK m c) (Cert.KernelIdeal.Attn.argV m c), ?_, ?_⟩
  · exact (θ_run Cert.KernelIdeal.defs _ _).mono
      (fun _ h c => ⟨(h.1 c).1.trans (Cert.KernelIdeal.Attn.final c (hr c).1 (hr c).2), (h.1 c).2⟩)
      (Cert.KernelIdeal.Attn.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2⟩ := hag c
    refine (Cert.ReferenceIdeal.Attn.res_eq m' c).trans ?_
    rw [h0, h1, h2]
    funext i
    refine (congrArg _ (eq_ix3 i)).trans ?_
    exact Cert.ReferenceIdeal.Attn.result_at (i 0 : Fin 8) (i 1 : Fin 4096) _ _ _
      (fun t d => (Cert.KernelIdeal.Attn.at3 (Cert.KernelIdeal.Attn.argQ m c) (i 0) t d).toReal)
      (fun t d => (Cert.KernelIdeal.Attn.at3 (Cert.KernelIdeal.Attn.argK m c) (i 0) t d).toReal)
      (fun d t => Cert.KernelIdeal.Attn.at3 (Cert.KernelIdeal.Attn.argV m c) (i 0) t d)
      (fun t d => Cert.KernelIdeal.Attn.at3_real _ (hr c).1 (i 0) t d)
      (fun t d => Cert.KernelIdeal.Attn.at3_real _ (hr c).2 (i 0) t d)
      (fun t d => (Cert.KernelIdeal.Attn.at3_fin _ (i 0) t d).symm) (i 2 : Fin 1024)

end Cert.Proof.Stick
-- ==== Proof.Ffn.Spec.lean ====
/-
  The feed-forward sublayer of one token, over the reals with both infinities: root-mean-square norm, modulation, the gated
  hidden layer, its projection, and the sum over a hidden axis taken tile by tile.
-/
module

public import Idealize.ShloMosaic.Lib.Pointwise
public import Idealize.ShloMosaic.Lib.Claim

@[expose] public section

set_option maxRecDepth 16384

noncomputable section

namespace Cert.Ffn

open Idealize.ShloMosaic

/-- The reciprocal of a row's root mean square. -/
def rinv (x : Fin 1024 → EReal) : EReal :=
  Ideal.rsqrt (Ideal.div (∑ d, x d * x d) (Ideal.ofBits .f32 0x44800000#32) + Ideal.ofBits .f32 0x358637BD#32)

/-- A row normed, scaled by `g` and modulated. -/
def modulated (x g sh sc : Fin 1024 → EReal) (d : Fin 1024) : EReal :=
  x d * rinv x * g d * (1 + sc d) + sh d

/-- One coordinate of a row times a matrix. -/
def dot {n : ℕ} (y : Fin 1024 → EReal) (A : Fin 1024 → Fin n → EReal) (f : Fin n) : EReal := ∑ d, y d * A d f

/-- A hidden coordinate: the gate through `silu`, times the up projection. -/
def hiddenUnit {n : ℕ} (y : Fin 1024 → EReal) (A B : Fin 1024 → Fin n → EReal) (f : Fin n) : EReal :=
  dot y A f * Ideal.div 1 (1 + Ideal.exp (-(dot y A f))) * dot y B f

/-- The hidden layer projected back. -/
def ffn {n : ℕ} (y : Fin 1024 → EReal) (A B : Fin 1024 → Fin n → EReal) (E : Fin n → Fin 1024 → EReal) (d : Fin 1024) :
    EReal :=
  ∑ f, hiddenUnit y A B f * E f d

/-- The sublayer's sum: the row plus half the gate times the feed-forward of its modulated norm. -/
def sublayer (x g sh sc gt : Fin 1024 → EReal) (A B : Fin 1024 → Fin 2816 → EReal) (E : Fin 2816 → Fin 1024 → EReal)
    (d : Fin 1024) : EReal :=
  x d + Ideal.ofBits .f32 0x3F000000#32 * gt d * ffn (modulated x g sh sc) A B E d

/-- A row normed and scaled. -/
def normed (x g : Fin 1024 → EReal) (d : Fin 1024) : EReal := x d * rinv x * g d

/-- The projection of the attention added to the residual, gated. -/
def projected (h p a : Fin 1024 → EReal) (w : Fin 1024 → Fin 1024 → EReal) (d : Fin 1024) : EReal :=
  h d + p d * ∑ k, a k * w k d

/-- The last sublayer of a token: the attention's projection, the feed-forward, the last norm. -/
def token (h p a : Fin 1024 → EReal) (w : Fin 1024 → Fin 1024 → EReal) (g sh sc gt : Fin 1024 → EReal)
    (A B : Fin 1024 → Fin 2816 → EReal) (E : Fin 2816 → Fin 1024 → EReal) (fg : Fin 1024 → EReal) (d : Fin 1024) : EReal :=
  normed (sublayer (projected h p a w) g sh sc gt A B E) fg d

theorem token_congr {h p a : Fin 1024 → EReal} {w : Fin 1024 → Fin 1024 → EReal} {g sh sc gt : Fin 1024 → EReal}
    {A B : Fin 1024 → Fin 2816 → EReal} {E : Fin 2816 → Fin 1024 → EReal} {fg : Fin 1024 → EReal} {d : Fin 1024}
    {h' p' a' : Fin 1024 → EReal} {w' : Fin 1024 → Fin 1024 → EReal} {g' sh' sc' gt' : Fin 1024 → EReal}
    {A' B' : Fin 1024 → Fin 2816 → EReal} {E' : Fin 2816 → Fin 1024 → EReal} {fg' : Fin 1024 → EReal} {d' : Fin 1024}
    (e0 : ∀ d, h d = h' d) (e1 : ∀ d, p d = p' d) (e2 : ∀ d, a d = a' d) (e3 : ∀ k d, w k d = w' k d)
    (e4 : ∀ d, g d = g' d) (e5 : ∀ d, sh d = sh' d) (e6 : ∀ d, sc d = sc' d) (e7 : ∀ d, gt d = gt' d)
    (e8 : ∀ d f, A d f = A' d f) (e9 : ∀ d f, B d f = B' d f) (e10 : ∀ f d, E f d = E' f d) (e11 : ∀ d, fg d = fg' d)
    (e12 : d = d') : token h p a w g sh sc gt A B E fg d = token h' p' a' w' g' sh' sc' gt' A' B' E' fg' d' := by
  obtain rfl := funext e0
  obtain rfl := funext e1
  obtain rfl := funext e2
  obtain rfl := funext fun k => funext (e3 k)
  obtain rfl := funext e4
  obtain rfl := funext e5
  obtain rfl := funext e6
  obtain rfl := funext e7
  obtain rfl := funext fun k => funext (e8 k)
  obtain rfl := funext fun k => funext (e9 k)
  obtain rfl := funext fun k => funext (e10 k)
  obtain rfl := funext e11
  rw [e12]

theorem sublayer_congr {x g sh sc gt : Fin 1024 → EReal} {A B : Fin 1024 → Fin 2816 → EReal}
    {E : Fin 2816 → Fin 1024 → EReal} {d : Fin 1024} {x' g' sh' sc' gt' : Fin 1024 → EReal}
    {A' B' : Fin 1024 → Fin 2816 → EReal} {E' : Fin 2816 → Fin 1024 → EReal} {d' : Fin 1024}
    (e0 : ∀ d, x d = x' d) (e1 : ∀ d, g d = g' d) (e2 : ∀ d, sh d = sh' d) (e3 : ∀ d, sc d = sc' d)
    (e4 : ∀ d, gt d = gt' d) (e5 : ∀ d f, A d f = A' d f) (e6 : ∀ d f, B d f = B' d f) (e7 : ∀ f d, E f d = E' f d)
    (e8 : d = d') : sublayer x g sh sc gt A B E d = sublayer x' g' sh' sc' gt' A' B' E' d' := by
  obtain rfl := funext e0
  obtain rfl := funext e1
  obtain rfl := funext e2
  obtain rfl := funext e3
  obtain rfl := funext e4
  obtain rfl := funext fun k => funext (e5 k)
  obtain rfl := funext fun k => funext (e6 k)
  obtain rfl := funext fun k => funext (e7 k)
  rw [e8]

theorem normed_congr {x g x' g' : Fin 1024 → EReal} {d d' : Fin 1024} (e0 : ∀ d, x d = x' d) (e1 : ∀ d, g d = g' d)
    (e2 : d = d') : normed x g d = normed x' g' d' := by
  obtain rfl := funext e0
  obtain rfl := funext e1
  rw [e2]

theorem exp_ne_neg_one (z : EReal) : 1 + Ideal.exp z ≠ 0 := by
  have h : (0 : EReal) < 1 + Ideal.exp z := by
    have h0 : (0 : EReal) ≤ Ideal.exp z := by
      induction z with
      | bot => exact le_refl _
      | top => exact le_top
      | coe x =>
        show (0 : EReal) ≤ ((Real.exp x : ℝ) : EReal)
        exact_mod_cast (Real.exp_pos x).le
    calc (0 : EReal) < 1 := by norm_num
      _ = 1 + 0 := (add_zero _).symm
      _ ≤ 1 + Ideal.exp z := add_le_add le_rfl h0
  exact h.ne'

/-- The kernel's `silu`, a quotient, against the product with the logistic. -/
theorem silu_div (a b : EReal) :
    Ideal.div a (1 + Ideal.exp (0 - a)) * b = a * Ideal.div 1 (1 + Ideal.exp (-a)) * b := by
  rw [zero_sub, Ideal.div, Ideal.div, if_neg (exp_ne_neg_one _), if_neg (exp_ne_neg_one _), one_mul]

/-- The modulation's two factors taken together, as the kernel takes them. -/
theorem modulated_eq (x g sh sc : Fin 1024 → EReal) (d : Fin 1024) :
    x d * rinv x * (g d * (1 + sc d)) + sh d = modulated x g sh sc d := by
  rw [modulated, mul_assoc (x d * rinv x)]

/-- Columns `256 c … 256 c + 255` of a matrix of 2816 columns. -/
def cols (A : Fin 1024 → Fin 2816 → EReal) (c : Fin 11) (d : Fin 1024) (f : Fin 256) : EReal :=
  A d ⟨c * 256 + f, by omega⟩
/-- Rows `256 c … 256 c + 255` of a matrix of 2816 rows. -/
def rows (E : Fin 2816 → Fin 1024 → EReal) (c : Fin 11) (f : Fin 256) (d : Fin 1024) : EReal :=
  E ⟨c * 256 + f, by omega⟩ d

/-- The hidden axis in eleven tiles, added from the left. -/
theorem ffn_tiles (y : Fin 1024 → EReal) (A B : Fin 1024 → Fin 2816 → EReal) (E : Fin 2816 → Fin 1024 → EReal)
    (d : Fin 1024) :
    0 + ffn y (cols A 0) (cols B 0) (rows E 0) d + ffn y (cols A 1) (cols B 1) (rows E 1) d
      + ffn y (cols A 2) (cols B 2) (rows E 2) d + ffn y (cols A 3) (cols B 3) (rows E 3) d
      + ffn y (cols A 4) (cols B 4) (rows E 4) d + ffn y (cols A 5) (cols B 5) (rows E 5) d
      + ffn y (cols A 6) (cols B 6) (rows E 6) d + ffn y (cols A 7) (cols B 7) (rows E 7) d
      + ffn y (cols A 8) (cols B 8) (rows E 8) d + ffn y (cols A 9) (cols B 9) (rows E 9) d
      + ffn y (cols A 10) (cols B 10) (rows E 10) d = ffn y A B E d := by
  have h : ffn y A B E d = ∑ c : Fin 11, ffn y (cols A c) (cols B c) (rows E c) d :=
    Fin.sum_univ_tiles 11 256 rfl fun f => hiddenUnit y A B f * E f d
  rw [h]
  simp only [Fin.sum_univ_succ, Fin.sum_univ_zero, add_zero, zero_add, add_assoc]
  rfl

end Cert.Ffn
-- ==== Proof.Ffn.Body.lean ====
/-
  The last call's block at one index: the rows of the staged blocks through the feed-forward sublayer.
-/
module

public import proofs.«01_k».proof.Proof.Gen.Kernel2Ideal.Frame
public import proofs.«01_k».proof.Proof.Ffn.Spec

@[expose] public section

set_option maxRecDepth 16384

noncomputable section

namespace Cert.Kernel2Ideal.Ffn

open Idealize.ShloMosaic Idealize.ShloMosaic.TcCoe
open Cert.Kernel2Ideal Cert.Kernel2Ideal.Gen Cert.Ffn

theorem projected_at (h : Vec Ideal S1x1024x1024 .f32) (p : Vec Ideal S1x1x1024 .f32) (a : Vec Ideal S1x1024x1024 .bf16)
    (w : Vec Ideal S1024x1024 .bf16) (r d : Fin 1024) :
    k0_pay2 h p a w (ix2 r d)
      = projected (fun d => h (ix3 0 r d)) (fun d => p (ix3 0 0 d)) (fun d => a (ix3 0 r d)) (fun k d => w (ix2 k d)) d := by
  pointwise [k0_pay2]
  rfl

variable (x : FVec Ideal S1024x1024 .f32) (g : Vec Ideal S1x1024 .f32) (sh sc : Vec Ideal S1x1x1024 .f32)

/-- Row `r` of the block modulated. -/
abbrev yrow (r : Fin 1024) : Fin 1024 → EReal :=
  modulated (fun d => x (ix2 r d)) (fun d => g (ix2 0 d)) (fun d => sh (ix3 0 0 d)) (fun d => sc (ix3 0 0 d))

theorem y0_at (h : Vec Ideal S1x1024x1024 .f32) (p : Vec Ideal S1x1x1024 .f32) (a : Vec Ideal S1x1024x1024 .bf16)
    (w : Vec Ideal S1024x1024 .bf16) (r : Fin 256) (d : Fin 1024) :
    k0_pay5 (k0_pay3 h p a w g sc) (k0_pay4 sh) (ix2 r d) = yrow (k0_pay2 h p a w) g sh sc ⟨r, by omega⟩ d := by
  refine Eq.trans ?_ (modulated_eq _ _ _ _ _)
  pointwise [k0_pay3, k0_pay4, k0_pay5, rinv]

theorem y1_at (r : Fin 256) (d : Fin 1024) : k0_pay6 x g sh sc (ix2 r d) = yrow x g sh sc ⟨256 + r, by omega⟩ d := by
  refine Eq.trans ?_ (modulated_eq _ _ _ _ _)
  pointwise [k0_pay6, rinv]

theorem y2_at (r : Fin 256) (d : Fin 1024) :
    k0_pay13 (k0_pay7 x) (k0_pay8 g) (k0_pay9 sh) (k0_pay10 sc) (k0_pay11 x) k0_pay12 (ix2 r d)
      = yrow x g sh sc ⟨512 + r, by omega⟩ d := by
  refine Eq.trans ?_ (modulated_eq _ _ _ _ _)
  pointwise [k0_pay13, k0_pay7, k0_pay8, k0_pay9, k0_pay10, k0_pay11, k0_pay12, rinv]

theorem y3_at (r : Fin 256) (d : Fin 1024) : k0_pay14 x g sh sc (ix2 r d) = yrow x g sh sc ⟨768 + r, by omega⟩ d := by
  refine Eq.trans ?_ (modulated_eq _ _ _ _ _)
  pointwise [k0_pay14, rinv]

/-- Four row blocks below each other are the whole. -/
theorem four (G : Fin 1024 → EReal) (a b c e : Fin 256 → EReal)
    (ha : ∀ r : Fin 256, a r = G ⟨r, by omega⟩) (hb : ∀ r : Fin 256, b r = G ⟨256 + r, by omega⟩)
    (hc : ∀ r : Fin 256, c r = G ⟨512 + r, by omega⟩) (he : ∀ r : Fin 256, e r = G ⟨768 + r, by omega⟩) (r : Fin 1024) :
    (if h : (r : ℕ) < 256 then a ⟨r, h⟩
      else if h : (r : ℕ) - 256 < 256 then b ⟨r - 256, h⟩
      else if h : (r : ℕ) - 256 - 256 < 256 then c ⟨r - 256 - 256, h⟩
      else e ⟨r - 256 - 256 - 256, by omega⟩) = G r := by
  by_cases h1 : (r : ℕ) < 256
  · rw [dif_pos h1, ha]
  by_cases h2 : (r : ℕ) - 256 < 256
  · rw [dif_neg h1, dif_pos h2, hb]; exact congrArg G (Fin.ext (by show 256 + ((r : ℕ) - 256) = r; omega))
  by_cases h3 : (r : ℕ) - 256 - 256 < 256
  · rw [dif_neg h1, dif_neg h2, dif_pos h3, hc]
    exact congrArg G (Fin.ext (by show 512 + ((r : ℕ) - 256 - 256) = r; omega))
  · rw [dif_neg h1, dif_neg h2, dif_neg h3, he]
    exact congrArg G (Fin.ext (by show 768 + ((r : ℕ) - 256 - 256 - 256) = r; omega))

/-- A staged tile of a weight, its leading unit axes dropped. -/
abbrev mat {n k : ℕ} (A : (⟨4, ![1, 1, n, k]⟩ : Shape).Idx → EReal) (d : Fin n) (f : Fin k) : EReal := A (ix4 0 0 d f)

section Whole

variable (v35 v60 : FVec Ideal S256x1024 .bf16) (v61 : FVec Ideal S256x1024 .f32) (v63 v65 v67 : FVec Ideal S1x1024 .f32)
  (v70 v71 : FVec Ideal S256x1 .f32) (Y : Fin 1024 → Fin 1024 → EReal)
  (h35 : ∀ (r : Fin 256) (d : Fin 1024), v35 (ix2 r d) = Y ⟨r, by omega⟩ d)
  (h60 : ∀ (r : Fin 256) (d : Fin 1024), v60 (ix2 r d) = Y ⟨256 + r, by omega⟩ d)

include h35 h60 in
theorem y_at (h85 : ∀ (r : Fin 256) (d : Fin 1024), k0_pay13 v61 v63 v65 v67 v70 v71 (ix2 r d) = Y ⟨512 + r, by omega⟩ d)
    (h110 : ∀ (r : Fin 256) (d : Fin 1024), k0_pay14 x g sh sc (ix2 r d) = Y ⟨768 + r, by omega⟩ d) (r d : Fin 1024) :
    k0_pay15 x v35 v60 v61 v63 v65 v67 v70 v71 g sh sc (ix2 r d) = Y r d := by
  pointwise [k0_pay15]
  exact four (fun r => Y r d) (fun r => v35 (ix2 r d)) (fun r => v60 (ix2 r d))
    (fun r => k0_pay13 v61 v63 v65 v67 v70 v71 (ix2 r d)) (fun r => k0_pay14 x g sh sc (ix2 r d))
    (fun r => h35 r d) (fun r => h60 r d) (fun r => h85 r d) (fun r => h110 r d) r

variable (v85 v110 : FVec Ideal S256x1024 .bf16)
  (h85 : ∀ (r : Fin 256) (d : Fin 1024), v85 (ix2 r d) = Y ⟨512 + r, by omega⟩ d)
  (h110 : ∀ (r : Fin 256) (d : Fin 1024), v110 (ix2 r d) = Y ⟨768 + r, by omega⟩ d)

include h35 h60 h85 h110

/-- The first tile's gate product, taken by row blocks. -/
theorem gate_at (A : Vec Ideal S1x1x1024x256 .bf16) (r : Fin 1024) (f : Fin 256) :
    k0_pay17 v35 v60 v85 v110 A A A A (ix2 r f) = dot (Y r) (mat A) f := by
  pointwise [k0_pay17]
  refine four (fun r => dot (Y r) (mat A) f) (fun r => ∑ k, v35 (ix2 r k) * A (ix4 0 0 k f))
    (fun r => ∑ k, v60 (ix2 r k) * A (ix4 0 0 k f)) (fun r => ∑ k, v85 (ix2 r k) * A (ix4 0 0 k f))
    (fun r => ∑ k, v110 (ix2 r k) * A (ix4 0 0 k f)) ?_ ?_ ?_ ?_ r <;> intro r <;> simp only [h35, h60, h85, h110] <;> rfl

theorem acc22_at (y : FVec Ideal S1024x1024 .bf16) (hy : ∀ r d : Fin 1024, y (ix2 r d) = Y r d)
    (A B A' B' : Vec Ideal S1x1x1024x256 .bf16) (E E' : Vec Ideal S1x1x256x1024 .bf16) (r d : Fin 1024) :
    k0_pay22 v110 y k0_pay16 (k0_pay17 v35 v60 v85 v110 A A A A) (k0_pay18 v35 B) (k0_pay19 v60 B) (k0_pay20 v85 B)
        (k0_pay21 B) (constant (F := Ideal) S256x256 .f32 0x00000000#32) E A' B' E' (ix2 r d)
      = 0 + ffn (Y r) (mat A) (mat B) (mat E) d + ffn (Y r) (mat A') (mat B') (mat E') d := by
  have hg := gate_at v35 v60 Y h35 h60 v85 v110 h85 h110 A
  have hu : ∀ (r : Fin 1024) (f : Fin 256),
      (if h : (r : ℕ) < 256 then ∑ k, v35 (ix2 ⟨r, h⟩ k) * B (ix4 0 0 k f)
      else if h : (r : ℕ) - 256 < 256 then ∑ k, v60 (ix2 ⟨r - 256, h⟩ k) * B (ix4 0 0 k f)
      else if h : (r : ℕ) - 256 - 256 < 256 then ∑ k, v85 (ix2 ⟨r - 256 - 256, h⟩ k) * B (ix4 0 0 k f)
      else ∑ k, v110 (ix2 ⟨r - 256 - 256 - 256, by omega⟩ k) * B (ix4 0 0 k f)) = dot (Y r) (mat B) f := by
    have := gate_at v35 v60 Y h35 h60 v85 v110 h85 h110 B
    intro r f
    rw [← this r f]
    pointwise [k0_pay17]
  pointwise [k0_pay22, k0_pay16, k0_pay18, k0_pay19, k0_pay20, k0_pay21]
  simp only [hg, hu, hy]
  simp only [silu_div]
  rfl

end Whole

section Tiles

variable (Y : Fin 1024 → Fin 1024 → EReal) (y : FVec Ideal S1024x1024 .bf16)
  (hy : ∀ r d : Fin 1024, y (ix2 r d) = Y r d) (acc : FVec Ideal S1024x1024 .f32)
  (A B A' B' : Vec Ideal S1x1x1024x256 .bf16) (E E' : Vec Ideal S1x1x256x1024 .bf16) (r d : Fin 1024)
include hy

theorem acc23_at : k0_pay23 y acc A B E (ix2 r d) = acc (ix2 r d) + ffn (Y r) (mat A) (mat B) (mat E) d := by
  pointwise [k0_pay23]
  simp only [hy, silu_div]
  rfl

theorem acc25_at : k0_pay25 y acc (k0_pay24 y A B) E A' B' E' (ix2 r d)
    = acc (ix2 r d) + ffn (Y r) (mat A) (mat B) (mat E) d + ffn (Y r) (mat A') (mat B') (mat E') d := by
  pointwise [k0_pay25, k0_pay24]
  simp only [hy, silu_div]
  rfl

theorem acc29_at : k0_pay29 y acc (k0_pay26 y A) (k0_pay27 y B) (k0_pay28 y A) E A' B' E' (ix2 r d)
    = acc (ix2 r d) + ffn (Y r) (mat A) (mat B) (mat E) d + ffn (Y r) (mat A') (mat B') (mat E') d := by
  pointwise [k0_pay29, k0_pay26, k0_pay27, k0_pay28]
  simp only [hy, silu_div]
  rfl

theorem acc31_at : k0_pay31 y acc (k0_pay30 y A) B E (ix2 r d)
    = acc (ix2 r d) + ffn (Y r) (mat A) (mat B) (mat E) d := by
  pointwise [k0_pay31, k0_pay30]
  simp only [hy, silu_div]
  rfl

theorem acc33_at : k0_pay33 y acc (k0_pay32 y A B E) A' B' E' (ix2 r d)
    = acc (ix2 r d) + ffn (Y r) (mat A) (mat B) (mat E) d + ffn (Y r) (mat A') (mat B') (mat E') d := by
  pointwise [k0_pay33, k0_pay32]
  simp only [hy, silu_div]
  rfl

/-- The sum after the last tile, normed and scaled. -/
theorem last_at (x : FVec Ideal S1024x1024 .f32) (gt : Vec Ideal S1x1x1024 .f32) (fg : Vec Ideal S1x1024 .f32) :
    k0_pay1 x acc (k0_pay34 y B) (k0_pay35 y A) E gt fg (ix3 0 r d)
      = normed (fun d => x (ix2 r d) + Ideal.ofBits .f32 0x3F000000#32 * gt (ix3 0 0 d)
          * (acc (ix2 r d) + ffn (Y r) (mat A) (mat B) (mat E) d)) (fun d => fg (ix2 0 d)) d := by
  pointwise [k0_pay1, k0_pay34, k0_pay35]
  simp only [hy, silu_div]
  rfl

end Tiles

/-- The whole block at one index, from the staged blocks. -/
theorem out_at (x0 : Vec Ideal S1x1024x1024 .f32) (x1 : Vec Ideal S1x3x1024 .f32) (x2 : Vec Ideal S1x1024 .f32)
    (x3 x4 : Vec Ideal S1x1x1024x2816 .bf16) (x5 : Vec Ideal S1x1x2816x1024 .bf16) (x6 : Vec Ideal S1x1024 .f32)
    (x7 : Vec Ideal S1x1024x1024 .bf16) (x8 : Vec Ideal S1x3x1024 .f32) (x9 : Vec Ideal S1024x1024 .bf16) (r d : Fin 1024) :
    out0_10 x0 x1 x2 x3 x4 x5 x6 x7 x8 x9 (ix3 0 r d)
      = normed (sublayer (projected (fun d => x0 (ix3 0 r d)) (fun d => x8 (ix3 0 2 d)) (fun d => x7 (ix3 0 r d))
          (fun k d => x9 (ix2 k d))) (fun d => x2 (ix2 0 d)) (fun d => x1 (ix3 0 0 d)) (fun d => x1 (ix3 0 1 d))
          (fun d => x1 (ix3 0 2 d)) (mat x3) (mat x4) (mat x5)) (fun d => x6 (ix2 0 d)) d := by
  have hz : (![0, 0, 0] : Fin 3 → ℕ) = fun _ => 0 := by funext a; fin_cases a <;> rfl
  unfold out0_10
  rw [View.canon_unit_zero hz]
  obtain ⟨Y, hY⟩ : ∃ Y, Y = yrow (k0_pay36 x0 x1 x2 x3 x4 x5 x6 x7 x8 x9) (View.ld x2 r0_3)
      (View.ld x1 r0_4) (View.ld x1 r0_5) := ⟨_, rfl⟩
  have h35 : ∀ (r : Fin 256) (d : Fin 1024), k0_pay37 x0 x1 x2 x3 x4 x5 x6 x7 x8 x9 (ix2 r d) = Y ⟨r, by omega⟩ d :=
    fun r d => (y0_at (View.ld x2 r0_3) (View.ld x1 r0_4) (View.ld x1 r0_5) (View.ld x0 r0_0)
      (View.ld x8 r0_1) (View.ld x7 r0_0) (View.ld x9 r0_2) r d).trans (by rw [hY]; rfl)
  have h60 : ∀ (r : Fin 256) (d : Fin 1024), k0_pay38 x0 x1 x2 x3 x4 x5 x6 x7 x8 x9 (ix2 r d) = Y ⟨256 + r, by omega⟩ d :=
    fun r d => hY ▸ y1_at (k0_pay36 x0 x1 x2 x3 x4 x5 x6 x7 x8 x9) (View.ld x2 r0_3)
      (View.ld x1 r0_4) (View.ld x1 r0_5) r d
  have h85 : ∀ (r : Fin 256) (d : Fin 1024), k0_pay45 x0 x1 x2 x3 x4 x5 x6 x7 x8 x9 (ix2 r d) = Y ⟨512 + r, by omega⟩ d :=
    fun r d => hY ▸ y2_at (k0_pay36 x0 x1 x2 x3 x4 x5 x6 x7 x8 x9) (View.ld x2 r0_3)
      (View.ld x1 r0_4) (View.ld x1 r0_5) r d
  have h110 : ∀ (r : Fin 256) (d : Fin 1024), k0_pay46 x0 x1 x2 x3 x4 x5 x6 x7 x8 x9 (ix2 r d) = Y ⟨768 + r, by omega⟩ d :=
    fun r d => hY ▸ y3_at (k0_pay36 x0 x1 x2 x3 x4 x5 x6 x7 x8 x9) (View.ld x2 r0_3)
      (View.ld x1 r0_4) (View.ld x1 r0_5) r d
  have hy : ∀ r d : Fin 1024, k0_pay47 x0 x1 x2 x3 x4 x5 x6 x7 x8 x9 (ix2 r d) = Y r d :=
    y_at _ _ _ _ _ _ _ _ _ _ _ _ Y h35 h60 h85 h110
  rw [last_at _ _ hy]
  simp only [acc33_at _ _ hy, acc31_at _ _ hy, acc29_at _ _ hy, acc25_at _ _ hy, acc23_at _ _ hy,
    acc22_at _ _ _ h35 h60 _ _ h85 h110 _ hy]
  have hA : ∀ (x : Vec Ideal S1x1x1024x2816 .bf16),
      mat (View.ld x r0_6) = cols (mat x) 0
      ∧ mat (View.ld x r0_8) = cols (mat x) 1
      ∧ mat (View.ld x r0_10) = cols (mat x) 2
      ∧ mat (View.ld x r0_12) = cols (mat x) 3
      ∧ mat (View.ld x r0_14) = cols (mat x) 4
      ∧ mat (View.ld x r0_16) = cols (mat x) 5
      ∧ mat (View.ld x r0_18) = cols (mat x) 6
      ∧ mat (View.ld x r0_20) = cols (mat x) 7
      ∧ mat (View.ld x r0_22) = cols (mat x) 8
      ∧ mat (View.ld x r0_24) = cols (mat x) 9
      ∧ mat (View.ld x r0_26) = cols (mat x) 10 := by
    intro x
    refine ⟨?_, ?_, ?_, ?_, ?_, ?_, ?_, ?_, ?_, ?_, ?_⟩ <;> funext d f <;> pointwise [cols, mat]
  have hE : ∀ (x : Vec Ideal S1x1x2816x1024 .bf16),
      mat (View.ld x r0_7) = rows (mat x) 0
      ∧ mat (View.ld x r0_9) = rows (mat x) 1
      ∧ mat (View.ld x r0_11) = rows (mat x) 2
      ∧ mat (View.ld x r0_13) = rows (mat x) 3
      ∧ mat (View.ld x r0_15) = rows (mat x) 4
      ∧ mat (View.ld x r0_17) = rows (mat x) 5
      ∧ mat (View.ld x r0_19) = rows (mat x) 6
      ∧ mat (View.ld x r0_21) = rows (mat x) 7
      ∧ mat (View.ld x r0_23) = rows (mat x) 8
      ∧ mat (View.ld x r0_25) = rows (mat x) 9
      ∧ mat (View.ld x r0_27) = rows (mat x) 10 := by
    intro x
    refine ⟨?_, ?_, ?_, ?_, ?_, ?_, ?_, ?_, ?_, ?_, ?_⟩ <;> funext d f <;> pointwise [rows, mat]
  simp only [hA x3, hA x4, hE x5, ffn_tiles]
  have hX : ∀ d, k0_pay36 x0 x1 x2 x3 x4 x5 x6 x7 x8 x9 (ix2 r d) = projected (fun d => x0 (ix3 0 r d)) (fun d => x8 (ix3 0 2 d))
      (fun d => x7 (ix3 0 r d)) (fun k d => x9 (ix2 k d)) d := by
    intro d
    refine (projected_at _ _ _ _ r d).trans ?_
    pointwise
  have hYr : Y r = modulated (projected (fun d => x0 (ix3 0 r d)) (fun d => x8 (ix3 0 2 d))
      (fun d => x7 (ix3 0 r d)) (fun k d => x9 (ix2 k d))) (fun d => x2 (ix2 0 d)) (fun d => x1 (ix3 0 0 d))
      (fun d => x1 (ix3 0 1 d)) := by
    rw [hY]
    unfold yrow
    simp only [hX]
    pointwise
  simp only [hX, hYr]
  unfold sublayer
  pointwise

end Cert.Kernel2Ideal.Ffn
-- ==== Proof.Ffn.Ref.lean ====
/-
  The reference of the last call at one index: the feed-forward sublayer of a token.
-/
module

public import proofs.«01_k».proof.Proof.Gen.Reference2Ideal.Run
public import proofs.«01_k».proof.Proof.Ffn.Spec

@[expose] public section

set_option maxRecDepth 16384

noncomputable section

namespace Cert.Reference2Ideal.Ffn

open Idealize.ShloMosaic Idealize.ShloMosaic.TcCoe
open Cert.Reference2Ideal Cert.Reference2Ideal.Gen Cert.Ffn

/-- The result at a token and a coordinate, from the argument arrays. -/
def result (h : FVec Ideal S8x4096x1024 .f32) (mod3 : FVec Ideal S8x3x1024 .f32) (g : FVec Ideal S1024 .f32)
    (wg wu : FVec Ideal S2x2x1024x2816 .bf16) (wd : FVec Ideal S2x2x2816x1024 .bf16) (fg : FVec Ideal S1024 .f32)
    (a : FVec Ideal S8x4096x1024 .bf16) (pm : FVec Ideal S8x3x1024 .f32) (wo : FVec Ideal S1024x1024 .bf16)
    (b : Fin 8) (t : Fin 4096) (d : Fin 1024) : EReal :=
  normed (sublayer (projected (fun d => h (ix3 b t d)) (fun d => pm (ix3 b 2 d)) (fun d => a (ix3 b t d))
      (fun k d => wo (ix2 k d))) (fun d => g (ix1 d)) (fun d => mod3 (ix3 b 0 d)) (fun d => mod3 (ix3 b 1 d))
      (fun d => mod3 (ix3 b 2 d)) (fun d f => wg (ix4 1 1 d f)) (fun d f => wu (ix4 1 1 d f))
      (fun f d => wd (ix4 1 1 f d))) (fun d => fg (ix1 d)) d

theorem ref_at (m : (ℓ : Loc nD τ sig) → Buf (Elt Ideal) ℓ) (c : Dev nD) (b : Fin 8) (t : Fin 4096) (d : Fin 1024) :
    Value.res_main_v68 m c (ix3 b t d)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) b t d := by
  unfold Value.res_main_v68
  generalize (m ((c.tc : Thread nD τ).loc main_arg0) : FVec Ideal S8x4096x1024 .f32) = h
  generalize (m ((c.tc : Thread nD τ).loc main_arg1) : FVec Ideal S8x3x1024 .f32) = mod3
  generalize (m ((c.tc : Thread nD τ).loc main_arg2) : FVec Ideal S1024 .f32) = g
  generalize (m ((c.tc : Thread nD τ).loc main_arg3) : FVec Ideal S2x2x1024x2816 .bf16) = wg
  generalize (m ((c.tc : Thread nD τ).loc main_arg4) : FVec Ideal S2x2x1024x2816 .bf16) = wu
  generalize (m ((c.tc : Thread nD τ).loc main_arg5) : FVec Ideal S2x2x2816x1024 .bf16) = wd
  generalize (m ((c.tc : Thread nD τ).loc main_arg6) : FVec Ideal S1024 .f32) = fg
  generalize (m ((c.tc : Thread nD τ).loc main_arg7) : FVec Ideal S8x4096x1024 .bf16) = a
  generalize (m ((c.tc : Thread nD τ).loc main_arg8) : FVec Ideal S8x3x1024 .f32) = pm
  generalize (m ((c.tc : Thread nD τ).loc main_arg9) : FVec Ideal S1024x1024 .bf16) = wo
  generalize hX : addf (F := Ideal) (s := S8x4096x1024) (φ := .f32) h (mulf (broadcastInDim S8x4096x1024 ![0, 1, 2] bcast_S8x1x1024_S8x4096x1024_0_1_2 (broadcastInDim S8x1x1024 ![0, 2] bcast_S8x1024_S8x1x1024_0_2 (shapeCast S8x1024 (extractStridedSlice S8x1x1024 ![0, 2, 0] pm slices_S8x3x1024_S8x1x1024_0_2_0) shapeCasts_S8x1x1024_S8x1024))) (Host.dotGeneral dot_S8x4096x1024_S1024x1024_S8x4096x1024_2_0_01_1_n_n none (extf (F := Ideal) (φ := .bf16) .f32 a bitsLt_bf16_f32) (extf (F := Ideal) (φ := .bf16) .f32 wo bitsLt_bf16_f32))) = X
  have hXr : ∀ d, X (ix3 b t d) = projected (fun d => h (ix3 b t d)) (fun d => pm (ix3 b 2 d)) (fun d => a (ix3 b t d))
      (fun k d => wo (ix2 k d)) d := by
    intro d
    rw [← hX]
    pointwise [projected]
  unfold result
  rw [show projected (fun d => h (ix3 b t d)) (fun d => pm (ix3 b 2 d)) (fun d => a (ix3 b t d))
      (fun k d => wo (ix2 k d)) = (fun d => X (ix3 b t d)) from (funext hXr).symm]
  pointwise [normed, sublayer, ffn, hiddenUnit, dot, modulated, rinv]

end Cert.Reference2Ideal.Ffn
-- ==== Proof.Ffn.Value.lean ====
/-
  The last call's result array: every grid point's block is the reference's sublayer at the block's tokens.
-/
module

public import proofs.«01_k».proof.Proof.Gen.Kernel2Ideal.Frame
public import proofs.«01_k».proof.Proof.Ffn.Body
public import proofs.«01_k».proof.Proof.Ffn.Ref
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen Cert.Ffn

variable (m : (ℓ : Loc nD τ sig) → Buf (Elt Ideal) ℓ)

/-- The reference's result over this program's arguments. -/
abbrev G (c : Dev nD) : FVec Ideal S8x4096x1024 .f32 := fun i =>
  Cert.Reference2Ideal.Ffn.result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9)) (i 0) (i 1) (i 2)

theorem idx : ∀ t : Fin cfg0.N, win0_0.index t = ![t.val / 4, t.val % 4, 0] ∧ win0_1.index t = ![t.val / 4, 0, 0]
    ∧ win0_2.index t = ![0, 0] ∧ win0_3.index t = ![1, 1, 0, 0] ∧ win0_4.index t = ![1, 1, 0, 0]
    ∧ win0_5.index t = ![1, 1, 0, 0] ∧ win0_6.index t = ![0, 0] ∧ win0_7.index t = ![t.val / 4, t.val % 4, 0]
    ∧ win0_8.index t = ![t.val / 4, 0, 0] ∧ win0_9.index t = ![0, 0] ∧ win0_10.index t = ![t.val / 4, t.val % 4, 0] :=
  (by decide +kernel : ∀ t : Fin grid0.N, _)

set_option maxHeartbeats 1600000 in
theorem final (c : Dev nD) : (dats m 0 c).arrAt 10 (cfgs 0).N = G m c := by
  refine (dats m 0 c).arrAt_eq_of_covers 10 _ (by decide +kernel) fun t _ y => ?_
  blk_simp
  rw [after0_10]
  have hy : y = ix3 (0 : Fin 1) (y 1 : Fin 1024) (y 2 : Fin 1024) := by
    refine (eq_ix3 y).trans ?_
    exact congrArg (fun z : Fin 1 => ix3 z (y 1 : Fin 1024) (y 2 : Fin 1024)) (Subsingleton.elim (α := Fin 1) _ _)
  rw [hy]
  refine (out_at _ _ _ _ _ _ _ _ _ _ (y 1) (y 2)).trans ?_
  have hb := t.isLt
  refine token_congr (fun d => ?_) (fun d => ?_) (fun d => ?_) (fun k d => ?_) (fun d => ?_) (fun d => ?_) (fun d => ?_)
    (fun d => ?_) (fun d f => ?_) (fun d f => ?_) (fun f d => ?_) (fun d => ?_) ?_
  · blk_ext [iblk, V, idx t]
  · blk_ext [iblk, V, idx t]
  · blk_ext [iblk, V, idx t]
  · blk_ext [iblk, V, idx t]
  · blk_point [iblk, V, idx t]
  · blk_ext [iblk, V, idx t]
  · blk_ext [iblk, V, idx t]
  · blk_ext [iblk, V, idx t]
  · show iblk m c 3 t (ix4 0 0 d f) = _
    blk_ext [iblk, V, idx t]
  · show iblk m c 4 t (ix4 0 0 d f) = _
    blk_ext [iblk, V, idx t]
  · show iblk m c 5 t (ix4 0 0 f d) = _
    blk_ext [iblk, V, idx t]
  · blk_point [iblk, V, idx t]
  · refine Fin.ext ?_
    blk_simp [idx t]
    try omega

end Cert.Kernel2Ideal.Ffn
-- ==== Proof.Ffn.Claims.lean ====
/-
  The claims about the last call: its frames, and its result against the reference over the reals.
-/
module

public import proofs.«01_k».proof.Defs
public import proofs.«01_k».proof.Proof.Gen.Kernel2.Frame
public import proofs.«01_k».proof.Proof.Gen.Kernel2Ideal.Value
public import proofs.«01_k».proof.Proof.Ffn.Value
public import Idealize.ShloMosaic.Lib.Quiescent

@[expose] public section

set_option maxRecDepth 16384

noncomputable section

namespace Cert.Proof.Ffn

open Idealize.ShloMosaic Idealize.ShloMosaic.TcCoe Idealize.SL.Sem

theorem frame : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hag
  refine ⟨fun c => Cert.Kernel2Ideal.Ffn.G m c, ?_, ?_⟩
  · exact (θ_run Cert.Kernel2Ideal.defs _ _).mono
      (fun _ h c => ⟨(h c).1.trans (Cert.Kernel2Ideal.Ffn.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    funext i
    refine (congrArg _ (eq_ix3 i)).trans ((Cert.Reference2Ideal.Ffn.ref_at m' c (i 0) (i 1) (i 2)).trans ?_)
    obtain ⟨h0, h1, h2, h3, h4, h5, h6, h7, h8, h9⟩ := hag c
    rw [h0, h1, h2, h3, h4, h5, h6, h7, h8, h9]

end Cert.Proof.Ffn
-- ==== Proof.FirstFfn.Body.lean ====
/-
  A layer's first feed-forward call, its block at one index: the rows of the staged blocks through the half-step sublayer.
-/
module

public import proofs.«01_k».proof.Proof.Gen.Kernel3Ideal.Frame
public import proofs.«01_k».proof.Proof.Ffn.Spec

@[expose] public section

set_option maxRecDepth 16384

noncomputable section

namespace Cert.Kernel3Ideal.Ffn

open Idealize.ShloMosaic Idealize.ShloMosaic.TcCoe
open Cert.Kernel3Ideal Cert.Kernel3Ideal.Gen Cert.Ffn

section Rows

variable (x0 : Vec Ideal S1x1024x1024 .f32) (g : Vec Ideal S1x1024 .f32) (sh sc : Vec Ideal S1x1x1024 .f32)

/-- Row `r` of the block modulated. -/
abbrev yrow (r : Fin 1024) : Fin 1024 → EReal :=
  modulated (fun d => x0 (ix3 0 r d)) (fun d => g (ix2 0 d)) (fun d => sh (ix3 0 0 d)) (fun d => sc (ix3 0 0 d))

theorem y0_at (r : Fin 256) (d : Fin 1024) : k0_pay3 x0 g sh sc (ix2 r d) = yrow x0 g sh sc ⟨r, by omega⟩ d := by
  refine Eq.trans ?_ (modulated_eq _ _ _ _ _)
  pointwise [k0_pay3, k0_pay2, rinv]

theorem y1_at (r : Fin 256) (d : Fin 1024) :
    k0_pay9 (k0_pay4 x0) (k0_pay5 g) (k0_pay6 sh) (k0_pay7 sc) (k0_pay8 x0) (ix2 r d)
      = yrow x0 g sh sc ⟨256 + r, by omega⟩ d := by
  refine Eq.trans ?_ (modulated_eq _ _ _ _ _)
  pointwise [k0_pay9, k0_pay4, k0_pay5, k0_pay6, k0_pay7, k0_pay8, k0_pay2, rinv]

theorem y2_at (r : Fin 256) (d : Fin 1024) :
    k0_pay10 (k0_pay2 x0) g sh sc (ix2 r d) = yrow x0 g sh sc ⟨512 + r, by omega⟩ d := by
  refine Eq.trans ?_ (modulated_eq _ _ _ _ _)
  pointwise [k0_pay10, k0_pay2, rinv]

theorem y3_at (r : Fin 256) (d : Fin 1024) :
    k0_pay12 (k0_pay11 (k0_pay2 x0)) g sh sc (ix2 r d) = yrow x0 g sh sc ⟨768 + r, by omega⟩ d := by
  refine Eq.trans ?_ (modulated_eq _ _ _ _ _)
  pointwise [k0_pay12, k0_pay11, k0_pay2, rinv]

end Rows

/-- Four row blocks below each other are the whole. -/
theorem four (G : Fin 1024 → EReal) (a b c e : Fin 256 → EReal)
    (ha : ∀ r : Fin 256, a r = G ⟨r, by omega⟩) (hb : ∀ r : Fin 256, b r = G ⟨256 + r, by omega⟩)
    (hc : ∀ r : Fin 256, c r = G ⟨512 + r, by omega⟩) (he : ∀ r : Fin 256, e r = G ⟨768 + r, by omega⟩) (r : Fin 1024) :
    (if h : (r : ℕ) < 256 then a ⟨r, h⟩
      else if h : (r : ℕ) - 256 < 256 then b ⟨r - 256, h⟩
      else if h : (r : ℕ) - 256 - 256 < 256 then c ⟨r - 256 - 256, h⟩
      else e ⟨r - 256 - 256 - 256, by omega⟩) = G r := by
  by_cases h1 : (r : ℕ) < 256
  · rw [dif_pos h1, ha]
  by_cases h2 : (r : ℕ) - 256 < 256
  · rw [dif_neg h1, dif_pos h2, hb]; exact congrArg G (Fin.ext (by show 256 + ((r : ℕ) - 256) = r; omega))
  by_cases h3 : (r : ℕ) - 256 - 256 < 256
  · rw [dif_neg h1, dif_neg h2, dif_pos h3, hc]
    exact congrArg G (Fin.ext (by show 512 + ((r : ℕ) - 256 - 256) = r; omega))
  · rw [dif_neg h1, dif_neg h2, dif_neg h3, he]
    exact congrArg G (Fin.ext (by show 768 + ((r : ℕ) - 256 - 256 - 256) = r; omega))

/-- A staged tile of a weight, its leading unit axes dropped. -/
abbrev mat {n k : ℕ} (A : (⟨4, ![1, 1, n, k]⟩ : Shape).Idx → EReal) (d : Fin n) (f : Fin k) : EReal := A (ix4 0 0 d f)

section Whole

variable (v26 v51 v76 v101 : FVec Ideal S256x1024 .bf16) (Y : Fin 1024 → Fin 1024 → EReal)
  (h26 : ∀ (r : Fin 256) (d : Fin 1024), v26 (ix2 r d) = Y ⟨r, by omega⟩ d)
  (h51 : ∀ (r : Fin 256) (d : Fin 1024), v51 (ix2 r d) = Y ⟨256 + r, by omega⟩ d)
  (h76 : ∀ (r : Fin 256) (d : Fin 1024), v76 (ix2 r d) = Y ⟨512 + r, by omega⟩ d)

include h26 h51 h76 in
theorem y_at (v77 : FVec Ideal S256x1024 .f32) (g : Vec Ideal S1x1024 .f32) (sh sc : Vec Ideal S1x1x1024 .f32)
    (h101 : ∀ (r : Fin 256) (d : Fin 1024), k0_pay12 v77 g sh sc (ix2 r d) = Y ⟨768 + r, by omega⟩ d) (r d : Fin 1024) :
    k0_pay13 v26 v51 v76 v77 g sh sc (ix2 r d) = Y r d := by
  pointwise [k0_pay13]
  exact four (fun r => Y r d) (fun r => v26 (ix2 r d)) (fun r => v51 (ix2 r d)) (fun r => v76 (ix2 r d))
    (fun r => k0_pay12 v77 g sh sc (ix2 r d)) (fun r => h26 r d) (fun r => h51 r d) (fun r => h76 r d) (fun r => h101 r d) r

variable (h101 : ∀ (r : Fin 256) (d : Fin 1024), v101 (ix2 r d) = Y ⟨768 + r, by omega⟩ d)
include h26 h51 h76 h101

/-- A product of the first tile, taken by row blocks. -/
theorem blocks_at (A : Vec Ideal S1x1x1024x256 .bf16) (r : Fin 1024) (f : Fin 256) :
    (if h : (r : ℕ) < 256 then ∑ k, v26 (ix2 ⟨r, h⟩ k) * A (ix4 0 0 k f)
      else if h : (r : ℕ) - 256 < 256 then ∑ k, v51 (ix2 ⟨r - 256, h⟩ k) * A (ix4 0 0 k f)
      else if h : (r : ℕ) - 256 - 256 < 256 then ∑ k, v76 (ix2 ⟨r - 256 - 256, h⟩ k) * A (ix4 0 0 k f)
      else ∑ k, v101 (ix2 ⟨r - 256 - 256 - 256, by omega⟩ k) * A (ix4 0 0 k f)) = dot (Y r) (mat A) f := by
  refine four (fun r => dot (Y r) (mat A) f) (fun r => ∑ k, v26 (ix2 r k) * A (ix4 0 0 k f))
    (fun r => ∑ k, v51 (ix2 r k) * A (ix4 0 0 k f)) (fun r => ∑ k, v76 (ix2 r k) * A (ix4 0 0 k f))
    (fun r => ∑ k, v101 (ix2 r k) * A (ix4 0 0 k f)) ?_ ?_ ?_ ?_ r <;> intro r <;> simp only [h26, h51, h76, h101] <;> rfl

theorem hidden_at (A B : Vec Ideal S1x1x1024x256 .bf16) (r : Fin 1024) (f : Fin 256) :
    k0_pay18 v26 v51 v76 v101 (k0_pay15 v26 A) (k0_pay16 v51 A) (k0_pay17 A) A B B B B (ix2 r f)
      = hiddenUnit (Y r) (mat A) (mat B) f := by
  have hs := blocks_at v26 v51 v76 v101 Y h26 h51 h76 h101
  pointwise [k0_pay18, k0_pay15, k0_pay16, k0_pay17]
  simp only [hs, silu_div]
  rfl

end Whole

section Tiles

variable (Y : Fin 1024 → Fin 1024 → EReal) (y : FVec Ideal S1024x1024 .bf16)
  (hy : ∀ r d : Fin 1024, y (ix2 r d) = Y r d) (acc : FVec Ideal S1024x1024 .f32)
  (A B A' B' : Vec Ideal S1x1x1024x256 .bf16) (E E' : Vec Ideal S1x1x256x1024 .bf16) (r d : Fin 1024)
include hy

theorem acc20_at (hid : FVec Ideal S1024x256 .bf16)
    (hh : ∀ (r : Fin 1024) (f : Fin 256), hid (ix2 r f) = hiddenUnit (Y r) (mat A) (mat B) f) :
    k0_pay20 y k0_pay14 hid (k0_pay19 E) A' B' E' (ix2 r d)
      = 0 + ffn (Y r) (mat A) (mat B) (mat E) d + ffn (Y r) (mat A') (mat B') (mat E') d := by
  pointwise [k0_pay20, k0_pay14, k0_pay19]
  simp only [hh, hy, silu_div]
  rfl

theorem acc25_at : k0_pay25 y acc (k0_pay21 y A) (k0_pay22 y B) (k0_pay23 y A) k0_pay24 E A' B' E' (ix2 r d)
    = acc (ix2 r d) + ffn (Y r) (mat A) (mat B) (mat E) d + ffn (Y r) (mat A') (mat B') (mat E') d := by
  pointwise [k0_pay25, k0_pay21, k0_pay22, k0_pay23, k0_pay24]
  simp only [hy, silu_div]
  rfl

theorem acc27_at : k0_pay27 y acc (k0_pay26 y A) B E A' B' E' (ix2 r d)
    = acc (ix2 r d) + ffn (Y r) (mat A) (mat B) (mat E) d + ffn (Y r) (mat A') (mat B') (mat E') d := by
  pointwise [k0_pay27, k0_pay26]
  simp only [hy, silu_div]
  rfl

theorem acc28_at : k0_pay28 y acc A B E (ix2 r d) = acc (ix2 r d) + ffn (Y r) (mat A) (mat B) (mat E) d := by
  pointwise [k0_pay28]
  simp only [hy, silu_div]
  rfl

theorem acc30_at : k0_pay30 y acc (k0_pay29 y A B) E A' B' E' (ix2 r d)
    = acc (ix2 r d) + ffn (Y r) (mat A) (mat B) (mat E) d + ffn (Y r) (mat A') (mat B') (mat E') d := by
  pointwise [k0_pay30, k0_pay29]
  simp only [hy, silu_div]
  rfl

theorem acc33_at : k0_pay33 y acc (k0_pay31 y A) (k0_pay32 y B) (Scalar.ofBits (F := Ideal) .f32 0x00000000#32) E A' B' E'
      (ix2 r d)
    = acc (ix2 r d) + ffn (Y r) (mat A) (mat B) (mat E) d + ffn (Y r) (mat A') (mat B') (mat E') d := by
  pointwise [k0_pay33, k0_pay31, k0_pay32]
  simp only [hy, silu_div]
  rfl

end Tiles

section Block

variable (x0 : Vec Ideal S1x1024x1024 .f32) (x1 : Vec Ideal S1x3x1024 .f32) (x2 : Vec Ideal S1x1024 .f32)
  (x3 x4 : Vec Ideal S1x1x1024x2816 .bf16) (x5 : Vec Ideal S1x1x2816x1024 .bf16) (x6 : Vec Ideal S1x1024 .f32)

/-- The sum over the hidden tiles. -/
def total : FVec Ideal S1024x1024 .f32 :=
  k0_pay33 (k0_pay41 x0 x1 x2 x3 x4 x5 x6) (k0_pay30 (k0_pay41 x0 x1 x2 x3 x4 x5 x6) (k0_pay28 (k0_pay41 x0 x1 x2 x3 x4
    x5 x6) (k0_pay27 (k0_pay41 x0 x1 x2 x3 x4 x5 x6) (k0_pay25 (k0_pay41 x0 x1 x2 x3 x4 x5 x6) (k0_pay20 (k0_pay41 x0 x1
    x2 x3 x4 x5 x6) (k0_pay14 (F := Ideal)) (k0_pay18 (k0_pay37 x0 x1 x2 x3 x4 x5 x6) (k0_pay38 x0 x1 x2 x3 x4 x5 x6)
    (k0_pay39 x0 x1 x2 x3 x4 x5 x6) (k0_pay12 (k0_pay40 x0 x1 x2 x3 x4 x5 x6) (View.ld x2 r0_1) (View.ld x1 r0_2)
    (View.ld x1 r0_3)) (k0_pay15 (k0_pay37 x0 x1 x2 x3 x4 x5 x6) (View.ld x3 r0_4)) (k0_pay16 (k0_pay38 x0 x1 x2 x3 x4
    x5 x6) (View.ld x3 r0_4)) (k0_pay17 (View.ld x3 r0_4)) (View.ld x3 r0_4) (View.ld x4 r0_4) (View.ld x4 r0_4)
    (View.ld x4 r0_4) (View.ld x4 r0_4)) (k0_pay19 (View.ld x5 r0_5)) (View.ld x3 r0_6) (View.ld x4 r0_6) (View.ld x5
    r0_7)) (k0_pay21 (k0_pay41 x0 x1 x2 x3 x4 x5 x6) (View.ld x3 r0_8)) (k0_pay22 (k0_pay41 x0 x1 x2 x3 x4 x5 x6)
    (View.ld x4 r0_8)) (k0_pay23 (k0_pay41 x0 x1 x2 x3 x4 x5 x6) (View.ld x3 r0_8)) (k0_pay24 (F := Ideal)) (View.ld x5
    r0_9) (View.ld x3 r0_10) (View.ld x4 r0_10) (View.ld x5 r0_11)) (k0_pay26 (k0_pay41 x0 x1 x2 x3 x4 x5 x6) (View.ld
    x3 r0_12)) (View.ld x4 r0_12) (View.ld x5 r0_13) (View.ld x3 r0_14) (View.ld x4 r0_14) (View.ld x5 r0_15)) (View.ld
    x3 r0_16) (View.ld x4 r0_16) (View.ld x5 r0_17)) (k0_pay29 (k0_pay41 x0 x1 x2 x3 x4 x5 x6) (View.ld x3 r0_18)
    (View.ld x4 r0_18)) (View.ld x5 r0_19) (View.ld x3 r0_20) (View.ld x4 r0_20) (View.ld x5 r0_21)) (k0_pay31 (k0_pay41
    x0 x1 x2 x3 x4 x5 x6) (View.ld x3 r0_22)) (k0_pay32 (k0_pay41 x0 x1 x2 x3 x4 x5 x6) (View.ld x4 r0_22))
    (Scalar.ofBits .f32 0x00000000#32) (View.ld x5 r0_23) (View.ld x3 r0_24) (View.ld x4 r0_24) (View.ld x5 r0_25)

/-- A row of the block modulated, from the staged blocks. -/
abbrev row (r : Fin 1024) : Fin 1024 → EReal :=
  modulated (fun d => x0 (ix3 0 r d)) (fun d => x2 (ix2 0 d)) (fun d => x1 (ix3 0 0 d)) (fun d => x1 (ix3 0 1 d))

theorem total_at (r d : Fin 1024) :
    total x0 x1 x2 x3 x4 x5 x6 (ix2 r d) = ffn (row x0 x1 x2 r) (mat x3) (mat x4) (mat x5) d := by
  unfold total
  obtain ⟨Y, hY⟩ : ∃ Y, Y = yrow (View.ld x0 r0_0) (View.ld x2 r0_1) (View.ld x1 r0_2) (View.ld x1 r0_3) := ⟨_, rfl⟩
  have h26 : ∀ (r : Fin 256) (d : Fin 1024), k0_pay37 x0 x1 x2 x3 x4 x5 x6 (ix2 r d) = Y ⟨r, by omega⟩ d :=
    fun r d => hY ▸ y0_at (View.ld x0 r0_0) (View.ld x2 r0_1) (View.ld x1 r0_2) (View.ld x1 r0_3) r d
  have h51 : ∀ (r : Fin 256) (d : Fin 1024), k0_pay38 x0 x1 x2 x3 x4 x5 x6 (ix2 r d) = Y ⟨256 + r, by omega⟩ d :=
    fun r d => hY ▸ y1_at (View.ld x0 r0_0) (View.ld x2 r0_1) (View.ld x1 r0_2) (View.ld x1 r0_3) r d
  have h76 : ∀ (r : Fin 256) (d : Fin 1024), k0_pay39 x0 x1 x2 x3 x4 x5 x6 (ix2 r d) = Y ⟨512 + r, by omega⟩ d :=
    fun r d => hY ▸ y2_at (View.ld x0 r0_0) (View.ld x2 r0_1) (View.ld x1 r0_2) (View.ld x1 r0_3) r d
  have h101 : ∀ (r : Fin 256) (d : Fin 1024), k0_pay12 (k0_pay40 x0 x1 x2 x3 x4 x5 x6) (View.ld x2 r0_1)
      (View.ld x1 r0_2) (View.ld x1 r0_3) (ix2 r d) = Y ⟨768 + r, by omega⟩ d :=
    fun r d => hY ▸ y3_at (View.ld x0 r0_0) (View.ld x2 r0_1) (View.ld x1 r0_2) (View.ld x1 r0_3) r d
  have hy : ∀ r d : Fin 1024, k0_pay41 x0 x1 x2 x3 x4 x5 x6 (ix2 r d) = Y r d := y_at _ _ _ Y h26 h51 h76 _ _ _ _ h101
  simp only [acc33_at _ _ hy, acc30_at _ _ hy, acc28_at _ _ hy, acc27_at _ _ hy, acc25_at _ _ hy]
  rw [acc20_at _ _ hy _ _ _ _ _ _ r d _ (hidden_at _ _ _ _ _ h26 h51 h76 h101 _ _)]
  have hA : ∀ (x : Vec Ideal S1x1x1024x2816 .bf16),
        mat (View.ld x r0_4) = cols (mat x) 0
      ∧ mat (View.ld x r0_6) = cols (mat x) 1
      ∧ mat (View.ld x r0_8) = cols (mat x) 2
      ∧ mat (View.ld x r0_10) = cols (mat x) 3
      ∧ mat (View.ld x r0_12) = cols (mat x) 4
      ∧ mat (View.ld x r0_14) = cols (mat x) 5
      ∧ mat (View.ld x r0_16) = cols (mat x) 6
      ∧ mat (View.ld x r0_18) = cols (mat x) 7
      ∧ mat (View.ld x r0_20) = cols (mat x) 8
      ∧ mat (View.ld x r0_22) = cols (mat x) 9
      ∧ mat (View.ld x r0_24) = cols (mat x) 10 := by
    intro x
    refine ⟨?_, ?_, ?_, ?_, ?_, ?_, ?_, ?_, ?_, ?_, ?_⟩ <;> funext d f <;> pointwise [cols, mat]
  have hE : ∀ (x : Vec Ideal S1x1x2816x1024 .bf16),
        mat (View.ld x r0_5) = rows (mat x) 0
      ∧ mat (View.ld x r0_7) = rows (mat x) 1
      ∧ mat (View.ld x r0_9) = rows (mat x) 2
      ∧ mat (View.ld x r0_11) = rows (mat x) 3
      ∧ mat (View.ld x r0_13) = rows (mat x) 4
      ∧ mat (View.ld x r0_15) = rows (mat x) 5
      ∧ mat (View.ld x r0_17) = rows (mat x) 6
      ∧ mat (View.ld x r0_19) = rows (mat x) 7
      ∧ mat (View.ld x r0_21) = rows (mat x) 8
      ∧ mat (View.ld x r0_23) = rows (mat x) 9
      ∧ mat (View.ld x r0_25) = rows (mat x) 10 := by
    intro x
    refine ⟨?_, ?_, ?_, ?_, ?_, ?_, ?_, ?_, ?_, ?_, ?_⟩ <;> funext d f <;> pointwise [rows, mat]
  simp only [hA x3, hA x4, hE x5, ffn_tiles]
  have hYr : Y r = row x0 x1 x2 r := by
    rw [hY]
    unfold yrow row
    pointwise
  rw [hYr]

/-- The whole block at one index, from the staged blocks. -/
theorem out_at (r d : Fin 1024) :
    out0_7 x0 x1 x2 x3 x4 x5 x6 (ix3 0 r d)
      = sublayer (fun d => x0 (ix3 0 r d)) (fun d => x2 (ix2 0 d)) (fun d => x1 (ix3 0 0 d)) (fun d => x1 (ix3 0 1 d))
          (fun d => x1 (ix3 0 2 d)) (mat x3) (mat x4) (mat x5) d := by
  have hz : (![0, 0, 0] : Fin 3 → ℕ) = fun _ => 0 := by funext a; fin_cases a <;> rfl
  unfold out0_7
  rw [View.canon_unit_zero hz]
  change k0_pay1 (k0_pay36 x0 x1 x2 x3 x4 x5 x6) (total x0 x1 x2 x3 x4 x5 x6) (k0_pay34 (View.ld x1 r0_26)) k0_pay35 (ix3 0 r d) = _
  unfold sublayer
  rw [← total_at x0 x1 x2 x3 x4 x5 x6]
  pointwise [k0_pay1, k0_pay34, k0_pay35, k0_pay36, k0_pay2]

end Block

end Cert.Kernel3Ideal.Ffn
-- ==== Proof.FirstFfn.Ref.lean ====
/-
  A layer's first feed-forward call, its reference at one index: the half-step sublayer of a token.
-/
module

public import proofs.«01_k».proof.Proof.Gen.Reference3Ideal.Run
public import proofs.«01_k».proof.Proof.Ffn.Spec

@[expose] public section

set_option maxRecDepth 16384

noncomputable section

namespace Cert.Reference3Ideal.Ffn

open Idealize.ShloMosaic Idealize.ShloMosaic.TcCoe
open Cert.Reference3Ideal Cert.Reference3Ideal.Gen Cert.Ffn

/-- The result at a token and a coordinate, from the argument arrays. -/
def result (h : FVec Ideal S8x4096x1024 .f32) (mod3 : FVec Ideal S8x3x1024 .f32) (g : FVec Ideal S1024 .f32)
    (wg wu : FVec Ideal S2x2x1024x2816 .bf16) (wd : FVec Ideal S2x2x2816x1024 .bf16)
    (b : Fin 8) (t : Fin 4096) (d : Fin 1024) : EReal :=
  sublayer (fun d => h (ix3 b t d)) (fun d => g (ix1 d)) (fun d => mod3 (ix3 b 0 d)) (fun d => mod3 (ix3 b 1 d))
      (fun d => mod3 (ix3 b 2 d)) (fun d f => wg (ix4 0 0 d f)) (fun d f => wu (ix4 0 0 d f)) (fun f d => wd (ix4 0 0 f d)) d

theorem ref_at (m : (ℓ : Loc nD τ sig) → Buf (Elt Ideal) ℓ) (c : Dev nD) (b : Fin 8) (t : Fin 4096) (d : Fin 1024) :
    Value.res_main_v46 m c (ix3 b t d)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) b t d := by
  unfold Value.res_main_v46
  generalize (m ((c.tc : Thread nD τ).loc main_arg0) : FVec Ideal S8x4096x1024 .f32) = h
  generalize (m ((c.tc : Thread nD τ).loc main_arg1) : FVec Ideal S8x3x1024 .f32) = mod3
  generalize (m ((c.tc : Thread nD τ).loc main_arg2) : FVec Ideal S1024 .f32) = g
  generalize (m ((c.tc : Thread nD τ).loc main_arg3) : FVec Ideal S2x2x1024x2816 .bf16) = wg
  generalize (m ((c.tc : Thread nD τ).loc main_arg4) : FVec Ideal S2x2x1024x2816 .bf16) = wu
  generalize (m ((c.tc : Thread nD τ).loc main_arg5) : FVec Ideal S2x2x2816x1024 .bf16) = wd
  pointwise [result, sublayer, ffn, hiddenUnit, dot, modulated, rinv]

end Cert.Reference3Ideal.Ffn
-- ==== Proof.FirstFfn.Value.lean ====
/-
  A layer's first feed-forward call, its result array: every grid point's block is the reference's sublayer at the block's tokens.
-/
module

public import proofs.«01_k».proof.Proof.Gen.Kernel3Ideal.Frame
public import proofs.«01_k».proof.Proof.FirstFfn.Body
public import proofs.«01_k».proof.Proof.FirstFfn.Ref
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen Cert.Ffn

variable (m : (ℓ : Loc nD τ sig) → Buf (Elt Ideal) ℓ)

/-- The reference's result over this program's arguments. -/
abbrev G (c : Dev nD) : FVec Ideal S8x4096x1024 .f32 := fun i =>
  Cert.Reference3Ideal.Ffn.result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) (i 0) (i 1) (i 2)

theorem idx : ∀ t : Fin cfg0.N, win0_0.index t = ![t.val / 4, t.val % 4, 0] ∧ win0_1.index t = ![t.val / 4, 0, 0]
    ∧ win0_2.index t = ![0, 0] ∧ win0_3.index t = ![0, 0, 0, 0] ∧ win0_4.index t = ![0, 0, 0, 0]
    ∧ win0_5.index t = ![0, 0, 0, 0] ∧ win0_6.index t = ![0, 0] ∧ win0_7.index t = ![t.val / 4, t.val % 4, 0] :=
  (by decide +kernel : ∀ t : Fin grid0.N, _)

set_option maxHeartbeats 1600000 in
theorem final (c : Dev nD) : (dats m 0 c).arrAt 7 (cfgs 0).N = G m c := by
  refine (dats m 0 c).arrAt_eq_of_covers 7 _ (by decide +kernel) fun t _ y => ?_
  blk_simp
  rw [after0_7]
  have hy : y = ix3 (0 : Fin 1) (y 1 : Fin 1024) (y 2 : Fin 1024) := by
    refine (eq_ix3 y).trans ?_
    exact congrArg (fun z : Fin 1 => ix3 z (y 1 : Fin 1024) (y 2 : Fin 1024)) (Subsingleton.elim (α := Fin 1) _ _)
  rw [hy]
  refine (out_at _ _ _ _ _ _ _ (y 1) (y 2)).trans ?_
  have hb := t.isLt
  refine sublayer_congr (fun d => ?_) (fun d => ?_) (fun d => ?_) (fun d => ?_) (fun d => ?_)
    (fun d f => ?_) (fun d f => ?_) (fun f d => ?_) ?_
  · blk_ext [iblk, V, idx t]
  · blk_point [iblk, V, idx t]
  · blk_ext [iblk, V, idx t]
  · blk_ext [iblk, V, idx t]
  · blk_ext [iblk, V, idx t]
  · show iblk m c 3 t (ix4 0 0 d f) = _
    blk_ext [iblk, V, idx t]
  · show iblk m c 4 t (ix4 0 0 d f) = _
    blk_ext [iblk, V, idx t]
  · show iblk m c 5 t (ix4 0 0 f d) = _
    blk_ext [iblk, V, idx t]
  · refine Fin.ext ?_
    blk_simp [idx t]
    try omega

end Cert.Kernel3Ideal.Ffn
-- ==== Proof.FirstFfn.Claims.lean ====
/-
  A layer's first feed-forward call, the claims about it: its frames, and its result against the reference over the reals.
-/
module

public import proofs.«01_k».proof.Defs
public import proofs.«01_k».proof.Proof.Gen.Kernel3.Frame
public import proofs.«01_k».proof.Proof.Gen.Kernel3Ideal.Value
public import proofs.«01_k».proof.Proof.FirstFfn.Value
public import Idealize.ShloMosaic.Lib.Quiescent

@[expose] public section

set_option maxRecDepth 16384

noncomputable section

namespace Cert.Proof.FirstFfn

open Idealize.ShloMosaic Idealize.ShloMosaic.TcCoe Idealize.SL.Sem

theorem frame : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hag
  refine ⟨fun c => Cert.Kernel3Ideal.Ffn.G m c, ?_, ?_⟩
  · exact (θ_run Cert.Kernel3Ideal.defs _ _).mono
      (fun _ h c => ⟨(h c).1.trans (Cert.Kernel3Ideal.Ffn.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    funext i
    refine (congrArg _ (eq_ix3 i)).trans ((Cert.Reference3Ideal.Ffn.ref_at m' c (i 0) (i 1) (i 2)).trans ?_)
    obtain ⟨h0, h1, h2, h3, h4, h5⟩ := hag c
    rw [h0, h1, h2, h3, h4, h5]

end Cert.Proof.FirstFfn
-- ==== Proof.EvenFfn.Body.lean ====
/-
  The even layer's second feed-forward call, its block at one index. Up to the final norm the body is the first call's, value
  by value.
-/
module

public import proofs.«01_k».proof.Proof.Gen.Kernel4Ideal.Frame
public import proofs.«01_k».proof.Proof.FirstFfn.Body

@[expose] public section

set_option maxRecDepth 16384

noncomputable section

namespace Cert.Kernel4Ideal.Ffn

open Idealize.ShloMosaic Idealize.ShloMosaic.TcCoe
open Cert.Kernel4Ideal Cert.Kernel4Ideal.Gen Cert.Ffn
open Cert.Kernel3Ideal.Ffn (mat total total_at)

/-! Each value of the body is the one of the first call. -/

theorem pay2 : k0_pay2 (F := Ideal) = Cert.Kernel3Ideal.Gen.k0_pay2 := rfl
theorem pay3 : k0_pay3 (F := Ideal) = Cert.Kernel3Ideal.Gen.k0_pay3 := rfl
theorem pay4 : k0_pay4 (F := Ideal) = Cert.Kernel3Ideal.Gen.k0_pay4 := rfl
theorem pay5 : k0_pay5 (F := Ideal) = Cert.Kernel3Ideal.Gen.k0_pay5 := rfl
theorem pay6 : k0_pay6 (F := Ideal) = Cert.Kernel3Ideal.Gen.k0_pay6 := rfl
theorem pay7 : k0_pay7 (F := Ideal) = Cert.Kernel3Ideal.Gen.k0_pay7 := rfl
theorem pay8 : k0_pay8 (F := Ideal) = Cert.Kernel3Ideal.Gen.k0_pay8 := rfl
theorem pay9 : k0_pay9 (F := Ideal) = Cert.Kernel3Ideal.Gen.k0_pay9 := rfl
theorem pay10 : k0_pay10 (F := Ideal) = Cert.Kernel3Ideal.Gen.k0_pay10 := rfl
theorem pay11 : k0_pay11 (F := Ideal) = Cert.Kernel3Ideal.Gen.k0_pay11 := rfl
theorem pay12 : k0_pay12 (F := Ideal) = Cert.Kernel3Ideal.Gen.k0_pay12 := rfl
theorem pay13 : k0_pay13 (F := Ideal) = Cert.Kernel3Ideal.Gen.k0_pay13 := rfl
theorem pay14 : k0_pay14 (F := Ideal) = Cert.Kernel3Ideal.Gen.k0_pay14 := rfl
theorem pay15 : k0_pay15 (F := Ideal) = Cert.Kernel3Ideal.Gen.k0_pay15 := rfl
theorem pay16 : k0_pay16 (F := Ideal) = Cert.Kernel3Ideal.Gen.k0_pay16 := rfl
theorem pay17 : k0_pay17 (F := Ideal) = Cert.Kernel3Ideal.Gen.k0_pay17 := rfl
theorem pay18 : k0_pay18 (F := Ideal) = Cert.Kernel3Ideal.Gen.k0_pay18 := rfl
theorem pay19 : k0_pay19 (F := Ideal) = Cert.Kernel3Ideal.Gen.k0_pay19 := rfl
theorem pay20 : k0_pay20 (F := Ideal) = Cert.Kernel3Ideal.Gen.k0_pay20 := rfl
theorem pay21 : k0_pay21 (F := Ideal) = Cert.Kernel3Ideal.Gen.k0_pay21 := rfl
theorem pay22 : k0_pay22 (F := Ideal) = Cert.Kernel3Ideal.Gen.k0_pay22 := rfl
theorem pay23 : k0_pay23 (F := Ideal) = Cert.Kernel3Ideal.Gen.k0_pay23 := rfl
theorem pay24 : k0_pay24 (F := Ideal) = Cert.Kernel3Ideal.Gen.k0_pay24 := rfl
theorem pay25 : k0_pay25 (F := Ideal) = Cert.Kernel3Ideal.Gen.k0_pay25 := rfl
theorem pay26 : k0_pay26 (F := Ideal) = Cert.Kernel3Ideal.Gen.k0_pay26 := rfl
theorem pay27 : k0_pay27 (F := Ideal) = Cert.Kernel3Ideal.Gen.k0_pay27 := rfl
theorem pay28 : k0_pay28 (F := Ideal) = Cert.Kernel3Ideal.Gen.k0_pay28 := rfl
theorem pay29 : k0_pay29 (F := Ideal) = Cert.Kernel3Ideal.Gen.k0_pay29 := rfl
theorem pay30 : k0_pay30 (F := Ideal) = Cert.Kernel3Ideal.Gen.k0_pay30 := rfl
theorem pay31 : k0_pay31 (F := Ideal) = Cert.Kernel3Ideal.Gen.k0_pay31 := rfl
theorem pay32 : k0_pay32 (F := Ideal) = Cert.Kernel3Ideal.Gen.k0_pay32 := rfl
theorem pay33 : k0_pay33 (F := Ideal) = Cert.Kernel3Ideal.Gen.k0_pay33 := rfl
theorem pay34 : k0_pay34 (F := Ideal) = Cert.Kernel3Ideal.Gen.k0_pay34 := rfl
theorem pay35 : k0_pay35 (F := Ideal) = Cert.Kernel3Ideal.Gen.k0_pay35 := rfl

variable (x0 : Vec Ideal S1x1024x1024 .f32) (x1 : Vec Ideal S1x3x1024 .f32) (x2 : Vec Ideal S1x1024 .f32)
  (x3 x4 : Vec Ideal S1x1x1024x2816 .bf16) (x5 : Vec Ideal S1x1x2816x1024 .bf16) (x6 : Vec Ideal S1x1024 .f32)

theorem out_eq : out0_7 x0 x1 x2 x3 x4 x5 x6
    = k0_pay1 (k0_pay36 x0 x1 x2 x3 x4 x5 x6) (total x0 x1 x2 x3 x4 x5 x6) (k0_pay34 (View.ld x1 r0_26)) k0_pay35
        (View.ld x6 r0_1) := by
  have hz : (![0, 0, 0] : Fin 3 → ℕ) = fun _ => 0 := by funext a; fin_cases a <;> rfl
  unfold_out out0_7
  rw [View.canon_unit_zero hz]
  simp only [pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35]
  rfl

/-- The whole block at one index, from the staged blocks. -/
theorem out_at (r d : Fin 1024) :
    out0_7 x0 x1 x2 x3 x4 x5 x6 (ix3 0 r d)
      = normed (sublayer (fun d => x0 (ix3 0 r d)) (fun d => x2 (ix2 0 d)) (fun d => x1 (ix3 0 0 d))
          (fun d => x1 (ix3 0 1 d)) (fun d => x1 (ix3 0 2 d)) (mat x3) (mat x4) (mat x5)) (fun d => x6 (ix2 0 d)) d := by
  rw [out_eq]
  unfold sublayer
  rw [show ffn (modulated (fun d => x0 (ix3 0 r d)) (fun d => x2 (ix2 0 d)) (fun d => x1 (ix3 0 0 d))
      (fun d => x1 (ix3 0 1 d))) (mat x3) (mat x4) (mat x5) = fun d => total x0 x1 x2 x3 x4 x5 x6 (ix2 r d) from
    funext fun d => (total_at x0 x1 x2 x3 x4 x5 x6 r d).symm]
  pointwise [k0_pay1, k0_pay34, k0_pay35, k0_pay36, k0_pay2, normed, rinv]

end Cert.Kernel4Ideal.Ffn
-- ==== Proof.EvenFfn.Ref.lean ====
/-
  The even layer's second feed-forward call with its final norm, its reference at one index: the half-step sublayer of a token and the norm after it.
-/
module

public import proofs.«01_k».proof.Proof.Gen.Reference4Ideal.Run
public import proofs.«01_k».proof.Proof.Ffn.Spec

@[expose] public section

set_option maxRecDepth 16384

noncomputable section

namespace Cert.Reference4Ideal.Ffn

open Idealize.ShloMosaic Idealize.ShloMosaic.TcCoe
open Cert.Reference4Ideal Cert.Reference4Ideal.Gen Cert.Ffn

/-- The result at a token and a coordinate, from the argument arrays. -/
def result (h : FVec Ideal S8x4096x1024 .f32) (mod3 : FVec Ideal S8x3x1024 .f32) (g : FVec Ideal S1024 .f32)
    (wg wu : FVec Ideal S2x2x1024x2816 .bf16) (wd : FVec Ideal S2x2x2816x1024 .bf16) (fg : FVec Ideal S1024 .f32)
    (b : Fin 8) (t : Fin 4096) (d : Fin 1024) : EReal :=
  normed (sublayer (fun d => h (ix3 b t d)) (fun d => g (ix1 d)) (fun d => mod3 (ix3 b 0 d)) (fun d => mod3 (ix3 b 1 d))
      (fun d => mod3 (ix3 b 2 d)) (fun d f => wg (ix4 0 1 d f)) (fun d f => wu (ix4 0 1 d f)) (fun f d => wd (ix4 0 1 f d))) (fun d => fg (ix1 d)) d

theorem ref_at (m : (ℓ : Loc nD τ sig) → Buf (Elt Ideal) ℓ) (c : Dev nD) (b : Fin 8) (t : Fin 4096) (d : Fin 1024) :
    Value.res_main_v59 m c (ix3 b t d)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) b t d := by
  unfold Value.res_main_v59
  generalize (m ((c.tc : Thread nD τ).loc main_arg0) : FVec Ideal S8x4096x1024 .f32) = h
  generalize (m ((c.tc : Thread nD τ).loc main_arg1) : FVec Ideal S8x3x1024 .f32) = mod3
  generalize (m ((c.tc : Thread nD τ).loc main_arg2) : FVec Ideal S1024 .f32) = g
  generalize (m ((c.tc : Thread nD τ).loc main_arg3) : FVec Ideal S2x2x1024x2816 .bf16) = wg
  generalize (m ((c.tc : Thread nD τ).loc main_arg4) : FVec Ideal S2x2x1024x2816 .bf16) = wu
  generalize (m ((c.tc : Thread nD τ).loc main_arg5) : FVec Ideal S2x2x2816x1024 .bf16) = wd
  generalize (m ((c.tc : Thread nD τ).loc main_arg6) : FVec Ideal S1024 .f32) = fg
  pointwise [result, normed, sublayer, ffn, hiddenUnit, dot, modulated, rinv]

end Cert.Reference4Ideal.Ffn
-- ==== Proof.EvenFfn.Value.lean ====
/-
  The even layer's second feed-forward call with its final norm, its result array: every grid point's block is the reference's sublayer at the block's tokens.
-/
module

public import proofs.«01_k».proof.Proof.Gen.Kernel4Ideal.Frame
public import proofs.«01_k».proof.Proof.EvenFfn.Body
public import proofs.«01_k».proof.Proof.EvenFfn.Ref
public import Idealize.ShloMosaic.Lib.Pipeline.ValueKit

@[expose] public section

set_option maxRecDepth 16384

noncomputable section

namespace Cert.Kernel4Ideal.Ffn

open Idealize.ShloMosaic Idealize.ShloMosaic.TcCoe Idealize.SL.Sem
open Idealize.ShloMosaic.Pipeline (Dat)
open Cert.Kernel4Ideal Cert.Kernel4Ideal.Gen Cert.Ffn

variable (m : (ℓ : Loc nD τ sig) → Buf (Elt Ideal) ℓ)

/-- The reference's result over this program's arguments. -/
abbrev G (c : Dev nD) : FVec Ideal S8x4096x1024 .f32 := fun i =>
  Cert.Reference4Ideal.Ffn.result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (i 0) (i 1) (i 2)

theorem idx : ∀ t : Fin cfg0.N, win0_0.index t = ![t.val / 4, t.val % 4, 0] ∧ win0_1.index t = ![t.val / 4, 0, 0]
    ∧ win0_2.index t = ![0, 0] ∧ win0_3.index t = ![0, 1, 0, 0] ∧ win0_4.index t = ![0, 1, 0, 0]
    ∧ win0_5.index t = ![0, 1, 0, 0] ∧ win0_6.index t = ![0, 0] ∧ win0_7.index t = ![t.val / 4, t.val % 4, 0] :=
  (by decide +kernel : ∀ t : Fin grid0.N, _)

set_option maxHeartbeats 1600000 in
theorem final (c : Dev nD) : (dats m 0 c).arrAt 7 (cfgs 0).N = G m c := by
  refine (dats m 0 c).arrAt_eq_of_covers 7 _ (by decide +kernel) fun t _ y => ?_
  blk_simp
  rw [after0_7]
  have hy : y = ix3 (0 : Fin 1) (y 1 : Fin 1024) (y 2 : Fin 1024) := by
    refine (eq_ix3 y).trans ?_
    exact congrArg (fun z : Fin 1 => ix3 z (y 1 : Fin 1024) (y 2 : Fin 1024)) (Subsingleton.elim (α := Fin 1) _ _)
  rw [hy]
  refine (out_at _ _ _ _ _ _ _ (y 1) (y 2)).trans ?_
  have hb := t.isLt
  refine normed_congr (fun d' => sublayer_congr (fun d => ?_) (fun d => ?_) (fun d => ?_) (fun d => ?_) (fun d => ?_)
    (fun d f => ?_) (fun d f => ?_) (fun f d => ?_) rfl) (fun d => ?_) ?_
  · blk_ext [iblk, V, idx t]
  · blk_point [iblk, V, idx t]
  · blk_ext [iblk, V, idx t]
  · blk_ext [iblk, V, idx t]
  · blk_ext [iblk, V, idx t]
  · show iblk m c 3 t (ix4 0 0 d f) = _
    blk_ext [iblk, V, idx t]
  · show iblk m c 4 t (ix4 0 0 d f) = _
    blk_ext [iblk, V, idx t]
  · show iblk m c 5 t (ix4 0 0 f d) = _
    blk_ext [iblk, V, idx t]
  · blk_point [iblk, V, idx t]
  · refine Fin.ext ?_
    blk_simp [idx t]
    try omega

end Cert.Kernel4Ideal.Ffn
-- ==== Proof.EvenFfn.Claims.lean ====
/-
  The even layer's second feed-forward call with its final norm, the claims about it: its frames, and its result against the reference over the reals.
-/
module

public import proofs.«01_k».proof.Defs
public import proofs.«01_k».proof.Proof.Gen.Kernel4.Frame
public import proofs.«01_k».proof.Proof.Gen.Kernel4Ideal.Value
public import proofs.«01_k».proof.Proof.EvenFfn.Value
public import Idealize.ShloMosaic.Lib.Quiescent

@[expose] public section

set_option maxRecDepth 16384

noncomputable section

namespace Cert.Proof.EvenFfn

open Idealize.ShloMosaic Idealize.ShloMosaic.TcCoe Idealize.SL.Sem

theorem frame : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem algebraic : Cert.algebraic_Kernel4Ideal_Reference4Ideal := by
  intro m ρ m' ρ' _ hag
  refine ⟨fun c => Cert.Kernel4Ideal.Ffn.G m c, ?_, ?_⟩
  · exact (θ_run Cert.Kernel4Ideal.defs _ _).mono
      (fun _ h c => ⟨(h c).1.trans (Cert.Kernel4Ideal.Ffn.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    funext i
    refine (congrArg _ (eq_ix3 i)).trans ((Cert.Reference4Ideal.Ffn.ref_at m' c (i 0) (i 1) (i 2)).trans ?_)
    obtain ⟨h0, h1, h2, h3, h4, h5, h6⟩ := hag c
    rw [h0, h1, h2, h3, h4, h5, h6]

end Cert.Proof.EvenFfn
-- ==== Proof.Qkv.Spec.lean ====
/-
  Queries and keys of one token: a head of the projection normed by its root mean square, two heads side by side in 128 lanes.
-/
module

public import proofs.«01_k».proof.Proof.Ffn.Spec

@[expose] public section

set_option maxRecDepth 16384

noncomputable section

namespace Cert.Qkv

open Idealize.ShloMosaic Cert.Ffn

/-- A head's 64 coordinates normed and scaled by `g`. -/
def headNorm (x g : Fin 64 → EReal) (j : Fin 64) : EReal :=
  x j * Ideal.rsqrt (Ideal.div (∑ k, x k * x k) (Ideal.ofBits .f32 0x42800000#32) + Ideal.ofBits .f32 0x358637BD#32) * g j

/-- Two heads side by side, each lane by its own head's sum of squares. -/
def pairNorm (x g : Fin 128 → EReal) (l : Fin 128) : EReal :=
  x l * Ideal.rsqrt ((if l.val < 64 then ∑ k : Fin 128, (if k.val < 64 then x k * x k else 0)
      else ∑ k : Fin 128, (if k.val < 64 then 0 else x k * x k)) * Ideal.ofBits .f32 0x3C800000#32
    + Ideal.ofBits .f32 0x358637BD#32) * g l

/-- Lane `k` of the head that lane `l` belongs to. -/
def lane (l : Fin 128) (k : Fin 64) : Fin 128 := ⟨l.val / 64 * 64 + k.val, by omega⟩

theorem sum_low (f : Fin 128 → EReal) : ∑ k : Fin 128, (if k.val < 64 then f k else 0) = ∑ k : Fin 64, f ⟨k.val, by omega⟩ := by
  rw [Fin.sum_univ_two_halves 64 64 rfl]
  have h : ∀ k : Fin 64, ¬ (64 + k.val < 64) := fun k => by omega
  simp [h]

theorem sum_high (f : Fin 128 → EReal) :
    ∑ k : Fin 128, (if k.val < 64 then 0 else f k) = ∑ k : Fin 64, f ⟨64 + k.val, by omega⟩ := by
  rw [Fin.sum_univ_two_halves 64 64 rfl]
  have h : ∀ k : Fin 64, ¬ (64 + k.val < 64) := fun k => by omega
  simp [h]

theorem ofBits_64 : Ideal.ofBits .f32 0x42800000#32 = ((64 : ℝ) : EReal) := by
  simp [Ideal.ofBits, Ideal.ieee, -EReal.coe_mul]; norm_num

theorem ofBits_inv_64 : Ideal.ofBits .f32 0x3C800000#32 = ((1 / 64 : ℝ) : EReal) := by
  simp [Ideal.ofBits, Ideal.ieee, -EReal.coe_mul]; norm_num

/-- The mean of a head: a product with 1/64 against a quotient by 64. -/
theorem mean_eq (s : EReal) : s * Ideal.ofBits .f32 0x3C800000#32 = Ideal.div s (Ideal.ofBits .f32 0x42800000#32) := by
  rw [ofBits_64, ofBits_inv_64, Ideal.div_coe (by norm_num)]

/-- A pair's lane is its head's coordinate. -/
theorem pairNorm_eq (x g : Fin 128 → EReal) (l : Fin 128) :
    pairNorm x g l = headNorm (fun k => x (lane l k)) (fun k => g (lane l k)) ⟨l.val % 64, by omega⟩ := by
  have hl : lane l ⟨l.val % 64, by omega⟩ = l := Fin.ext (by show l.val / 64 * 64 + l.val % 64 = l.val; omega)
  have hs : (if l.val < 64 then ∑ k : Fin 128, (if k.val < 64 then x k * x k else 0)
      else ∑ k : Fin 128, (if k.val < 64 then 0 else x k * x k)) = ∑ k, x (lane l k) * x (lane l k) := by
    by_cases h : l.val < 64
    · rw [if_pos h, sum_low fun k => x k * x k]
      refine Finset.sum_congr rfl fun k _ => ?_
      rw [show lane l k = ⟨k.val, by omega⟩ from Fin.ext (by show l.val / 64 * 64 + k.val = k.val; omega)]
    · rw [if_neg h, sum_high fun k => x k * x k]
      refine Finset.sum_congr rfl fun k _ => ?_
      rw [show lane l k = ⟨64 + k.val, by omega⟩ from Fin.ext (by show l.val / 64 * 64 + k.val = 64 + k.val; omega)]
  rw [pairNorm, headNorm, hs, mean_eq, hl]

/-- A pair's lane in a row of sixteen heads: the head that the row's column `n` lies in. -/
theorem pair_head (a : Fin 1024 → EReal) (g : Fin 128 → EReal) (G : Fin 64 → EReal) (hg : ∀ k : Fin 128, g k = G ⟨k.val % 64, by omega⟩)
    (o : ℕ) (ho : o % 128 = 0) (ho' : o + 128 ≤ 1024) (l : Fin 128) (n : Fin 1024) (hn : n.val = o + l.val) :
    pairNorm (fun k => a ⟨o + k.val, by omega⟩) g l
      = headNorm (fun k => a ⟨n.val / 64 * 64 + k.val, by omega⟩) G ⟨n.val % 64, by omega⟩ := by
  rw [pairNorm_eq]
  have h1 : (fun k : Fin 64 => a ⟨o + (lane l k).val, by have := (lane l k).isLt; omega⟩)
      = fun k : Fin 64 => a ⟨n.val / 64 * 64 + k.val, by omega⟩ := by
    funext k
    refine congrArg a (Fin.ext ?_)
    show o + (l.val / 64 * 64 + k.val) = n.val / 64 * 64 + k.val
    omega
  have h2 : (fun k : Fin 64 => g (lane l k)) = G := by
    funext k
    rw [hg]
    refine congrArg G (Fin.ext ?_)
    show (l.val / 64 * 64 + k.val) % 64 = k.val
    omega
  have h3 : (⟨l.val % 64, by omega⟩ : Fin 64) = ⟨n.val % 64, by omega⟩ := Fin.ext (by show l.val % 64 = n.val % 64; omega)
  rw [h1, h2, h3]

/-- A scale in the gain is a scale of the result. -/
theorem headNorm_scale (x g : Fin 64 → EReal) (s : EReal) (j : Fin 64) :
    headNorm x (fun k => g k * s) j = headNorm x g j * s := by
  unfold headNorm
  rw [mul_assoc, mul_assoc, mul_assoc]

/-- The projected row of a token. -/
def projRow (x g sh sc : Fin 1024 → EReal) (W : Fin 1024 → Fin 3072 → EReal) (f : Fin 3072) : EReal :=
  dot (modulated x g sh sc) W f

/-- A query coordinate of a token: its head's part of the projected row normed, gained and scaled. -/
def query (p : Fin 3072 → EReal) (g : Fin 64 → EReal) (n : Fin 1024) : EReal :=
  headNorm (fun k => p ⟨n.val / 64 * 64 + k.val, by omega⟩) g ⟨n.val % 64, by omega⟩ * Ideal.ofBits .f32 0x3E000000#32

/-- A key coordinate of a token. -/
def key (p : Fin 3072 → EReal) (g : Fin 64 → EReal) (n : Fin 1024) : EReal :=
  headNorm (fun k => p ⟨1024 + n.val / 64 * 64 + k.val, by omega⟩) g ⟨n.val % 64, by omega⟩

/-- A value coordinate of a token. -/
def value (p : Fin 3072 → EReal) (n : Fin 1024) : EReal := p ⟨2048 + n.val, by omega⟩

/-- A value coordinate, by its head and its place in the head. -/
theorem value_split (p : Fin 3072 → EReal) (n : Fin 1024) : value p n = p ⟨2048 + n.val / 64 * 64 + n.val % 64, by omega⟩ :=
  congrArg p (Fin.ext (by show 2048 + n.val = 2048 + n.val / 64 * 64 + n.val % 64; omega))

end Cert.Qkv
-- ==== Proof.Qkv.Body.lean ====
/-
  The projection's blocks at one index: the modulated rows times the weights, the queries and keys normed head by head.
-/
module

public import proofs.«01_k».proof.Proof.Gen.Kernel5Ideal.Frame
public import proofs.«01_k».proof.Proof.Qkv.Spec
public import Idealize.ShloMosaic.Lib.WordCmp
public import Idealize.ShloMosaic.Lib.Pipeline.ValueKit

@[expose] public section

set_option maxRecDepth 16384

noncomputable section

namespace Cert.Kernel5Ideal.Qkv

open Idealize.ShloMosaic Idealize.ShloMosaic.TcCoe
open Cert.Kernel5Ideal Cert.Kernel5Ideal.Gen Cert.Ffn Cert.Qkv

/-- The mask of the first head's lanes. -/
theorem select_mask (l : Fin 128) (a b : EReal) : Scalar.select (k0_pay2 (ix2 0 l)) a b = if l.val < 64 then a else b := by
  pointwise [k0_pay2]
  simp (disch := word_cmp_side) only [hlo_ix]
  all_goals (trace_state; skip)

section Pieces

variable (g : FVec Ideal S1x128 .f32) (r : Fin 1024) (l : Fin 128)

/-! The queries' eight pairs of heads, then the keys'. -/

theorem q0_at (v25 : FVec Ideal S1024x1024 .bf16) (v35 : Vec Ideal S1024x1024 .bf16) :
    k0_pay6 v25 k0_pay2 g v35 (ix3 0 r l)
      = pairNorm (fun k => (k0_pay5 v25 v35) (ix2 r ⟨0 + k.val, by omega⟩)) (fun k => g (ix2 0 k)) l := by
  pointwise [k0_pay6, k0_pay5]
  simp only [select_mask, pairNorm]

theorem q1_at (v25 : FVec Ideal S1024x1024 .bf16) (v35 : Vec Ideal S1024x1024 .bf16) :
    k0_pay12 k0_pay2 g (k0_pay7 v25 v35) (k0_pay8 v25 v35) (k0_pay9 v25 k0_pay2 v35) (k0_pay10 k0_pay2) k0_pay11 (ix3 0 r l)
      = pairNorm (fun k => (k0_pay5 v25 v35) (ix2 r ⟨128 + k.val, by omega⟩)) (fun k => g (ix2 0 k)) l := by
  pointwise [k0_pay12, k0_pay7, k0_pay8, k0_pay9, k0_pay10, k0_pay11, k0_pay5]
  simp only [select_mask, pairNorm]

theorem q2_at (a : FVec Ideal S1024x1024 .f32) :
    k0_pay15 g (k0_pay13 a) (k0_pay14 k0_pay2 a) (ix3 0 r l)
      = pairNorm (fun k => a (ix2 r ⟨256 + k.val, by omega⟩)) (fun k => g (ix2 0 k)) l := by
  pointwise [k0_pay15, k0_pay13, k0_pay14]
  simp only [select_mask, pairNorm]

theorem q3_at (a : FVec Ideal S1024x1024 .f32) :
    k0_pay16 k0_pay2 g a (ix3 0 r l)
      = pairNorm (fun k => a (ix2 r ⟨384 + k.val, by omega⟩)) (fun k => g (ix2 0 k)) l := by
  pointwise [k0_pay16]
  simp only [select_mask, pairNorm]

theorem q4_at (a : FVec Ideal S1024x1024 .f32) :
    k0_pay20 k0_pay2 g (k0_pay17 a) (k0_pay18 a) (Scalar.ofBits (F := Ideal) .f32 0x00000000#32) (k0_pay19 k0_pay2) (ix3 0 r l)
      = pairNorm (fun k => a (ix2 r ⟨512 + k.val, by omega⟩)) (fun k => g (ix2 0 k)) l := by
  pointwise [k0_pay20, k0_pay17, k0_pay18, k0_pay19]
  simp only [select_mask, pairNorm]

theorem q5_at (a : FVec Ideal S1024x1024 .f32) :
    k0_pay26 g (k0_pay21 a) (k0_pay23 k0_pay2 a) (k0_pay24 k0_pay2) (k0_pay25 k0_pay2 a) (ix3 0 r l)
      = pairNorm (fun k => a (ix2 r ⟨640 + k.val, by omega⟩)) (fun k => g (ix2 0 k)) l := by
  pointwise [k0_pay26, k0_pay21, k0_pay22, k0_pay23, k0_pay24, k0_pay25]
  simp only [select_mask, pairNorm]

theorem q6_at (a : FVec Ideal S1024x1024 .f32) :
    k0_pay28 (k0_pay27 k0_pay2 g a) (ix3 0 r l)
      = pairNorm (fun k => a (ix2 r ⟨768 + k.val, by omega⟩)) (fun k => g (ix2 0 k)) l := by
  pointwise [k0_pay28, k0_pay27]
  simp only [select_mask, pairNorm]

theorem q7_at (a : FVec Ideal S1024x1024 .f32) :
    k0_pay29 k0_pay2 g a (ix3 0 r l)
      = pairNorm (fun k => a (ix2 r ⟨896 + k.val, by omega⟩)) (fun k => g (ix2 0 k)) l := by
  pointwise [k0_pay29]
  simp only [select_mask, pairNorm]

theorem k0_at (v25 : FVec Ideal S1024x1024 .bf16) (v35 : Vec Ideal S1024x1024 .bf16) :
    k0_pay34 k0_pay2 g (k0_pay31 v25 v35) (k0_pay32 v25 v35) (k0_pay33 v25 k0_pay2 v35) (ix3 0 r l)
      = pairNorm (fun k => (k0_pay30 v25 v35) (ix2 r ⟨0 + k.val, by omega⟩)) (fun k => g (ix2 0 k)) l := by
  pointwise [k0_pay34, k0_pay31, k0_pay32, k0_pay33, k0_pay30]
  simp only [select_mask, pairNorm]

theorem k1_at (a : FVec Ideal S1024x1024 .f32) :
    k0_pay37 g (k0_pay35 a) (k0_pay36 k0_pay2 a) (ix3 0 r l)
      = pairNorm (fun k => a (ix2 r ⟨128 + k.val, by omega⟩)) (fun k => g (ix2 0 k)) l := by
  pointwise [k0_pay37, k0_pay35, k0_pay36]
  simp only [select_mask, pairNorm]

theorem k2_at (a : FVec Ideal S1024x1024 .f32) :
    k0_pay38 k0_pay2 g a (ix3 0 r l)
      = pairNorm (fun k => a (ix2 r ⟨256 + k.val, by omega⟩)) (fun k => g (ix2 0 k)) l := by
  pointwise [k0_pay38]
  simp only [select_mask, pairNorm]

theorem k3_at (a : FVec Ideal S1024x1024 .f32) :
    k0_pay39 k0_pay2 g a (ix3 0 r l)
      = pairNorm (fun k => a (ix2 r ⟨384 + k.val, by omega⟩)) (fun k => g (ix2 0 k)) l := by
  pointwise [k0_pay39]
  simp only [select_mask, pairNorm]

theorem k4_at (a : FVec Ideal S1024x1024 .f32) :
    k0_pay44 k0_pay2 g (k0_pay40 a) (k0_pay42 k0_pay2 a) (k0_pay43 k0_pay2 a) (ix3 0 r l)
      = pairNorm (fun k => a (ix2 r ⟨512 + k.val, by omega⟩)) (fun k => g (ix2 0 k)) l := by
  pointwise [k0_pay44, k0_pay40, k0_pay41, k0_pay42, k0_pay43]
  simp only [select_mask, pairNorm]

theorem k5_at (a : FVec Ideal S1024x1024 .f32) :
    k0_pay46 g (k0_pay45 k0_pay2 a) (ix3 0 r l)
      = pairNorm (fun k => a (ix2 r ⟨640 + k.val, by omega⟩)) (fun k => g (ix2 0 k)) l := by
  pointwise [k0_pay46, k0_pay45]
  simp only [select_mask, pairNorm]

theorem k6_at (a : FVec Ideal S1024x1024 .f32) :
    k0_pay47 k0_pay2 g a (ix3 0 r l)
      = pairNorm (fun k => a (ix2 r ⟨768 + k.val, by omega⟩)) (fun k => g (ix2 0 k)) l := by
  pointwise [k0_pay47]
  simp only [select_mask, pairNorm]

theorem k7_at (a : FVec Ideal S1024x1024 .f32) :
    k0_pay51 k0_pay2 g (k0_pay48 a) (k0_pay49 a) (k0_pay50 k0_pay2 a) (ix3 0 r l)
      = pairNorm (fun k => a (ix2 r ⟨896 + k.val, by omega⟩)) (fun k => g (ix2 0 k)) l := by
  pointwise [k0_pay51, k0_pay48, k0_pay49, k0_pay50]
  simp only [select_mask, pairNorm]

end Pieces

section Block

variable (x0 : Vec Ideal S1x1024x1024 .f32) (x1 : Vec Ideal S1x3x1024 .f32) (x2 : Vec Ideal S1x1024 .f32)
  (x3 : Vec Ideal S1024x3072 .bf16) (x4 x5 : Vec Ideal S1x128 .f32)

/-- A row of the block modulated and projected, from the staged blocks. -/
abbrev prow (r : Fin 1024) : Fin 3072 → EReal :=
  projRow (fun d => x0 (ix3 0 r d)) (fun d => x2 (ix2 0 d)) (fun d => x1 (ix3 0 0 d)) (fun d => x1 (ix3 0 1 d)) (fun d f => x3 (ix2 d f))

theorem y_at (r d : Fin 1024) : k0_pay53 x0 x1 x2 x3 x4 x5 (ix2 r d)
    = modulated (fun d => x0 (ix3 0 r d)) (fun d => x2 (ix2 0 d)) (fun d => x1 (ix3 0 0 d)) (fun d => x1 (ix3 0 1 d)) d := by
  refine Eq.trans ?_ (modulated_eq _ _ _ _ _)
  pointwise [k0_pay53, k0_pay1, rinv]

theorem q_prod_at (r n : Fin 1024) : k0_pay57 x0 x1 x2 x3 x4 x5 (ix2 r n) = prow x0 x1 x2 x3 r ⟨n.val, by omega⟩ := by
  unfold prow projRow dot
  simp only [← y_at x0 x1 x2 x3 x4 x5]
  pointwise [k0_pay57, k0_pay5]

theorem k_prod_at (r n : Fin 1024) : k0_pay58 x0 x1 x2 x3 x4 x5 (ix2 r n) = prow x0 x1 x2 x3 r ⟨1024 + n.val, by omega⟩ := by
  unfold prow projRow dot
  simp only [← y_at x0 x1 x2 x3 x4 x5]
  pointwise [k0_pay58, k0_pay30]

theorem q_gain_at (k : Fin 128) : k0_pay55 x0 x1 x2 x3 x4 x5 (ix2 0 k) = x4 (ix2 0 k) * Ideal.ofBits .f32 0x3E000000#32 := by
  pointwise [k0_pay55, k0_pay3]

theorem k_gain_at (k : Fin 128) : k0_pay56 x0 x1 x2 x3 x4 x5 (ix2 0 k) = x5 (ix2 0 k) := by
  pointwise [k0_pay56, k0_pay4]

theorem out_q (G : Fin 64 → EReal) (hG : ∀ k : Fin 128, k0_pay55 x0 x1 x2 x3 x4 x5 (ix2 0 k) = G ⟨k.val % 64, by omega⟩) (r n : Fin 1024) :
    out0_6 x0 x1 x2 x3 x4 x5 (ix3 0 r n)
      = headNorm (fun k => k0_pay57 x0 x1 x2 x3 x4 x5 (ix2 r ⟨n.val / 64 * 64 + k.val, by omega⟩)) G ⟨n.val % 64, by omega⟩ := by
  canon_tiles x h
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (q7_at _ r' l _).trans (pair_head (fun n => k0_pay57 x0 x1 x2 x3 x4 x5 (ix2 r' n)) _ G hG 896 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (q6_at _ r' l _).trans (pair_head (fun n => k0_pay57 x0 x1 x2 x3 x4 x5 (ix2 r' n)) _ G hG 768 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (q5_at _ r' l _).trans (pair_head (fun n => k0_pay57 x0 x1 x2 x3 x4 x5 (ix2 r' n)) _ G hG 640 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (q4_at _ r' l _).trans (pair_head (fun n => k0_pay57 x0 x1 x2 x3 x4 x5 (ix2 r' n)) _ G hG 512 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (q3_at _ r' l _).trans (pair_head (fun n => k0_pay57 x0 x1 x2 x3 x4 x5 (ix2 r' n)) _ G hG 384 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (q2_at _ r' l _).trans (pair_head (fun n => k0_pay57 x0 x1 x2 x3 x4 x5 (ix2 r' n)) _ G hG 256 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (q1_at _ r' l _ _).trans (pair_head (fun n => k0_pay57 x0 x1 x2 x3 x4 x5 (ix2 r' n)) _ G hG 128 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (q0_at _ r' l _ _).trans (pair_head (fun n => k0_pay57 x0 x1 x2 x3 x4 x5 (ix2 r' n)) _ G hG 0 rfl (by norm_num) l n (h2.trans (Nat.zero_add _).symm))

theorem out_k (G : Fin 64 → EReal) (hG : ∀ k : Fin 128, k0_pay56 x0 x1 x2 x3 x4 x5 (ix2 0 k) = G ⟨k.val % 64, by omega⟩) (r n : Fin 1024) :
    out0_7 x0 x1 x2 x3 x4 x5 (ix3 0 r n)
      = headNorm (fun k => k0_pay58 x0 x1 x2 x3 x4 x5 (ix2 r ⟨n.val / 64 * 64 + k.val, by omega⟩)) G ⟨n.val % 64, by omega⟩ := by
  canon_tiles x h
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (k7_at _ r' l _).trans (pair_head (fun n => k0_pay58 x0 x1 x2 x3 x4 x5 (ix2 r' n)) _ G hG 896 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (k6_at _ r' l _).trans (pair_head (fun n => k0_pay58 x0 x1 x2 x3 x4 x5 (ix2 r' n)) _ G hG 768 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (k5_at _ r' l _).trans (pair_head (fun n => k0_pay58 x0 x1 x2 x3 x4 x5 (ix2 r' n)) _ G hG 640 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (k4_at _ r' l _).trans (pair_head (fun n => k0_pay58 x0 x1 x2 x3 x4 x5 (ix2 r' n)) _ G hG 512 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (k3_at _ r' l _).trans (pair_head (fun n => k0_pay58 x0 x1 x2 x3 x4 x5 (ix2 r' n)) _ G hG 384 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (k2_at _ r' l _).trans (pair_head (fun n => k0_pay58 x0 x1 x2 x3 x4 x5 (ix2 r' n)) _ G hG 256 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (k1_at _ r' l _).trans (pair_head (fun n => k0_pay58 x0 x1 x2 x3 x4 x5 (ix2 r' n)) _ G hG 128 rfl (by norm_num) l n h2)
  · obtain ⟨u, r', l, rfl⟩ : ∃ (u : Fin 1) (r' : Fin 1024) (l : Fin 128), x = ix3 u r' l := ⟨_, _, _, eq_ix3 x⟩
    obtain rfl : u = 0 := Subsingleton.elim _ _
    obtain rfl : r' = r := Fin.ext h1.symm
    exact (k0_at _ r' l _ _).trans (pair_head (fun n => k0_pay58 x0 x1 x2 x3 x4 x5 (ix2 r' n)) _ G hG 0 rfl (by norm_num) l n (h2.trans (Nat.zero_add _).symm))

/-- The queries' block at one index. -/
theorem query_at (g : Fin 64 → EReal) (hg : ∀ k : Fin 128, x4 (ix2 0 k) = g ⟨k.val % 64, by omega⟩) (r n : Fin 1024) :
    out0_6 x0 x1 x2 x3 x4 x5 (ix3 0 r n) = query (prow x0 x1 x2 x3 r) g n := by
  rw [out_q x0 x1 x2 x3 x4 x5 (fun k => g k * Ideal.ofBits .f32 0x3E000000#32) (fun k => by rw [q_gain_at, hg])]
  simp only [headNorm_scale, q_prod_at, query]

/-- The keys' block at one index. -/
theorem key_at (g : Fin 64 → EReal) (hg : ∀ k : Fin 128, x5 (ix2 0 k) = g ⟨k.val % 64, by omega⟩) (r n : Fin 1024) :
    out0_7 x0 x1 x2 x3 x4 x5 (ix3 0 r n) = key (prow x0 x1 x2 x3 r) g n := by
  rw [out_k x0 x1 x2 x3 x4 x5 g (fun k => by rw [k_gain_at, hg])]
  simp only [k_prod_at, key, ← Nat.add_assoc]

/-- The values' block at one index. -/
theorem value_at (r n : Fin 1024) : out0_8 x0 x1 x2 x3 x4 x5 (ix3 0 r n) = value (prow x0 x1 x2 x3 r) n := by
  canon_tiles x h
  obtain ⟨u, r', l, rfl⟩ : ∃ (u : Fin 1) (r' : Fin 1024) (l : Fin 1024), x = ix3 u r' l := ⟨_, _, _, eq_ix3 x⟩
  obtain rfl : u = 0 := Subsingleton.elim _ _
  obtain rfl : r' = r := Fin.ext h1.symm
  obtain rfl : l = n := Fin.ext h2.symm
  unfold value prow projRow dot
  simp only [← y_at x0 x1 x2 x3 x4 x5]
  pointwise [k0_pay52]

end Block

end Cert.Kernel5Ideal.Qkv
-- ==== Proof.Qkv.Ref.lean ====
/-
  The projection's reference at one index: a token's queries, keys and values.
-/
module

public import proofs.«01_k».proof.Proof.Gen.Reference5Ideal.Run
public import proofs.«01_k».proof.Proof.Qkv.Spec

@[expose] public section

set_option maxRecDepth 16384

noncomputable section

namespace Cert.Reference5Ideal.Qkv

open Idealize.ShloMosaic Idealize.ShloMosaic.TcCoe
open Cert.Reference5Ideal Cert.Reference5Ideal.Gen Cert.Ffn Cert.Qkv

/-- A token's row modulated and projected, from the argument arrays. -/
def proj (h : FVec Ideal S8x4096x1024 .f32) (mod3 : FVec Ideal S8x3x1024 .f32) (g : FVec Ideal S1024 .f32)
    (w : FVec Ideal S1024x3072 .bf16) (b : Fin 8) (t : Fin 4096) : Fin 3072 → EReal :=
  projRow (fun d => h (ix3 b t d)) (fun d => g (ix1 d)) (fun d => mod3 (ix3 b 0 d)) (fun d => mod3 (ix3 b 1 d)) (fun d f => w (ix2 d f))

theorem query_at (m : (ℓ : Loc nD τ sig) → Buf (Elt Ideal) ℓ) (c : Dev nD) (b : Fin 8) (t : Fin 4096) (n : Fin 1024) :
    Value.res_out0 m c (ix3 b t n)
      = query (proj (m ((c.tc : Thread nD τ).loc main_arg0)) (m ((c.tc : Thread nD τ).loc main_arg1))
          (m ((c.tc : Thread nD τ).loc main_arg2)) (m ((c.tc : Thread nD τ).loc main_arg3)) b t)
          (fun k => (m ((c.tc : Thread nD τ).loc main_arg4) : FVec Ideal S64 .f32) (ix1 k)) n := by
  unfold Value.res_out0 Value.res_main_v63
  generalize (m ((c.tc : Thread nD τ).loc main_arg0) : FVec Ideal S8x4096x1024 .f32) = h
  generalize (m ((c.tc : Thread nD τ).loc main_arg1) : FVec Ideal S8x3x1024 .f32) = mod3
  generalize (m ((c.tc : Thread nD τ).loc main_arg2) : FVec Ideal S1024 .f32) = g
  generalize (m ((c.tc : Thread nD τ).loc main_arg3) : FVec Ideal S1024x3072 .bf16) = w
  generalize (m ((c.tc : Thread nD τ).loc main_arg4) : FVec Ideal S64 .f32) = qg
  pointwise [query, headNorm, proj, projRow, dot, modulated, rinv]

theorem key_at (m : (ℓ : Loc nD τ sig) → Buf (Elt Ideal) ℓ) (c : Dev nD) (b : Fin 8) (t : Fin 4096) (n : Fin 1024) :
    Value.res_out1 m c (ix3 b t n)
      = key (proj (m ((c.tc : Thread nD τ).loc main_arg0)) (m ((c.tc : Thread nD τ).loc main_arg1))
          (m ((c.tc : Thread nD τ).loc main_arg2)) (m ((c.tc : Thread nD τ).loc main_arg3)) b t)
          (fun k => (m ((c.tc : Thread nD τ).loc main_arg5) : FVec Ideal S64 .f32) (ix1 k)) n := by
  unfold Value.res_out1 Value.res_main_v65
  generalize (m ((c.tc : Thread nD τ).loc main_arg0) : FVec Ideal S8x4096x1024 .f32) = h
  generalize (m ((c.tc : Thread nD τ).loc main_arg1) : FVec Ideal S8x3x1024 .f32) = mod3
  generalize (m ((c.tc : Thread nD τ).loc main_arg2) : FVec Ideal S1024 .f32) = g
  generalize (m ((c.tc : Thread nD τ).loc main_arg3) : FVec Ideal S1024x3072 .bf16) = w
  generalize (m ((c.tc : Thread nD τ).loc main_arg5) : FVec Ideal S64 .f32) = qg
  pointwise [key, headNorm, proj, projRow, dot, modulated, rinv]

end Cert.Reference5Ideal.Qkv
-- ==== Proof.Qkv.Value.lean ====
/-
  The projection's result arrays: every grid point's blocks are the reference's queries, keys and values of the block's tokens.
-/
module

public import proofs.«01_k».proof.Proof.Gen.Kernel5Ideal.Frame
public import proofs.«01_k».proof.Proof.Qkv.Body
public import proofs.«01_k».proof.Proof.Qkv.Ref
public import Idealize.ShloMosaic.Lib.Pipeline.ValueKit

@[expose] public section

set_option maxRecDepth 16384

noncomputable section

namespace Cert.Kernel5Ideal.Qkv

open Idealize.ShloMosaic Idealize.ShloMosaic.TcCoe Idealize.SL.Sem
open Idealize.ShloMosaic.Pipeline (Dat)
open Cert.Kernel5Ideal Cert.Kernel5Ideal.Gen Cert.Ffn Cert.Qkv

variable (m : (ℓ : Loc nD τ sig) → Buf (Elt Ideal) ℓ)

/-- The reference's queries over this program's arguments. -/
abbrev queries (c : Dev nD) : FVec Ideal S8x4096x1024 .bf16 := fun i =>
  query (Cert.Reference5Ideal.Qkv.proj (m ((c.tc : Thread nD τ).loc main_arg0)) (m ((c.tc : Thread nD τ).loc main_arg1)) (m ((c.tc : Thread nD τ).loc main_arg2)) (m ((c.tc : Thread nD τ).loc main_arg3)) (i 0) (i 1)) (fun k => (m ((c.tc : Thread nD τ).loc main_arg4) : FVec Ideal S64 .f32) (ix1 k)) (i 2)

/-- The reference's keys over this program's arguments. -/
abbrev keys (c : Dev nD) : FVec Ideal S8x4096x1024 .bf16 := fun i =>
  key (Cert.Reference5Ideal.Qkv.proj (m ((c.tc : Thread nD τ).loc main_arg0)) (m ((c.tc : Thread nD τ).loc main_arg1)) (m ((c.tc : Thread nD τ).loc main_arg2)) (m ((c.tc : Thread nD τ).loc main_arg3)) (i 0) (i 1)) (fun k => (m ((c.tc : Thread nD τ).loc main_arg5) : FVec Ideal S64 .f32) (ix1 k)) (i 2)

/-- The reference's values over this program's arguments. -/
abbrev values (c : Dev nD) : FVec Ideal S8x4096x1024 .bf16 := fun i =>
  value (Cert.Reference5Ideal.Qkv.proj (m ((c.tc : Thread nD τ).loc main_arg0)) (m ((c.tc : Thread nD τ).loc main_arg1)) (m ((c.tc : Thread nD τ).loc main_arg2)) (m ((c.tc : Thread nD τ).loc main_arg3)) (i 0) (i 1)) (i 2)

theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

theorem t_lt (t : Fin cfg0.N) : t.val < 32 := lt_of_lt_of_eq t.isLt (by decide +kernel)

/-- The batch entry that a grid point is in. -/
def batch (t : Fin cfg0.N) : Fin 8 := ⟨t.val / 4, by have := t_lt t; omega⟩

/-- The token that a row of a grid point's block is. -/
def token (t : Fin cfg0.N) (r : Fin 1024) : Fin 4096 := ⟨t.val % 4 * 1024 + r.val, by omega⟩

/-- The staged query gain is the argument laid twice. -/
theorem hg4 (c : Dev nD) (t : Fin cfg0.N) (k : Fin 128) :
    iblk m c 4 t (ix2 0 k) = (m ((c.tc : Thread nD τ).loc main_arg4) : FVec Ideal S64 .f32) (ix1 ⟨k.val % 64, by omega⟩) := by
  blk_point [iblk, V, idx t]

/-- The staged key gain is the argument laid twice. -/
theorem hg5 (c : Dev nD) (t : Fin cfg0.N) (k : Fin 128) :
    iblk m c 5 t (ix2 0 k) = (m ((c.tc : Thread nD τ).loc main_arg5) : FVec Ideal S64 .f32) (ix1 ⟨k.val % 64, by omega⟩) := by
  blk_point [iblk, V, idx t]

/-- A staged row's projection is its token's. -/
theorem prow_eq (c : Dev nD) (t : Fin cfg0.N) (r : Fin 1024) :
    prow (iblk m c 0 t) (iblk m c 1 t) (iblk m c 2 t) (iblk m c 3 t) r
      = Cert.Reference5Ideal.Qkv.proj (m ((c.tc : Thread nD τ).loc main_arg0)) (m ((c.tc : Thread nD τ).loc main_arg1)) (m ((c.tc : Thread nD τ).loc main_arg2)) (m ((c.tc : Thread nD τ).loc main_arg3))
          (batch t) (token t r) := by
  have hb := t.isLt
  unfold prow Cert.Reference5Ideal.Qkv.proj batch token
  congr 1
  · funext d
    blk_ext [iblk, V, idx t]
  · funext d
    blk_point [iblk, V, idx t]
  · funext d
    blk_ext [iblk, V, idx t]
  · funext d
    blk_ext [iblk, V, idx t]
  · funext d f
    blk_ext [iblk, V, idx t]

set_option maxHeartbeats 1600000 in
theorem final_query (c : Dev nD) : (dats m 0 c).arrAt 6 (cfgs 0).N = queries m c := by
  refine (dats m 0 c).arrAt_eq_of_covers 6 _ (by decide +kernel) fun t _ y => ?_
  blk_simp
  rw [after0_6]
  have hy : y = ix3 (0 : Fin 1) (y 1 : Fin 1024) (y 2 : Fin 1024) := by
    refine (eq_ix3 y).trans ?_
    exact congrArg (fun z : Fin 1 => ix3 z (y 1 : Fin 1024) (y 2 : Fin 1024)) (Subsingleton.elim (α := Fin 1) _ _)
  rw [hy]
  refine (query_at _ _ _ _ _ _ (fun k => (m ((c.tc : Thread nD τ).loc main_arg4) : FVec Ideal S64 .f32) (ix1 k)) (fun k => hg4 m c t k) (y 1) (y 2)).trans ?_
  have hb := t.isLt
  have hn : ∀ n : Fin 1024, n = (y 2 : Fin 1024) → queries m c (ix3 (batch t) (token t (y 1)) n)
      = query (prow (iblk m c 0 t) (iblk m c 1 t) (iblk m c 2 t) (iblk m c 3 t) (y 1)) (fun k => (m ((c.tc : Thread nD τ).loc main_arg4) : FVec Ideal S64 .f32) (ix1 k)) n := by
    rintro n rfl
    rw [prow_eq m c t (y 1)]
    rfl
  refine (hn _ rfl).symm.trans (congrArg _ ?_)
  refine funext fun a => Fin.ext ?_
  fin_cases a <;> (blk_simp [idx t]; try rfl)

set_option maxHeartbeats 1600000 in
theorem final_key (c : Dev nD) : (dats m 0 c).arrAt 7 (cfgs 0).N = keys m c := by
  refine (dats m 0 c).arrAt_eq_of_covers 7 _ (by decide +kernel) fun t _ y => ?_
  blk_simp
  rw [after0_7]
  have hy : y = ix3 (0 : Fin 1) (y 1 : Fin 1024) (y 2 : Fin 1024) := by
    refine (eq_ix3 y).trans ?_
    exact congrArg (fun z : Fin 1 => ix3 z (y 1 : Fin 1024) (y 2 : Fin 1024)) (Subsingleton.elim (α := Fin 1) _ _)
  rw [hy]
  refine (key_at _ _ _ _ _ _ (fun k => (m ((c.tc : Thread nD τ).loc main_arg5) : FVec Ideal S64 .f32) (ix1 k)) (fun k => hg5 m c t k) (y 1) (y 2)).trans ?_
  have hb := t.isLt
  have hn : ∀ n : Fin 1024, n = (y 2 : Fin 1024) → keys m c (ix3 (batch t) (token t (y 1)) n)
      = key (prow (iblk m c 0 t) (iblk m c 1 t) (iblk m c 2 t) (iblk m c 3 t) (y 1)) (fun k => (m ((c.tc : Thread nD τ).loc main_arg5) : FVec Ideal S64 .f32) (ix1 k)) n := by
    rintro n rfl
    rw [prow_eq m c t (y 1)]
    rfl
  refine (hn _ rfl).symm.trans (congrArg _ ?_)
  refine funext fun a => Fin.ext ?_
  fin_cases a <;> (blk_simp [idx t]; try rfl)

set_option maxHeartbeats 1600000 in
theorem final_value (c : Dev nD) : (dats m 0 c).arrAt 8 (cfgs 0).N = values m c := by
  refine (dats m 0 c).arrAt_eq_of_covers 8 _ (by decide +kernel) fun t _ y => ?_
  blk_simp
  rw [after0_8]
  have hy : y = ix3 (0 : Fin 1) (y 1 : Fin 1024) (y 2 : Fin 1024) := by
    refine (eq_ix3 y).trans ?_
    exact congrArg (fun z : Fin 1 => ix3 z (y 1 : Fin 1024) (y 2 : Fin 1024)) (Subsingleton.elim (α := Fin 1) _ _)
  rw [hy]
  refine (value_at _ _ _ _ _ _ (y 1) (y 2)).trans ?_
  have hb := t.isLt
  have hn : ∀ n : Fin 1024, n = (y 2 : Fin 1024) → values m c (ix3 (batch t) (token t (y 1)) n)
      = value (prow (iblk m c 0 t) (iblk m c 1 t) (iblk m c 2 t) (iblk m c 3 t) (y 1)) n := by
    rintro n rfl
    rw [prow_eq m c t (y 1)]
    rfl
  refine (hn _ rfl).symm.trans (congrArg _ ?_)
  refine funext fun a => Fin.ext ?_
  fin_cases a <;> (blk_simp [idx t]; try rfl)

end Cert.Kernel5Ideal.Qkv
-- ==== Proof.Qkv.Claims.lean ====
/-
  The projection to queries, keys and values, the claims about it: its frames, and its results against the reference over the reals.
-/
module

public import proofs.«01_k».proof.Defs
public import proofs.«01_k».proof.Proof.Gen.Kernel5.Frame
public import proofs.«01_k».proof.Proof.Gen.Kernel5Ideal.Value
public import proofs.«01_k».proof.Proof.Qkv.Value
public import Idealize.ShloMosaic.Lib.Quiescent

@[expose] public section

set_option maxRecDepth 16384

noncomputable section

namespace Cert.Proof.Qkv

open Idealize.ShloMosaic Idealize.ShloMosaic.TcCoe Idealize.SL.Sem

theorem frame : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' _ hag
  refine ⟨fun c => Cert.Kernel5Ideal.Qkv.queries m c, fun c => Cert.Kernel5Ideal.Qkv.keys m c,
    fun c => Cert.Kernel5Ideal.Qkv.values m c, ?_, ?_⟩
  · exact (θ_run Cert.Kernel5Ideal.defs _ _).mono
      (fun _ h c => ⟨(h c).1.trans (Cert.Kernel5Ideal.Qkv.final_query m c), (h c).2.1.trans (Cert.Kernel5Ideal.Qkv.final_key m c),
        (h c).2.2.1.trans (Cert.Kernel5Ideal.Qkv.final_value m c), (h c).2.2.2⟩)
      (Cert.Kernel5Ideal.Value.run_blocks (F := Ideal) m ρ)
  · refine (θ_run Cert.Reference5Ideal.defs _ _).mono
      (fun _ h c => ⟨(h c).1.trans ?_, (h c).2.1.trans ?_, (h c).2.2.1.trans ?_, (h c).2.2.2⟩)
      (Cert.Reference5Ideal.Value.run (F := Ideal) m' ρ')
    · funext i
      refine (congrArg _ (eq_ix3 i)).trans ((Cert.Reference5Ideal.Qkv.query_at m' c (i 0) (i 1) (i 2)).trans ?_)
      obtain ⟨h0, h1, h2, h3, h4, h5⟩ := hag c
      rw [h0, h1, h2, h3, h4]
    · funext i
      refine (congrArg _ (eq_ix3 i)).trans ((Cert.Reference5Ideal.Qkv.key_at m' c (i 0) (i 1) (i 2)).trans ?_)
      obtain ⟨h0, h1, h2, h3, h4, h5⟩ := hag c
      rw [h0, h1, h2, h3, h5]
    · funext i
      obtain ⟨b, t, n, rfl⟩ : ∃ (b : Fin 8) (t : Fin 4096) (n : Fin 1024), i = ix3 b t n := ⟨_, _, _, eq_ix3 i⟩
      obtain ⟨h0, h1, h2, h3, h4, h5⟩ := hag c
      rw [h0, h1, h2, h3]
      refine Eq.trans ?_ (Cert.Qkv.value_split _ n).symm
      pointwise [Cert.Reference5Ideal.Qkv.proj, Cert.Qkv.projRow, Cert.Ffn.dot, Cert.Ffn.modulated, Cert.Ffn.rinv]

end Cert.Proof.Qkv
-- ==== Proof.Modulation.Value.lean ====
/-
  The modulation vectors: every grid point's block is the reference's vectors of one layer, a quarter of the lanes at a time.
-/
module

public import proofs.«01_k».proof.Proof.Gen.Kernel6Ideal.Frame
public import proofs.«01_k».proof.Proof.Gen.Reference6Ideal.Run
public import proofs.«01_k».proof.Proof.Ffn.Spec
public import Idealize.ShloMosaic.Lib.Pointwise
public import Idealize.ShloMosaic.Lib.Pipeline.ValueKit

@[expose] public section

set_option maxRecDepth 16384

noncomputable section

namespace Cert.Modulation

open Idealize.ShloMosaic

/-- One lane of a batch entry's modulation vector: the gated conditioning times a column of the weights, and the bias. -/
def vector (c : Fin 1024 → EReal) (w : Fin 1024 → EReal) (b : EReal) : EReal :=
  (∑ k, c k * Ideal.div (Ideal.ofBits .f32 0x3F800000#32) (Ideal.ofBits .f32 0x3F800000#32 + Ideal.exp (-c k)) * w k) + b

end Cert.Modulation

namespace Cert.Reference6Ideal.Modulation

open Idealize.ShloMosaic Idealize.ShloMosaic.TcCoe
open Cert.Reference6Ideal Cert.Reference6Ideal.Gen Cert.Modulation

/-- The reference's result at one index. -/
theorem at_ix (c : FVec Ideal S8x1024 .f32) (w : FVec Ideal S2x1024x9216 .f32) (b : FVec Ideal S2x9216 .f32)
    (l : Fin 2) (e : Fin 8) (n : Fin 9216) :
    addf (transpose S2x8x9216 [0, 2, 1] (Host.dotGeneral dot_S2x1024x9216_S8x1024_S2x9216x8_1_1_02_0_n_n none w (mulf c (Host.divf (broadcastInDim S8x1024 ![] bcast_S_S8x1024 (constant S_ .f32 0x3F800000#32)) (addf (broadcastInDim S8x1024 ![] bcast_S_S8x1024 (constant S_ .f32 0x3F800000#32)) (Host.exp (Host.negf c)))))) transposes_S2x9216x8_S2x8x9216_0_2_1) (broadcastInDim S2x8x9216 ![0, 1, 2] bcast_S2x1x9216_S2x8x9216_0_1_2 (broadcastInDim S2x1x9216 ![0, 2] bcast_S2x9216_S2x1x9216_0_2 b)) (ix3 l e n)
      = vector (fun k => c (ix2 e k)) (fun k => w (ix3 l k n)) (b (ix2 l n)) := by
  pointwise [vector]
  simp only [mul_comm]

end Cert.Reference6Ideal.Modulation

namespace Cert.Kernel6Ideal.Modulation

open Idealize.ShloMosaic Idealize.ShloMosaic.TcCoe Idealize.SL.Sem
open Idealize.ShloMosaic.Pipeline (Dat)
open Cert.Kernel6Ideal Cert.Kernel6Ideal.Gen Cert.Modulation

/-- The block at one index. -/
theorem out_at (x0 : Vec Ideal S8x1024 .f32) (x1 : Vec Ideal S1x1024x2304 .f32) (x2 : Vec Ideal S1x1x2304 .f32) (e : Fin 8) (n : Fin 2304) :
    out0_3 x0 x1 x2 (ix3 0 e n) = vector (fun k => x0 (ix2 e k)) (fun k => x1 (ix3 0 k n)) (x2 (ix3 0 0 n)) := by
  canon_tiles x h
  obtain ⟨u, e', l, rfl⟩ : ∃ (u : Fin 1) (e' : Fin 8) (l : Fin 2304), x = ix3 u e' l := ⟨_, _, _, eq_ix3 x⟩
  obtain rfl : u = 0 := Subsingleton.elim _ _
  obtain rfl : e' = e := Fin.ext h1.symm
  obtain rfl : l = n := Fin.ext h2.symm
  pointwise [k0_pay1, vector]
  simp only [Cert.Ffn.silu_div]

variable (m : (ℓ : Loc nD τ sig) → Buf (Elt Ideal) ℓ)

/-- The reference's vectors over this program's arguments. -/
abbrev vectors (c : Dev nD) : FVec Ideal S2x8x9216 .f32 := fun i =>
  vector (fun k => (m ((c.tc : Thread nD τ).loc main_arg0) : FVec Ideal S8x1024 .f32) (ix2 (i 1) k))
    (fun k => (m ((c.tc : Thread nD τ).loc main_arg1) : FVec Ideal S2x1024x9216 .f32) (ix3 (i 0) k (i 2)))
    ((m ((c.tc : Thread nD τ).loc main_arg2) : FVec Ideal S2x9216 .f32) (ix2 (i 0) (i 2)))

theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem t_lt (t : Fin cfg0.N) : t.val < 8 := lt_of_lt_of_eq t.isLt (by decide +kernel)

/-- The layer that a grid point computes. -/
def layer (t : Fin cfg0.N) : Fin 2 := ⟨t.val / 4, by have := t_lt t; omega⟩

/-- The lane of the result that a lane of a grid point's block is. -/
def lane (t : Fin cfg0.N) (n : Fin 2304) : Fin 9216 := ⟨t.val % 4 * 2304 + n.val, by omega⟩

set_option maxHeartbeats 1600000 in
theorem final (c : Dev nD) : (dats m 0 c).arrAt 3 (cfgs 0).N = vectors m c := by
  refine (dats m 0 c).arrAt_eq_of_covers 3 _ (by decide +kernel) fun t _ y => ?_
  blk_simp
  rw [after0_3]
  have hb := t_lt t
  have hy : y = ix3 (0 : Fin 1) (y 1 : Fin 8) (y 2 : Fin 2304) := by
    refine (eq_ix3 y).trans ?_
    exact congrArg (fun z : Fin 1 => ix3 z (y 1 : Fin 8) (y 2 : Fin 2304)) (Subsingleton.elim (α := Fin 1) _ _)
  rw [hy]
  refine (out_at _ _ _ (y 1) (y 2)).trans ?_
  have h0 : (fun k : Fin 1024 => iblk m c 0 t (ix2 (y 1 : Fin 8) k)) = fun k => (m ((c.tc : Thread nD τ).loc main_arg0) : FVec Ideal S8x1024 .f32) (ix2 (y 1 : Fin 8) k) := by
    funext k; blk_point [iblk, V, idx t]
  have h1 : (fun k : Fin 1024 => iblk m c 1 t (ix3 0 k (y 2 : Fin 2304))) = fun k => (m ((c.tc : Thread nD τ).loc main_arg1) : FVec Ideal S2x1024x9216 .f32) (ix3 (layer t) k (lane t (y 2))) := by
    funext k; unfold layer lane; blk_ext [iblk, V, idx t]
  have h2 : iblk m c 2 t (ix3 0 0 (y 2 : Fin 2304)) = (m ((c.tc : Thread nD τ).loc main_arg2) : FVec Ideal S2x9216 .f32) (ix2 (layer t) (lane t (y 2))) := by
    unfold layer lane; blk_point [iblk, V, idx t]
  rw [h0, h1, h2]
  have hn : vectors m c (ix3 (layer t) (y 1) (lane t (y 2))) = _ := rfl
  refine hn.symm.trans (congrArg _ ?_)
  refine funext fun a => Fin.ext ?_
  fin_cases a <;> (blk_simp [idx t]; try rfl)

end Cert.Kernel6Ideal.Modulation
-- ==== Proof.Modulation.Claims.lean ====
/-
  The modulation vectors, the claims about them: the frames, and the result against the reference over the reals.
-/
module

public import proofs.«01_k».proof.Defs
public import proofs.«01_k».proof.Proof.Gen.Kernel6.Frame
public import proofs.«01_k».proof.Proof.Gen.Kernel6Ideal.Value
public import proofs.«01_k».proof.Proof.Modulation.Value
public import Idealize.ShloMosaic.Lib.Quiescent

@[expose] public section

set_option maxRecDepth 16384

noncomputable section

namespace Cert.Proof.Modulation

open Idealize.ShloMosaic Idealize.ShloMosaic.TcCoe Idealize.SL.Sem

theorem frame : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem algebraic : Cert.algebraic_Kernel6Ideal_Reference6Ideal := by
  intro m ρ m' ρ' _ hag
  refine ⟨fun c => Cert.Kernel6Ideal.Modulation.vectors m c, ?_, ?_⟩
  · exact (θ_run Cert.Kernel6Ideal.defs _ _).mono
      (fun _ h c => ⟨(h c).1.trans (Cert.Kernel6Ideal.Modulation.final m c), (h c).2⟩)
      (Cert.Kernel6Ideal.Value.run_blocks (F := Ideal) m ρ)
  · refine (θ_run Cert.Reference6Ideal.defs _ _).mono
      (fun _ h c => ⟨(h c).1.trans ?_, (h c).2⟩)
      (Cert.Reference6Ideal.Value.run (F := Ideal) m' ρ')
    funext i
    refine (congrArg _ (eq_ix3 i)).trans ((Cert.Reference6Ideal.Modulation.at_ix _ _ _ (i 0) (i 1) (i 2)).trans ?_)
    obtain ⟨h0, h1, h2⟩ := hag c
    rw [h0, h1, h2]

end Cert.Proof.Modulation
-- ==== Proof.Hybrid.Model.lean ====
/-
  One grid point of the hybrid mixer as plain vector functions of the blocks it reads, the rows kept of the convolution and
  the states: the norm, the gMLP, the convolution, and the recurrence one chunk of 128 rows at a time.
-/
module

public import proofs.«01_k».proof.Proof.Gen.Kernel7Ideal.Frame
public import Idealize.ShloMosaic.Lib.Pointwise
public import Idealize.ShloMosaic.Lib.Pipeline.ValueKit

@[expose] public section

set_option maxRecDepth 16384

noncomputable section

namespace Cert.Kernel7Ideal.Hybrid

open Idealize.ShloMosaic
open Cert.Kernel7Ideal Cert.Kernel7Ideal.Gen

/-- The inclusive sums of a chunk's log decays. -/
def sums (dta : FVec Ideal S128x128 .f32) (tril : Vec Ideal S128x128 .bf16) : FVec Ideal S128x128 .f32 :=
  have t0 : FVec Ideal S128x128 .f32 := extf .f32 (truncf .bf16 dta bitsLt_bf16_f32) bitsLt_bf16_f32
  have rest : FVec Ideal S128x128 .f32 := subf dta t0
  have t1 : FVec Ideal S128x128 .f32 := extf .f32 (truncf .bf16 rest bitsLt_bf16_f32) bitsLt_bf16_f32
  have t2 : FVec Ideal S128x128 .f32 := subf rest t1
  have terms : FVec Ideal S128x384 .f32 := concatenate S128x384 1 [⟨S128x128, t0⟩, ⟨S128x128, t1⟩, ⟨S128x128, t2⟩] concatenates_S128x128_S128x128_S128x128_S128x384_d1
  have s : FVec Ideal S128x384 .f32 := matmul dot_S128x128_S128x384_S128x384_1_0_0_1_n_n none (shapeCast S128x128 tril shapeCasts_S128x128_S128x128 : FVec Ideal S128x128 .bf16) (truncf .bf16 terms bitsLt_bf16_f32) (constant S128x384 .f32 0x00000000#32)
  addf (addf (extractStridedSlice S128x128 ![0, 0] s slices_S128x384_o0_0_S128x128) (extractStridedSlice S128x128 ![0, 128] s slices_S128x384_o0_128_S128x128))
    (extractStridedSlice S128x128 ![0, 256] s slices_S128x384_o0_256_S128x128)

/-- What a row's input weighs in the state at the chunk's end. -/
def toEnd (cs dt : FVec Ideal S128x128 .f32) : FVec Ideal S128x128 .f32 :=
  mulf (exp (subf (broadcastTo S128x128 (extractStridedSlice S1x128 ![127, 0] cs slices_S128x128_o127_0_S1x128) broadcasts_S1x128_S128x128) cs)) dt

/-- The decays from the chunk's start and to its end, each as a rounding and its rest, packed into one row of lanes. -/
def packed (cs dt : FVec Ideal S128x128 .f32) : FVec Ideal S128x128 .bf16 :=
  have v545 : IVec S128x128 32 := iota .tc S128x128 32 [1] iota_S128x128_d1_w32
  have v571 : FVec Ideal S128x128 .f32 := extf .f32 (truncf .bf16 (exp cs) bitsLt_bf16_f32) bitsLt_bf16_f32
  have v572 : FVec Ideal S128x128 .f32 := subf (exp cs) v571
  have v578 : FVec Ideal S128x128 .f32 := extf .f32 (truncf .bf16 (toEnd cs dt) bitsLt_bf16_f32) bitsLt_bf16_f32
  have v579 : FVec Ideal S128x128 .f32 := subf (toEnd cs dt) v578
  truncf .bf16 (select (cmpi .slt v545 (broadcast S128x128 16#32)) v571
    (select (cmpi .slt v545 (broadcast S128x128 32#32)) (dynamicRotate 1 16#32 none v572 rotates_S128x128_d1)
      (select (cmpi .slt v545 (broadcast S128x128 48#32)) (dynamicRotate 1 32#32 none v578 rotates_S128x128_d1)
        (dynamicRotate 1 48#32 none v579 rotates_S128x128_d1)))) bitsLt_bf16_f32

/-- The packed decays, spread over the lanes of their heads. -/
def spread (cs dt : FVec Ideal S128x128 .f32) (emat : Vec Ideal S128x2048 .bf16) : FVec Ideal S128x2048 .f32 :=
  matmul dot_S128x128_S128x2048_S128x2048_1_0_0_1_n_n none (packed cs dt) (shapeCast S128x2048 emat shapeCasts_S128x2048_S128x2048 : FVec Ideal S128x2048 .bf16) (constant S128x2048 .f32 0x00000000#32)

def grow (sp : FVec Ideal S128x2048 .f32) : FVec Ideal S128x1024 .f32 := extractStridedSlice S128x1024 ![0, 0] sp slices_S128x2048_o0_0_S128x1024

def xd (xs : FVec Ideal S128x1024 .f32) (sp : FVec Ideal S128x2048 .f32) : FVec Ideal S128x1024 .bf16 :=
  truncf .bf16 (mulf xs (extractStridedSlice S128x1024 ![0, 1024] sp slices_S128x2048_o0_1024_S128x1024)) bitsLt_bf16_f32

/-- The products of the rows' readings and writings. -/
def products (bm cm : FVec Ideal S128x128 .f32) : FVec Ideal S128x128 .f32 :=
  matmul dot_S128x128_S128x128_S128x128_1_1_0_0_n_n none (truncf .bf16 cm bitsLt_bf16_f32) (truncf .bf16 bm bitsLt_bf16_f32) (constant S128x128 .f32 0x00000000#32)

/-- What the rows read of the state before the chunk, in group 0. -/
def off0 (cm : FVec Ideal S128x128 .f32) (sp : FVec Ideal S128x2048 .f32) (st : Vec Ideal S1x128x512 .f32) : FVec Ideal S128x512 .f32 :=
  mulf (matmul dot_S128x128_S128x512_S128x512_1_0_0_1_n_n none (truncf .bf16 cm bitsLt_bf16_f32) (truncf .bf16 (shapeCast S128x512 st shapeCasts_S1x128x512_S128x512) bitsLt_bf16_f32) (constant S128x512 .f32 0x00000000#32))
    (extractStridedSlice S128x512 ![0, 0] (grow sp) slices_S128x1024_o0_0_S128x512)

/-- The state after the chunk, in group 0. -/
def next0 (bm : FVec Ideal S128x128 .f32) (xs : FVec Ideal S128x1024 .f32) (sp : FVec Ideal S128x2048 .f32) (st : Vec Ideal S1x128x512 .f32) : FVec Ideal S1x128x512 .f32 :=
  shapeCast S1x128x512 (addf
    (mulf (shapeCast S128x512 st shapeCasts_S1x128x512_S128x512) (broadcastTo S128x512 (extractStridedSlice S1x512 ![127, 0] (grow sp) slices_S128x1024_o127_0_S1x512) broadcasts_S1x512_S128x512))
    (matmul dot_S128x128_S128x512_S128x512_1_0_0_1_n_n none (truncf .bf16 (transpose S128x128 [1, 0] bm transposes_S128x128_p1_0_S128x128) bitsLt_bf16_f32)
      (extractStridedSlice S128x512 ![0, 0] (xd xs sp) slices_S128x1024_o0_0_S128x512) (constant S128x512 .f32 0x00000000#32))) shapeCasts_S128x512_S1x128x512

/-- What the rows read of the state before the chunk, in group 1. -/
def off1 (cm : FVec Ideal S128x128 .f32) (sp : FVec Ideal S128x2048 .f32) (st : Vec Ideal S1x128x512 .f32) : FVec Ideal S128x512 .f32 :=
  mulf (matmul dot_S128x128_S128x512_S128x512_1_0_0_1_n_n none (truncf .bf16 cm bitsLt_bf16_f32) (truncf .bf16 (shapeCast S128x512 st shapeCasts_S1x128x512_S128x512) bitsLt_bf16_f32) (constant S128x512 .f32 0x00000000#32))
    (extractStridedSlice S128x512 ![0, 512] (grow sp) slices_S128x1024_o0_512_S128x512)

/-- The state after the chunk, in group 1. -/
def next1 (bm : FVec Ideal S128x128 .f32) (xs : FVec Ideal S128x1024 .f32) (sp : FVec Ideal S128x2048 .f32) (st : Vec Ideal S1x128x512 .f32) : FVec Ideal S1x128x512 .f32 :=
  shapeCast S1x128x512 (addf
    (mulf (shapeCast S128x512 st shapeCasts_S1x128x512_S128x512) (broadcastTo S128x512 (extractStridedSlice S1x512 ![127, 512] (grow sp) slices_S128x1024_o127_512_S1x512) broadcasts_S1x512_S128x512))
    (matmul dot_S128x128_S128x512_S128x512_1_0_0_1_n_n none (truncf .bf16 (transpose S128x128 [1, 0] bm transposes_S128x128_p1_0_S128x128) bitsLt_bf16_f32)
      (extractStridedSlice S128x512 ![0, 512] (xd xs sp) slices_S128x1024_o0_512_S128x512) (constant S128x512 .f32 0x00000000#32))) shapeCasts_S128x512_S1x128x512

/-- One head's weights of the chunk's rows in each other's results. -/
def weights (cs dt cb : FVec Ideal S128x128 .f32) (hd : ℕ) (h1 : S128x128.Slices ![0, hd] S128x1) (h2 : S128x128.Slices ![hd, 0] S1x128) : FVec Ideal S128x128 .bf16 :=
  truncf .bf16 (mulf (mulf cb (select k0_pay58 (exp (select k0_pay58
      (subf (broadcastTo S128x128 (extractStridedSlice S128x1 ![0, hd] cs h1) broadcasts_S128x1_S128x128)
        (broadcastTo S128x128 (extractStridedSlice S1x128 ![hd, 0] (transpose S128x128 [1, 0] cs transposes_S128x128_p1_0_S128x128) h2) broadcasts_S1x128_S128x128))
      (broadcast S128x128 (Scalar.ofBits .f32 0x00000000#32)))) (broadcast S128x128 (Scalar.ofBits .f32 0x00000000#32))))
    (broadcastTo S128x128 (extractStridedSlice S1x128 ![hd, 0] (transpose S128x128 [1, 0] dt transposes_S128x128_p1_0_S128x128) h2) broadcasts_S1x128_S128x128)) bitsLt_bf16_f32

/-- Two heads' lanes of a chunk's result. -/
def pair (w0 w1 : FVec Ideal S128x128 .bf16) (xs : FVec Ideal S128x1024 .f32) (off : FVec Ideal S128x512 .f32) (c d : ℕ)
    (h1 : S128x1024.Slices ![0, c] S128x128) (h2 : S128x512.Slices ![0, d] S128x128) : FVec Ideal S128x128 .f32 :=
  have xp : FVec Ideal S128x128 .bf16 := extractStridedSlice S128x128 ![0, c] (truncf .bf16 xs bitsLt_bf16_f32) h1
  have zero : FVec Ideal S128x128 .bf16 := broadcast S128x128 (Scalar.ofBits .bf16 0x0000#16)
  addf (matmul dot_S128x256_S256x128_S128x128_1_0_0_1_n_n none
      (concatenate S128x256 1 [⟨S128x128, w0⟩, ⟨S128x128, w1⟩] concatenates_S128x128_S128x128_S128x256_d1)
      (concatenate S256x128 0 [⟨S128x128, select k0_pay59 xp zero⟩, ⟨S128x128, select k0_pay59 zero xp⟩] concatenates_S128x128_S128x128_S256x128_d0)
      (constant S128x128 .f32 0x00000000#32))
    (extractStridedSlice S128x128 ![0, d] off h2)

/-- A chunk's result before the gate: the recurrence's rows and what the inputs add directly. -/
def rows (cs dt cb0 cb1 : FVec Ideal S128x128 .f32) (xs : FVec Ideal S128x1024 .f32) (o0 o1 : FVec Ideal S128x512 .f32) (dexp : Vec Ideal S1x1024 .f32) : FVec Ideal S128x1024 .f32 :=
  addf (concatenate S128x1024 1 [⟨S128x128, pair (weights cs dt cb0 0 slices_S128x128_o0_0_S128x1 slices_S128x128_o0_0_S1x128) (weights cs dt cb0 1 slices_S128x128_o0_1_S128x1 slices_S128x128_o1_0_S1x128) xs o0 0 0 slices_S128x1024_o0_0_S128x128 slices_S128x512_o0_0_S128x128⟩,
      ⟨S128x128, pair (weights cs dt cb0 2 slices_S128x128_o0_2_S128x1 slices_S128x128_o2_0_S1x128) (weights cs dt cb0 3 slices_S128x128_o0_3_S128x1 slices_S128x128_o3_0_S1x128) xs o0 128 128 slices_S128x1024_o0_128_S128x128 slices_S128x512_o0_128_S128x128⟩,
      ⟨S128x128, pair (weights cs dt cb0 4 slices_S128x128_o0_4_S128x1 slices_S128x128_o4_0_S1x128) (weights cs dt cb0 5 slices_S128x128_o0_5_S128x1 slices_S128x128_o5_0_S1x128) xs o0 256 256 slices_S128x1024_o0_256_S128x128 slices_S128x512_o0_256_S128x128⟩,
      ⟨S128x128, pair (weights cs dt cb0 6 slices_S128x128_o0_6_S128x1 slices_S128x128_o6_0_S1x128) (weights cs dt cb0 7 slices_S128x128_o0_7_S128x1 slices_S128x128_o7_0_S1x128) xs o0 384 384 slices_S128x1024_o0_384_S128x128 slices_S128x512_o0_384_S128x128⟩,
      ⟨S128x128, pair (weights cs dt cb1 8 slices_S128x128_o0_8_S128x1 slices_S128x128_o8_0_S1x128) (weights cs dt cb1 9 slices_S128x128_o0_9_S128x1 slices_S128x128_o9_0_S1x128) xs o1 512 0 slices_S128x1024_o0_512_S128x128 slices_S128x512_o0_0_S128x128⟩,
      ⟨S128x128, pair (weights cs dt cb1 10 slices_S128x128_o0_10_S128x1 slices_S128x128_o10_0_S1x128) (weights cs dt cb1 11 slices_S128x128_o0_11_S128x1 slices_S128x128_o11_0_S1x128) xs o1 640 128 slices_S128x1024_o0_640_S128x128 slices_S128x512_o0_128_S128x128⟩,
      ⟨S128x128, pair (weights cs dt cb1 12 slices_S128x128_o0_12_S128x1 slices_S128x128_o12_0_S1x128) (weights cs dt cb1 13 slices_S128x128_o0_13_S128x1 slices_S128x128_o13_0_S1x128) xs o1 768 256 slices_S128x1024_o0_768_S128x128 slices_S128x512_o0_256_S128x128⟩,
      ⟨S128x128, pair (weights cs dt cb1 14 slices_S128x128_o0_14_S128x1 slices_S128x128_o14_0_S1x128) (weights cs dt cb1 15 slices_S128x128_o0_15_S128x1 slices_S128x128_o15_0_S1x128) xs o1 896 384 slices_S128x1024_o0_896_S128x128 slices_S128x512_o0_384_S128x128⟩] concatenates_S128x128_S128x128_S128x128_S128x128_S128x128_S128x128_S128x128_S128x128_S128x1024_d1)
    (mulf (broadcastTo S128x1024 (shapeCast S1x1024 dexp shapeCasts_S1x1024_S1x1024) broadcasts_S1x1024_S128x1024) xs)

/-- The gate and the norm of a chunk's rows. -/
def gated (y z : FVec Ideal S128x1024 .f32) (sng : Vec Ideal S1x1024 .f32) : FVec Ideal S128x1024 .f32 :=
  have v : FVec Ideal S128x1024 .f32 := mulf y (divf z (addf (broadcast S128x1024 (Scalar.ofBits .f32 0x3F800000#32)) (exp (subf (broadcast S128x1024 (Scalar.ofBits .f32 0x00000000#32)) z))))
  mulf (mulf v (broadcastTo S128x1024 (rsqrt (addf (divf (shapeCast S128x1 (multiReduction .add [1] S128 (mulf v v) 0x00000000#32 reduces_S128x1024_S128 (.inl rfl) rfl) shapeCasts_S128_S128x1)
      (broadcast S128x1 (Scalar.ofBits .f32 0x44800000#32))) (broadcast S128x1 (Scalar.ofBits .f32 0x358637BD#32)))) broadcasts_S128x1_S128x1024))
    (broadcastTo S128x1024 (shapeCast S1x1024 sng shapeCasts_S1x1024_S1x1024) broadcasts_S1x1024_S128x1024)

/-- One group of the gMLP: the norm of its lanes, the masked mixing of each block of 128 rows, and the gate. -/
def mixed (u v : FVec Ideal S512x128 .f32) (g : Vec Ideal S1x128 .f32) (w : Vec Ideal S1x128x128 .f32) (b : Vec Ideal S128x128 .f32) (mask : IVec S128x128 1) : FVec Ideal S512x128 .f32 :=
  have vn : FVec Ideal S512x128 .bf16 := truncf .bf16 (mulf (mulf v (broadcastTo S512x128 (rsqrt (addf (divf (shapeCast S512x1 (multiReduction .add [1] S512 (mulf v v) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)) bitsLt_bf16_f32
  have wm : FVec Ideal S128x128 .bf16 := truncf .bf16 (select mask (shapeCast S128x128 w shapeCasts_S1x128x128_S128x128) (broadcast S128x128 (Scalar.ofBits .f32 0x00000000#32))) bitsLt_bf16_f32
  mulf u (concatenate S512x128 0 [⟨S128x128, addf (matmul dot_S128x128_S128x128_S128x128_1_0_0_1_n_n none wm (extractStridedSlice S128x128 ![0, 0] vn slices_S512x128_o0_0_S128x128) (constant S128x128 .f32 0x00000000#32)) (shapeCast S128x128 b shapeCasts_S128x128_S128x128)⟩,
    ⟨S128x128, addf (matmul dot_S128x128_S128x128_S128x128_1_0_0_1_n_n none wm (extractStridedSlice S128x128 ![128, 0] vn slices_S512x128_o128_0_S128x128) (constant S128x128 .f32 0x00000000#32)) (shapeCast S128x128 b shapeCasts_S128x128_S128x128)⟩,
    ⟨S128x128, addf (matmul dot_S128x128_S128x128_S128x128_1_0_0_1_n_n none wm (extractStridedSlice S128x128 ![256, 0] vn slices_S512x128_o256_0_S128x128) (constant S128x128 .f32 0x00000000#32)) (shapeCast S128x128 b shapeCasts_S128x128_S128x128)⟩,
    ⟨S128x128, addf (matmul dot_S128x128_S128x128_S128x128_1_0_0_1_n_n none wm (extractStridedSlice S128x128 ![384, 0] vn slices_S512x128_o384_0_S128x128) (constant S128x128 .f32 0x00000000#32)) (shapeCast S128x128 b shapeCasts_S128x128_S128x128)⟩] concatenates_S128x128_S128x128_S128x128_S128x128_S512x128_d0)

section Point

variable (x0 : Vec Ideal S1x512x1024 .f32) (x1 : Vec Ideal S1x3x1024 .f32) (x2 : Vec Ideal S1x1024 .f32) (x3 : Vec Ideal S1024x4624 .bf16)
  (x4 : Vec Ideal S1024x128 .bf16) (x5 : Vec Ideal S2048x1024 .bf16) (x6 : Vec Ideal S1x1024 .f32) (x7 : Vec Ideal S8x128x128 .f32)
  (x8 : Vec Ideal S128x1024 .f32) (x9 : Vec Ideal S4x1536 .f32) (x10 : Vec Ideal S1x1536 .f32) (x11 : Vec Ideal S1x128 .f32)
  (x12 : Vec Ideal S1x128 .f32) (x13 : Vec Ideal S1x1024 .f32) (x14 : Vec Ideal S1x1024 .f32) (x15 : Vec Ideal S128x2048 .bf16)
  (x16 : Vec Ideal S128x128 .bf16) (hal : Vec Ideal S8x1536 .f32) (s0 s1 : Vec Ideal S1x128x512 .f32)

/-- The normed and modulated rows. -/
def normed : FVec Ideal S512x1024 .bf16 :=
  k0_pay5 (View.ld x0 (Rect.unit ![0, 0, 0] S1x512x1024.size inb_S1x512x1024_S1x512x1024_0_0_0)) (View.ld x2 (Rect.unit ![0, 0] S1x1024.size inb_S1x1024_S1x1024_0_0))
    (View.ld x1 (Rect.unit ![0, 0, 0] S1x1x1024.size inb_S1x3x1024_S1x1x1024_0_0_0)) (View.ld x1 (Rect.unit ![0, 1, 0] S1x1x1024.size inb_S1x3x1024_S1x1x1024_0_1_0))

/-- The gMLP's inputs. -/
def hidden : FVec Ideal S512x2048 .f32 :=
  have v : FVec Ideal S512x2048 .f32 := matmul dot_S512x1024_S1024x2048_S512x2048_1_0_0_1_n_n none (normed x0 x1 x2)
    (shapeCast S1024x2048 (View.ld x3 (Rect.unit ![0, 0] S1024x2048.size inb_S1024x4624_S1024x2048_0_0)) shapeCasts_S1024x2048_S1024x2048 : FVec Ideal S1024x2048 .bf16) (constant S512x2048 .f32 0x00000000#32)
  k0_pay8 v (mulf (broadcast S512x2048 (Scalar.ofBits .f32 0x3D372713#32)) (mulf (mulf v v) v))

/-- The gMLP's rows. -/
def gmlp : FVec Ideal S512x1024 .bf16 :=
  have u : FVec Ideal S512x1024 .f32 := extractStridedSlice S512x1024 ![0, 0] (hidden x0 x1 x2 x3) slices_S512x2048_o0_0_S512x1024
  have v : FVec Ideal S512x1024 .f32 := extractStridedSlice S512x1024 ![0, 1024] (hidden x0 x1 x2 x3) slices_S512x2048_o0_1024_S512x1024
  have mask : IVec S128x128 1 := k0_pay14 (iota .tc S128x128 32 [0] iota_S128x128_d0_w32) k0_pay11 64#32 k0_pay12 k0_pay13 0#32
  truncf .bf16 (concatenate S512x1024 1 [⟨S512x128, mixed (extractStridedSlice S512x128 ![0, 0] u slices_S512x1024_o0_0_S512x128) (extractStridedSlice S512x128 ![0, 0] v slices_S512x1024_o0_0_S512x128) (View.ld x6 (Rect.unit ![0, 0] S1x128.size inb_S1x1024_S1x128_0_0)) (View.ld x7 (Rect.unit ![0, 0, 0] S1x128x128.size inb_S8x128x128_S1x128x128_0_0_0)) (View.ld x8 (Rect.unit ![0, 0] S128x128.size inb_S128x1024_S128x128_0_0)) mask⟩,
    ⟨S512x128, mixed (extractStridedSlice S512x128 ![0, 128] u slices_S512x1024_o0_128_S512x128) (extractStridedSlice S512x128 ![0, 128] v slices_S512x1024_o0_128_S512x128) (View.ld x6 (Rect.unit ![0, 128] S1x128.size inb_S1x1024_S1x128_0_128)) (View.ld x7 (Rect.unit ![1, 0, 0] S1x128x128.size inb_S8x128x128_S1x128x128_1_0_0)) (View.ld x8 (Rect.unit ![0, 128] S128x128.size inb_S128x1024_S128x128_0_128)) mask⟩,
    ⟨S512x128, mixed (extractStridedSlice S512x128 ![0, 256] u slices_S512x1024_o0_256_S512x128) (extractStridedSlice S512x128 ![0, 256] v slices_S512x1024_o0_256_S512x128) (View.ld x6 (Rect.unit ![0, 256] S1x128.size inb_S1x1024_S1x128_0_256)) (View.ld x7 (Rect.unit ![2, 0, 0] S1x128x128.size inb_S8x128x128_S1x128x128_2_0_0)) (View.ld x8 (Rect.unit ![0, 256] S128x128.size inb_S128x1024_S128x128_0_256)) mask⟩,
    ⟨S512x128, mixed (extractStridedSlice S512x128 ![0, 384] u slices_S512x1024_o0_384_S512x128) (extractStridedSlice S512x128 ![0, 384] v slices_S512x1024_o0_384_S512x128) (View.ld x6 (Rect.unit ![0, 384] S1x128.size inb_S1x1024_S1x128_0_384)) (View.ld x7 (Rect.unit ![3, 0, 0] S1x128x128.size inb_S8x128x128_S1x128x128_3_0_0)) (View.ld x8 (Rect.unit ![0, 384] S128x128.size inb_S128x1024_S128x128_0_384)) mask⟩,
    ⟨S512x128, mixed (extractStridedSlice S512x128 ![0, 512] u slices_S512x1024_o0_512_S512x128) (extractStridedSlice S512x128 ![0, 512] v slices_S512x1024_o0_512_S512x128) (View.ld x6 (Rect.unit ![0, 512] S1x128.size inb_S1x1024_S1x128_0_512)) (View.ld x7 (Rect.unit ![4, 0, 0] S1x128x128.size inb_S8x128x128_S1x128x128_4_0_0)) (View.ld x8 (Rect.unit ![0, 512] S128x128.size inb_S128x1024_S128x128_0_512)) mask⟩,
    ⟨S512x128, mixed (extractStridedSlice S512x128 ![0, 640] u slices_S512x1024_o0_640_S512x128) (extractStridedSlice S512x128 ![0, 640] v slices_S512x1024_o0_640_S512x128) (View.ld x6 (Rect.unit ![0, 640] S1x128.size inb_S1x1024_S1x128_0_640)) (View.ld x7 (Rect.unit ![5, 0, 0] S1x128x128.size inb_S8x128x128_S1x128x128_5_0_0)) (View.ld x8 (Rect.unit ![0, 640] S128x128.size inb_S128x1024_S128x128_0_640)) mask⟩,
    ⟨S512x128, mixed (extractStridedSlice S512x128 ![0, 768] u slices_S512x1024_o0_768_S512x128) (extractStridedSlice S512x128 ![0, 768] v slices_S512x1024_o0_768_S512x128) (View.ld x6 (Rect.unit ![0, 768] S1x128.size inb_S1x1024_S1x128_0_768)) (View.ld x7 (Rect.unit ![6, 0, 0] S1x128x128.size inb_S8x128x128_S1x128x128_6_0_0)) (View.ld x8 (Rect.unit ![0, 768] S128x128.size inb_S128x1024_S128x128_0_768)) mask⟩,
    ⟨S512x128, mixed (extractStridedSlice S512x128 ![0, 896] u slices_S512x1024_o0_896_S512x128) (extractStridedSlice S512x128 ![0, 896] v slices_S512x1024_o0_896_S512x128) (View.ld x6 (Rect.unit ![0, 896] S1x128.size inb_S1x1024_S1x128_0_896)) (View.ld x7 (Rect.unit ![7, 0, 0] S1x128x128.size inb_S8x128x128_S1x128x128_7_0_0)) (View.ld x8 (Rect.unit ![0, 896] S128x128.size inb_S128x1024_S128x128_0_896)) mask⟩] concatenates_S512x128_S512x128_S512x128_S512x128_S512x128_S512x128_S512x128_S512x128_S512x1024_d1) bitsLt_bf16_f32

/-- The gates. -/
def gates : FVec Ideal S512x1024 .f32 := k0_pay47 (normed x0 x1 x2) (View.ld x3 (Rect.unit ![0, 2048] S1024x1024.size inb_S1024x4624_S1024x1024_0_2048))

/-- The convolution's inputs. -/
def raw : FVec Ideal S512x1536 .f32 := k0_pay48 (normed x0 x1 x2) (View.ld x3 (Rect.unit ![0, 3072] S1024x1536.size inb_S1024x4624_S1024x1536_0_3072))

/-- The step sizes. -/
def steps : FVec Ideal S512x128 .f32 :=
  k0_pay49 (normed x0 x1 x2) (View.ld x4 (Rect.unit ![0, 0] S1024x128.size inb_S1024x128_S1024x128_0_0)) (View.ld x11 (Rect.unit ![0, 0] S1x128.size inb_S1x128_S1x128_0_0))

/-- The log decays. -/
def decays : FVec Ideal S512x128 .f32 := k0_pay57 (steps x0 x1 x2 x4 x11) (View.ld x12 (Rect.unit ![0, 0] S1x128.size inb_S1x128_S1x128_0_0))

/-- The convolution and its gate. -/
def conv : FVec Ideal S512x1536 .f32 :=
  k0_pay53 (k0_pay51 (raw x0 x1 x2 x3) hal (iota .tc S8x1536 32 [0] iota_S8x1536_d0_w32)
    (k0_pay50 (raw x0 x1 x2 x3) (View.ld x10 (Rect.unit ![0, 0] S1x1536.size inb_S1x1536_S1x1536_0_0)) (View.ld x9 (Rect.unit ![3, 0] S1x1536.size inb_S4x1536_S1x1536_3_0))) 1#32
    (View.ld x9 (Rect.unit ![2, 0] S1x1536.size inb_S4x1536_S1x1536_2_0)) (View.ld x9 (Rect.unit ![1, 0] S1x1536.size inb_S4x1536_S1x1536_1_0))
    (View.ld x9 (Rect.unit ![0, 0] S1x1536.size inb_S4x1536_S1x1536_0_0))) (FloatOps.ofBits .f32 0#32)

def inputs : FVec Ideal S512x1024 .f32 := extractStridedSlice S512x1024 ![0, 0] (conv x0 x1 x2 x3 x9 x10 hal) slices_S512x1536_o0_0_S512x1024
def writes : FVec Ideal S512x256 .f32 := extractStridedSlice S512x256 ![0, 1024] (conv x0 x1 x2 x3 x9 x10 hal) slices_S512x1536_o0_1024_S512x256
def reads : FVec Ideal S512x256 .f32 := extractStridedSlice S512x256 ![0, 1280] (conv x0 x1 x2 x3 x9 x10 hal) slices_S512x1536_o0_1280_S512x256

/-- Chunk 0: the step sizes, the sums, the spread decays and the inputs. -/
def dt0 : FVec Ideal S128x128 .f32 := extractStridedSlice S128x128 ![0, 0] (steps x0 x1 x2 x4 x11) slices_S512x128_o0_0_S128x128
def cs0 : FVec Ideal S128x128 .f32 := sums (extractStridedSlice S128x128 ![0, 0] (decays x0 x1 x2 x4 x11 x12) slices_S512x128_o0_0_S128x128) (View.ld x16 (Rect.unit ![0, 0] S128x128.size inb_S128x128_S128x128_0_0))
def sp0 : FVec Ideal S128x2048 .f32 := spread (cs0 x0 x1 x2 x4 x11 x12 x16) (dt0 x0 x1 x2 x4 x11) (View.ld x15 (Rect.unit ![0, 0] S128x2048.size inb_S128x2048_S128x2048_0_0))
def xs0 : FVec Ideal S128x1024 .f32 := extractStridedSlice S128x1024 ![0, 0] (inputs x0 x1 x2 x3 x9 x10 hal) slices_S512x1024_o0_0_S128x1024
def bm0_0 : FVec Ideal S128x128 .f32 := extractStridedSlice S128x128 ![0, 0] (writes x0 x1 x2 x3 x9 x10 hal) slices_S512x256_o0_0_S128x128
def bm0_1 : FVec Ideal S128x128 .f32 := extractStridedSlice S128x128 ![0, 128] (writes x0 x1 x2 x3 x9 x10 hal) slices_S512x256_o0_128_S128x128
def cm0_0 : FVec Ideal S128x128 .f32 := extractStridedSlice S128x128 ![0, 0] (reads x0 x1 x2 x3 x9 x10 hal) slices_S512x256_o0_0_S128x128
def cm0_1 : FVec Ideal S128x128 .f32 := extractStridedSlice S128x128 ![0, 128] (reads x0 x1 x2 x3 x9 x10 hal) slices_S512x256_o0_128_S128x128

/-- Chunk 1: the step sizes, the sums, the spread decays and the inputs. -/
def dt1 : FVec Ideal S128x128 .f32 := extractStridedSlice S128x128 ![128, 0] (steps x0 x1 x2 x4 x11) slices_S512x128_o128_0_S128x128
def cs1 : FVec Ideal S128x128 .f32 := sums (extractStridedSlice S128x128 ![128, 0] (decays x0 x1 x2 x4 x11 x12) slices_S512x128_o128_0_S128x128) (View.ld x16 (Rect.unit ![0, 0] S128x128.size inb_S128x128_S128x128_0_0))
def sp1 : FVec Ideal S128x2048 .f32 := spread (cs1 x0 x1 x2 x4 x11 x12 x16) (dt1 x0 x1 x2 x4 x11) (View.ld x15 (Rect.unit ![0, 0] S128x2048.size inb_S128x2048_S128x2048_0_0))
def xs1 : FVec Ideal S128x1024 .f32 := extractStridedSlice S128x1024 ![128, 0] (inputs x0 x1 x2 x3 x9 x10 hal) slices_S512x1024_o128_0_S128x1024
def bm1_0 : FVec Ideal S128x128 .f32 := extractStridedSlice S128x128 ![128, 0] (writes x0 x1 x2 x3 x9 x10 hal) slices_S512x256_o128_0_S128x128
def bm1_1 : FVec Ideal S128x128 .f32 := extractStridedSlice S128x128 ![128, 128] (writes x0 x1 x2 x3 x9 x10 hal) slices_S512x256_o128_128_S128x128
def cm1_0 : FVec Ideal S128x128 .f32 := extractStridedSlice S128x128 ![128, 0] (reads x0 x1 x2 x3 x9 x10 hal) slices_S512x256_o128_0_S128x128
def cm1_1 : FVec Ideal S128x128 .f32 := extractStridedSlice S128x128 ![128, 128] (reads x0 x1 x2 x3 x9 x10 hal) slices_S512x256_o128_128_S128x128

/-- Chunk 2: the step sizes, the sums, the spread decays and the inputs. -/
def dt2 : FVec Ideal S128x128 .f32 := extractStridedSlice S128x128 ![256, 0] (steps x0 x1 x2 x4 x11) slices_S512x128_o256_0_S128x128
def cs2 : FVec Ideal S128x128 .f32 := sums (extractStridedSlice S128x128 ![256, 0] (decays x0 x1 x2 x4 x11 x12) slices_S512x128_o256_0_S128x128) (View.ld x16 (Rect.unit ![0, 0] S128x128.size inb_S128x128_S128x128_0_0))
def sp2 : FVec Ideal S128x2048 .f32 := spread (cs2 x0 x1 x2 x4 x11 x12 x16) (dt2 x0 x1 x2 x4 x11) (View.ld x15 (Rect.unit ![0, 0] S128x2048.size inb_S128x2048_S128x2048_0_0))
def xs2 : FVec Ideal S128x1024 .f32 := extractStridedSlice S128x1024 ![256, 0] (inputs x0 x1 x2 x3 x9 x10 hal) slices_S512x1024_o256_0_S128x1024
def bm2_0 : FVec Ideal S128x128 .f32 := extractStridedSlice S128x128 ![256, 0] (writes x0 x1 x2 x3 x9 x10 hal) slices_S512x256_o256_0_S128x128
def bm2_1 : FVec Ideal S128x128 .f32 := extractStridedSlice S128x128 ![256, 128] (writes x0 x1 x2 x3 x9 x10 hal) slices_S512x256_o256_128_S128x128
def cm2_0 : FVec Ideal S128x128 .f32 := extractStridedSlice S128x128 ![256, 0] (reads x0 x1 x2 x3 x9 x10 hal) slices_S512x256_o256_0_S128x128
def cm2_1 : FVec Ideal S128x128 .f32 := extractStridedSlice S128x128 ![256, 128] (reads x0 x1 x2 x3 x9 x10 hal) slices_S512x256_o256_128_S128x128

/-- Chunk 3: the step sizes, the sums, the spread decays and the inputs. -/
def dt3 : FVec Ideal S128x128 .f32 := extractStridedSlice S128x128 ![384, 0] (steps x0 x1 x2 x4 x11) slices_S512x128_o384_0_S128x128
def cs3 : FVec Ideal S128x128 .f32 := sums (extractStridedSlice S128x128 ![384, 0] (decays x0 x1 x2 x4 x11 x12) slices_S512x128_o384_0_S128x128) (View.ld x16 (Rect.unit ![0, 0] S128x128.size inb_S128x128_S128x128_0_0))
def sp3 : FVec Ideal S128x2048 .f32 := spread (cs3 x0 x1 x2 x4 x11 x12 x16) (dt3 x0 x1 x2 x4 x11) (View.ld x15 (Rect.unit ![0, 0] S128x2048.size inb_S128x2048_S128x2048_0_0))
def xs3 : FVec Ideal S128x1024 .f32 := extractStridedSlice S128x1024 ![384, 0] (inputs x0 x1 x2 x3 x9 x10 hal) slices_S512x1024_o384_0_S128x1024
def bm3_0 : FVec Ideal S128x128 .f32 := extractStridedSlice S128x128 ![384, 0] (writes x0 x1 x2 x3 x9 x10 hal) slices_S512x256_o384_0_S128x128
def bm3_1 : FVec Ideal S128x128 .f32 := extractStridedSlice S128x128 ![384, 128] (writes x0 x1 x2 x3 x9 x10 hal) slices_S512x256_o384_128_S128x128
def cm3_0 : FVec Ideal S128x128 .f32 := extractStridedSlice S128x128 ![384, 0] (reads x0 x1 x2 x3 x9 x10 hal) slices_S512x256_o384_0_S128x128
def cm3_1 : FVec Ideal S128x128 .f32 := extractStridedSlice S128x128 ![384, 128] (reads x0 x1 x2 x3 x9 x10 hal) slices_S512x256_o384_128_S128x128

/-- The state of group 0 after chunk 0. -/
def st1_0 : FVec Ideal S1x128x512 .f32 := next0 (bm0_0 x0 x1 x2 x3 x9 x10 hal) (xs0 x0 x1 x2 x3 x9 x10 hal) (sp0 x0 x1 x2 x4 x11 x12 x15 x16) s0
/-- The state of group 0 after chunk 1. -/
def st2_0 : FVec Ideal S1x128x512 .f32 := next0 (bm1_0 x0 x1 x2 x3 x9 x10 hal) (xs1 x0 x1 x2 x3 x9 x10 hal) (sp1 x0 x1 x2 x4 x11 x12 x15 x16) (st1_0 x0 x1 x2 x3 x4 x9 x10 x11 x12 x15 x16 hal s0)
/-- The state of group 0 after chunk 2. -/
def st3_0 : FVec Ideal S1x128x512 .f32 := next0 (bm2_0 x0 x1 x2 x3 x9 x10 hal) (xs2 x0 x1 x2 x3 x9 x10 hal) (sp2 x0 x1 x2 x4 x11 x12 x15 x16) (st2_0 x0 x1 x2 x3 x4 x9 x10 x11 x12 x15 x16 hal s0)
/-- The state of group 0 after chunk 3. -/
def st4_0 : FVec Ideal S1x128x512 .f32 := next0 (bm3_0 x0 x1 x2 x3 x9 x10 hal) (xs3 x0 x1 x2 x3 x9 x10 hal) (sp3 x0 x1 x2 x4 x11 x12 x15 x16) (st3_0 x0 x1 x2 x3 x4 x9 x10 x11 x12 x15 x16 hal s0)
/-- The state of group 1 after chunk 0. -/
def st1_1 : FVec Ideal S1x128x512 .f32 := next1 (bm0_1 x0 x1 x2 x3 x9 x10 hal) (xs0 x0 x1 x2 x3 x9 x10 hal) (sp0 x0 x1 x2 x4 x11 x12 x15 x16) s1
/-- The state of group 1 after chunk 1. -/
def st2_1 : FVec Ideal S1x128x512 .f32 := next1 (bm1_1 x0 x1 x2 x3 x9 x10 hal) (xs1 x0 x1 x2 x3 x9 x10 hal) (sp1 x0 x1 x2 x4 x11 x12 x15 x16) (st1_1 x0 x1 x2 x3 x4 x9 x10 x11 x12 x15 x16 hal s1)
/-- The state of group 1 after chunk 2. -/
def st3_1 : FVec Ideal S1x128x512 .f32 := next1 (bm2_1 x0 x1 x2 x3 x9 x10 hal) (xs2 x0 x1 x2 x3 x9 x10 hal) (sp2 x0 x1 x2 x4 x11 x12 x15 x16) (st2_1 x0 x1 x2 x3 x4 x9 x10 x11 x12 x15 x16 hal s1)
/-- The state of group 1 after chunk 3. -/
def st4_1 : FVec Ideal S1x128x512 .f32 := next1 (bm3_1 x0 x1 x2 x3 x9 x10 hal) (xs3 x0 x1 x2 x3 x9 x10 hal) (sp3 x0 x1 x2 x4 x11 x12 x15 x16) (st3_1 x0 x1 x2 x3 x4 x9 x10 x11 x12 x15 x16 hal s1)

/-- Chunk 0's rows. -/
def out0 : FVec Ideal S128x1024 .f32 :=
  gated (rows (cs0 x0 x1 x2 x4 x11 x12 x16) (dt0 x0 x1 x2 x4 x11) (products (bm0_0 x0 x1 x2 x3 x9 x10 hal) (cm0_0 x0 x1 x2 x3 x9 x10 hal)) (products (bm0_1 x0 x1 x2 x3 x9 x10 hal) (cm0_1 x0 x1 x2 x3 x9 x10 hal)) (xs0 x0 x1 x2 x3 x9 x10 hal)
      (off0 (cm0_0 x0 x1 x2 x3 x9 x10 hal) (sp0 x0 x1 x2 x4 x11 x12 x15 x16) s0) (off1 (cm0_1 x0 x1 x2 x3 x9 x10 hal) (sp0 x0 x1 x2 x4 x11 x12 x15 x16) s1) (View.ld x13 (Rect.unit ![0, 0] S1x1024.size inb_S1x1024_S1x1024_0_0)))
    (extractStridedSlice S128x1024 ![0, 0] (gates x0 x1 x2 x3) slices_S512x1024_o0_0_S128x1024) (View.ld x14 (Rect.unit ![0, 0] S1x1024.size inb_S1x1024_S1x1024_0_0))

/-- Chunk 1's rows. -/
def out1 : FVec Ideal S128x1024 .f32 :=
  gated (rows (cs1 x0 x1 x2 x4 x11 x12 x16) (dt1 x0 x1 x2 x4 x11) (products (bm1_0 x0 x1 x2 x3 x9 x10 hal) (cm1_0 x0 x1 x2 x3 x9 x10 hal)) (products (bm1_1 x0 x1 x2 x3 x9 x10 hal) (cm1_1 x0 x1 x2 x3 x9 x10 hal)) (xs1 x0 x1 x2 x3 x9 x10 hal)
      (off0 (cm1_0 x0 x1 x2 x3 x9 x10 hal) (sp1 x0 x1 x2 x4 x11 x12 x15 x16) (st1_0 x0 x1 x2 x3 x4 x9 x10 x11 x12 x15 x16 hal s0)) (off1 (cm1_1 x0 x1 x2 x3 x9 x10 hal) (sp1 x0 x1 x2 x4 x11 x12 x15 x16) (st1_1 x0 x1 x2 x3 x4 x9 x10 x11 x12 x15 x16 hal s1)) (View.ld x13 (Rect.unit ![0, 0] S1x1024.size inb_S1x1024_S1x1024_0_0)))
    (extractStridedSlice S128x1024 ![128, 0] (gates x0 x1 x2 x3) slices_S512x1024_o128_0_S128x1024) (View.ld x14 (Rect.unit ![0, 0] S1x1024.size inb_S1x1024_S1x1024_0_0))

/-- Chunk 2's rows. -/
def out2 : FVec Ideal S128x1024 .f32 :=
  gated (rows (cs2 x0 x1 x2 x4 x11 x12 x16) (dt2 x0 x1 x2 x4 x11) (products (bm2_0 x0 x1 x2 x3 x9 x10 hal) (cm2_0 x0 x1 x2 x3 x9 x10 hal)) (products (bm2_1 x0 x1 x2 x3 x9 x10 hal) (cm2_1 x0 x1 x2 x3 x9 x10 hal)) (xs2 x0 x1 x2 x3 x9 x10 hal)
      (off0 (cm2_0 x0 x1 x2 x3 x9 x10 hal) (sp2 x0 x1 x2 x4 x11 x12 x15 x16) (st2_0 x0 x1 x2 x3 x4 x9 x10 x11 x12 x15 x16 hal s0)) (off1 (cm2_1 x0 x1 x2 x3 x9 x10 hal) (sp2 x0 x1 x2 x4 x11 x12 x15 x16) (st2_1 x0 x1 x2 x3 x4 x9 x10 x11 x12 x15 x16 hal s1)) (View.ld x13 (Rect.unit ![0, 0] S1x1024.size inb_S1x1024_S1x1024_0_0)))
    (extractStridedSlice S128x1024 ![256, 0] (gates x0 x1 x2 x3) slices_S512x1024_o256_0_S128x1024) (View.ld x14 (Rect.unit ![0, 0] S1x1024.size inb_S1x1024_S1x1024_0_0))

/-- Chunk 3's rows. -/
def out3 : FVec Ideal S128x1024 .f32 :=
  gated (rows (cs3 x0 x1 x2 x4 x11 x12 x16) (dt3 x0 x1 x2 x4 x11) (products (bm3_0 x0 x1 x2 x3 x9 x10 hal) (cm3_0 x0 x1 x2 x3 x9 x10 hal)) (products (bm3_1 x0 x1 x2 x3 x9 x10 hal) (cm3_1 x0 x1 x2 x3 x9 x10 hal)) (xs3 x0 x1 x2 x3 x9 x10 hal)
      (off0 (cm3_0 x0 x1 x2 x3 x9 x10 hal) (sp3 x0 x1 x2 x4 x11 x12 x15 x16) (st3_0 x0 x1 x2 x3 x4 x9 x10 x11 x12 x15 x16 hal s0)) (off1 (cm3_1 x0 x1 x2 x3 x9 x10 hal) (sp3 x0 x1 x2 x4 x11 x12 x15 x16) (st3_1 x0 x1 x2 x3 x4 x9 x10 x11 x12 x15 x16 hal s1)) (View.ld x13 (Rect.unit ![0, 0] S1x1024.size inb_S1x1024_S1x1024_0_0)))
    (extractStridedSlice S128x1024 ![384, 0] (gates x0 x1 x2 x3) slices_S512x1024_o384_0_S128x1024) (View.ld x14 (Rect.unit ![0, 0] S1x1024.size inb_S1x1024_S1x1024_0_0))

/-- The block. -/
def block : FVec Ideal S1x512x1024 .f32 :=
  have yb : FVec Ideal S512x1024 .f32 := concatenate S512x1024 0 [⟨S128x1024, out0 x0 x1 x2 x3 x4 x9 x10 x11 x12 x13 x14 x15 x16 hal s0 s1⟩, ⟨S128x1024, out1 x0 x1 x2 x3 x4 x9 x10 x11 x12 x13 x14 x15 x16 hal s0 s1⟩, ⟨S128x1024, out2 x0 x1 x2 x3 x4 x9 x10 x11 x12 x13 x14 x15 x16 hal s0 s1⟩, ⟨S128x1024, out3 x0 x1 x2 x3 x4 x9 x10 x11 x12 x13 x14 x15 x16 hal s0 s1⟩] concatenates_S128x1024_S128x1024_S128x1024_S128x1024_S512x1024_d0
  shapeCast S1x512x1024 (addf (shapeCast S512x1024 (View.ld x0 (Rect.unit ![0, 0, 0] S1x512x1024.size inb_S1x512x1024_S1x512x1024_0_0_0)) shapeCasts_S1x512x1024_S512x1024)
    (mulf (broadcastTo S512x1024 (shapeCast S1x1024 (View.ld x1 (Rect.unit ![0, 2, 0] S1x1x1024.size inb_S1x3x1024_S1x1x1024_0_2_0)) shapeCasts_S1x1x1024_S1x1024) broadcasts_S1x1024_S512x1024)
      (addf (matmul dot_S512x1024_S1024x1024_S512x1024_1_0_0_1_n_n none (gmlp x0 x1 x2 x3 x6 x7 x8)
          (shapeCast S1024x1024 (View.ld x5 (Rect.unit ![0, 0] S1024x1024.size inb_S2048x1024_S1024x1024_0_0)) shapeCasts_S1024x1024_S1024x1024 : FVec Ideal S1024x1024 .bf16) (constant S512x1024 .f32 0x00000000#32))
        (matmul dot_S512x1024_S1024x1024_S512x1024_1_0_0_1_n_n none (truncf .bf16 yb bitsLt_bf16_f32)
          (shapeCast S1024x1024 (View.ld x5 (Rect.unit ![1024, 0] S1024x1024.size inb_S2048x1024_S1024x1024_1024_0)) shapeCasts_S1024x1024_S1024x1024 : FVec Ideal S1024x1024 .bf16) (constant S512x1024 .f32 0x00000000#32))))) shapeCasts_S512x1024_S1x512x1024

end Point

end Cert.Kernel7Ideal.Hybrid
-- ==== Proof.Hybrid.Chunk.lean ====
/-
  One chunk of 128 rows at an index: the sums of the log decays, the spread decays, the states and the rows, as sums over the
  reals with both infinities.
-/
module

public import proofs.«01_k».proof.Proof.Hybrid.Model
public import Idealize.ShloMosaic.Lib.WordCmp

@[expose] public section

set_option maxRecDepth 16384

noncomputable section

namespace Cert.Kernel7Ideal.Hybrid

open Idealize.ShloMosaic
open Cert.Kernel7Ideal Cert.Kernel7Ideal.Gen

theorem sums_at (dta : FVec Ideal S128x128 .f32) (tril : Vec Ideal S128x128 .bf16) (r h : Fin 128) :
    sums dta tril (ix2 r h) = (∑ j : Fin 128, (tril (ix2 r j) : EReal) * dta (ix2 j h))
      + (∑ j : Fin 128, (tril (ix2 r j) : EReal) * ((dta (ix2 j h) : EReal) - dta (ix2 j h)))
      + ∑ j : Fin 128, (tril (ix2 r j) : EReal) * (((dta (ix2 j h) : EReal) - dta (ix2 j h)) - ((dta (ix2 j h) : EReal) - dta (ix2 j h))) := by
  pointwise [sums]
  refine congrArg _ (Finset.sum_congr rfl fun x _ => ?_)
  rw [dif_neg (by omega), dif_neg (by omega)]
  have e : (⟨256 + h.val - 128 - 128, by omega⟩ : Fin 128) = h := Fin.ext (by show 256 + h.val - 128 - 128 = h.val; omega)
  rw [e]

theorem toEnd_at (cs dt : FVec Ideal S128x128 .f32) (r h : Fin 128) :
    toEnd cs dt (ix2 r h) = Ideal.exp ((cs (ix2 127 h) : EReal) - cs (ix2 r h)) * dt (ix2 r h) := by
  pointwise [toEnd]

theorem spread_at (cs dt : FVec Ideal S128x128 .f32) (e : Vec Ideal S128x2048 .bf16) (r : Fin 128) (c : Fin 2048) :
    spread cs dt e (ix2 r c) = ∑ k : Fin 128, (packed cs dt (ix2 r k) : EReal) * e (ix2 k c) := by
  pointwise [spread]

theorem grow_at (sp : FVec Ideal S128x2048 .f32) (r : Fin 128) (c : Fin 1024) : grow sp (ix2 r c) = sp (ix2 r ⟨c.val, by omega⟩) := by
  pointwise [grow]

theorem xd_at (xs : FVec Ideal S128x1024 .f32) (sp : FVec Ideal S128x2048 .f32) (r : Fin 128) (c : Fin 1024) :
    xd xs sp (ix2 r c) = (xs (ix2 r c) : EReal) * sp (ix2 r ⟨1024 + c.val, by omega⟩) := by
  pointwise [xd]

theorem products_at (bm cm : FVec Ideal S128x128 .f32) (r j : Fin 128) :
    products bm cm (ix2 r j) = ∑ n : Fin 128, (cm (ix2 r n) : EReal) * bm (ix2 j n) := by
  pointwise [products]

theorem off0_at (cm : FVec Ideal S128x128 .f32) (sp : FVec Ideal S128x2048 .f32) (st : Vec Ideal S1x128x512 .f32) (r : Fin 128) (c : Fin 512) :
    off0 cm sp st (ix2 r c) = (∑ n : Fin 128, (cm (ix2 r n) : EReal) * st (ix3 0 n c)) * sp (ix2 r ⟨c.val, by omega⟩) := by
  pointwise [off0, grow]

theorem off1_at (cm : FVec Ideal S128x128 .f32) (sp : FVec Ideal S128x2048 .f32) (st : Vec Ideal S1x128x512 .f32) (r : Fin 128) (c : Fin 512) :
    off1 cm sp st (ix2 r c) = (∑ n : Fin 128, (cm (ix2 r n) : EReal) * st (ix3 0 n c)) * sp (ix2 r ⟨512 + c.val, by omega⟩) := by
  pointwise [off1, grow]

theorem next0_at (bm : FVec Ideal S128x128 .f32) (xs : FVec Ideal S128x1024 .f32) (sp : FVec Ideal S128x2048 .f32) (st : Vec Ideal S1x128x512 .f32) (n : Fin 128) (c : Fin 512) :
    next0 bm xs sp st (ix3 0 n c) = (st (ix3 0 n c) : EReal) * sp (ix2 127 ⟨c.val, by omega⟩)
      + ∑ j : Fin 128, (bm (ix2 j n) : EReal) * ((xs (ix2 j ⟨c.val, by omega⟩) : EReal) * sp (ix2 j ⟨1024 + c.val, by omega⟩)) := by
  pointwise [next0, grow, xd]

theorem next1_at (bm : FVec Ideal S128x128 .f32) (xs : FVec Ideal S128x1024 .f32) (sp : FVec Ideal S128x2048 .f32) (st : Vec Ideal S1x128x512 .f32) (n : Fin 128) (c : Fin 512) :
    next1 bm xs sp st (ix3 0 n c) = (st (ix3 0 n c) : EReal) * sp (ix2 127 ⟨512 + c.val, by omega⟩)
      + ∑ j : Fin 128, (bm (ix2 j n) : EReal) * ((xs (ix2 j ⟨512 + c.val, by omega⟩) : EReal) * sp (ix2 j ⟨1024 + (512 + c.val), by omega⟩)) := by
  pointwise [next1, grow, xd]

theorem packed_at (cs dt : FVec Ideal S128x128 .f32) (r k : Fin 128) :
    packed cs dt (ix2 r k) = if k.val < 16 then Ideal.exp (cs (ix2 r k))
      else if k.val < 32 then Ideal.exp (cs (ix2 r ⟨(k.val + 128 - 16) % 128, by omega⟩)) - Ideal.exp (cs (ix2 r ⟨(k.val + 128 - 16) % 128, by omega⟩))
      else if k.val < 48 then toEnd cs dt (ix2 r ⟨(k.val + 128 - 32) % 128, by omega⟩)
      else (toEnd cs dt (ix2 r ⟨(k.val + 128 - 48) % 128, by omega⟩) : EReal) - toEnd cs dt (ix2 r ⟨(k.val + 128 - 48) % 128, by omega⟩) := by
  pointwise [packed]
  simp (disch := word_cmp_side) only [hlo_ix]

theorem weights_at (cs dt cb : FVec Ideal S128x128 .f32) (hd : ℕ) (hh : hd < 128) (h1 : S128x128.Slices ![0, hd] S128x1) (h2 : S128x128.Slices ![hd, 0] S1x128) (r j : Fin 128) :
    weights cs dt cb hd h1 h2 (ix2 r j) = (cb (ix2 r j) : EReal) * (if j.val ≤ r.val then Ideal.exp ((cs (ix2 r ⟨hd, hh⟩) : EReal) - cs (ix2 j ⟨hd, hh⟩)) else 0) * dt (ix2 j ⟨hd, hh⟩) := by
  pointwise [weights, k0_pay58]
  simp (disch := word_cmp_side) only [hlo_ix]
  by_cases h : j.val ≤ r.val
  · simp only [if_pos h]
  · simp only [if_neg h, mul_zero, zero_mul]

theorem pair_at (w0 w1 : FVec Ideal S128x128 .bf16) (xs : FVec Ideal S128x1024 .f32) (off : FVec Ideal S128x512 .f32) (c d : ℕ) (hc : c + 128 ≤ 1024) (hd : d + 128 ≤ 512)
    (h1 : S128x1024.Slices ![0, c] S128x128) (h2 : S128x512.Slices ![0, d] S128x128) (r l : Fin 128) :
    pair w0 w1 xs off c d h1 h2 (ix2 r l) = (∑ j : Fin 128, (if l.val < 64 then (w0 (ix2 r j) : EReal) else w1 (ix2 r j)) * xs (ix2 j ⟨c + l.val, by omega⟩)) + off (ix2 r ⟨d + l.val, by omega⟩) := by
  pointwise [pair, k0_pay59]
  simp (disch := word_cmp_side) only [hlo_ix]
  by_cases h : l.val < 64
  · simp only [if_pos h, Finset.sum_const_zero, add_zero]
  · simp only [if_neg h, Finset.sum_const_zero, zero_add]

theorem rows_at0 (cs dt cb0 cb1 : FVec Ideal S128x128 .f32) (xs : FVec Ideal S128x1024 .f32) (o0 o1 : FVec Ideal S128x512 .f32) (dexp : Vec Ideal S1x1024 .f32) (r l : Fin 128) :
    rows cs dt cb0 cb1 xs o0 o1 dexp (ix2 r ⟨0 + l.val, by omega⟩)
      = (pair (weights cs dt cb0 0 slices_S128x128_o0_0_S128x1 slices_S128x128_o0_0_S1x128) (weights cs dt cb0 1 slices_S128x128_o0_1_S128x1 slices_S128x128_o1_0_S1x128) xs o0 0 0 slices_S128x1024_o0_0_S128x128 slices_S128x512_o0_0_S128x128 (ix2 r l) : EReal)
        + dexp (ix2 0 ⟨0 + l.val, by omega⟩) * xs (ix2 r ⟨0 + l.val, by omega⟩) := by
  pointwise [rows]
theorem rows_at1 (cs dt cb0 cb1 : FVec Ideal S128x128 .f32) (xs : FVec Ideal S128x1024 .f32) (o0 o1 : FVec Ideal S128x512 .f32) (dexp : Vec Ideal S1x1024 .f32) (r l : Fin 128) :
    rows cs dt cb0 cb1 xs o0 o1 dexp (ix2 r ⟨128 + l.val, by omega⟩)
      = (pair (weights cs dt cb0 2 slices_S128x128_o0_2_S128x1 slices_S128x128_o2_0_S1x128) (weights cs dt cb0 3 slices_S128x128_o0_3_S128x1 slices_S128x128_o3_0_S1x128) xs o0 128 128 slices_S128x1024_o0_128_S128x128 slices_S128x512_o0_128_S128x128 (ix2 r l) : EReal)
        + dexp (ix2 0 ⟨128 + l.val, by omega⟩) * xs (ix2 r ⟨128 + l.val, by omega⟩) := by
  pointwise [rows]
theorem rows_at2 (cs dt cb0 cb1 : FVec Ideal S128x128 .f32) (xs : FVec Ideal S128x1024 .f32) (o0 o1 : FVec Ideal S128x512 .f32) (dexp : Vec Ideal S1x1024 .f32) (r l : Fin 128) :
    rows cs dt cb0 cb1 xs o0 o1 dexp (ix2 r ⟨256 + l.val, by omega⟩)
      = (pair (weights cs dt cb0 4 slices_S128x128_o0_4_S128x1 slices_S128x128_o4_0_S1x128) (weights cs dt cb0 5 slices_S128x128_o0_5_S128x1 slices_S128x128_o5_0_S1x128) xs o0 256 256 slices_S128x1024_o0_256_S128x128 slices_S128x512_o0_256_S128x128 (ix2 r l) : EReal)
        + dexp (ix2 0 ⟨256 + l.val, by omega⟩) * xs (ix2 r ⟨256 + l.val, by omega⟩) := by
  pointwise [rows]
  rw [dif_neg (by omega), dif_neg (by omega), dif_pos (by omega)]
  have e : (⟨256 + l.val - 128 - 128, by omega⟩ : Fin 128) = l := Fin.ext (by show 256 + l.val - 128 - 128 = l.val; omega)
  rw [e]
theorem rows_at3 (cs dt cb0 cb1 : FVec Ideal S128x128 .f32) (xs : FVec Ideal S128x1024 .f32) (o0 o1 : FVec Ideal S128x512 .f32) (dexp : Vec Ideal S1x1024 .f32) (r l : Fin 128) :
    rows cs dt cb0 cb1 xs o0 o1 dexp (ix2 r ⟨384 + l.val, by omega⟩)
      = (pair (weights cs dt cb0 6 slices_S128x128_o0_6_S128x1 slices_S128x128_o6_0_S1x128) (weights cs dt cb0 7 slices_S128x128_o0_7_S128x1 slices_S128x128_o7_0_S1x128) xs o0 384 384 slices_S128x1024_o0_384_S128x128 slices_S128x512_o0_384_S128x128 (ix2 r l) : EReal)
        + dexp (ix2 0 ⟨384 + l.val, by omega⟩) * xs (ix2 r ⟨384 + l.val, by omega⟩) := by
  pointwise [rows]
  rw [dif_neg (by omega), dif_neg (by omega), dif_neg (by omega), dif_pos (by omega)]
  have e : (⟨384 + l.val - 128 - 128 - 128, by omega⟩ : Fin 128) = l := Fin.ext (by show 384 + l.val - 128 - 128 - 128 = l.val; omega)
  rw [e]
theorem rows_at4 (cs dt cb0 cb1 : FVec Ideal S128x128 .f32) (xs : FVec Ideal S128x1024 .f32) (o0 o1 : FVec Ideal S128x512 .f32) (dexp : Vec Ideal S1x1024 .f32) (r l : Fin 128) :
    rows cs dt cb0 cb1 xs o0 o1 dexp (ix2 r ⟨512 + l.val, by omega⟩)
      = (pair (weights cs dt cb1 8 slices_S128x128_o0_8_S128x1 slices_S128x128_o8_0_S1x128) (weights cs dt cb1 9 slices_S128x128_o0_9_S128x1 slices_S128x128_o9_0_S1x128) xs o1 512 0 slices_S128x1024_o0_512_S128x128 slices_S128x512_o0_0_S128x128 (ix2 r l) : EReal)
        + dexp (ix2 0 ⟨512 + l.val, by omega⟩) * xs (ix2 r ⟨512 + l.val, by omega⟩) := by
  pointwise [rows]
  rw [dif_neg (by omega), dif_neg (by omega), dif_neg (by omega), dif_neg (by omega), dif_pos (by omega)]
  have e : (⟨512 + l.val - 128 - 128 - 128 - 128, by omega⟩ : Fin 128) = l := Fin.ext (by show 512 + l.val - 128 - 128 - 128 - 128 = l.val; omega)
  rw [e]
theorem rows_at5 (cs dt cb0 cb1 : FVec Ideal S128x128 .f32) (xs : FVec Ideal S128x1024 .f32) (o0 o1 : FVec Ideal S128x512 .f32) (dexp : Vec Ideal S1x1024 .f32) (r l : Fin 128) :
    rows cs dt cb0 cb1 xs o0 o1 dexp (ix2 r ⟨640 + l.val, by omega⟩)
      = (pair (weights cs dt cb1 10 slices_S128x128_o0_10_S128x1 slices_S128x128_o10_0_S1x128) (weights cs dt cb1 11 slices_S128x128_o0_11_S128x1 slices_S128x128_o11_0_S1x128) xs o1 640 128 slices_S128x1024_o0_640_S128x128 slices_S128x512_o0_128_S128x128 (ix2 r l) : EReal)
        + dexp (ix2 0 ⟨640 + l.val, by omega⟩) * xs (ix2 r ⟨640 + l.val, by omega⟩) := by
  pointwise [rows]
  rw [dif_neg (by omega), dif_neg (by omega), dif_neg (by omega), dif_neg (by omega), dif_neg (by omega), dif_pos (by omega)]
  have e : (⟨640 + l.val - 128 - 128 - 128 - 128 - 128, by omega⟩ : Fin 128) = l := Fin.ext (by show 640 + l.val - 128 - 128 - 128 - 128 - 128 = l.val; omega)
  rw [e]
theorem rows_at6 (cs dt cb0 cb1 : FVec Ideal S128x128 .f32) (xs : FVec Ideal S128x1024 .f32) (o0 o1 : FVec Ideal S128x512 .f32) (dexp : Vec Ideal S1x1024 .f32) (r l : Fin 128) :
    rows cs dt cb0 cb1 xs o0 o1 dexp (ix2 r ⟨768 + l.val, by omega⟩)
      = (pair (weights cs dt cb1 12 slices_S128x128_o0_12_S128x1 slices_S128x128_o12_0_S1x128) (weights cs dt cb1 13 slices_S128x128_o0_13_S128x1 slices_S128x128_o13_0_S1x128) xs o1 768 256 slices_S128x1024_o0_768_S128x128 slices_S128x512_o0_256_S128x128 (ix2 r l) : EReal)
        + dexp (ix2 0 ⟨768 + l.val, by omega⟩) * xs (ix2 r ⟨768 + l.val, by omega⟩) := by
  pointwise [rows]
  rw [dif_neg (by omega), dif_neg (by omega), dif_neg (by omega), dif_neg (by omega), dif_neg (by omega), dif_neg (by omega), dif_pos (by omega)]
  have e : (⟨768 + l.val - 128 - 128 - 128 - 128 - 128 - 128, by omega⟩ : Fin 128) = l := Fin.ext (by show 768 + l.val - 128 - 128 - 128 - 128 - 128 - 128 = l.val; omega)
  rw [e]
theorem rows_at7 (cs dt cb0 cb1 : FVec Ideal S128x128 .f32) (xs : FVec Ideal S128x1024 .f32) (o0 o1 : FVec Ideal S128x512 .f32) (dexp : Vec Ideal S1x1024 .f32) (r l : Fin 128) :
    rows cs dt cb0 cb1 xs o0 o1 dexp (ix2 r ⟨896 + l.val, by omega⟩)
      = (pair (weights cs dt cb1 14 slices_S128x128_o0_14_S128x1 slices_S128x128_o14_0_S1x128) (weights cs dt cb1 15 slices_S128x128_o0_15_S128x1 slices_S128x128_o15_0_S1x128) xs o1 896 384 slices_S128x1024_o0_896_S128x128 slices_S128x512_o0_384_S128x128 (ix2 r l) : EReal)
        + dexp (ix2 0 ⟨896 + l.val, by omega⟩) * xs (ix2 r ⟨896 + l.val, by omega⟩) := by
  pointwise [rows]
  rw [dif_neg (by omega), dif_neg (by omega), dif_neg (by omega), dif_neg (by omega), dif_neg (by omega), dif_neg (by omega), dif_neg (by omega)]
  have e : (⟨896 + l.val - 128 - 128 - 128 - 128 - 128 - 128 - 128, by omega⟩ : Fin 128) = l := Fin.ext (by show 896 + l.val - 128 - 128 - 128 - 128 - 128 - 128 - 128 = l.val; omega)
  rw [e]

end Cert.Kernel7Ideal.Hybrid
-- ==== Proof.Hybrid.Real.lean ====
/-
  The recurrence over the reals: decayed sums of a sequence, cut into chunks with a state carried from one to the next.
-/
module

public import proofs.«01_k».proof.Proof.Stick.Spec

@[expose] public section

noncomputable section

namespace Cert.Hybrid

variable (a : ℕ → ℝ) (dt : ℕ → ℕ → ℝ) (x b c : ℕ → ℕ → ℝ)

/-- The summed log decays of the first `t` rows, of a head. -/
def cum (t h : ℕ) : ℝ := ∑ s ∈ Finset.range t, dt s h * a h

/-- What a row's input still weighs after row `t - 1`. -/
def held (t s h : ℕ) : ℝ := Real.exp (cum a dt t h - cum a dt (s + 1) h) * dt s h

/-- The state after the first `t` rows. -/
def state (t n l : ℕ) : ℝ := ∑ s ∈ Finset.range t, b s (128 * (l / 512) + n) * (x s l * held a dt t s (l / 64))

/-- What a row reads of an earlier row's writing. -/
def link (t s g : ℕ) : ℝ := ∑ n : Fin 128, c t (128 * g + n) * b s (128 * g + n)

/-- A row's result: the inputs of the rows up to it, weighed. -/
def attend (t l : ℕ) : ℝ := ∑ s ∈ Finset.range (t + 1), link b c t s (l / 512) * held a dt (t + 1) s (l / 64) * x s l

theorem held_later (t u s h : ℕ) : held a dt t s h * Real.exp (cum a dt u h - cum a dt t h) = held a dt u s h := by
  unfold held
  rw [mul_right_comm, ← Real.exp_add]
  congr 2
  ring

theorem state_step (t k n l : ℕ) :
    state a dt x b t n l * Real.exp (cum a dt (t + k) (l / 64) - cum a dt t (l / 64))
      + ∑ j ∈ Finset.range k, b (t + j) (128 * (l / 512) + n) * (x (t + j) l * held a dt (t + k) (t + j) (l / 64))
      = state a dt x b (t + k) n l := by
  unfold state
  rw [Finset.sum_range_add, Finset.sum_mul]
  congr 1
  refine Finset.sum_congr rfl fun s _ => ?_
  rw [← held_later a dt t (t + k) s]
  ring

theorem attend_step (t r l : ℕ) (hr : r < 128) :
    (∑ n : Fin 128, c (t + r) (128 * (l / 512) + n) * state a dt x b t n l) * Real.exp (cum a dt (t + r + 1) (l / 64) - cum a dt t (l / 64))
      + ∑ j : Fin 128, link b c (t + r) (t + j) (l / 512) * (if j.val ≤ r then held a dt (t + r + 1) (t + j) (l / 64) else 0) * x (t + j) l
      = attend a dt x b c (t + r) l := by
  unfold attend
  rw [add_assoc t r 1, Finset.sum_range_add]
  congr 1
  · unfold state link
    simp only [Finset.mul_sum]
    rw [Finset.sum_comm, Finset.sum_mul]
    refine Finset.sum_congr rfl fun s _ => ?_
    rw [Finset.sum_mul, Finset.sum_mul, Finset.sum_mul]
    refine Finset.sum_congr rfl fun n _ => ?_
    rw [← held_later a dt t (t + (r + 1)) s]
    ring
  · rw [Finset.sum_range (n := r + 1), Fin.sum_univ_eq_sum_range (fun j => link b c (t + r) (t + j) (l / 512) * (if j ≤ r then held a dt (t + (r + 1)) (t + j) (l / 64) else 0) * x (t + j) l) 128,
      ← Fin.sum_univ_eq_sum_range (fun j => link b c (t + r) (t + j) (l / 512) * (if j ≤ r then held a dt (t + (r + 1)) (t + j) (l / 64) else 0) * x (t + j) l) 128]
    rw [Fin.sum_univ_eq_sum_range (fun j => link b c (t + r) (t + j) (l / 512) * (if j ≤ r then held a dt (t + (r + 1)) (t + j) (l / 64) else 0) * x (t + j) l) 128,
      Fin.sum_univ_eq_sum_range (fun j => link b c (t + r) (t + j) (l / 512) * held a dt (t + (r + 1)) (t + j) (l / 64) * x (t + j) l) (r + 1)]
    symm
    refine (Finset.sum_congr rfl fun j hj => ?_).trans (Finset.sum_subset (Finset.range_mono (by omega : r + 1 ≤ 128)) fun j _ hj => ?_)
    · rw [if_pos (by have := Finset.mem_range.mp hj; omega)]
    · rw [if_neg (by intro h; exact hj (Finset.mem_range.mpr (by omega))), mul_zero, zero_mul]

/-- A sum over all rows that leaves out the later ones. -/
theorem attend_all (N t l : ℕ) (ht : t < N) :
    ∑ s : Fin N, link b c t s (l / 512) * (if s.val ≤ t then Real.exp (cum a dt (t + 1) (l / 64) - cum a dt (s + 1) (l / 64)) else 0) * dt s (l / 64) * x s l
      = attend a dt x b c t l := by
  rw [Fin.sum_univ_eq_sum_range (fun s => link b c t s (l / 512) * (if s ≤ t then Real.exp (cum a dt (t + 1) (l / 64) - cum a dt (s + 1) (l / 64)) else 0) * dt s (l / 64) * x s l) N]
  unfold attend
  symm
  refine (Finset.sum_congr rfl fun j hj => ?_).trans (Finset.sum_subset (Finset.range_mono (by omega : t + 1 ≤ N)) fun j _ hj => ?_)
  · rw [if_pos (by have := Finset.mem_range.mp hj; omega)]
    unfold held
    ring
  · rw [if_neg (by intro h; exact hj (Finset.mem_range.mpr (by omega))), mul_zero, zero_mul, zero_mul]

end Cert.Hybrid
-- ==== Proof.Hybrid.Spec.lean ====
/-
  The hybrid mixer of one batch entry, row by row, over the reals with both infinities, and the rows that are real.
-/
module

public import proofs.«01_k».proof.Proof.Hybrid.Real
public import proofs.«01_k».proof.Proof.Ffn.Spec

@[expose] public section

set_option maxRecDepth 16384

noncomputable section

namespace Cert.Hybrid

open Idealize.ShloMosaic Cert.Ffn

/-- The tanh form of the Gaussian error linear unit. -/
def gelu (v : EReal) : EReal :=
  v * (Ideal.ofBits .f32 0x3F000000#32 * (1 + Ideal.tanh (Ideal.ofBits .f32 0x3F4C422A#32 * (v + Ideal.ofBits .f32 0x3D372713#32 * (v * v * v)))))

/-- The reciprocal of the root mean square of 128 lanes. -/
def rinv128 (v : Fin 128 → EReal) : EReal :=
  Ideal.rsqrt (Ideal.div (∑ d, v d * v d) (Ideal.ofBits .f32 0x43000000#32) + Ideal.ofBits .f32 0x358637BD#32)

/-- The softplus. -/
def softplus (v : EReal) : EReal := max v 0 + Ideal.log1p (Ideal.exp (0 - FloatOps.absf (F := Ideal) (φ := .f32) v))

/-- The logistic gate. -/
def silu (v : EReal) : EReal := Ideal.div v (1 + Ideal.exp (0 - v))

/-- One batch entry's inputs. -/
structure Args where
  h : ℕ → Fin 1024 → EReal
  g : Fin 1024 → EReal
  sh : Fin 1024 → EReal
  sc : Fin 1024 → EReal
  gt : Fin 1024 → EReal
  w : Fin 1024 → Fin 4624 → EReal
  wo : Fin 2048 → Fin 1024 → EReal
  vg : Fin 1024 → EReal
  ws : Fin 8 → Fin 128 → Fin 128 → EReal
  bs : Fin 8 → Fin 128 → EReal
  cw : Fin 4 → Fin 1536 → EReal
  cb : Fin 1536 → EReal
  db : Fin 16 → EReal
  al : Fin 16 → EReal
  ds : Fin 16 → EReal
  ng : Fin 1024 → EReal

/-- Sixteen values as lanes, zero beyond. -/
def lane (f : Fin 16 → EReal) (h : ℕ) : EReal := if hh : h < 16 then f ⟨h, hh⟩ else 0

namespace Args

variable (A : Args)

def y (t : ℕ) (d : Fin 1024) : EReal := modulated (A.h t) A.g A.sh A.sc d

def pre (t : ℕ) (f : Fin 4624) : EReal := ∑ d : Fin 1024, A.y t d * A.w d f

def hid (t : ℕ) (f : Fin 2048) : EReal := gelu (A.pre t ⟨f.val, by omega⟩)

def raw (t : ℕ) (f : Fin 1536) : EReal := A.pre t ⟨3072 + f.val, by omega⟩

/-- The convolution's input `j` rows earlier. -/
def back (j t : ℕ) (f : Fin 1536) : EReal := if j ≤ t then A.raw (t - j) f else 0

def conv (t : ℕ) (f : Fin 1536) : EReal :=
  silu (A.cb f + A.raw t f * A.cw 3 f + A.back 1 t f * A.cw 2 f + A.back 2 t f * A.cw 1 f + A.back 3 t f * A.cw 0 f)

/-- A head's step size. -/
def step (t h : ℕ) : EReal := softplus (lane (fun k => A.pre t ⟨4608 + k.val, by omega⟩) h + lane A.db h)

/-- A head's decay rate. -/
def rate (h : ℕ) : EReal := 0 - Ideal.exp (lane A.al h)

def a (h : ℕ) : ℝ := (A.rate h).toReal
def D (t h : ℕ) : ℝ := (A.step t h).toReal
def X (t l : ℕ) : ℝ := if hl : l < 1024 then (A.conv t ⟨l, by omega⟩).toReal else 0
def B (t n : ℕ) : ℝ := if hn : n < 256 then (A.conv t ⟨1024 + n, by omega⟩).toReal else 0
def C (t n : ℕ) : ℝ := if hn : n < 256 then (A.conv t ⟨1280 + n, by omega⟩).toReal else 0

/-- The recurrence's rows and what the inputs add directly. -/
def summed (t : ℕ) (c : Fin 1024) : EReal :=
  (attend A.a A.D A.X A.B A.C t c.val : EReal) + A.ds ⟨c.val / 64, by omega⟩ * A.conv t ⟨c.val, by omega⟩

def gated (t : ℕ) (c : Fin 1024) : EReal := A.summed t c * silu (A.pre t ⟨2048 + c.val, by omega⟩)

def yb (t : ℕ) (c : Fin 1024) : EReal := A.gated t c * rinv (A.gated t) * A.ng c

/-- The gMLP: each block of 128 rows mixed, and the gate. -/
def ya (t : ℕ) (c : Fin 1024) : EReal :=
  A.hid t ⟨c.val, by omega⟩ * ((∑ s : Fin 128, if s.val / 64 ≤ t % 128 / 64 then A.ws ⟨c.val / 128, by omega⟩ ⟨t % 128, by omega⟩ s
      * (A.hid (128 * (t / 128) + s.val) ⟨1024 + c.val, by omega⟩
        * rinv128 (fun d => A.hid (128 * (t / 128) + s.val) ⟨1024 + (128 * (c.val / 128) + d.val), by omega⟩) * A.vg c) else 0)
    + A.bs ⟨c.val / 128, by omega⟩ ⟨t % 128, by omega⟩)

/-- A row of the result. -/
def out (t : ℕ) (c : Fin 1024) : EReal :=
  A.h t c + A.gt c * ((∑ k : Fin 1024, A.ya t k * A.wo ⟨k.val, by omega⟩ c) + ∑ k : Fin 1024, A.yb t k * A.wo ⟨1024 + k.val, by omega⟩ c)

/-- What the recurrence is computed from is real. -/
structure IsReal : Prop where
  g : ∀ d, ∃ r : ℝ, A.g d = (r : EReal)
  sh : ∀ d, ∃ r : ℝ, A.sh d = (r : EReal)
  sc : ∀ d, ∃ r : ℝ, A.sc d = (r : EReal)
  w : ∀ d f, ∃ r : ℝ, A.w d f = (r : EReal)
  cw : ∀ k f, ∃ r : ℝ, A.cw k f = (r : EReal)
  cb : ∀ f, ∃ r : ℝ, A.cb f = (r : EReal)
  db : ∀ k, ∃ r : ℝ, A.db k = (r : EReal)
  al : ∀ k, ∃ r : ℝ, A.al k = (r : EReal)

end Args

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem real_sum {n : ℕ} {f : Fin n → EReal} (h : ∀ i, ∃ r : ℝ, f i = (r : EReal)) : ∃ r : ℝ, ∑ i, f i = (r : EReal) := by
  choose g hg using h
  exact ⟨∑ i, g i, by rw [Cert.Stick.coe_sum]; exact Finset.sum_congr rfl fun i _ => hg i⟩

theorem one_real : ∃ r : ℝ, (1 : EReal) = (r : EReal) := ⟨1, rfl⟩

theorem zero_real : ∃ r : ℝ, (0 : EReal) = (r : EReal) := ⟨0, rfl⟩

theorem eps_eq : Ideal.ofBits .f32 0x358637BD#32 = (((8796093 : ℝ) * 2 ^ (-43 : ℤ) : ℝ) : EReal) := by
  simp [Ideal.ofBits, Ideal.ieee, -EReal.coe_mul]
  try norm_num

theorem width_eq : Ideal.ofBits .f32 0x44800000#32 = ((1024 : ℝ) : EReal) := by
  simp [Ideal.ofBits, Ideal.ieee, -EReal.coe_mul]
  try norm_num

theorem rinv_real {v : Fin 1024 → EReal} (h : ∀ d, ∃ r : ℝ, v d = (r : EReal)) : ∃ r : ℝ, rinv v = (r : EReal) := by
  choose x hx using h
  obtain rfl : v = fun d => (x d : EReal) := funext hx
  unfold rinv
  rw [eps_eq, width_eq]
  rw [Finset.sum_congr rfl fun d _ => (EReal.coe_mul (x d) (x d)).symm, ← Cert.Stick.coe_sum]
  rw [Ideal.div, if_neg (by exact_mod_cast (by norm_num : (1024 : ℝ) ≠ 0)), ← EReal.coe_inv, ← EReal.coe_mul, ← EReal.coe_add]
  have hp : 0 < (∑ d, x d * x d) * (1024 : ℝ)⁻¹ + 8796093 * 2 ^ (-43 : ℤ) := by
    have : 0 ≤ ∑ d, x d * x d := Finset.sum_nonneg fun d _ => mul_self_nonneg _
    positivity
  refine ⟨(Real.sqrt ((∑ d, x d * x d) * (1024 : ℝ)⁻¹ + 8796093 * 2 ^ (-43 : ℤ)))⁻¹, ?_⟩
  exact (if_neg (not_lt.mpr hp.le)).trans (if_neg hp.ne')

/-- A coordinate over its row's root mean square is real in every row: where a coordinate is infinite the reciprocal is zero. -/
theorem scaled_real (v : Fin 1024 → EReal) (d : Fin 1024) : ∃ r : ℝ, v d * rinv v = (r : EReal) := by
  by_cases h : ∀ e, ∃ r : ℝ, v e = (r : EReal)
  · exact real_mul (h d) (rinv_real h)
  · obtain ⟨e, he⟩ := not_forall.1 h
    have sq : ∀ x : EReal, 0 ≤ x * x := fun x => by
      induction x using EReal.rec with
      | bot => simp
      | coe r => exact_mod_cast mul_self_nonneg r
      | top => simp
    have top : v e * v e = ⊤ := by
      revert he
      generalize v e = x
      intro he
      induction x using EReal.rec with
      | bot => simp
      | coe r => exact (he ⟨r, rfl⟩).elim
      | top => simp
    have sum : (∑ k, v k * v k) = ⊤ := top_le_iff.1 (top ▸ Finset.single_le_sum (f := fun k => v k * v k) (fun k _ => sq (v k)) (Finset.mem_univ e))
    have zero : rinv v = 0 := by
      unfold rinv
      rw [eps_eq, width_eq, sum, Ideal.div, if_neg (by exact_mod_cast (by norm_num : (1024 : ℝ) ≠ 0)), ← EReal.coe_inv, EReal.top_mul_coe_of_pos (by norm_num), EReal.top_add_coe]
      rfl
    exact ⟨0, by rw [zero, mul_zero]; rfl⟩

theorem exp_real {x : EReal} (h : ∃ r : ℝ, x = (r : EReal)) : ∃ r : ℝ, Ideal.exp x = (r : EReal) := by
  obtain ⟨r, rfl⟩ := h; exact ⟨Real.exp r, rfl⟩

theorem neg_real {x : EReal} (h : ∃ r : ℝ, x = (r : EReal)) : ∃ r : ℝ, 0 - x = (r : EReal) := by
  obtain ⟨r, rfl⟩ := h; exact ⟨-r, by rw [zero_sub, EReal.coe_neg]⟩

theorem silu_real {x : EReal} (h : ∃ r : ℝ, x = (r : EReal)) : ∃ r : ℝ, silu x = (r : EReal) := by
  obtain ⟨r, rfl⟩ := h
  unfold silu
  rw [Ideal.div, if_neg (exp_ne_neg_one _)]
  refine ⟨r * (1 + Real.exp (-r))⁻¹, ?_⟩
  rw [zero_sub, ← EReal.coe_neg, show Ideal.exp ((-r : ℝ) : EReal) = ((Real.exp (-r) : ℝ) : EReal) from rfl,
    show (1 : EReal) + ((Real.exp (-r) : ℝ) : EReal) = ((1 + Real.exp (-r) : ℝ) : EReal) by rw [EReal.coe_add]; rfl, ← EReal.coe_inv, ← EReal.coe_mul]

theorem softplus_coe (x : ℝ) : softplus (x : EReal) = ((max x 0 + Real.log (1 + Real.exp (-|x|)) : ℝ) : EReal) := by
  unfold softplus Ideal.log1p
  have h1 : (FloatOps.absf (F := Ideal) (φ := .f32) (x : EReal) : EReal) = ((|x| : ℝ) : EReal) := by
    rw [show (FloatOps.absf (F := Ideal) (φ := .f32) (x : EReal) : EReal) = max (x : EReal) (-(x : EReal)) from rfl]
    rw [← EReal.coe_neg, ← EReal.coe_strictMono.monotone.map_max]; rfl
  rw [h1, show (0 : EReal) - ((|x| : ℝ) : EReal) = ((-|x| : ℝ) : EReal) by rw [zero_sub, EReal.coe_neg]]
  rw [show Ideal.exp ((-|x| : ℝ) : EReal) = ((Real.exp (-|x|) : ℝ) : EReal) from rfl]
  rw [show (1 : EReal) + ((Real.exp (-|x|) : ℝ) : EReal) = ((1 + Real.exp (-|x|) : ℝ) : EReal) by rw [EReal.coe_add]; rfl]
  have hp : ¬ (1 + Real.exp (-|x|) ≤ 0) := by have := Real.exp_pos (-|x|); linarith
  rw [show Ideal.log ((1 + Real.exp (-|x|) : ℝ) : EReal) = ((Real.log (1 + Real.exp (-|x|)) : ℝ) : EReal) from if_neg hp]
  rw [show (0 : EReal) = ((0 : ℝ) : EReal) from rfl, ← EReal.coe_strictMono.monotone.map_max, ← EReal.coe_add]

theorem softplus_real {x : EReal} (h : ∃ r : ℝ, x = (r : EReal)) : ∃ r : ℝ, softplus x = (r : EReal) := by
  obtain ⟨r, rfl⟩ := h; exact ⟨_, softplus_coe r⟩

theorem lane_real {f : Fin 16 → EReal} (h : ∀ k, ∃ r : ℝ, f k = (r : EReal)) (k : ℕ) : ∃ r : ℝ, lane f k = (r : EReal) := by
  unfold lane
  by_cases hk : k < 16
  · rw [dif_pos hk]; exact h _
  · rw [dif_neg hk]; exact zero_real

namespace Args

variable {A : Args} (R : A.IsReal)
include R

theorem y_real (t : ℕ) (d : Fin 1024) : ∃ r : ℝ, A.y t d = (r : EReal) :=
  real_add (real_mul (real_mul (scaled_real (A.h t) d) (R.g d)) (real_add one_real (R.sc d))) (R.sh d)

theorem pre_real (t : ℕ) (f : Fin 4624) : ∃ r : ℝ, A.pre t f = (r : EReal) := real_sum fun d => real_mul (y_real R t d) (R.w d f)

theorem back_real (j t : ℕ) (f : Fin 1536) : ∃ r : ℝ, A.back j t f = (r : EReal) := by
  unfold back
  by_cases h : j ≤ t
  · rw [if_pos h]; exact pre_real R _ _
  · rw [if_neg h]; exact zero_real

theorem conv_real (t : ℕ) (f : Fin 1536) : ∃ r : ℝ, A.conv t f = (r : EReal) :=
  silu_real (real_add (real_add (real_add (real_add (R.cb f) (real_mul (pre_real R _ _) (R.cw 3 f))) (real_mul (back_real R _ _ _) (R.cw 2 f)))
    (real_mul (back_real R _ _ _) (R.cw 1 f))) (real_mul (back_real R _ _ _) (R.cw 0 f)))

theorem coe_toReal {x : EReal} (h : ∃ r : ℝ, x = (r : EReal)) : x = ((x.toReal : ℝ) : EReal) := by
  obtain ⟨r, rfl⟩ := h; rfl

theorem a_coe (h : ℕ) : A.rate h = ((A.a h : ℝ) : EReal) := coe_toReal R (neg_real (exp_real (lane_real R.al h)))

theorem D_coe (t h : ℕ) : A.step t h = ((A.D t h : ℝ) : EReal) :=
  coe_toReal R (softplus_real (real_add (lane_real (fun _ => pre_real R _ _) h) (lane_real R.db h)))

theorem X_coe (t l : ℕ) (hl : l < 1024) : A.conv t ⟨l, by omega⟩ = ((A.X t l : ℝ) : EReal) := by
  unfold X; rw [dif_pos hl]; exact coe_toReal R (conv_real R _ _)

theorem B_coe (t n : ℕ) (hn : n < 256) : A.conv t ⟨1024 + n, by omega⟩ = ((A.B t n : ℝ) : EReal) := by
  unfold B; rw [dif_pos hn]; exact coe_toReal R (conv_real R _ _)

theorem C_coe (t n : ℕ) (hn : n < 256) : A.conv t ⟨1280 + n, by omega⟩ = ((A.C t n : ℝ) : EReal) := by
  unfold C; rw [dif_pos hn]; exact coe_toReal R (conv_real R _ _)

end Args

end Cert.Hybrid
-- ==== Proof.Hybrid.Point.lean ====
/-
  One grid point's vectors at an index: the norm, the gMLP, the convolution, the step sizes and the block written.
-/
module

public import proofs.«01_k».proof.Proof.Hybrid.Chunk
public import proofs.«01_k».proof.Proof.Hybrid.Spec

@[expose] public section

set_option maxRecDepth 16384

noncomputable section

namespace Cert.Kernel7Ideal.Hybrid

open Idealize.ShloMosaic
open Cert.Kernel7Ideal Cert.Kernel7Ideal.Gen Cert.Ffn Cert.Hybrid

theorem gated_at (y z : FVec Ideal S128x1024 .f32) (sng : Vec Ideal S1x1024 .f32) (r : Fin 128) (c : Fin 1024) :
    gated y z sng (ix2 r c)
      = (y (ix2 r c) : EReal) * Ideal.div (z (ix2 r c)) (1 + Ideal.exp (0 - z (ix2 r c)))
        * rinv (fun d => (y (ix2 r d) : EReal) * Ideal.div (z (ix2 r d)) (1 + Ideal.exp (0 - z (ix2 r d)))) * sng (ix2 0 c) := by
  pointwise [gated, rinv]

theorem mixed_at (u v : FVec Ideal S512x128 .f32) (g : Vec Ideal S1x128 .f32) (w : Vec Ideal S1x128x128 .f32) (b : Vec Ideal S128x128 .f32) (mask : IVec S128x128 1) (t : Fin 512) (l : Fin 128) :
    mixed u v g w b mask (ix2 t l)
      = (u (ix2 t l) : EReal) * ((∑ s : Fin 128, Scalar.select (mask (ix2 ⟨t.val % 128, by omega⟩ s)) ((w (ix3 0 ⟨t.val % 128, by omega⟩ s) : EReal)
          * ((v (ix2 ⟨128 * (t.val / 128) + s.val, by omega⟩ l) : EReal) * rinv128 (fun d => v (ix2 ⟨128 * (t.val / 128) + s.val, by omega⟩ d)) * g (ix2 0 l))) 0)
            + b (ix2 ⟨t.val % 128, by omega⟩ l)) := by
  pointwise [mixed, rinv128]
  by_cases h0 : t.val < 128
  · rw [dif_pos h0]
    have e1 : ∀ h, (⟨t.val, h⟩ : Fin 128) = ⟨t.val % 128, by omega⟩ := fun h => Fin.ext (by show t.val = t.val % 128; omega)
    have e2 : ∀ (x : Fin 128) h, (⟨x.val, h⟩ : Fin 512) = ⟨128 * (t.val / 128) + x.val, by omega⟩ := fun x h => Fin.ext (by show x.val = 128 * (t.val / 128) + x.val; omega)
    simp only [e1, e2]
  by_cases h1 : t.val - 128 < 128
  · rw [dif_neg h0, dif_pos h1]
    have e1 : ∀ h, (⟨t.val - 128, h⟩ : Fin 128) = ⟨t.val % 128, by omega⟩ := fun h => Fin.ext (by show t.val - 128 = t.val % 128; omega)
    have e2 : ∀ (x : Fin 128) h, (⟨128 + x.val, h⟩ : Fin 512) = ⟨128 * (t.val / 128) + x.val, by omega⟩ := fun x h => Fin.ext (by show 128 + x.val = 128 * (t.val / 128) + x.val; omega)
    simp only [e1, e2]
  by_cases h2 : t.val - 128 - 128 < 128
  · rw [dif_neg h0, dif_neg h1, dif_pos h2]
    have e1 : ∀ h, (⟨t.val - 128 - 128, h⟩ : Fin 128) = ⟨t.val % 128, by omega⟩ := fun h => Fin.ext (by show t.val - 128 - 128 = t.val % 128; omega)
    have e2 : ∀ (x : Fin 128) h, (⟨256 + x.val, h⟩ : Fin 512) = ⟨128 * (t.val / 128) + x.val, by omega⟩ := fun x h => Fin.ext (by show 256 + x.val = 128 * (t.val / 128) + x.val; omega)
    simp only [e1, e2]
  rw [dif_neg h0, dif_neg h1, dif_neg h2]
  have e1 : ∀ h, (⟨t.val - 128 - 128 - 128, h⟩ : Fin 128) = ⟨t.val % 128, by omega⟩ := fun h => Fin.ext (by show t.val - 128 - 128 - 128 = t.val % 128; omega)
  have e2 : ∀ (x : Fin 128) h, (⟨384 + x.val, h⟩ : Fin 512) = ⟨128 * (t.val / 128) + x.val, by omega⟩ := fun x h => Fin.ext (by show 384 + x.val = 128 * (t.val / 128) + x.val; omega)
  simp only [e1, e2]

variable (x0 : Vec Ideal S1x512x1024 .f32) (x1 : Vec Ideal S1x3x1024 .f32) (x2 : Vec Ideal S1x1024 .f32) (x3 : Vec Ideal S1024x4624 .bf16)
  (x4 : Vec Ideal S1024x128 .bf16) (x5 : Vec Ideal S2048x1024 .bf16) (x6 : Vec Ideal S1x1024 .f32) (x7 : Vec Ideal S8x128x128 .f32)
  (x8 : Vec Ideal S128x1024 .f32) (x9 : Vec Ideal S4x1536 .f32) (x10 : Vec Ideal S1x1536 .f32) (x11 : Vec Ideal S1x128 .f32)
  (x12 : Vec Ideal S1x128 .f32) (x13 : Vec Ideal S1x1024 .f32) (x14 : Vec Ideal S1x1024 .f32) (x15 : Vec Ideal S128x2048 .bf16)
  (x16 : Vec Ideal S128x128 .bf16) (hal : Vec Ideal S8x1536 .f32) (s0 s1 : Vec Ideal S1x128x512 .f32)

theorem normed_at (r : Fin 512) (d : Fin 1024) :
    normed x0 x1 x2 (ix2 r d) = modulated (fun d => x0 (ix3 0 r d)) (fun d => x2 (ix2 0 d)) (fun d => x1 (ix3 0 0 d)) (fun d => x1 (ix3 0 1 d)) d := by
  rw [← modulated_eq]
  pointwise [normed, k0_pay5, k0_pay4, rinv]

theorem hidden_at (r : Fin 512) (f : Fin 2048) :
    hidden x0 x1 x2 x3 (ix2 r f) = gelu (∑ d : Fin 1024, (normed x0 x1 x2 (ix2 r d) : EReal) * x3 (ix2 d ⟨f.val, by omega⟩)) := by
  pointwise [hidden, k0_pay8, gelu]

theorem gates_at (r : Fin 512) (f : Fin 1024) :
    gates x0 x1 x2 x3 (ix2 r f) = ∑ d : Fin 1024, (normed x0 x1 x2 (ix2 r d) : EReal) * x3 (ix2 d ⟨2048 + f.val, by omega⟩) := by
  pointwise [gates, k0_pay47]

theorem raw_at (r : Fin 512) (f : Fin 1536) :
    raw x0 x1 x2 x3 (ix2 r f) = ∑ d : Fin 1024, (normed x0 x1 x2 (ix2 r d) : EReal) * x3 (ix2 d ⟨3072 + f.val, by omega⟩) := by
  pointwise [raw, k0_pay48]

theorem steps_at (r : Fin 512) (h : Fin 128) :
    steps x0 x1 x2 x4 x11 (ix2 r h) = softplus ((∑ d : Fin 1024, (normed x0 x1 x2 (ix2 r d) : EReal) * x4 (ix2 d h)) + x11 (ix2 0 h)) := by
  pointwise [steps, k0_pay49, softplus]

theorem decays_at (r : Fin 512) (h : Fin 128) :
    decays x0 x1 x2 x4 x11 x12 (ix2 r h) = (steps x0 x1 x2 x4 x11 (ix2 r h) : EReal) * (0 - Ideal.exp (x12 (ix2 0 h))) := by
  pointwise [decays, k0_pay57]

/-- A row's convolution input `j` rows earlier. -/
def before (j : ℕ) (r : Fin 512) (f : Fin 1536) : EReal :=
  if h : j ≤ r.val then raw x0 x1 x2 x3 (ix2 ⟨r.val - j, by omega⟩ f) else hal (ix2 ⟨(r.val + 8 - j) % 8, by omega⟩ f)

theorem before1 (r : Fin 512) (f : Fin 1536) : before x0 x1 x2 x3 hal 1 r f
    = (if h : r.val < 8 then Scalar.select (IntOp.cmpi .slt (BitVec.ofNat 32 r.val) 1#32) (hal (ix2 ⟨(r.val + 8 - 1) % 8, by omega⟩ f) : EReal) (raw x0 x1 x2 x3 (ix2 ⟨(r.val + 512 - 1) % 512, by omega⟩ f))
      else raw x0 x1 x2 x3 (ix2 ⟨(8 + (r.val - 8) + 512 - 1) % 512, by omega⟩ f)) := by
  unfold before
  by_cases h8 : r.val < 8
  · rw [dif_pos h8]
    simp (disch := word_cmp_side) only [hlo_ix]
    by_cases hj : r.val < 1
    · rw [if_pos hj, dif_neg (by omega)]
    · rw [if_neg hj, dif_pos (by omega)]
      exact congrArg (fun z => raw x0 x1 x2 x3 (ix2 z f)) (Fin.ext (by show r.val - 1 = (r.val + 512 - 1) % 512; omega))
  · rw [dif_neg h8, dif_pos (by omega)]
    exact congrArg (fun z => raw x0 x1 x2 x3 (ix2 z f)) (Fin.ext (by show r.val - 1 = (8 + (r.val - 8) + 512 - 1) % 512; omega))

theorem before2 (r : Fin 512) (f : Fin 1536) : before x0 x1 x2 x3 hal 2 r f
    = (if h : r.val < 8 then Scalar.select (IntOp.cmpi .slt (BitVec.ofNat 32 r.val) 2#32) (hal (ix2 ⟨(r.val + 8 - 2) % 8, by omega⟩ f) : EReal) (raw x0 x1 x2 x3 (ix2 ⟨(r.val + 512 - 2) % 512, by omega⟩ f))
      else raw x0 x1 x2 x3 (ix2 ⟨(8 + (r.val - 8) + 512 - 2) % 512, by omega⟩ f)) := by
  unfold before
  by_cases h8 : r.val < 8
  · rw [dif_pos h8]
    simp (disch := word_cmp_side) only [hlo_ix]
    by_cases hj : r.val < 2
    · rw [if_pos hj, dif_neg (by omega)]
    · rw [if_neg hj, dif_pos (by omega)]
      exact congrArg (fun z => raw x0 x1 x2 x3 (ix2 z f)) (Fin.ext (by show r.val - 2 = (r.val + 512 - 2) % 512; omega))
  · rw [dif_neg h8, dif_pos (by omega)]
    exact congrArg (fun z => raw x0 x1 x2 x3 (ix2 z f)) (Fin.ext (by show r.val - 2 = (8 + (r.val - 8) + 512 - 2) % 512; omega))

theorem before3 (r : Fin 512) (f : Fin 1536) : before x0 x1 x2 x3 hal 3 r f
    = (if h : r.val < 8 then Scalar.select (IntOp.cmpi .slt (BitVec.ofNat 32 r.val) 3#32) (hal (ix2 ⟨(r.val + 8 - 3) % 8, by omega⟩ f) : EReal) (raw x0 x1 x2 x3 (ix2 ⟨(r.val + 512 - 3) % 512, by omega⟩ f))
      else raw x0 x1 x2 x3 (ix2 ⟨(8 + (r.val - 8) + 512 - 3) % 512, by omega⟩ f)) := by
  unfold before
  by_cases h8 : r.val < 8
  · rw [dif_pos h8]
    simp (disch := word_cmp_side) only [hlo_ix]
    by_cases hj : r.val < 3
    · rw [if_pos hj, dif_neg (by omega)]
    · rw [if_neg hj, dif_pos (by omega)]
      exact congrArg (fun z => raw x0 x1 x2 x3 (ix2 z f)) (Fin.ext (by show r.val - 3 = (r.val + 512 - 3) % 512; omega))
  · rw [dif_neg h8, dif_pos (by omega)]
    exact congrArg (fun z => raw x0 x1 x2 x3 (ix2 z f)) (Fin.ext (by show r.val - 3 = (8 + (r.val - 8) + 512 - 3) % 512; omega))

theorem conv_at (r : Fin 512) (f : Fin 1536) :
    conv x0 x1 x2 x3 x9 x10 hal (ix2 r f) = (fun v : EReal => Ideal.div v (1 + Ideal.exp (0 - v)))
      ((((x10 (ix2 0 f) : EReal) + raw x0 x1 x2 x3 (ix2 r f) * x9 (ix2 3 f)) + before x0 x1 x2 x3 hal 1 r f * x9 (ix2 2 f))
        + before x0 x1 x2 x3 hal 2 r f * x9 (ix2 1 f) + before x0 x1 x2 x3 hal 3 r f * x9 (ix2 0 f)) := by
  rw [before1, before2, before3]
  pointwise [conv, k0_pay53, k0_pay51, k0_pay50]

/-- The rows of the recurrence after their gate. -/
def yb (r : Fin 512) (k : Fin 1024) : EReal :=
  if h0 : r.val < 128 then out0 x0 x1 x2 x3 x4 x9 x10 x11 x12 x13 x14 x15 x16 hal s0 s1 (ix2 ⟨r.val, h0⟩ k)
  else if h1 : r.val - 128 < 128 then out1 x0 x1 x2 x3 x4 x9 x10 x11 x12 x13 x14 x15 x16 hal s0 s1 (ix2 ⟨r.val - 128, h1⟩ k)
  else if h2 : r.val - 128 - 128 < 128 then out2 x0 x1 x2 x3 x4 x9 x10 x11 x12 x13 x14 x15 x16 hal s0 s1 (ix2 ⟨r.val - 128 - 128, h2⟩ k)
  else out3 x0 x1 x2 x3 x4 x9 x10 x11 x12 x13 x14 x15 x16 hal s0 s1 (ix2 ⟨r.val - 128 - 128 - 128, by omega⟩ k)

theorem block_at (r : Fin 512) (c : Fin 1024) :
    block x0 x1 x2 x3 x4 x5 x6 x7 x8 x9 x10 x11 x12 x13 x14 x15 x16 hal s0 s1 (ix3 0 r c)
      = (x0 (ix3 0 r c) : EReal) + x1 (ix3 0 2 c) * ((∑ k : Fin 1024, (gmlp x0 x1 x2 x3 x6 x7 x8 (ix2 r k) : EReal) * x5 (ix2 ⟨k.val, by omega⟩ c))
        + ∑ k : Fin 1024, yb x0 x1 x2 x3 x4 x9 x10 x11 x12 x13 x14 x15 x16 hal s0 s1 r k * x5 (ix2 ⟨1024 + k.val, by omega⟩ c)) := by
  pointwise [block, yb]

/-- The floor of a word over 64, as the mask computes it. -/
def quot (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

theorem quot_at : ∀ t : Fin 128, quot (BitVec.ofNat 32 t.val) = BitVec.ofNat 32 (t.val / 64) := by decide +kernel

theorem le_at : ∀ a b : Fin 2, IntOp.cmpi .sle (BitVec.ofNat 32 a.val) (BitVec.ofNat 32 b.val) = if a.val ≤ b.val then 1#1 else 0#1 := by decide +kernel

theorem mask_at (r s : Fin 128) : k0_pay14 (iota .tc S128x128 32 [0] iota_S128x128_d0_w32) k0_pay11 64#32 k0_pay12 k0_pay13 0#32 (ix2 r s)
    = if s.val / 64 ≤ r.val / 64 then 1#1 else 0#1 := by
  rw [← le_at ⟨s.val / 64, by omega⟩ ⟨r.val / 64, by omega⟩]
  dsimp only
  rw [← quot_at, ← quot_at]
  pointwise [k0_pay14, k0_pay11, k0_pay12, k0_pay13, quot]

theorem select_ite {p : Prop} [Decidable p] (a b : EReal) : Scalar.select (if p then 1#1 else 0#1) a b = if p then a else b := by
  by_cases h : p
  · rw [if_pos h, if_pos h]; rfl
  · rw [if_neg h, if_neg h]; rfl

theorem mixed_mask (u v : FVec Ideal S512x128 .f32) (g : Vec Ideal S1x128 .f32) (w : Vec Ideal S1x128x128 .f32) (b : Vec Ideal S128x128 .f32) (t : Fin 512) (l : Fin 128) :
    mixed u v g w b (k0_pay14 (iota .tc S128x128 32 [0] iota_S128x128_d0_w32) k0_pay11 64#32 k0_pay12 k0_pay13 0#32) (ix2 t l)
      = (u (ix2 t l) : EReal) * ((∑ s : Fin 128, if s.val / 64 ≤ t.val % 128 / 64 then ((w (ix3 0 ⟨t.val % 128, by omega⟩ s) : EReal)
          * ((v (ix2 ⟨128 * (t.val / 128) + s.val, by omega⟩ l) : EReal) * rinv128 (fun d => v (ix2 ⟨128 * (t.val / 128) + s.val, by omega⟩ d)) * g (ix2 0 l))) else 0)
            + b (ix2 ⟨t.val % 128, by omega⟩ l)) := by
  rw [mixed_at]
  refine congrArg (fun z : EReal => (u (ix2 t l) : EReal) * (z + b (ix2 ⟨t.val % 128, by omega⟩ l))) (Finset.sum_congr rfl fun x _ => ?_)
  rw [mask_at]
  exact select_ite _ _

theorem gmlp_at0 (r : Fin 512) (l : Fin 128) :
    gmlp x0 x1 x2 x3 x6 x7 x8 (ix2 r ⟨0 + l.val, by omega⟩)
      = (hidden x0 x1 x2 x3 (ix2 r ⟨0 + l.val, by omega⟩) : EReal) * ((∑ s : Fin 128, if s.val / 64 ≤ r.val % 128 / 64 then (x7 (ix3 0 ⟨r.val % 128, by omega⟩ s) : EReal)
          * ((hidden x0 x1 x2 x3 (ix2 ⟨128 * (r.val / 128) + s.val, by omega⟩ ⟨1024 + (0 + l.val), by omega⟩) : EReal)
            * rinv128 (fun d => hidden x0 x1 x2 x3 (ix2 ⟨128 * (r.val / 128) + s.val, by omega⟩ ⟨1024 + (0 + d.val), by omega⟩)) * x6 (ix2 0 ⟨0 + l.val, by omega⟩)) else 0)
          + x8 (ix2 ⟨r.val % 128, by omega⟩ ⟨0 + l.val, by omega⟩)) := by
  pointwise [gmlp]
  rw [mixed_mask]
  pointwise []

theorem gmlp_at1 (r : Fin 512) (l : Fin 128) :
    gmlp x0 x1 x2 x3 x6 x7 x8 (ix2 r ⟨128 + l.val, by omega⟩)
      = (hidden x0 x1 x2 x3 (ix2 r ⟨128 + l.val, by omega⟩) : EReal) * ((∑ s : Fin 128, if s.val / 64 ≤ r.val % 128 / 64 then (x7 (ix3 1 ⟨r.val % 128, by omega⟩ s) : EReal)
          * ((hidden x0 x1 x2 x3 (ix2 ⟨128 * (r.val / 128) + s.val, by omega⟩ ⟨1024 + (128 + l.val), by omega⟩) : EReal)
            * rinv128 (fun d => hidden x0 x1 x2 x3 (ix2 ⟨128 * (r.val / 128) + s.val, by omega⟩ ⟨1024 + (128 + d.val), by omega⟩)) * x6 (ix2 0 ⟨128 + l.val, by omega⟩)) else 0)
          + x8 (ix2 ⟨r.val % 128, by omega⟩ ⟨128 + l.val, by omega⟩)) := by
  pointwise [gmlp]
  rw [mixed_mask]
  pointwise []

theorem gmlp_at2 (r : Fin 512) (l : Fin 128) :
    gmlp x0 x1 x2 x3 x6 x7 x8 (ix2 r ⟨256 + l.val, by omega⟩)
      = (hidden x0 x1 x2 x3 (ix2 r ⟨256 + l.val, by omega⟩) : EReal) * ((∑ s : Fin 128, if s.val / 64 ≤ r.val % 128 / 64 then (x7 (ix3 2 ⟨r.val % 128, by omega⟩ s) : EReal)
          * ((hidden x0 x1 x2 x3 (ix2 ⟨128 * (r.val / 128) + s.val, by omega⟩ ⟨1024 + (256 + l.val), by omega⟩) : EReal)
            * rinv128 (fun d => hidden x0 x1 x2 x3 (ix2 ⟨128 * (r.val / 128) + s.val, by omega⟩ ⟨1024 + (256 + d.val), by omega⟩)) * x6 (ix2 0 ⟨256 + l.val, by omega⟩)) else 0)
          + x8 (ix2 ⟨r.val % 128, by omega⟩ ⟨256 + l.val, by omega⟩)) := by
  pointwise [gmlp]
  rw [dif_neg (by omega), dif_neg (by omega), dif_pos (by omega)]
  have e : (⟨256 + l.val - 128 - 128, by omega⟩ : Fin 128) = l := Fin.ext (by show 256 + l.val - 128 - 128 = l.val; omega)
  rw [e]
  rw [mixed_mask]
  pointwise []

theorem gmlp_at3 (r : Fin 512) (l : Fin 128) :
    gmlp x0 x1 x2 x3 x6 x7 x8 (ix2 r ⟨384 + l.val, by omega⟩)
      = (hidden x0 x1 x2 x3 (ix2 r ⟨384 + l.val, by omega⟩) : EReal) * ((∑ s : Fin 128, if s.val / 64 ≤ r.val % 128 / 64 then (x7 (ix3 3 ⟨r.val % 128, by omega⟩ s) : EReal)
          * ((hidden x0 x1 x2 x3 (ix2 ⟨128 * (r.val / 128) + s.val, by omega⟩ ⟨1024 + (384 + l.val), by omega⟩) : EReal)
            * rinv128 (fun d => hidden x0 x1 x2 x3 (ix2 ⟨128 * (r.val / 128) + s.val, by omega⟩ ⟨1024 + (384 + d.val), by omega⟩)) * x6 (ix2 0 ⟨384 + l.val, by omega⟩)) else 0)
          + x8 (ix2 ⟨r.val % 128, by omega⟩ ⟨384 + l.val, by omega⟩)) := by
  pointwise [gmlp]
  rw [dif_neg (by omega), dif_neg (by omega), dif_neg (by omega), dif_pos (by omega)]
  have e : (⟨384 + l.val - 128 - 128 - 128, by omega⟩ : Fin 128) = l := Fin.ext (by show 384 + l.val - 128 - 128 - 128 = l.val; omega)
  rw [e]
  rw [mixed_mask]
  pointwise []

theorem gmlp_at4 (r : Fin 512) (l : Fin 128) :
    gmlp x0 x1 x2 x3 x6 x7 x8 (ix2 r ⟨512 + l.val, by omega⟩)
      = (hidden x0 x1 x2 x3 (ix2 r ⟨512 + l.val, by omega⟩) : EReal) * ((∑ s : Fin 128, if s.val / 64 ≤ r.val % 128 / 64 then (x7 (ix3 4 ⟨r.val % 128, by omega⟩ s) : EReal)
          * ((hidden x0 x1 x2 x3 (ix2 ⟨128 * (r.val / 128) + s.val, by omega⟩ ⟨1024 + (512 + l.val), by omega⟩) : EReal)
            * rinv128 (fun d => hidden x0 x1 x2 x3 (ix2 ⟨128 * (r.val / 128) + s.val, by omega⟩ ⟨1024 + (512 + d.val), by omega⟩)) * x6 (ix2 0 ⟨512 + l.val, by omega⟩)) else 0)
          + x8 (ix2 ⟨r.val % 128, by omega⟩ ⟨512 + l.val, by omega⟩)) := by
  pointwise [gmlp]
  rw [dif_neg (by omega), dif_neg (by omega), dif_neg (by omega), dif_neg (by omega), dif_pos (by omega)]
  have e : (⟨512 + l.val - 128 - 128 - 128 - 128, by omega⟩ : Fin 128) = l := Fin.ext (by show 512 + l.val - 128 - 128 - 128 - 128 = l.val; omega)
  rw [e]
  rw [mixed_mask]
  pointwise []

theorem gmlp_at5 (r : Fin 512) (l : Fin 128) :
    gmlp x0 x1 x2 x3 x6 x7 x8 (ix2 r ⟨640 + l.val, by omega⟩)
      = (hidden x0 x1 x2 x3 (ix2 r ⟨640 + l.val, by omega⟩) : EReal) * ((∑ s : Fin 128, if s.val / 64 ≤ r.val % 128 / 64 then (x7 (ix3 5 ⟨r.val % 128, by omega⟩ s) : EReal)
          * ((hidden x0 x1 x2 x3 (ix2 ⟨128 * (r.val / 128) + s.val, by omega⟩ ⟨1024 + (640 + l.val), by omega⟩) : EReal)
            * rinv128 (fun d => hidden x0 x1 x2 x3 (ix2 ⟨128 * (r.val / 128) + s.val, by omega⟩ ⟨1024 + (640 + d.val), by omega⟩)) * x6 (ix2 0 ⟨640 + l.val, by omega⟩)) else 0)
          + x8 (ix2 ⟨r.val % 128, by omega⟩ ⟨640 + l.val, by omega⟩)) := by
  pointwise [gmlp]
  rw [dif_neg (by omega), dif_neg (by omega), dif_neg (by omega), dif_neg (by omega), dif_neg (by omega), dif_pos (by omega)]
  have e : (⟨640 + l.val - 128 - 128 - 128 - 128 - 128, by omega⟩ : Fin 128) = l := Fin.ext (by show 640 + l.val - 128 - 128 - 128 - 128 - 128 = l.val; omega)
  rw [e]
  rw [mixed_mask]
  pointwise []

theorem gmlp_at6 (r : Fin 512) (l : Fin 128) :
    gmlp x0 x1 x2 x3 x6 x7 x8 (ix2 r ⟨768 + l.val, by omega⟩)
      = (hidden x0 x1 x2 x3 (ix2 r ⟨768 + l.val, by omega⟩) : EReal) * ((∑ s : Fin 128, if s.val / 64 ≤ r.val % 128 / 64 then (x7 (ix3 6 ⟨r.val % 128, by omega⟩ s) : EReal)
          * ((hidden x0 x1 x2 x3 (ix2 ⟨128 * (r.val / 128) + s.val, by omega⟩ ⟨1024 + (768 + l.val), by omega⟩) : EReal)
            * rinv128 (fun d => hidden x0 x1 x2 x3 (ix2 ⟨128 * (r.val / 128) + s.val, by omega⟩ ⟨1024 + (768 + d.val), by omega⟩)) * x6 (ix2 0 ⟨768 + l.val, by omega⟩)) else 0)
          + x8 (ix2 ⟨r.val % 128, by omega⟩ ⟨768 + l.val, by omega⟩)) := by
  pointwise [gmlp]
  rw [dif_neg (by omega), dif_neg (by omega), dif_neg (by omega), dif_neg (by omega), dif_neg (by omega), dif_neg (by omega), dif_pos (by omega)]
  have e : (⟨768 + l.val - 128 - 128 - 128 - 128 - 128 - 128, by omega⟩ : Fin 128) = l := Fin.ext (by show 768 + l.val - 128 - 128 - 128 - 128 - 128 - 128 = l.val; omega)
  rw [e]
  rw [mixed_mask]
  pointwise []

theorem gmlp_at7 (r : Fin 512) (l : Fin 128) :
    gmlp x0 x1 x2 x3 x6 x7 x8 (ix2 r ⟨896 + l.val, by omega⟩)
      = (hidden x0 x1 x2 x3 (ix2 r ⟨896 + l.val, by omega⟩) : EReal) * ((∑ s : Fin 128, if s.val / 64 ≤ r.val % 128 / 64 then (x7 (ix3 7 ⟨r.val % 128, by omega⟩ s) : EReal)
          * ((hidden x0 x1 x2 x3 (ix2 ⟨128 * (r.val / 128) + s.val, by omega⟩ ⟨1024 + (896 + l.val), by omega⟩) : EReal)
            * rinv128 (fun d => hidden x0 x1 x2 x3 (ix2 ⟨128 * (r.val / 128) + s.val, by omega⟩ ⟨1024 + (896 + d.val), by omega⟩)) * x6 (ix2 0 ⟨896 + l.val, by omega⟩)) else 0)
          + x8 (ix2 ⟨r.val % 128, by omega⟩ ⟨896 + l.val, by omega⟩)) := by
  pointwise [gmlp]
  rw [dif_neg (by omega), dif_neg (by omega), dif_neg (by omega), dif_neg (by omega), dif_neg (by omega), dif_neg (by omega), dif_neg (by omega)]
  have e : (⟨896 + l.val - 128 - 128 - 128 - 128 - 128 - 128 - 128, by omega⟩ : Fin 128) = l := Fin.ext (by show 896 + l.val - 128 - 128 - 128 - 128 - 128 - 128 - 128 = l.val; omega)
  rw [e]
  rw [mixed_mask]
  pointwise []

theorem gmlp_at (r : Fin 512) (c : Fin 1024) :
    gmlp x0 x1 x2 x3 x6 x7 x8 (ix2 r c)
      = (hidden x0 x1 x2 x3 (ix2 r ⟨c.val, by omega⟩) : EReal) * ((∑ s : Fin 128, if s.val / 64 ≤ r.val % 128 / 64 then (x7 (ix3 ⟨c.val / 128, by omega⟩ ⟨r.val % 128, by omega⟩ s) : EReal)
          * ((hidden x0 x1 x2 x3 (ix2 ⟨128 * (r.val / 128) + s.val, by omega⟩ ⟨1024 + c.val, by omega⟩) : EReal)
            * rinv128 (fun d => hidden x0 x1 x2 x3 (ix2 ⟨128 * (r.val / 128) + s.val, by omega⟩ ⟨1024 + (128 * (c.val / 128) + d.val), by omega⟩)) * x6 (ix2 0 c)) else 0)
          + x8 (ix2 ⟨r.val % 128, by omega⟩ c)) := by
  obtain ⟨g, l, rfl⟩ : ∃ (g : Fin 8) (l : Fin 128), c = ⟨128 * g.val + l.val, by omega⟩ :=
    ⟨⟨c.val / 128, by omega⟩, ⟨c.val % 128, by omega⟩, Fin.ext (by show c.val = 128 * (c.val / 128) + c.val % 128; omega)⟩
  have e1 : ∀ h, (⟨(128 * g.val + l.val) / 128, h⟩ : Fin 8) = g := fun h => Fin.ext (by show (128 * g.val + l.val) / 128 = g.val; omega)
  have e2 : (128 * g.val + l.val) / 128 = g.val := by omega
  simp only [e1, e2]
  obtain ⟨k, hk⟩ := g
  interval_cases k
  · exact (congrArg (fun z => gmlp x0 x1 x2 x3 x6 x7 x8 (ix2 r z)) (Fin.ext (by show 128 * 0 + l.val = 0 + l.val; omega))).trans (gmlp_at0 x0 x1 x2 x3 x6 x7 x8 r l)
  · exact (congrArg (fun z => gmlp x0 x1 x2 x3 x6 x7 x8 (ix2 r z)) (Fin.ext (by show 128 * 1 + l.val = 128 + l.val; omega))).trans (gmlp_at1 x0 x1 x2 x3 x6 x7 x8 r l)
  · exact (congrArg (fun z => gmlp x0 x1 x2 x3 x6 x7 x8 (ix2 r z)) (Fin.ext (by show 128 * 2 + l.val = 256 + l.val; omega))).trans (gmlp_at2 x0 x1 x2 x3 x6 x7 x8 r l)
  · exact (congrArg (fun z => gmlp x0 x1 x2 x3 x6 x7 x8 (ix2 r z)) (Fin.ext (by show 128 * 3 + l.val = 384 + l.val; omega))).trans (gmlp_at3 x0 x1 x2 x3 x6 x7 x8 r l)
  · exact (congrArg (fun z => gmlp x0 x1 x2 x3 x6 x7 x8 (ix2 r z)) (Fin.ext (by show 128 * 4 + l.val = 512 + l.val; omega))).trans (gmlp_at4 x0 x1 x2 x3 x6 x7 x8 r l)
  · exact (congrArg (fun z => gmlp x0 x1 x2 x3 x6 x7 x8 (ix2 r z)) (Fin.ext (by show 128 * 5 + l.val = 640 + l.val; omega))).trans (gmlp_at5 x0 x1 x2 x3 x6 x7 x8 r l)
  · exact (congrArg (fun z => gmlp x0 x1 x2 x3 x6 x7 x8 (ix2 r z)) (Fin.ext (by show 128 * 6 + l.val = 768 + l.val; omega))).trans (gmlp_at6 x0 x1 x2 x3 x6 x7 x8 r l)
  · exact (congrArg (fun z => gmlp x0 x1 x2 x3 x6 x7 x8 (ix2 r z)) (Fin.ext (by show 128 * 7 + l.val = 896 + l.val; omega))).trans (gmlp_at7 x0 x1 x2 x3 x6 x7 x8 r l)

end Cert.Kernel7Ideal.Hybrid
-- ==== Proof.Hybrid.Loads.lean ====
/-
  Loads of what a grid point keeps: the states of the two groups and the rows of the convolution.
-/
module

public import proofs.«01_k».proof.Proof.Hybrid.Model

@[expose] public section

set_option maxRecDepth 65536

noncomputable section

namespace Cert.Kernel7Ideal.Hybrid

open Idealize.ShloMosaic
open Cert.Kernel7Ideal Cert.Kernel7Ideal.Gen

theorem zeros3 : (![0, 0, 0] : Fin 3 → Nat) = fun _ => 0 := funext fun a => by fin_cases a <;> rfl

variable (v : View sig .tc .vmem S2x128x512 .f32) (w : S1x128x512.Idx → Elt Ideal .f32) (u : S2x128x512.Idx → Elt Ideal .f32)
  (L : List (View.Piece (Elt Ideal) S2x128x512 .f32))

/-- A load of group 1's state passes over a store of group 0's. -/
theorem skip_0 :
    v.readCov (⟨(Rect.unit (s := S2x128x512) ![0, 0, 0] ![1, 128, 512] inb_S2x128x512_S1x128x512_0_0_0), w⟩ :: L) (Rect.unit (s := S2x128x512) ![1, 0, 0] ![1, 128, 512] inb_S2x128x512_S1x128x512_1_0_0).toLoadRect = v.readCov L (Rect.unit (s := S2x128x512) ![1, 0, 0] ![1, 128, 512] inb_S2x128x512_S1x128x512_1_0_0).toLoadRect :=
  View.readCov_cons_of_disjoint v _ L _ (Rect.unit_disjoint (inb := inb_S2x128x512_S1x128x512_0_0_0) (inb' := inb_S2x128x512_S1x128x512_1_0_0) 0 (by decide))

/-- A load of group 0's state out of a whole buffer written at once. -/
theorem fill_0 :
    v.readCov (⟨Rect.unit (s := S2x128x512) ![0, 0, 0] ![2, 128, 512] inb_S2x128x512_S2x128x512_0_0_0, u⟩ :: L) (Rect.unit (s := S2x128x512) ![0, 0, 0] ![1, 128, 512] inb_S2x128x512_S1x128x512_0_0_0).toLoadRect = View.ld u (Rect.unit (s := S2x128x512) ![0, 0, 0] ![1, 128, 512] inb_S2x128x512_S1x128x512_0_0_0) := by
  rw [View.readCov_eq_canon', View.canon_cons_unit_zero (S := S2x128x512) zeros3]

/-- Group 0's state out of its own last store. -/
theorem own_0 : View.ld (View.canon (⟨(Rect.unit (s := S2x128x512) ![0, 0, 0] ![1, 128, 512] inb_S2x128x512_S1x128x512_0_0_0), w⟩ :: L)) (Rect.unit (s := S2x128x512) ![0, 0, 0] ![1, 128, 512] inb_S2x128x512_S1x128x512_0_0_0) = w :=
  funext fun j => View.canon_cons_emb (Rect.unit (s := S2x128x512) ![0, 0, 0] ![1, 128, 512] inb_S2x128x512_S1x128x512_0_0_0) w L j

/-- A load of group 0's state passes over a store of group 1's. -/
theorem skip_1 :
    v.readCov (⟨(Rect.unit (s := S2x128x512) ![1, 0, 0] ![1, 128, 512] inb_S2x128x512_S1x128x512_1_0_0), w⟩ :: L) (Rect.unit (s := S2x128x512) ![0, 0, 0] ![1, 128, 512] inb_S2x128x512_S1x128x512_0_0_0).toLoadRect = v.readCov L (Rect.unit (s := S2x128x512) ![0, 0, 0] ![1, 128, 512] inb_S2x128x512_S1x128x512_0_0_0).toLoadRect :=
  View.readCov_cons_of_disjoint v _ L _ (Rect.unit_disjoint (inb := inb_S2x128x512_S1x128x512_1_0_0) (inb' := inb_S2x128x512_S1x128x512_0_0_0) 0 (by decide))

/-- A load of group 1's state out of a whole buffer written at once. -/
theorem fill_1 :
    v.readCov (⟨Rect.unit (s := S2x128x512) ![0, 0, 0] ![2, 128, 512] inb_S2x128x512_S2x128x512_0_0_0, u⟩ :: L) (Rect.unit (s := S2x128x512) ![1, 0, 0] ![1, 128, 512] inb_S2x128x512_S1x128x512_1_0_0).toLoadRect = View.ld u (Rect.unit (s := S2x128x512) ![1, 0, 0] ![1, 128, 512] inb_S2x128x512_S1x128x512_1_0_0) := by
  rw [View.readCov_eq_canon', View.canon_cons_unit_zero (S := S2x128x512) zeros3]

/-- Group 1's state out of its own last store. -/
theorem own_1 : View.ld (View.canon (⟨(Rect.unit (s := S2x128x512) ![1, 0, 0] ![1, 128, 512] inb_S2x128x512_S1x128x512_1_0_0), w⟩ :: L)) (Rect.unit (s := S2x128x512) ![1, 0, 0] ![1, 128, 512] inb_S2x128x512_S1x128x512_1_0_0) = w :=
  funext fun j => View.canon_cons_emb (Rect.unit (s := S2x128x512) ![1, 0, 0] ![1, 128, 512] inb_S2x128x512_S1x128x512_1_0_0) w L j

/-- Group 0's state is not in the store of group 1's. -/
theorem past_1 : View.ld (View.canon (⟨(Rect.unit (s := S2x128x512) ![1, 0, 0] ![1, 128, 512] inb_S2x128x512_S1x128x512_1_0_0), w⟩ :: L)) (Rect.unit (s := S2x128x512) ![0, 0, 0] ![1, 128, 512] inb_S2x128x512_S1x128x512_0_0_0) = View.ld (View.canon L) (Rect.unit (s := S2x128x512) ![0, 0, 0] ![1, 128, 512] inb_S2x128x512_S1x128x512_0_0_0) :=
  funext fun j => View.canon_cons_of_not_mem _ L fun h => Finset.disjoint_left.mp
    (Rect.unit_disjoint (inb := inb_S2x128x512_S1x128x512_1_0_0) (inb' := inb_S2x128x512_S1x128x512_0_0_0) 0 (by decide)) h (by rw [← Rect.map_emb_univ]; exact Finset.mem_map_of_mem _ (Finset.mem_univ j))

/-- The last eight of 512 rows. -/
def tail (x : FVec Ideal S512x1536 .f32) : FVec Ideal S8x1536 .f32 := fun j => x (ix2 ⟨504 + (j 0).val, by have : (j 0).val < 8 := (j 0).isLt; omega⟩ (j 1))

/-- A load of the first rows passes over a store of the later ones. -/
theorem skip_rows (v : View sig .tc .vmem S520x1536 .f32) (w : S512x1536.Idx → Elt Ideal .f32) (L : List (View.Piece (Elt Ideal) S520x1536 .f32)) :
    v.readCov (⟨Rect.unit (s := S520x1536) ![8, 0] ![512, 1536] inb_S520x1536_S512x1536_8_0, w⟩ :: L)
      (Rect.unit (s := S520x1536) ![0, 0] ![8, 1536] inb_S520x1536_S8x1536_0_0).toLoadRect
      = v.readCov L (Rect.unit (s := S520x1536) ![0, 0] ![8, 1536] inb_S520x1536_S8x1536_0_0).toLoadRect :=
  View.readCov_cons_of_disjoint v _ L _ (Rect.unit_disjoint (inb := inb_S520x1536_S512x1536_8_0) (inb' := inb_S520x1536_S8x1536_0_0) 0 (by decide))

theorem ld_own_rows (w : S8x1536.Idx → Elt Ideal .f32) (L : List (View.Piece (Elt Ideal) S520x1536 .f32)) :
    View.ld (View.canon (⟨Rect.unit (s := S520x1536) ![0, 0] ![8, 1536] inb_S520x1536_S8x1536_0_0, w⟩ :: L)) (Rect.unit (s := S520x1536) ![0, 0] ![8, 1536] inb_S520x1536_S8x1536_0_0) = w :=
  funext fun j => View.canon_cons_emb (Rect.unit (s := S520x1536) ![0, 0] ![8, 1536] inb_S520x1536_S8x1536_0_0) w L j

theorem load_tail (v : View sig .tc .vmem S520x1536 .f32) (w : S512x1536.Idx → Elt Ideal .f32) (L : List (View.Piece (Elt Ideal) S520x1536 .f32)) :
    v.readCov (⟨Rect.unit (s := S520x1536) ![8, 0] ![512, 1536] inb_S520x1536_S512x1536_8_0, w⟩ :: L)
      (Rect.unit (s := S520x1536) ![512, 0] ![8, 1536] inb_S520x1536_S8x1536_512_0).toLoadRect = tail w := by
  rw [View.readCov_eq_canon']
  funext j
  have h := View.canon_cons_emb (Rect.unit (s := S520x1536) ![8, 0] ![512, 1536] inb_S520x1536_S512x1536_8_0) w L
    (ix2 (⟨504 + (j 0).val, by have : (j 0).val < 8 := (j 0).isLt; omega⟩ : Fin 512) (j 1) : S512x1536.Idx)
  refine Eq.trans (congrArg _ ?_) h
  funext a
  apply Fin.ext
  fin_cases a
  · show 512 + 1 * (j 0).val = 8 + 1 * (504 + (j 0).val); omega
  · rfl

end Cert.Kernel7Ideal.Hybrid
-- ==== Proof.Hybrid.Bridge.lean ====
/-
  A chunk of 128 rows whose step sizes, inputs, writings and readings are real: its sums, decays, states and rows are those of the
  recurrence.
-/
module

public import proofs.«01_k».proof.Proof.Hybrid.Chunk
public import proofs.«01_k».proof.Proof.Hybrid.Real

@[expose] public section

set_option maxRecDepth 16384

noncomputable section

namespace Cert.Kernel7Ideal.Hybrid

open Idealize.ShloMosaic
open Cert.Kernel7Ideal Cert.Kernel7Ideal.Gen Cert.Hybrid

theorem sum_upto (f : ℕ → ℝ) (r : ℕ) (hr : r < 128) :
    (∑ j : Fin 128, if j.val ≤ r then f j.val else 0) = ∑ j ∈ Finset.range (r + 1), f j := by
  rw [Fin.sum_univ_eq_sum_range (fun j => if j ≤ r then f j else 0) 128]
  symm
  refine (Finset.sum_congr rfl fun j hj => ?_).trans (Finset.sum_subset (Finset.range_mono (by omega : r + 1 ≤ 128)) fun j _ hj => ?_)
  · rw [if_pos (by have := Finset.mem_range.mp hj; omega)]
  · rw [if_neg (by intro h; exact hj (Finset.mem_range.mpr (by omega)))]

section
variable (a : ℕ → ℝ) (D X B C : ℕ → ℕ → ℝ) (T : ℕ)

theorem sums_real (dta : FVec Ideal S128x128 .f32) (tril : Vec Ideal S128x128 .bf16)
    (hdta : ∀ r h : Fin 128, (dta (ix2 r h) : EReal) = ((D (T + r.val) h.val * a h.val : ℝ) : EReal))
    (htril : ∀ r j : Fin 128, (tril (ix2 r j) : EReal) = if j.val ≤ r.val then 1 else 0) (r h : Fin 128) :
    (sums dta tril (ix2 r h) : EReal) = ((cum a D (T + r.val + 1) h.val - cum a D T h.val : ℝ) : EReal) := by
  have z : ∀ j : Fin 128, (dta (ix2 j h) : EReal) - dta (ix2 j h) = 0 := fun j => by
    rw [hdta, ← EReal.coe_sub, sub_self]; rfl
  rw [sums_at]
  simp only [z, sub_zero, mul_zero, Finset.sum_const_zero, add_zero]
  have e : ∀ j : Fin 128, (tril (ix2 r j) : EReal) * dta (ix2 j h) = (((if j.val ≤ r.val then D (T + j.val) h.val * a h.val else 0 : ℝ)) : EReal) := fun j => by
    rw [htril, hdta]
    by_cases hj : j.val ≤ r.val
    · rw [if_pos hj, if_pos hj, one_mul]
    · rw [if_neg hj, if_neg hj, zero_mul]; rfl
  rw [Finset.sum_congr rfl fun j _ => e j, ← Cert.Stick.coe_sum, sum_upto (fun j => D (T + j) h.val * a h.val) r.val r.isLt]
  unfold cum
  rw [add_assoc, Finset.sum_range_add (fun s => D s h.val * a h.val) T, add_sub_cancel_left]

variable (cs dt : FVec Ideal S128x128 .f32)
  (hcs : ∀ r h : Fin 128, (cs (ix2 r h) : EReal) = ((cum a D (T + r.val + 1) h.val - cum a D T h.val : ℝ) : EReal))
  (hdt : ∀ r h : Fin 128, (dt (ix2 r h) : EReal) = ((D (T + r.val) h.val : ℝ) : EReal))

include hcs hdt in
theorem toEnd_real (r h : Fin 128) : (toEnd cs dt (ix2 r h) : EReal) = ((held a D (T + 128) (T + r.val) h.val : ℝ) : EReal) := by
  rw [toEnd_at, hcs, hcs, hdt, ← EReal.coe_sub]
  rw [show ∀ x : ℝ, Ideal.exp (x : EReal) = ((Real.exp x : ℝ) : EReal) from fun _ => rfl, ← EReal.coe_mul]
  unfold held
  congr 3
  show cum a D (T + 127 + 1) h.val - cum a D T h.val - (cum a D (T + r.val + 1) h.val - cum a D T h.val) = _
  rw [show T + 127 + 1 = T + 128 from rfl]
  ring

/-- The packed row of decays. -/
def lanes (r k : ℕ) : ℝ :=
  if k < 16 then Real.exp (cum a D (T + r + 1) k - cum a D T k)
  else if k < 32 then 0 else if k < 48 then held a D (T + 128) (T + r) (k - 32) else 0

include hcs hdt in
theorem packed_real (r k : Fin 128) : (packed cs dt (ix2 r k) : EReal) = ((lanes a D T r.val k.val : ℝ) : EReal) := by
  rw [packed_at]
  unfold lanes
  by_cases h1 : k.val < 16
  · rw [if_pos h1, if_pos h1, hcs]; rfl
  rw [if_neg h1, if_neg h1]
  by_cases h2 : k.val < 32
  · rw [if_pos h2, if_pos h2, hcs, show ∀ x : ℝ, Ideal.exp (x : EReal) = ((Real.exp x : ℝ) : EReal) from fun _ => rfl, ← EReal.coe_sub, sub_self]
  rw [if_neg h2, if_neg h2]
  by_cases h3 : k.val < 48
  · rw [if_pos h3, if_pos h3, toEnd_real a D T cs dt hcs hdt]
    dsimp only
    rw [show (k.val + 128 - 32) % 128 = k.val - 32 by omega]
  · rw [if_neg h3, if_neg h3, toEnd_real a D T cs dt hcs hdt, ← EReal.coe_sub, sub_self]

variable (em : Vec Ideal S128x2048 .bf16)
  (hem : ∀ (k : Fin 128) (c : Fin 2048), (em (ix2 k c) : EReal) = if k.val < 64 ∧ c.val / 64 = k.val / 32 * 16 + k.val % 16 then 1 else 0)

include hcs hdt hem in
theorem spread_low (r : Fin 128) (c : Fin 1024) (h : c.val < 2048) :
    (spread cs dt em (ix2 r ⟨c.val, h⟩) : EReal) = ((Real.exp (cum a D (T + r.val + 1) (c.val / 64) - cum a D T (c.val / 64)) : ℝ) : EReal) := by
  rw [spread_at, Finset.sum_eq_single (⟨c.val / 64, by omega⟩ : Fin 128)]
  · rw [hem, packed_real a D T cs dt hcs hdt, if_pos (by dsimp only; omega), mul_one]
    unfold lanes
    rw [if_pos (by dsimp only; omega)]
  · intro k _ hk
    have hk' : k.val ≠ c.val / 64 := fun e => hk (Fin.ext e)
    rw [hem, packed_real a D T cs dt hcs hdt]
    by_cases hc : k.val < 64 ∧ c.val / 64 = k.val / 32 * 16 + k.val % 16
    · unfold lanes
      rw [if_neg (by omega), if_pos (by omega), EReal.coe_zero, zero_mul]
    · rw [if_neg hc, mul_zero]
  · intro h; exact absurd (Finset.mem_univ _) h

include hcs hdt hem in
theorem spread_high (r : Fin 128) (c : ℕ) (hc : c < 1024) :
    (spread cs dt em (ix2 r ⟨1024 + c, by omega⟩) : EReal) = ((held a D (T + 128) (T + r.val) (c / 64) : ℝ) : EReal) := by
  rw [spread_at, Finset.sum_eq_single (⟨32 + c / 64, by omega⟩ : Fin 128)]
  · rw [hem, packed_real a D T cs dt hcs hdt, if_pos (by dsimp only; omega), mul_one]
    unfold lanes
    rw [if_neg (by dsimp only; omega), if_neg (by dsimp only; omega), if_pos (by dsimp only; omega)]
    dsimp only
    rw [show 32 + c / 64 - 32 = c / 64 by omega]
  · intro k _ hk
    have hk' : k.val ≠ 32 + c / 64 := fun e => hk (Fin.ext e)
    rw [hem, packed_real a D T cs dt hcs hdt]
    by_cases hc : k.val < 64 ∧ (1024 + c) / 64 = k.val / 32 * 16 + k.val % 16
    · unfold lanes
      rw [if_neg (by omega), if_neg (by omega), if_neg (by omega), EReal.coe_zero, zero_mul]
    · rw [if_neg (by exact hc), mul_zero]
  · intro h; exact absurd (Finset.mem_univ _) h

variable (xs : FVec Ideal S128x1024 .f32) (hxs : ∀ (r : Fin 128) (c : Fin 1024), (xs (ix2 r c) : EReal) = ((X (T + r.val) c.val : ℝ) : EReal))
  (bm0 bm1 cm0 cm1 : FVec Ideal S128x128 .f32)
  (hb0 : ∀ r n : Fin 128, (bm0 (ix2 r n) : EReal) = ((B (T + r.val) (128 * 0 + n.val) : ℝ) : EReal))
  (hb1 : ∀ r n : Fin 128, (bm1 (ix2 r n) : EReal) = ((B (T + r.val) (128 * 1 + n.val) : ℝ) : EReal))
  (hc0 : ∀ r n : Fin 128, (cm0 (ix2 r n) : EReal) = ((C (T + r.val) (128 * 0 + n.val) : ℝ) : EReal))
  (hc1 : ∀ r n : Fin 128, (cm1 (ix2 r n) : EReal) = ((C (T + r.val) (128 * 1 + n.val) : ℝ) : EReal))
  (st0 st1 : Vec Ideal S1x128x512 .f32)
  (hs0 : ∀ (n : Fin 128) (c : Fin 512), (st0 (ix3 0 n c) : EReal) = ((state a D X B T n.val c.val : ℝ) : EReal))
  (hs1 : ∀ (n : Fin 128) (c : Fin 512), (st1 (ix3 0 n c) : EReal) = ((state a D X B T n.val (512 + c.val) : ℝ) : EReal))

include hcs hdt hem hxs hb0 hs0 in
theorem next0_real (n : Fin 128) (c : Fin 512) :
    (next0 bm0 xs (spread cs dt em) st0 (ix3 0 n c) : EReal) = ((state a D X B (T + 128) n.val c.val : ℝ) : EReal) := by
  rw [next0_at, hs0, spread_low a D T cs dt hcs hdt em hem 127 ⟨c.val, by omega⟩]
  rw [Finset.sum_congr rfl fun j _ => by rw [hb0, hxs, spread_high a D T cs dt hcs hdt em hem j c.val (by omega), ← EReal.coe_mul, ← EReal.coe_mul]]
  rw [← Cert.Stick.coe_sum, ← EReal.coe_mul, ← EReal.coe_add, ← state_step a D X B T 128 n.val c.val]
  rw [← Fin.sum_univ_eq_sum_range (fun j => B (T + j) (128 * (c.val / 512) + n.val) * (X (T + j) c.val * held a D (T + 128) (T + j) (c.val / 64))) 128]
  rw [show c.val / 512 = 0 by omega]
  rfl

include hcs hdt hem hxs hb1 hs1 in
theorem next1_real (n : Fin 128) (c : Fin 512) :
    (next1 bm1 xs (spread cs dt em) st1 (ix3 0 n c) : EReal) = ((state a D X B (T + 128) n.val (512 + c.val) : ℝ) : EReal) := by
  rw [next1_at, hs1, spread_low a D T cs dt hcs hdt em hem 127 ⟨512 + c.val, by omega⟩]
  rw [Finset.sum_congr rfl fun j _ => by rw [hb1, hxs, spread_high a D T cs dt hcs hdt em hem j (512 + c.val) (by omega), ← EReal.coe_mul, ← EReal.coe_mul]]
  rw [← Cert.Stick.coe_sum, ← EReal.coe_mul, ← EReal.coe_add, ← state_step a D X B T 128 n.val (512 + c.val)]
  rw [← Fin.sum_univ_eq_sum_range (fun j => B (T + j) (128 * ((512 + c.val) / 512) + n.val) * (X (T + j) (512 + c.val) * held a D (T + 128) (T + j) ((512 + c.val) / 64))) 128]
  rw [show (512 + c.val) / 512 = 1 by omega]
  rfl

theorem products_real (bm cm : FVec Ideal S128x128 .f32) (g : ℕ)
    (hb : ∀ r n : Fin 128, (bm (ix2 r n) : EReal) = ((B (T + r.val) (128 * g + n.val) : ℝ) : EReal))
    (hc : ∀ r n : Fin 128, (cm (ix2 r n) : EReal) = ((C (T + r.val) (128 * g + n.val) : ℝ) : EReal)) (r j : Fin 128) :
    (products bm cm (ix2 r j) : EReal) = ((link B C (T + r.val) (T + j.val) g : ℝ) : EReal) := by
  rw [products_at, Finset.sum_congr rfl fun n _ => by rw [hc, hb, ← EReal.coe_mul], ← Cert.Stick.coe_sum]
  rfl

include hcs hdt in
theorem weights_real (cb : FVec Ideal S128x128 .f32) (g : ℕ) (hcb : ∀ r j : Fin 128, (cb (ix2 r j) : EReal) = ((link B C (T + r.val) (T + j.val) g : ℝ) : EReal))
    (hd : ℕ) (hh : hd < 128) (h1 : S128x128.Slices ![0, hd] S128x1) (h2 : S128x128.Slices ![hd, 0] S1x128) (r j : Fin 128) :
    (weights cs dt cb hd h1 h2 (ix2 r j) : EReal) = ((link B C (T + r.val) (T + j.val) g * (if j.val ≤ r.val then held a D (T + r.val + 1) (T + j.val) hd else 0) : ℝ) : EReal) := by
  rw [weights_at _ _ _ hd hh, hcb, hcs, hcs, hdt]
  by_cases h : j.val ≤ r.val
  · rw [if_pos h, if_pos h, ← EReal.coe_sub, show ∀ x : ℝ, Ideal.exp (x : EReal) = ((Real.exp x : ℝ) : EReal) from fun _ => rfl, ← EReal.coe_mul, ← EReal.coe_mul]
    unfold held
    dsimp only
    rw [sub_sub_sub_cancel_right, mul_assoc]
  · rw [if_neg h, if_neg h, mul_zero, mul_zero, zero_mul]; rfl

include hcs hdt hxs in
theorem pair_real (cb : FVec Ideal S128x128 .f32) (g : ℕ) (hcb : ∀ r j : Fin 128, (cb (ix2 r j) : EReal) = ((link B C (T + r.val) (T + j.val) g : ℝ) : EReal))
    (off : FVec Ideal S128x512 .f32)
    (hoff : ∀ (r : Fin 128) (c : Fin 512), (off (ix2 r c) : EReal) = (((∑ n : Fin 128, C (T + r.val) (128 * g + n.val) * state a D X B T n.val (512 * g + c.val))
      * Real.exp (cum a D (T + r.val + 1) ((512 * g + c.val) / 64) - cum a D T ((512 * g + c.val) / 64)) : ℝ) : EReal))
    (p c d : ℕ) (hc : c = 128 * p) (hd : c = 512 * g + d) (hdl : d + 128 ≤ 512) (hg : g < 2)
    (h1 : S128x128.Slices ![0, 2 * p] S128x1) (h2 : S128x128.Slices ![2 * p, 0] S1x128) (h3 : S128x128.Slices ![0, 2 * p + 1] S128x1) (h4 : S128x128.Slices ![2 * p + 1, 0] S1x128)
    (h5 : S128x1024.Slices ![0, c] S128x128) (h6 : S128x512.Slices ![0, d] S128x128) (r l : Fin 128) :
    (pair (weights cs dt cb (2 * p) h1 h2) (weights cs dt cb (2 * p + 1) h3 h4) xs off c d h5 h6 (ix2 r l) : EReal) = ((attend a D X B C (T + r.val) (c + l.val) : ℝ) : EReal) := by
  rw [pair_at _ _ _ _ c d (by omega) hdl]
  rw [← attend_step a D X B C T r.val (c + l.val) r.isLt, add_comm, EReal.coe_add]
  have eg : (c + l.val) / 512 = g := by omega
  have ec : 512 * g + (d + l.val) = c + l.val := by omega
  congr 1
  · rw [hoff, eg]
    dsimp only
    rw [ec]
  · rw [Cert.Stick.coe_sum]
    refine Finset.sum_congr rfl fun j _ => ?_
    rw [hxs, eg]
    by_cases hl : l.val < 64
    · rw [if_pos hl, weights_real a D B C T cs dt hcs hdt cb g hcb (2 * p) (by omega), ← EReal.coe_mul, show (c + l.val) / 64 = 2 * p by omega]
    · rw [if_neg hl, weights_real a D B C T cs dt hcs hdt cb g hcb (2 * p + 1) (by omega), ← EReal.coe_mul, show (c + l.val) / 64 = 2 * p + 1 by omega]

include hcs hdt hem hc0 hs0 in
theorem off0_real (r : Fin 128) (c : Fin 512) : (off0 cm0 (spread cs dt em) st0 (ix2 r c) : EReal)
    = (((∑ n : Fin 128, C (T + r.val) (128 * 0 + n.val) * state a D X B T n.val (512 * 0 + c.val))
      * Real.exp (cum a D (T + r.val + 1) ((512 * 0 + c.val) / 64) - cum a D T ((512 * 0 + c.val) / 64)) : ℝ) : EReal) := by
  rw [off0_at, spread_low a D T cs dt hcs hdt em hem r ⟨c.val, by omega⟩, Finset.sum_congr rfl fun n _ => by rw [hc0, hs0, ← EReal.coe_mul], ← Cert.Stick.coe_sum, ← EReal.coe_mul]
  rw [show 512 * 0 + c.val = c.val by omega]

include hcs hdt hem hc1 hs1 in
theorem off1_real (r : Fin 128) (c : Fin 512) : (off1 cm1 (spread cs dt em) st1 (ix2 r c) : EReal)
    = (((∑ n : Fin 128, C (T + r.val) (128 * 1 + n.val) * state a D X B T n.val (512 * 1 + c.val))
      * Real.exp (cum a D (T + r.val + 1) ((512 * 1 + c.val) / 64) - cum a D T ((512 * 1 + c.val) / 64)) : ℝ) : EReal) := by
  rw [off1_at, spread_low a D T cs dt hcs hdt em hem r ⟨512 + c.val, by omega⟩, Finset.sum_congr rfl fun n _ => by rw [hc1, hs1, ← EReal.coe_mul], ← Cert.Stick.coe_sum, ← EReal.coe_mul]

include hcs hdt hem hxs hb0 hb1 hc0 hc1 hs0 hs1 in
theorem rows_real (dexp : Vec Ideal S1x1024 .f32) (r : Fin 128) (c : Fin 1024) :
    rows cs dt (products bm0 cm0) (products bm1 cm1) xs (off0 cm0 (spread cs dt em) st0) (off1 cm1 (spread cs dt em) st1) dexp (ix2 r c)
      = ((attend a D X B C (T + r.val) c.val : ℝ) : EReal) + dexp (ix2 0 c) * xs (ix2 r c) := by
  obtain ⟨p, l, rfl⟩ : ∃ (p : Fin 8) (l : Fin 128), c = ⟨128 * p.val + l.val, by omega⟩ :=
    ⟨⟨c.val / 128, by omega⟩, ⟨c.val % 128, by omega⟩, Fin.ext (by show c.val = 128 * (c.val / 128) + c.val % 128; omega)⟩
  obtain ⟨p, hp⟩ := p
  have hcb0 := products_real B C T bm0 cm0 0 hb0 hc0
  have hcb1 := products_real B C T bm1 cm1 1 hb1 hc1
  have ho0 := off0_real a D X B C T cs dt hcs hdt em hem cm0 hc0 st0 hs0
  have ho1 := off1_real a D X B C T cs dt hcs hdt em hem cm1 hc1 st1 hs1
  interval_cases p
  · exact (rows_at0 cs dt _ _ xs _ _ dexp r l).trans (congrArg (fun z : EReal => z + dexp (ix2 0 ⟨0 + l.val, by omega⟩) * xs (ix2 r ⟨0 + l.val, by omega⟩))
      (pair_real a D X B C T cs dt hcs hdt xs hxs (products bm0 cm0) 0 hcb0 _ ho0 0 0 0 rfl rfl (by omega) (by omega) _ _ _ _ _ _ r l))
  · exact (rows_at1 cs dt _ _ xs _ _ dexp r l).trans (congrArg (fun z : EReal => z + dexp (ix2 0 ⟨128 + l.val, by omega⟩) * xs (ix2 r ⟨128 + l.val, by omega⟩))
      (pair_real a D X B C T cs dt hcs hdt xs hxs (products bm0 cm0) 0 hcb0 _ ho0 1 128 128 rfl rfl (by omega) (by omega) _ _ _ _ _ _ r l))
  · exact (rows_at2 cs dt _ _ xs _ _ dexp r l).trans (congrArg (fun z : EReal => z + dexp (ix2 0 ⟨256 + l.val, by omega⟩) * xs (ix2 r ⟨256 + l.val, by omega⟩))
      (pair_real a D X B C T cs dt hcs hdt xs hxs (products bm0 cm0) 0 hcb0 _ ho0 2 256 256 rfl rfl (by omega) (by omega) _ _ _ _ _ _ r l))
  · exact (rows_at3 cs dt _ _ xs _ _ dexp r l).trans (congrArg (fun z : EReal => z + dexp (ix2 0 ⟨384 + l.val, by omega⟩) * xs (ix2 r ⟨384 + l.val, by omega⟩))
      (pair_real a D X B C T cs dt hcs hdt xs hxs (products bm0 cm0) 0 hcb0 _ ho0 3 384 384 rfl rfl (by omega) (by omega) _ _ _ _ _ _ r l))
  · exact (rows_at4 cs dt _ _ xs _ _ dexp r l).trans (congrArg (fun z : EReal => z + dexp (ix2 0 ⟨512 + l.val, by omega⟩) * xs (ix2 r ⟨512 + l.val, by omega⟩))
      (pair_real a D X B C T cs dt hcs hdt xs hxs (products bm1 cm1) 1 hcb1 _ ho1 4 512 0 rfl rfl (by omega) (by omega) _ _ _ _ _ _ r l))
  · exact (rows_at5 cs dt _ _ xs _ _ dexp r l).trans (congrArg (fun z : EReal => z + dexp (ix2 0 ⟨640 + l.val, by omega⟩) * xs (ix2 r ⟨640 + l.val, by omega⟩))
      (pair_real a D X B C T cs dt hcs hdt xs hxs (products bm1 cm1) 1 hcb1 _ ho1 5 640 128 rfl rfl (by omega) (by omega) _ _ _ _ _ _ r l))
  · exact (rows_at6 cs dt _ _ xs _ _ dexp r l).trans (congrArg (fun z : EReal => z + dexp (ix2 0 ⟨768 + l.val, by omega⟩) * xs (ix2 r ⟨768 + l.val, by omega⟩))
      (pair_real a D X B C T cs dt hcs hdt xs hxs (products bm1 cm1) 1 hcb1 _ ho1 6 768 256 rfl rfl (by omega) (by omega) _ _ _ _ _ _ r l))
  · exact (rows_at7 cs dt _ _ xs _ _ dexp r l).trans (congrArg (fun z : EReal => z + dexp (ix2 0 ⟨896 + l.val, by omega⟩) * xs (ix2 r ⟨896 + l.val, by omega⟩))
      (pair_real a D X B C T cs dt hcs hdt xs hxs (products bm1 cm1) 1 hcb1 _ ho1 7 896 384 rfl rfl (by omega) (by omega) _ _ _ _ _ _ r l))

end

end Cert.Kernel7Ideal.Hybrid
-- ==== Proof.Hybrid.Block.lean ====
/-
  One grid point of the hybrid mixer computes the rows of its batch entry, if the rows kept and the states it starts from are
  those of the rows before.
-/
module

public import proofs.«01_k».proof.Proof.Hybrid.Point
public import proofs.«01_k».proof.Proof.Hybrid.Loads
public import proofs.«01_k».proof.Proof.Hybrid.Bridge

@[expose] public section

set_option maxRecDepth 16384

noncomputable section

namespace Cert.Kernel7Ideal.Hybrid

open Idealize.ShloMosaic
open Cert.Kernel7Ideal Cert.Kernel7Ideal.Gen Cert.Ffn Cert.Hybrid

/-- The blocks of a grid point are the inputs of a batch entry, at the rows from `T` on. -/
structure Reads (A : Args) (T : ℕ) (x0 : Vec Ideal S1x512x1024 .f32) (x1 : Vec Ideal S1x3x1024 .f32) (x2 : Vec Ideal S1x1024 .f32) (x3 : Vec Ideal S1024x4624 .bf16)
  (x4 : Vec Ideal S1024x128 .bf16) (x5 : Vec Ideal S2048x1024 .bf16) (x6 : Vec Ideal S1x1024 .f32) (x7 : Vec Ideal S8x128x128 .f32)
  (x8 : Vec Ideal S128x1024 .f32) (x9 : Vec Ideal S4x1536 .f32) (x10 : Vec Ideal S1x1536 .f32) (x11 : Vec Ideal S1x128 .f32)
  (x12 : Vec Ideal S1x128 .f32) (x13 : Vec Ideal S1x1024 .f32) (x14 : Vec Ideal S1x1024 .f32) (x15 : Vec Ideal S128x2048 .bf16)
  (x16 : Vec Ideal S128x128 .bf16) : Prop where
  real : A.IsReal
  whole : T % 512 = 0
  e0 : ∀ (r : Fin 512) (d : Fin 1024), x0 (ix3 0 r d) = A.h (T + r.val) d
  e1a : ∀ d : Fin 1024, x1 (ix3 0 0 d) = A.sh d
  e1b : ∀ d : Fin 1024, x1 (ix3 0 1 d) = A.sc d
  e1c : ∀ d : Fin 1024, x1 (ix3 0 2 d) = A.gt d
  e2 : ∀ d : Fin 1024, x2 (ix2 0 d) = A.g d
  e3 : ∀ (d : Fin 1024) (f : Fin 4624), x3 (ix2 d f) = A.w d f
  e4 : ∀ (d : Fin 1024) (h : Fin 128), x4 (ix2 d h) = lane (fun k => A.w d ⟨4608 + k.val, by omega⟩) h.val
  e5 : ∀ (k : Fin 2048) (c : Fin 1024), x5 (ix2 k c) = A.wo k c
  e6 : ∀ c : Fin 1024, x6 (ix2 0 c) = A.vg c
  e7 : ∀ (g : Fin 8) (t s : Fin 128), x7 (ix3 g t s) = A.ws g t s
  e8 : ∀ (t : Fin 128) (c : Fin 1024), x8 (ix2 t c) = A.bs ⟨c.val / 128, by omega⟩ t
  e9 : ∀ (k : Fin 4) (f : Fin 1536), x9 (ix2 k f) = A.cw k f
  e10 : ∀ f : Fin 1536, x10 (ix2 0 f) = A.cb f
  e11 : ∀ h : Fin 128, x11 (ix2 0 h) = lane A.db h.val
  e12 : ∀ h : Fin 128, x12 (ix2 0 h) = lane A.al h.val
  e13 : ∀ c : Fin 1024, x13 (ix2 0 c) = A.ds ⟨c.val / 64, by omega⟩
  e14 : ∀ c : Fin 1024, x14 (ix2 0 c) = A.ng c
  e15 : ∀ (k : Fin 128) (c : Fin 2048), x15 (ix2 k c) = (if k.val < 64 ∧ c.val / 64 = k.val / 32 * 16 + k.val % 16 then 1 else 0 : EReal)
  e16 : ∀ r j : Fin 128, x16 (ix2 r j) = (if j.val ≤ r.val then 1 else 0 : EReal)

section
variable {A : Args} {T : ℕ} {x0 : Vec Ideal S1x512x1024 .f32} {x1 : Vec Ideal S1x3x1024 .f32} {x2 : Vec Ideal S1x1024 .f32} {x3 : Vec Ideal S1024x4624 .bf16}
  {x4 : Vec Ideal S1024x128 .bf16} {x5 : Vec Ideal S2048x1024 .bf16} {x6 : Vec Ideal S1x1024 .f32} {x7 : Vec Ideal S8x128x128 .f32}
  {x8 : Vec Ideal S128x1024 .f32} {x9 : Vec Ideal S4x1536 .f32} {x10 : Vec Ideal S1x1536 .f32} {x11 : Vec Ideal S1x128 .f32}
  {x12 : Vec Ideal S1x128 .f32} {x13 : Vec Ideal S1x1024 .f32} {x14 : Vec Ideal S1x1024 .f32} {x15 : Vec Ideal S128x2048 .bf16}
  {x16 : Vec Ideal S128x128 .bf16} {hal : Vec Ideal S8x1536 .f32} {s0 s1 : Vec Ideal S1x128x512 .f32}
  (H : Reads A T x0 x1 x2 x3 x4 x5 x6 x7 x8 x9 x10 x11 x12 x13 x14 x15 x16)
include H

theorem normed_eq (r : Fin 512) (d : Fin 1024) : normed x0 x1 x2 (ix2 r d) = A.y (T + r.val) d := by
  rw [normed_at]
  simp only [H.e0, H.e1a, H.e1b, H.e2]
  rfl

theorem pre_eq (r : Fin 512) (f : Fin 4624) : (∑ d : Fin 1024, (normed x0 x1 x2 (ix2 r d) : EReal) * x3 (ix2 d f)) = A.pre (T + r.val) f :=
  Finset.sum_congr rfl fun d _ => by rw [normed_eq H, H.e3]

theorem hidden_eq (r : Fin 512) (f : Fin 2048) : hidden x0 x1 x2 x3 (ix2 r f) = A.hid (T + r.val) f := by
  rw [hidden_at, pre_eq H]; rfl

theorem gates_eq (r : Fin 512) (c : Fin 1024) : gates x0 x1 x2 x3 (ix2 r c) = A.pre (T + r.val) ⟨2048 + c.val, by omega⟩ := by
  rw [gates_at, pre_eq H]

theorem raw_eq (r : Fin 512) (f : Fin 1536) : raw x0 x1 x2 x3 (ix2 r f) = A.raw (T + r.val) f := by
  rw [raw_at, pre_eq H]; rfl

theorem steps_eq (r : Fin 512) (h : Fin 128) : (steps x0 x1 x2 x4 x11 (ix2 r h) : EReal) = ((A.D (T + r.val) h.val : ℝ) : EReal) := by
  rw [← Args.D_coe H.real, steps_at, H.e11]
  unfold Args.step
  congr 2
  by_cases hh : h.val < 16
  · unfold lane
    rw [dif_pos hh]
    unfold Args.pre
    refine Finset.sum_congr rfl fun d _ => ?_
    rw [normed_eq H, H.e4]
    unfold lane
    rw [dif_pos hh]
  · unfold lane
    rw [dif_neg hh]
    refine Finset.sum_eq_zero fun d _ => ?_
    rw [H.e4]
    unfold lane
    rw [dif_neg hh, mul_zero]

theorem decays_eq (r : Fin 512) (h : Fin 128) : (decays x0 x1 x2 x4 x11 x12 (ix2 r h) : EReal) = ((A.D (T + r.val) h.val * A.a h.val : ℝ) : EReal) := by
  rw [decays_at, steps_eq H, H.e12, EReal.coe_mul, ← Args.a_coe H.real]
  rfl

/-- The rows kept are the last of the rows before. -/
def Kept (A : Args) (T : ℕ) (hal : Vec Ideal S8x1536 .f32) : Prop := ∀ (j : Fin 8) (f : Fin 1536), hal (ix2 j f) = A.back (8 - j.val) T f

theorem before_eq (K : Kept A T hal) (j : ℕ) (hj : j ≤ 3) (r : Fin 512) (f : Fin 1536) : before x0 x1 x2 x3 hal j r f = A.back j (T + r.val) f := by
  have hT := H.whole
  unfold before Args.back
  by_cases h : j ≤ r.val
  · rw [dif_pos h, if_pos (by omega), raw_eq H]
    dsimp only
    rw [show T + (r.val - j) = T + r.val - j by omega]
  · rw [dif_neg h, K]
    unfold Args.back
    dsimp only
    by_cases h2 : j ≤ T + r.val
    · rw [if_pos h2, if_pos (by omega), show T - (8 - (r.val + 8 - j) % 8) = T + r.val - j by omega]
    · rw [if_neg h2, if_neg (by omega)]

theorem conv_eq (K : Kept A T hal) (r : Fin 512) (f : Fin 1536) : conv x0 x1 x2 x3 x9 x10 hal (ix2 r f) = A.conv (T + r.val) f := by
  rw [conv_at, before_eq H K 1 (by omega), before_eq H K 2 (by omega), before_eq H K 3 (by omega), raw_eq H, H.e9, H.e9, H.e9, H.e9, H.e10]
  rfl

theorem gmlp_eq (r : Fin 512) (c : Fin 1024) : gmlp x0 x1 x2 x3 x6 x7 x8 (ix2 r c) = A.ya (T + r.val) c := by
  have hT := H.whole
  rw [gmlp_at]
  simp only [hidden_eq H, H.e6, H.e7, H.e8]
  unfold Args.ya
  have e1 : (T + r.val) % 128 = r.val % 128 := by omega
  have e2 : ∀ s : ℕ, 128 * ((T + r.val) / 128) + s = T + (128 * (r.val / 128) + s) := fun s => by omega
  simp only [e1, e2]

theorem tail_eq (j : Fin 8) (f : Fin 1536) : tail (raw x0 x1 x2 x3) (ix2 j f) = A.back (8 - j.val) (T + 512) f := by
  have e : tail (raw x0 x1 x2 x3) (ix2 j f) = raw x0 x1 x2 x3 (ix2 ⟨504 + j.val, by omega⟩ f) := by
    pointwise [tail]
  rw [e, raw_eq H]
  unfold Args.back
  rw [if_pos (by omega)]
  dsimp only
  rw [show T + 512 - (8 - j.val) = T + (504 + j.val) by omega]

theorem table_eq (k : Fin 128) (c : Fin 2048) : ((View.ld x15 (Rect.unit ![0, 0] S128x2048.size inb_S128x2048_S128x2048_0_0) : Vec Ideal S128x2048 .bf16) (ix2 k c) : EReal)
    = if k.val < 64 ∧ c.val / 64 = k.val / 32 * 16 + k.val % 16 then 1 else 0 := by
  rw [← H.e15]
  pointwise []

theorem below_eq (r j : Fin 128) : ((View.ld x16 (Rect.unit ![0, 0] S128x128.size inb_S128x128_S128x128_0_0) : Vec Ideal S128x128 .bf16) (ix2 r j) : EReal)
    = if j.val ≤ r.val then 1 else 0 := by
  rw [← H.e16]
  pointwise []

theorem skip_eq (c : Fin 1024) : (View.ld x13 (Rect.unit ![0, 0] S1x1024.size inb_S1x1024_S1x1024_0_0) : Vec Ideal S1x1024 .f32) (ix2 0 c) = A.ds ⟨c.val / 64, by omega⟩ := by
  rw [← H.e13]
  pointwise []

theorem gain_eq (c : Fin 1024) : (View.ld x14 (Rect.unit ![0, 0] S1x1024.size inb_S1x1024_S1x1024_0_0) : Vec Ideal S1x1024 .f32) (ix2 0 c) = A.ng c := by
  rw [← H.e14]
  pointwise []

/-- The states are those of the rows before. -/
def States (A : Args) (T g : ℕ) (s : Vec Ideal S1x128x512 .f32) : Prop :=
  ∀ (n : Fin 128) (c : Fin 512), (s (ix3 0 n c) : EReal) = ((state A.a A.D A.X A.B T n.val (512 * g + c.val) : ℝ) : EReal)

theorem dt0_eq (r h : Fin 128) : (dt0 x0 x1 x2 x4 x11 (ix2 r h) : EReal) = ((A.D (T + 0 + r.val) h.val : ℝ) : EReal) := by
  rw [add_assoc, ← steps_eq H ⟨0 + r.val, by omega⟩ h]
  pointwise [dt0]

theorem cs0_eq (r h : Fin 128) : (cs0 x0 x1 x2 x4 x11 x12 x16 (ix2 r h) : EReal)
    = ((cum A.a A.D (T + 0 + r.val + 1) h.val - cum A.a A.D (T + 0) h.val : ℝ) : EReal) :=
  sums_real A.a A.D (T + 0) _ _ (fun r h => by
    rw [add_assoc, ← decays_eq H ⟨0 + r.val, by omega⟩ h]
    pointwise []) (below_eq H) r h

theorem xs0_conv (K : Kept A T hal) (r : Fin 128) (c : Fin 1024) : xs0 x0 x1 x2 x3 x9 x10 hal (ix2 r c) = A.conv (T + 0 + r.val) ⟨c.val, by omega⟩ := by
  rw [add_assoc, ← conv_eq H K ⟨0 + r.val, by omega⟩]
  pointwise [xs0, inputs]

theorem xs0_eq (K : Kept A T hal) (r : Fin 128) (c : Fin 1024) : (xs0 x0 x1 x2 x3 x9 x10 hal (ix2 r c) : EReal) = ((A.X (T + 0 + r.val) c.val : ℝ) : EReal) := by
  rw [← Args.X_coe H.real _ _ c.isLt, xs0_conv H K]

theorem bm0_0_eq (K : Kept A T hal) (r n : Fin 128) : (bm0_0 x0 x1 x2 x3 x9 x10 hal (ix2 r n) : EReal) = ((A.B (T + 0 + r.val) (128 * 0 + n.val) : ℝ) : EReal) := by
  rw [← Args.B_coe H.real _ _ (by omega), add_assoc, ← conv_eq H K ⟨0 + r.val, by omega⟩]
  pointwise [bm0_0, writes]

theorem cm0_0_eq (K : Kept A T hal) (r n : Fin 128) : (cm0_0 x0 x1 x2 x3 x9 x10 hal (ix2 r n) : EReal) = ((A.C (T + 0 + r.val) (128 * 0 + n.val) : ℝ) : EReal) := by
  rw [← Args.C_coe H.real _ _ (by omega), add_assoc, ← conv_eq H K ⟨0 + r.val, by omega⟩]
  pointwise [cm0_0, reads]

theorem bm0_1_eq (K : Kept A T hal) (r n : Fin 128) : (bm0_1 x0 x1 x2 x3 x9 x10 hal (ix2 r n) : EReal) = ((A.B (T + 0 + r.val) (128 * 1 + n.val) : ℝ) : EReal) := by
  rw [← Args.B_coe H.real _ _ (by omega), add_assoc, ← conv_eq H K ⟨0 + r.val, by omega⟩]
  pointwise [bm0_1, writes]

theorem cm0_1_eq (K : Kept A T hal) (r n : Fin 128) : (cm0_1 x0 x1 x2 x3 x9 x10 hal (ix2 r n) : EReal) = ((A.C (T + 0 + r.val) (128 * 1 + n.val) : ℝ) : EReal) := by
  rw [← Args.C_coe H.real _ _ (by omega), add_assoc, ← conv_eq H K ⟨0 + r.val, by omega⟩]
  pointwise [cm0_1, reads]

theorem dt1_eq (r h : Fin 128) : (dt1 x0 x1 x2 x4 x11 (ix2 r h) : EReal) = ((A.D (T + 128 + r.val) h.val : ℝ) : EReal) := by
  rw [add_assoc, ← steps_eq H ⟨128 + r.val, by omega⟩ h]
  pointwise [dt1]

theorem cs1_eq (r h : Fin 128) : (cs1 x0 x1 x2 x4 x11 x12 x16 (ix2 r h) : EReal)
    = ((cum A.a A.D (T + 128 + r.val + 1) h.val - cum A.a A.D (T + 128) h.val : ℝ) : EReal) :=
  sums_real A.a A.D (T + 128) _ _ (fun r h => by
    rw [add_assoc, ← decays_eq H ⟨128 + r.val, by omega⟩ h]
    pointwise []) (below_eq H) r h

theorem xs1_conv (K : Kept A T hal) (r : Fin 128) (c : Fin 1024) : xs1 x0 x1 x2 x3 x9 x10 hal (ix2 r c) = A.conv (T + 128 + r.val) ⟨c.val, by omega⟩ := by
  rw [add_assoc, ← conv_eq H K ⟨128 + r.val, by omega⟩]
  pointwise [xs1, inputs]

theorem xs1_eq (K : Kept A T hal) (r : Fin 128) (c : Fin 1024) : (xs1 x0 x1 x2 x3 x9 x10 hal (ix2 r c) : EReal) = ((A.X (T + 128 + r.val) c.val : ℝ) : EReal) := by
  rw [← Args.X_coe H.real _ _ c.isLt, xs1_conv H K]

theorem bm1_0_eq (K : Kept A T hal) (r n : Fin 128) : (bm1_0 x0 x1 x2 x3 x9 x10 hal (ix2 r n) : EReal) = ((A.B (T + 128 + r.val) (128 * 0 + n.val) : ℝ) : EReal) := by
  rw [← Args.B_coe H.real _ _ (by omega), add_assoc, ← conv_eq H K ⟨128 + r.val, by omega⟩]
  pointwise [bm1_0, writes]

theorem cm1_0_eq (K : Kept A T hal) (r n : Fin 128) : (cm1_0 x0 x1 x2 x3 x9 x10 hal (ix2 r n) : EReal) = ((A.C (T + 128 + r.val) (128 * 0 + n.val) : ℝ) : EReal) := by
  rw [← Args.C_coe H.real _ _ (by omega), add_assoc, ← conv_eq H K ⟨128 + r.val, by omega⟩]
  pointwise [cm1_0, reads]

theorem bm1_1_eq (K : Kept A T hal) (r n : Fin 128) : (bm1_1 x0 x1 x2 x3 x9 x10 hal (ix2 r n) : EReal) = ((A.B (T + 128 + r.val) (128 * 1 + n.val) : ℝ) : EReal) := by
  rw [← Args.B_coe H.real _ _ (by omega), add_assoc, ← conv_eq H K ⟨128 + r.val, by omega⟩]
  pointwise [bm1_1, writes]

theorem cm1_1_eq (K : Kept A T hal) (r n : Fin 128) : (cm1_1 x0 x1 x2 x3 x9 x10 hal (ix2 r n) : EReal) = ((A.C (T + 128 + r.val) (128 * 1 + n.val) : ℝ) : EReal) := by
  rw [← Args.C_coe H.real _ _ (by omega), add_assoc, ← conv_eq H K ⟨128 + r.val, by omega⟩]
  pointwise [cm1_1, reads]

theorem dt2_eq (r h : Fin 128) : (dt2 x0 x1 x2 x4 x11 (ix2 r h) : EReal) = ((A.D (T + 256 + r.val) h.val : ℝ) : EReal) := by
  rw [add_assoc, ← steps_eq H ⟨256 + r.val, by omega⟩ h]
  pointwise [dt2]

theorem cs2_eq (r h : Fin 128) : (cs2 x0 x1 x2 x4 x11 x12 x16 (ix2 r h) : EReal)
    = ((cum A.a A.D (T + 256 + r.val + 1) h.val - cum A.a A.D (T + 256) h.val : ℝ) : EReal) :=
  sums_real A.a A.D (T + 256) _ _ (fun r h => by
    rw [add_assoc, ← decays_eq H ⟨256 + r.val, by omega⟩ h]
    pointwise []) (below_eq H) r h

theorem xs2_conv (K : Kept A T hal) (r : Fin 128) (c : Fin 1024) : xs2 x0 x1 x2 x3 x9 x10 hal (ix2 r c) = A.conv (T + 256 + r.val) ⟨c.val, by omega⟩ := by
  rw [add_assoc, ← conv_eq H K ⟨256 + r.val, by omega⟩]
  pointwise [xs2, inputs]

theorem xs2_eq (K : Kept A T hal) (r : Fin 128) (c : Fin 1024) : (xs2 x0 x1 x2 x3 x9 x10 hal (ix2 r c) : EReal) = ((A.X (T + 256 + r.val) c.val : ℝ) : EReal) := by
  rw [← Args.X_coe H.real _ _ c.isLt, xs2_conv H K]

theorem bm2_0_eq (K : Kept A T hal) (r n : Fin 128) : (bm2_0 x0 x1 x2 x3 x9 x10 hal (ix2 r n) : EReal) = ((A.B (T + 256 + r.val) (128 * 0 + n.val) : ℝ) : EReal) := by
  rw [← Args.B_coe H.real _ _ (by omega), add_assoc, ← conv_eq H K ⟨256 + r.val, by omega⟩]
  pointwise [bm2_0, writes]

theorem cm2_0_eq (K : Kept A T hal) (r n : Fin 128) : (cm2_0 x0 x1 x2 x3 x9 x10 hal (ix2 r n) : EReal) = ((A.C (T + 256 + r.val) (128 * 0 + n.val) : ℝ) : EReal) := by
  rw [← Args.C_coe H.real _ _ (by omega), add_assoc, ← conv_eq H K ⟨256 + r.val, by omega⟩]
  pointwise [cm2_0, reads]

theorem bm2_1_eq (K : Kept A T hal) (r n : Fin 128) : (bm2_1 x0 x1 x2 x3 x9 x10 hal (ix2 r n) : EReal) = ((A.B (T + 256 + r.val) (128 * 1 + n.val) : ℝ) : EReal) := by
  rw [← Args.B_coe H.real _ _ (by omega), add_assoc, ← conv_eq H K ⟨256 + r.val, by omega⟩]
  pointwise [bm2_1, writes]

theorem cm2_1_eq (K : Kept A T hal) (r n : Fin 128) : (cm2_1 x0 x1 x2 x3 x9 x10 hal (ix2 r n) : EReal) = ((A.C (T + 256 + r.val) (128 * 1 + n.val) : ℝ) : EReal) := by
  rw [← Args.C_coe H.real _ _ (by omega), add_assoc, ← conv_eq H K ⟨256 + r.val, by omega⟩]
  pointwise [cm2_1, reads]

theorem dt3_eq (r h : Fin 128) : (dt3 x0 x1 x2 x4 x11 (ix2 r h) : EReal) = ((A.D (T + 384 + r.val) h.val : ℝ) : EReal) := by
  rw [add_assoc, ← steps_eq H ⟨384 + r.val, by omega⟩ h]
  pointwise [dt3]

theorem cs3_eq (r h : Fin 128) : (cs3 x0 x1 x2 x4 x11 x12 x16 (ix2 r h) : EReal)
    = ((cum A.a A.D (T + 384 + r.val + 1) h.val - cum A.a A.D (T + 384) h.val : ℝ) : EReal) :=
  sums_real A.a A.D (T + 384) _ _ (fun r h => by
    rw [add_assoc, ← decays_eq H ⟨384 + r.val, by omega⟩ h]
    pointwise []) (below_eq H) r h

theorem xs3_conv (K : Kept A T hal) (r : Fin 128) (c : Fin 1024) : xs3 x0 x1 x2 x3 x9 x10 hal (ix2 r c) = A.conv (T + 384 + r.val) ⟨c.val, by omega⟩ := by
  rw [add_assoc, ← conv_eq H K ⟨384 + r.val, by omega⟩]
  pointwise [xs3, inputs]

theorem xs3_eq (K : Kept A T hal) (r : Fin 128) (c : Fin 1024) : (xs3 x0 x1 x2 x3 x9 x10 hal (ix2 r c) : EReal) = ((A.X (T + 384 + r.val) c.val : ℝ) : EReal) := by
  rw [← Args.X_coe H.real _ _ c.isLt, xs3_conv H K]

theorem bm3_0_eq (K : Kept A T hal) (r n : Fin 128) : (bm3_0 x0 x1 x2 x3 x9 x10 hal (ix2 r n) : EReal) = ((A.B (T + 384 + r.val) (128 * 0 + n.val) : ℝ) : EReal) := by
  rw [← Args.B_coe H.real _ _ (by omega), add_assoc, ← conv_eq H K ⟨384 + r.val, by omega⟩]
  pointwise [bm3_0, writes]

theorem cm3_0_eq (K : Kept A T hal) (r n : Fin 128) : (cm3_0 x0 x1 x2 x3 x9 x10 hal (ix2 r n) : EReal) = ((A.C (T + 384 + r.val) (128 * 0 + n.val) : ℝ) : EReal) := by
  rw [← Args.C_coe H.real _ _ (by omega), add_assoc, ← conv_eq H K ⟨384 + r.val, by omega⟩]
  pointwise [cm3_0, reads]

theorem bm3_1_eq (K : Kept A T hal) (r n : Fin 128) : (bm3_1 x0 x1 x2 x3 x9 x10 hal (ix2 r n) : EReal) = ((A.B (T + 384 + r.val) (128 * 1 + n.val) : ℝ) : EReal) := by
  rw [← Args.B_coe H.real _ _ (by omega), add_assoc, ← conv_eq H K ⟨384 + r.val, by omega⟩]
  pointwise [bm3_1, writes]

theorem cm3_1_eq (K : Kept A T hal) (r n : Fin 128) : (cm3_1 x0 x1 x2 x3 x9 x10 hal (ix2 r n) : EReal) = ((A.C (T + 384 + r.val) (128 * 1 + n.val) : ℝ) : EReal) := by
  rw [← Args.C_coe H.real _ _ (by omega), add_assoc, ← conv_eq H K ⟨384 + r.val, by omega⟩]
  pointwise [cm3_1, reads]

theorem st1_0_eq (K : Kept A T hal) (G : States A T 0 s0) : States A (T + 128) 0 (st1_0 x0 x1 x2 x3 x4 x9 x10 x11 x12 x15 x16 hal s0) := fun n c => by
  rw [show 512 * 0 + c.val = c.val by omega]
  exact next0_real A.a A.D A.X A.B (T + 0) (cs0 x0 x1 x2 x4 x11 x12 x16) (dt0 x0 x1 x2 x4 x11) (cs0_eq H) (dt0_eq H) _ (table_eq H) (xs0 x0 x1 x2 x3 x9 x10 hal) (xs0_eq H K)
    (bm0_0 x0 x1 x2 x3 x9 x10 hal) (bm0_0_eq H K) s0
    (fun n c => ((G n c).trans (by rw [show 512 * 0 + c.val = c.val by omega]; rfl))) n c

theorem st1_1_eq (K : Kept A T hal) (G : States A T 1 s1) : States A (T + 128) 1 (st1_1 x0 x1 x2 x3 x4 x9 x10 x11 x12 x15 x16 hal s1) := fun n c => by
  rw [show 512 * 1 + c.val = 512 + c.val by omega]
  exact next1_real A.a A.D A.X A.B (T + 0) (cs0 x0 x1 x2 x4 x11 x12 x16) (dt0 x0 x1 x2 x4 x11) (cs0_eq H) (dt0_eq H) _ (table_eq H) (xs0 x0 x1 x2 x3 x9 x10 hal) (xs0_eq H K)
    (bm0_1 x0 x1 x2 x3 x9 x10 hal) (bm0_1_eq H K) s1
    (fun n c => ((G n c).trans (by rw [show 512 * 1 + c.val = 512 + c.val by omega]; rfl))) n c

theorem st2_0_eq (K : Kept A T hal) (G : States A T 0 s0) : States A (T + 256) 0 (st2_0 x0 x1 x2 x3 x4 x9 x10 x11 x12 x15 x16 hal s0) := fun n c => by
  rw [show 512 * 0 + c.val = c.val by omega]
  exact next0_real A.a A.D A.X A.B (T + 128) (cs1 x0 x1 x2 x4 x11 x12 x16) (dt1 x0 x1 x2 x4 x11) (cs1_eq H) (dt1_eq H) _ (table_eq H) (xs1 x0 x1 x2 x3 x9 x10 hal) (xs1_eq H K)
    (bm1_0 x0 x1 x2 x3 x9 x10 hal) (bm1_0_eq H K) (st1_0 x0 x1 x2 x3 x4 x9 x10 x11 x12 x15 x16 hal s0)
    (fun n c => (((st1_0_eq H K G) n c).trans (by rw [show 512 * 0 + c.val = c.val by omega]))) n c

theorem st2_1_eq (K : Kept A T hal) (G : States A T 1 s1) : States A (T + 256) 1 (st2_1 x0 x1 x2 x3 x4 x9 x10 x11 x12 x15 x16 hal s1) := fun n c => by
  rw [show 512 * 1 + c.val = 512 + c.val by omega]
  exact next1_real A.a A.D A.X A.B (T + 128) (cs1 x0 x1 x2 x4 x11 x12 x16) (dt1 x0 x1 x2 x4 x11) (cs1_eq H) (dt1_eq H) _ (table_eq H) (xs1 x0 x1 x2 x3 x9 x10 hal) (xs1_eq H K)
    (bm1_1 x0 x1 x2 x3 x9 x10 hal) (bm1_1_eq H K) (st1_1 x0 x1 x2 x3 x4 x9 x10 x11 x12 x15 x16 hal s1)
    (fun n c => (((st1_1_eq H K G) n c).trans (by rw [show 512 * 1 + c.val = 512 + c.val by omega]))) n c

theorem st3_0_eq (K : Kept A T hal) (G : States A T 0 s0) : States A (T + 384) 0 (st3_0 x0 x1 x2 x3 x4 x9 x10 x11 x12 x15 x16 hal s0) := fun n c => by
  rw [show 512 * 0 + c.val = c.val by omega]
  exact next0_real A.a A.D A.X A.B (T + 256) (cs2 x0 x1 x2 x4 x11 x12 x16) (dt2 x0 x1 x2 x4 x11) (cs2_eq H) (dt2_eq H) _ (table_eq H) (xs2 x0 x1 x2 x3 x9 x10 hal) (xs2_eq H K)
    (bm2_0 x0 x1 x2 x3 x9 x10 hal) (bm2_0_eq H K) (st2_0 x0 x1 x2 x3 x4 x9 x10 x11 x12 x15 x16 hal s0)
    (fun n c => (((st2_0_eq H K G) n c).trans (by rw [show 512 * 0 + c.val = c.val by omega]))) n c

theorem st3_1_eq (K : Kept A T hal) (G : States A T 1 s1) : States A (T + 384) 1 (st3_1 x0 x1 x2 x3 x4 x9 x10 x11 x12 x15 x16 hal s1) := fun n c => by
  rw [show 512 * 1 + c.val = 512 + c.val by omega]
  exact next1_real A.a A.D A.X A.B (T + 256) (cs2 x0 x1 x2 x4 x11 x12 x16) (dt2 x0 x1 x2 x4 x11) (cs2_eq H) (dt2_eq H) _ (table_eq H) (xs2 x0 x1 x2 x3 x9 x10 hal) (xs2_eq H K)
    (bm2_1 x0 x1 x2 x3 x9 x10 hal) (bm2_1_eq H K) (st2_1 x0 x1 x2 x3 x4 x9 x10 x11 x12 x15 x16 hal s1)
    (fun n c => (((st2_1_eq H K G) n c).trans (by rw [show 512 * 1 + c.val = 512 + c.val by omega]))) n c

theorem st4_0_eq (K : Kept A T hal) (G : States A T 0 s0) : States A (T + 512) 0 (st4_0 x0 x1 x2 x3 x4 x9 x10 x11 x12 x15 x16 hal s0) := fun n c => by
  rw [show 512 * 0 + c.val = c.val by omega]
  exact next0_real A.a A.D A.X A.B (T + 384) (cs3 x0 x1 x2 x4 x11 x12 x16) (dt3 x0 x1 x2 x4 x11) (cs3_eq H) (dt3_eq H) _ (table_eq H) (xs3 x0 x1 x2 x3 x9 x10 hal) (xs3_eq H K)
    (bm3_0 x0 x1 x2 x3 x9 x10 hal) (bm3_0_eq H K) (st3_0 x0 x1 x2 x3 x4 x9 x10 x11 x12 x15 x16 hal s0)
    (fun n c => (((st3_0_eq H K G) n c).trans (by rw [show 512 * 0 + c.val = c.val by omega]))) n c

theorem st4_1_eq (K : Kept A T hal) (G : States A T 1 s1) : States A (T + 512) 1 (st4_1 x0 x1 x2 x3 x4 x9 x10 x11 x12 x15 x16 hal s1) := fun n c => by
  rw [show 512 * 1 + c.val = 512 + c.val by omega]
  exact next1_real A.a A.D A.X A.B (T + 384) (cs3 x0 x1 x2 x4 x11 x12 x16) (dt3 x0 x1 x2 x4 x11) (cs3_eq H) (dt3_eq H) _ (table_eq H) (xs3 x0 x1 x2 x3 x9 x10 hal) (xs3_eq H K)
    (bm3_1 x0 x1 x2 x3 x9 x10 hal) (bm3_1_eq H K) (st3_1 x0 x1 x2 x3 x4 x9 x10 x11 x12 x15 x16 hal s1)
    (fun n c => (((st3_1_eq H K G) n c).trans (by rw [show 512 * 1 + c.val = 512 + c.val by omega]))) n c

theorem out0_eq (K : Kept A T hal) (G0 : States A T 0 s0) (G1 : States A T 1 s1) (r : Fin 128) (c : Fin 1024) :
    out0 x0 x1 x2 x3 x4 x9 x10 x11 x12 x13 x14 x15 x16 hal s0 s1 (ix2 r c) = A.yb (T + 0 + r.val) c := by
  have hy : ∀ d : Fin 1024, rows (cs0 x0 x1 x2 x4 x11 x12 x16) (dt0 x0 x1 x2 x4 x11) (products (bm0_0 x0 x1 x2 x3 x9 x10 hal) (cm0_0 x0 x1 x2 x3 x9 x10 hal)) (products (bm0_1 x0 x1 x2 x3 x9 x10 hal) (cm0_1 x0 x1 x2 x3 x9 x10 hal)) (xs0 x0 x1 x2 x3 x9 x10 hal)
      (off0 (cm0_0 x0 x1 x2 x3 x9 x10 hal) (sp0 x0 x1 x2 x4 x11 x12 x15 x16) s0) (off1 (cm0_1 x0 x1 x2 x3 x9 x10 hal) (sp0 x0 x1 x2 x4 x11 x12 x15 x16) s1) (View.ld x13 (Rect.unit ![0, 0] S1x1024.size inb_S1x1024_S1x1024_0_0)) (ix2 r d)
      = A.summed (T + 0 + r.val) d := fun d => by
    refine (rows_real A.a A.D A.X A.B A.C (T + 0) (cs0 x0 x1 x2 x4 x11 x12 x16) (dt0 x0 x1 x2 x4 x11) (cs0_eq H) (dt0_eq H) _ (table_eq H) (xs0 x0 x1 x2 x3 x9 x10 hal) (xs0_eq H K)
      (bm0_0 x0 x1 x2 x3 x9 x10 hal) (bm0_1 x0 x1 x2 x3 x9 x10 hal) (cm0_0 x0 x1 x2 x3 x9 x10 hal) (cm0_1 x0 x1 x2 x3 x9 x10 hal) (bm0_0_eq H K) (bm0_1_eq H K) (cm0_0_eq H K) (cm0_1_eq H K)
      s0 s1
      (fun n c => ((G0 n c).trans (by rw [show 512 * 0 + c.val = c.val by omega]; rfl)))
      (fun n c => ((G1 n c).trans (by rw [show 512 * 1 + c.val = 512 + c.val by omega]; rfl))) _ r d).trans ?_
    rw [skip_eq H, xs0_conv H K]
    rfl
  have hz : ∀ d : Fin 1024, (extractStridedSlice S128x1024 ![0, 0] (gates x0 x1 x2 x3) slices_S512x1024_o0_0_S128x1024 : FVec Ideal S128x1024 .f32) (ix2 r d) = A.pre (T + 0 + r.val) ⟨2048 + d.val, by omega⟩ := fun d => by
    rw [add_assoc, ← gates_eq H ⟨0 + r.val, by omega⟩ d]
    pointwise []
  unfold out0
  rw [gated_at]
  simp only [hy, hz, gain_eq H]
  rfl

theorem out1_eq (K : Kept A T hal) (G0 : States A T 0 s0) (G1 : States A T 1 s1) (r : Fin 128) (c : Fin 1024) :
    out1 x0 x1 x2 x3 x4 x9 x10 x11 x12 x13 x14 x15 x16 hal s0 s1 (ix2 r c) = A.yb (T + 128 + r.val) c := by
  have hy : ∀ d : Fin 1024, rows (cs1 x0 x1 x2 x4 x11 x12 x16) (dt1 x0 x1 x2 x4 x11) (products (bm1_0 x0 x1 x2 x3 x9 x10 hal) (cm1_0 x0 x1 x2 x3 x9 x10 hal)) (products (bm1_1 x0 x1 x2 x3 x9 x10 hal) (cm1_1 x0 x1 x2 x3 x9 x10 hal)) (xs1 x0 x1 x2 x3 x9 x10 hal)
      (off0 (cm1_0 x0 x1 x2 x3 x9 x10 hal) (sp1 x0 x1 x2 x4 x11 x12 x15 x16) (st1_0 x0 x1 x2 x3 x4 x9 x10 x11 x12 x15 x16 hal s0)) (off1 (cm1_1 x0 x1 x2 x3 x9 x10 hal) (sp1 x0 x1 x2 x4 x11 x12 x15 x16) (st1_1 x0 x1 x2 x3 x4 x9 x10 x11 x12 x15 x16 hal s1)) (View.ld x13 (Rect.unit ![0, 0] S1x1024.size inb_S1x1024_S1x1024_0_0)) (ix2 r d)
      = A.summed (T + 128 + r.val) d := fun d => by
    refine (rows_real A.a A.D A.X A.B A.C (T + 128) (cs1 x0 x1 x2 x4 x11 x12 x16) (dt1 x0 x1 x2 x4 x11) (cs1_eq H) (dt1_eq H) _ (table_eq H) (xs1 x0 x1 x2 x3 x9 x10 hal) (xs1_eq H K)
      (bm1_0 x0 x1 x2 x3 x9 x10 hal) (bm1_1 x0 x1 x2 x3 x9 x10 hal) (cm1_0 x0 x1 x2 x3 x9 x10 hal) (cm1_1 x0 x1 x2 x3 x9 x10 hal) (bm1_0_eq H K) (bm1_1_eq H K) (cm1_0_eq H K) (cm1_1_eq H K)
      (st1_0 x0 x1 x2 x3 x4 x9 x10 x11 x12 x15 x16 hal s0) (st1_1 x0 x1 x2 x3 x4 x9 x10 x11 x12 x15 x16 hal s1)
      (fun n c => (((st1_0_eq H K G0) n c).trans (by rw [show 512 * 0 + c.val = c.val by omega])))
      (fun n c => (((st1_1_eq H K G1) n c).trans (by rw [show 512 * 1 + c.val = 512 + c.val by omega]))) _ r d).trans ?_
    rw [skip_eq H, xs1_conv H K]
    rfl
  have hz : ∀ d : Fin 1024, (extractStridedSlice S128x1024 ![128, 0] (gates x0 x1 x2 x3) slices_S512x1024_o128_0_S128x1024 : FVec Ideal S128x1024 .f32) (ix2 r d) = A.pre (T + 128 + r.val) ⟨2048 + d.val, by omega⟩ := fun d => by
    rw [add_assoc, ← gates_eq H ⟨128 + r.val, by omega⟩ d]
    pointwise []
  unfold out1
  rw [gated_at]
  simp only [hy, hz, gain_eq H]
  rfl

theorem out2_eq (K : Kept A T hal) (G0 : States A T 0 s0) (G1 : States A T 1 s1) (r : Fin 128) (c : Fin 1024) :
    out2 x0 x1 x2 x3 x4 x9 x10 x11 x12 x13 x14 x15 x16 hal s0 s1 (ix2 r c) = A.yb (T + 256 + r.val) c := by
  have hy : ∀ d : Fin 1024, rows (cs2 x0 x1 x2 x4 x11 x12 x16) (dt2 x0 x1 x2 x4 x11) (products (bm2_0 x0 x1 x2 x3 x9 x10 hal) (cm2_0 x0 x1 x2 x3 x9 x10 hal)) (products (bm2_1 x0 x1 x2 x3 x9 x10 hal) (cm2_1 x0 x1 x2 x3 x9 x10 hal)) (xs2 x0 x1 x2 x3 x9 x10 hal)
      (off0 (cm2_0 x0 x1 x2 x3 x9 x10 hal) (sp2 x0 x1 x2 x4 x11 x12 x15 x16) (st2_0 x0 x1 x2 x3 x4 x9 x10 x11 x12 x15 x16 hal s0)) (off1 (cm2_1 x0 x1 x2 x3 x9 x10 hal) (sp2 x0 x1 x2 x4 x11 x12 x15 x16) (st2_1 x0 x1 x2 x3 x4 x9 x10 x11 x12 x15 x16 hal s1)) (View.ld x13 (Rect.unit ![0, 0] S1x1024.size inb_S1x1024_S1x1024_0_0)) (ix2 r d)
      = A.summed (T + 256 + r.val) d := fun d => by
    refine (rows_real A.a A.D A.X A.B A.C (T + 256) (cs2 x0 x1 x2 x4 x11 x12 x16) (dt2 x0 x1 x2 x4 x11) (cs2_eq H) (dt2_eq H) _ (table_eq H) (xs2 x0 x1 x2 x3 x9 x10 hal) (xs2_eq H K)
      (bm2_0 x0 x1 x2 x3 x9 x10 hal) (bm2_1 x0 x1 x2 x3 x9 x10 hal) (cm2_0 x0 x1 x2 x3 x9 x10 hal) (cm2_1 x0 x1 x2 x3 x9 x10 hal) (bm2_0_eq H K) (bm2_1_eq H K) (cm2_0_eq H K) (cm2_1_eq H K)
      (st2_0 x0 x1 x2 x3 x4 x9 x10 x11 x12 x15 x16 hal s0) (st2_1 x0 x1 x2 x3 x4 x9 x10 x11 x12 x15 x16 hal s1)
      (fun n c => (((st2_0_eq H K G0) n c).trans (by rw [show 512 * 0 + c.val = c.val by omega])))
      (fun n c => (((st2_1_eq H K G1) n c).trans (by rw [show 512 * 1 + c.val = 512 + c.val by omega]))) _ r d).trans ?_
    rw [skip_eq H, xs2_conv H K]
    rfl
  have hz : ∀ d : Fin 1024, (extractStridedSlice S128x1024 ![256, 0] (gates x0 x1 x2 x3) slices_S512x1024_o256_0_S128x1024 : FVec Ideal S128x1024 .f32) (ix2 r d) = A.pre (T + 256 + r.val) ⟨2048 + d.val, by omega⟩ := fun d => by
    rw [add_assoc, ← gates_eq H ⟨256 + r.val, by omega⟩ d]
    pointwise []
  unfold out2
  rw [gated_at]
  simp only [hy, hz, gain_eq H]
  rfl

theorem out3_eq (K : Kept A T hal) (G0 : States A T 0 s0) (G1 : States A T 1 s1) (r : Fin 128) (c : Fin 1024) :
    out3 x0 x1 x2 x3 x4 x9 x10 x11 x12 x13 x14 x15 x16 hal s0 s1 (ix2 r c) = A.yb (T + 384 + r.val) c := by
  have hy : ∀ d : Fin 1024, rows (cs3 x0 x1 x2 x4 x11 x12 x16) (dt3 x0 x1 x2 x4 x11) (products (bm3_0 x0 x1 x2 x3 x9 x10 hal) (cm3_0 x0 x1 x2 x3 x9 x10 hal)) (products (bm3_1 x0 x1 x2 x3 x9 x10 hal) (cm3_1 x0 x1 x2 x3 x9 x10 hal)) (xs3 x0 x1 x2 x3 x9 x10 hal)
      (off0 (cm3_0 x0 x1 x2 x3 x9 x10 hal) (sp3 x0 x1 x2 x4 x11 x12 x15 x16) (st3_0 x0 x1 x2 x3 x4 x9 x10 x11 x12 x15 x16 hal s0)) (off1 (cm3_1 x0 x1 x2 x3 x9 x10 hal) (sp3 x0 x1 x2 x4 x11 x12 x15 x16) (st3_1 x0 x1 x2 x3 x4 x9 x10 x11 x12 x15 x16 hal s1)) (View.ld x13 (Rect.unit ![0, 0] S1x1024.size inb_S1x1024_S1x1024_0_0)) (ix2 r d)
      = A.summed (T + 384 + r.val) d := fun d => by
    refine (rows_real A.a A.D A.X A.B A.C (T + 384) (cs3 x0 x1 x2 x4 x11 x12 x16) (dt3 x0 x1 x2 x4 x11) (cs3_eq H) (dt3_eq H) _ (table_eq H) (xs3 x0 x1 x2 x3 x9 x10 hal) (xs3_eq H K)
      (bm3_0 x0 x1 x2 x3 x9 x10 hal) (bm3_1 x0 x1 x2 x3 x9 x10 hal) (cm3_0 x0 x1 x2 x3 x9 x10 hal) (cm3_1 x0 x1 x2 x3 x9 x10 hal) (bm3_0_eq H K) (bm3_1_eq H K) (cm3_0_eq H K) (cm3_1_eq H K)
      (st3_0 x0 x1 x2 x3 x4 x9 x10 x11 x12 x15 x16 hal s0) (st3_1 x0 x1 x2 x3 x4 x9 x10 x11 x12 x15 x16 hal s1)
      (fun n c => (((st3_0_eq H K G0) n c).trans (by rw [show 512 * 0 + c.val = c.val by omega])))
      (fun n c => (((st3_1_eq H K G1) n c).trans (by rw [show 512 * 1 + c.val = 512 + c.val by omega]))) _ r d).trans ?_
    rw [skip_eq H, xs3_conv H K]
    rfl
  have hz : ∀ d : Fin 1024, (extractStridedSlice S128x1024 ![384, 0] (gates x0 x1 x2 x3) slices_S512x1024_o384_0_S128x1024 : FVec Ideal S128x1024 .f32) (ix2 r d) = A.pre (T + 384 + r.val) ⟨2048 + d.val, by omega⟩ := fun d => by
    rw [add_assoc, ← gates_eq H ⟨384 + r.val, by omega⟩ d]
    pointwise []
  unfold out3
  rw [gated_at]
  simp only [hy, hz, gain_eq H]
  rfl

theorem yb_eq (K : Kept A T hal) (G0 : States A T 0 s0) (G1 : States A T 1 s1) (r : Fin 512) (c : Fin 1024) :
    yb x0 x1 x2 x3 x4 x9 x10 x11 x12 x13 x14 x15 x16 hal s0 s1 r c = A.yb (T + r.val) c := by
  unfold yb
  by_cases h0 : r.val < 128
  · rw [dif_pos h0, out0_eq H K G0 G1]
    rfl
  by_cases h1 : r.val - 128 < 128
  · rw [dif_neg h0, dif_pos h1, out1_eq H K G0 G1]
    dsimp only
    rw [show T + 128 + (r.val - 128) = T + r.val by omega]
  by_cases h2 : r.val - 128 - 128 < 128
  · rw [dif_neg h0, dif_neg h1, dif_pos h2, out2_eq H K G0 G1]
    dsimp only
    rw [show T + 256 + (r.val - 128 - 128) = T + r.val by omega]
  · rw [dif_neg h0, dif_neg h1, dif_neg h2, out3_eq H K G0 G1]
    dsimp only
    rw [show T + 384 + (r.val - 128 - 128 - 128) = T + r.val by omega]

theorem block_eq (K : Kept A T hal) (G0 : States A T 0 s0) (G1 : States A T 1 s1) (r : Fin 512) (c : Fin 1024) :
    block x0 x1 x2 x3 x4 x5 x6 x7 x8 x9 x10 x11 x12 x13 x14 x15 x16 hal s0 s1 (ix3 0 r c) = A.out (T + r.val) c := by
  rw [block_at]
  simp only [gmlp_eq H, yb_eq H K G0 G1, H.e0, H.e1c, H.e5]
  rfl

end

end Cert.Kernel7Ideal.Hybrid
-- ==== Proof.Hybrid.Inputs.lean ====
/-
  A batch entry's inputs, read off the arguments' arrays.
-/
module

public import proofs.«01_k».proof.Proof.Hybrid.Spec
public import Idealize.ShloMosaic.Lib.Pointwise

@[expose] public section

set_option maxRecDepth 16384

noncomputable section

namespace Cert.Hybrid

open Idealize.ShloMosaic

/-- A batch entry's inputs, of the arguments' arrays. -/
def argsOf (a0 : FVec Ideal ⟨3, ![8, 4096, 1024]⟩ .f32) (a1 : FVec Ideal ⟨3, ![8, 3, 1024]⟩ .f32) (a2 : FVec Ideal ⟨1, ![1024]⟩ .f32) (a3 : FVec Ideal ⟨2, ![1024, 4624]⟩ .f32)
    (a4 : FVec Ideal ⟨2, ![2048, 1024]⟩ .f32) (a5 : FVec Ideal ⟨1, ![1024]⟩ .f32) (a6 : FVec Ideal ⟨3, ![8, 128, 128]⟩ .f32) (a7 : FVec Ideal ⟨2, ![8, 128]⟩ .f32)
    (a8 : FVec Ideal ⟨2, ![4, 1536]⟩ .f32) (a9 : FVec Ideal ⟨1, ![1536]⟩ .f32) (a10 a11 a12 : FVec Ideal ⟨1, ![16]⟩ .f32) (a13 : FVec Ideal ⟨1, ![1024]⟩ .f32) (b : Fin 8) : Args where
  h := fun t d => if ht : t < 4096 then a0 (ix3 b ⟨t, ht⟩ d) else 0
  sh := fun d => a1 (ix3 b 0 d)
  sc := fun d => a1 (ix3 b 1 d)
  gt := fun d => a1 (ix3 b 2 d)
  g := fun d => a2 (ix1 d)
  w := fun d f => a3 (ix2 d f)
  wo := fun k c => a4 (ix2 k c)
  vg := fun c => a5 (ix1 c)
  ws := fun g t s => a6 (ix3 g t s)
  bs := fun g t => a7 (ix2 g t)
  cw := fun k f => a8 (ix2 k f)
  cb := fun f => a9 (ix1 f)
  db := fun k => a10 (ix1 k)
  al := fun k => a11 (ix1 k)
  ds := fun k => a12 (ix1 k)
  ng := fun c => a13 (ix1 c)

end Cert.Hybrid
-- ==== Proof.Hybrid.Operands.lean ====
/-
  The blocks that a grid point reads are the rows and the weights of its batch entry.
-/
module

public import proofs.«01_k».proof.Proof.Gen.Kernel7Ideal.Frame
public import proofs.«01_k».proof.Proof.Hybrid.Block
public import proofs.«01_k».proof.Proof.Hybrid.Inputs
public import Idealize.ShloMosaic.Lib.Pipeline.ValueKit

@[expose] public section

set_option maxRecDepth 16384

noncomputable section

namespace Cert.Kernel7Ideal.Hybrid

open Idealize.ShloMosaic Idealize.ShloMosaic.TcCoe Idealize.SL.Sem
open Idealize.ShloMosaic.Pipeline (Dat)
open Cert.Kernel7Ideal Cert.Kernel7Ideal.Gen Cert.Hybrid

variable (m : (ℓ : Loc nD τ sig) → Buf (Elt Ideal) ℓ)

abbrev args (c : Dev nD) (b : Fin 8) : Args :=
  argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) b

theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![t.val / 8, t.val % 8, 0] :=
  (by decide +kernel : ∀ t : Fin grid0.N, _)

theorem t_lt (t : Fin cfg0.N) : t.val < 64 := lt_of_lt_of_eq t.isLt (by decide +kernel)

/-- The batch entry that a grid point is in. -/
def batch (t : Fin cfg0.N) : Fin 8 := ⟨t.val / 8, by have := t_lt t; omega⟩

/-- The word zero as a value. -/
theorem zero_word (φ : FTy) : (FloatOps.sitofp (F := Ideal) φ 0#32 : EReal) = 0 := by
  show (((0#32 : BitVec 32).toInt : ℝ) : EReal) = 0
  simp

variable (c : Dev nD) (t : Fin cfg0.N)

theorem op0 (r : Fin 512) (d : Fin 1024) : iblk m c 0 t (ix3 0 r d) = (m ((c.tc : Thread nD τ).loc main_arg0) : FVec Ideal S8x4096x1024 .f32) (ix3 (batch t) ⟨512 * (t.val % 8) + r.val, by omega⟩ d) := by
  have hb := t_lt t
  unfold batch
  blk_point [iblk, V, idx t]

theorem op1 (k : Fin 3) (d : Fin 1024) : iblk m c 1 t (ix3 0 k d) = (m ((c.tc : Thread nD τ).loc main_arg1) : FVec Ideal S8x3x1024 .f32) (ix3 (batch t) k d) := by
  have hb := t_lt t
  unfold batch
  blk_point [iblk, V, idx t]

theorem V_v29 (d : Fin 1024) : (V m c main_v29 : FVec Ideal S1x1024 .f32) (ix2 0 d) = (m ((c.tc : Thread nD τ).loc main_arg2) : FVec Ideal S1024 .f32) (ix1 d) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise []

theorem op2 (d : Fin 1024) : iblk m c 2 t (ix2 0 d) = (m ((c.tc : Thread nD τ).loc main_arg2) : FVec Ideal S1024 .f32) (ix1 d) := by
  refine Eq.trans ?_ (V_v29 m c d)
  blk_point [iblk, idx t]

theorem V_v0 (d : Fin 1024) (f : Fin 4624) : (V m c main_v0 : FVec Ideal S1024x4624 .bf16) (ix2 d f) = (m ((c.tc : Thread nD τ).loc main_arg3) : FVec Ideal S1024x4624 .f32) (ix2 d f) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise []

theorem op3 (d : Fin 1024) (f : Fin 4624) : iblk m c 3 t (ix2 d f) = (m ((c.tc : Thread nD τ).loc main_arg3) : FVec Ideal S1024x4624 .f32) (ix2 d f) := by
  refine Eq.trans ?_ (V_v0 m c d f)
  blk_point [iblk, idx t]

theorem V_v2 (d : Fin 1024) (h : Fin 128) : (V m c main_v2 : FVec Ideal S1024x128 .bf16) (ix2 d h) = lane (fun k => (m ((c.tc : Thread nD τ).loc main_arg3) : FVec Ideal S1024x4624 .f32) (ix2 d ⟨4608 + k.val, by omega⟩)) h.val := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  simp only [StableHlo.TRef.toBuf, StableHlo.TRef.ofBuf, cast_cast, cast_eq]
  unfold lane
  pointwise [zero_word]

theorem op4 (d : Fin 1024) (h : Fin 128) : iblk m c 4 t (ix2 d h) = lane (fun k => (m ((c.tc : Thread nD τ).loc main_arg3) : FVec Ideal S1024x4624 .f32) (ix2 d ⟨4608 + k.val, by omega⟩)) h.val := by
  refine Eq.trans ?_ (V_v2 m c d h)
  blk_point [iblk, idx t]

theorem V_v30 (k : Fin 2048) (d : Fin 1024) : (V m c main_v30 : FVec Ideal S2048x1024 .bf16) (ix2 k d) = (m ((c.tc : Thread nD τ).loc main_arg4) : FVec Ideal S2048x1024 .f32) (ix2 k d) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise []

theorem op5 (k : Fin 2048) (d : Fin 1024) : iblk m c 5 t (ix2 k d) = (m ((c.tc : Thread nD τ).loc main_arg4) : FVec Ideal S2048x1024 .f32) (ix2 k d) := by
  refine Eq.trans ?_ (V_v30 m c k d)
  blk_point [iblk, idx t]

theorem V_v31 (d : Fin 1024) : (V m c main_v31 : FVec Ideal S1x1024 .f32) (ix2 0 d) = (m ((c.tc : Thread nD τ).loc main_arg5) : FVec Ideal S1024 .f32) (ix1 d) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise []

theorem op6 (d : Fin 1024) : iblk m c 6 t (ix2 0 d) = (m ((c.tc : Thread nD τ).loc main_arg5) : FVec Ideal S1024 .f32) (ix1 d) := by
  refine Eq.trans ?_ (V_v31 m c d)
  blk_point [iblk, idx t]

theorem V_v12 (r : Fin 128) (d : Fin 1024) : (V m c main_v12 : FVec Ideal S128x1024 .f32) (ix2 r d) = (m ((c.tc : Thread nD τ).loc main_arg7) : FVec Ideal S8x128 .f32) (ix2 ⟨d.val / 128, by omega⟩ r) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise []

theorem op7 (g : Fin 8) (r s : Fin 128) : iblk m c 7 t (ix3 g r s) = (m ((c.tc : Thread nD τ).loc main_arg6) : FVec Ideal S8x128x128 .f32) (ix3 g r s) := by
  blk_point [iblk, V, idx t]

theorem op9 (k : Fin 4) (f : Fin 1536) : iblk m c 9 t (ix2 k f) = (m ((c.tc : Thread nD τ).loc main_arg8) : FVec Ideal S4x1536 .f32) (ix2 k f) := by
  blk_point [iblk, V, idx t]

theorem op8 (r : Fin 128) (d : Fin 1024) : iblk m c 8 t (ix2 r d) = (m ((c.tc : Thread nD τ).loc main_arg7) : FVec Ideal S8x128 .f32) (ix2 ⟨d.val / 128, by omega⟩ r) := by
  refine Eq.trans ?_ (V_v12 m c r d)
  blk_point [iblk, idx t]

theorem V_v32 (f : Fin 1536) : (V m c main_v32 : FVec Ideal S1x1536 .f32) (ix2 0 f) = (m ((c.tc : Thread nD τ).loc main_arg9) : FVec Ideal S1536 .f32) (ix1 f) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise []

theorem op10 (f : Fin 1536) : iblk m c 10 t (ix2 0 f) = (m ((c.tc : Thread nD τ).loc main_arg9) : FVec Ideal S1536 .f32) (ix1 f) := by
  refine Eq.trans ?_ (V_v32 m c f)
  blk_point [iblk, idx t]

theorem V_v4 (h : Fin 128) : (V m c main_v4 : FVec Ideal S1x128 .f32) (ix2 0 h) = lane (fun k => (m ((c.tc : Thread nD τ).loc main_arg10) : FVec Ideal S16 .f32) (ix1 k)) h.val := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  simp only [StableHlo.TRef.toBuf, StableHlo.TRef.ofBuf, cast_cast, cast_eq]
  unfold lane
  pointwise [zero_word]

theorem op11 (h : Fin 128) : iblk m c 11 t (ix2 0 h) = lane (fun k => (m ((c.tc : Thread nD τ).loc main_arg10) : FVec Ideal S16 .f32) (ix1 k)) h.val := by
  refine Eq.trans ?_ (V_v4 m c h)
  blk_point [iblk, idx t]

theorem V_v6 (h : Fin 128) : (V m c main_v6 : FVec Ideal S1x128 .f32) (ix2 0 h) = lane (fun k => (m ((c.tc : Thread nD τ).loc main_arg11) : FVec Ideal S16 .f32) (ix1 k)) h.val := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  simp only [StableHlo.TRef.toBuf, StableHlo.TRef.ofBuf, cast_cast, cast_eq]
  unfold lane
  pointwise [zero_word]

theorem op12 (h : Fin 128) : iblk m c 12 t (ix2 0 h) = lane (fun k => (m ((c.tc : Thread nD τ).loc main_arg11) : FVec Ideal S16 .f32) (ix1 k)) h.val := by
  refine Eq.trans ?_ (V_v6 m c h)
  blk_point [iblk, idx t]

theorem V_v9 (d : Fin 1024) : (V m c main_v9 : FVec Ideal S1x1024 .f32) (ix2 0 d) = (m ((c.tc : Thread nD τ).loc main_arg12) : FVec Ideal S16 .f32) (ix1 ⟨d.val / 64, by omega⟩) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise []

theorem op13 (d : Fin 1024) : iblk m c 13 t (ix2 0 d) = (m ((c.tc : Thread nD τ).loc main_arg12) : FVec Ideal S16 .f32) (ix1 ⟨d.val / 64, by omega⟩) := by
  refine Eq.trans ?_ (V_v9 m c d)
  blk_point [iblk, idx t]

theorem V_v33 (d : Fin 1024) : (V m c main_v33 : FVec Ideal S1x1024 .f32) (ix2 0 d) = (m ((c.tc : Thread nD τ).loc main_arg13) : FVec Ideal S1024 .f32) (ix1 d) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise []

theorem op14 (d : Fin 1024) : iblk m c 14 t (ix2 0 d) = (m ((c.tc : Thread nD τ).loc main_arg13) : FVec Ideal S1024 .f32) (ix1 d) := by
  refine Eq.trans ?_ (V_v33 m c d)
  blk_point [iblk, idx t]

end Cert.Kernel7Ideal.Hybrid
-- ==== Proof.Hybrid.Tables.lean ====
/-
  The two constant tables that the kernel is given: the heads' lanes and the rows up to a row.
-/
module

public import proofs.«01_k».proof.Proof.Gen.Kernel7Ideal.Frame
public import proofs.«01_k».proof.Proof.Hybrid.Block
public import Idealize.ShloMosaic.Lib.Pipeline.ValueKit

@[expose] public section

set_option maxRecDepth 16384

noncomputable section

namespace Cert.Kernel7Ideal.Hybrid

open Idealize.ShloMosaic Idealize.ShloMosaic.TcCoe Idealize.SL.Sem
open Idealize.ShloMosaic.Pipeline (Dat)
open Cert.Kernel7Ideal Cert.Kernel7Ideal.Gen Cert.Hybrid

variable (m : (ℓ : Loc nD τ sig) → Buf (Elt Ideal) ℓ) (c : Dev nD)

theorem tidx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![t.val / 8, t.val % 8, 0] :=
  (by decide +kernel : ∀ t : Fin grid0.N, _)

/-- A word's sign. -/
def sgn (w : BitVec 32) : BitVec 32 := if w = 0 then 0 else if w.msb = true then -1 else 1

/-- A word's floor quotient. -/
def floorq (w n : BitVec 32) : BitVec 32 :=
  Scalar.select (IntOp.andi (IntOp.cmpi .ne (sgn w) (sgn n)) (IntOp.cmpi .ne (IntOp.remsi .host w n) 0#32))
    (IntOp.subi (IntOp.divsi .host w n) 1#32) (IntOp.divsi .host w n)

/-- A word's remainder of the divisor's sign. -/
def floorr (w : BitVec 32) : BitVec 32 :=
  Scalar.select
    (IntOp.andi
      (IntOp.cmpi .ne (IntOp.cmpi .slt (IntOp.remsi .host w (Scalar.select (IntOp.cmpi .eq 16#32 0#32) 1#32 16#32)) 0#32)
        (IntOp.cmpi .slt (Scalar.select (IntOp.cmpi .eq 16#32 0#32) 1#32 16#32) 0#32))
      (IntOp.cmpi .ne (IntOp.remsi .host w (Scalar.select (IntOp.cmpi .eq 16#32 0#32) 1#32 16#32)) 0#32))
    (IntOp.addi (IntOp.remsi .host w (Scalar.select (IntOp.cmpi .eq 16#32 0#32) 1#32 16#32)) (Scalar.select (IntOp.cmpi .eq 16#32 0#32) 1#32 16#32))
    (IntOp.remsi .host w (Scalar.select (IntOp.cmpi .eq 16#32 0#32) 1#32 16#32))

theorem floorq_16 : ∀ k : Fin 128, floorq (BitVec.ofNat 32 k.val) 16#32 = BitVec.ofNat 32 (k.val / 16) := by decide +kernel

theorem floorq_2 : ∀ k : Fin 8, floorq (BitVec.ofNat 32 k.val) 2#32 = BitVec.ofNat 32 (k.val / 2) := by decide +kernel

theorem floorq_64 : ∀ l : Fin 2048, floorq (BitVec.ofNat 32 l.val) 64#32 = BitVec.ofNat 32 (l.val / 64) := by decide +kernel

theorem floorr_16 : ∀ k : Fin 128, floorr (BitVec.ofNat 32 k.val) = BitVec.ofNat 32 (k.val % 16) := by decide +kernel

theorem entry_at : ∀ (k : Fin 128) (q : Fin 32),
    IntOp.andi (IntOp.cmpi .slt (BitVec.ofNat 32 k.val) 64#32)
        (IntOp.cmpi .eq (BitVec.ofNat 32 q.val) (IntOp.addi (IntOp.muli (BitVec.ofNat 32 (k.val / 32)) 16#32) (BitVec.ofNat 32 (k.val % 16))))
      = if k.val < 64 ∧ q.val = k.val / 32 * 16 + k.val % 16 then 1#1 else 0#1 := by decide +kernel

theorem below_at : ∀ r j : Fin 128, IntOp.cmpi .sge (IntOp.addi (BitVec.ofNat 32 r.val) 0#32) (BitVec.ofNat 32 j.val) = if j.val ≤ r.val then 1#1 else 0#1 := by
  decide +kernel

theorem V_v35 (r j : Fin 128) : ((V m c main_v35 : FVec Ideal S128x128 .bf16) (ix2 r j) : EReal) = if j.val ≤ r.val then (1 : EReal) else (0 : EReal) := by
  rw [← select_ite, ← below_at]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  simp only [StableHlo.TRef.toBuf, StableHlo.TRef.ofBuf, cast_cast, cast_eq]
  pointwise []

theorem V_v34 (k : Fin 128) (l : Fin 2048) : ((V m c main_v34 : FVec Ideal S128x2048 .bf16) (ix2 k l) : EReal) = if k.val < 64 ∧ l.val / 64 = k.val / 32 * 16 + k.val % 16 then (1 : EReal) else (0 : EReal) := by
  have e := entry_at k ⟨l.val / 64, by omega⟩
  rw [← floorr_16, show k.val / 32 = k.val / 16 / 2 by omega, ← floorq_2 ⟨k.val / 16, by omega⟩] at e
  dsimp only at e
  rw [← floorq_16 k, ← floorq_64] at e
  rw [show k.val / 32 = k.val / 16 / 2 by omega, ← select_ite, ← e]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  simp only [StableHlo.TRef.toBuf, StableHlo.TRef.ofBuf, cast_cast, cast_eq]
  pointwise [floorq, floorr, sgn]

theorem op15 (t : Fin cfg0.N) (k : Fin 128) (l : Fin 2048) : iblk m c 15 t (ix2 k l) = (if k.val < 64 ∧ l.val / 64 = k.val / 32 * 16 + k.val % 16 then 1 else 0 : EReal) := by
  refine Eq.trans ?_ (V_v34 m c k l)
  blk_point [iblk, tidx t]

theorem op16 (t : Fin cfg0.N) (r j : Fin 128) : iblk m c 16 t (ix2 r j) = (if j.val ≤ r.val then 1 else 0 : EReal) := by
  refine Eq.trans ?_ (V_v35 m c r j)
  blk_point [iblk, tidx t]

end Cert.Kernel7Ideal.Hybrid
-- ==== Proof.Hybrid.WordsA.lean ====
/-
  What a grid point leaves in its block and in what it keeps, as the plain vector functions of Model.lean: the first point of a batch entry.
-/
module

public import proofs.«01_k».proof.Proof.Hybrid.Loads

@[expose] public section

set_option maxRecDepth 65536

noncomputable section

namespace Cert.Kernel7Ideal.Hybrid

open Idealize.ShloMosaic
open Cert.Kernel7Ideal Cert.Kernel7Ideal.Gen

set_option maxHeartbeats 4000000 in
/-- The block written. -/
theorem out_A (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x4624 .bf16) (harg5 : arg5.IsWhole) (arg6 : Memref sig .tc .vmem S1024x128 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x2048 .bf16) (harg17 : arg17.IsWhole) (arg18 : Memref sig .tc .vmem S128x128 .bf16) (harg18 : arg18.IsWhole) (arg19 : Memref sig .tc .vmem S1x512x1024 .f32) (harg19 : arg19.IsWhole) (arg20 : Memref sig .tc .vmem S520x1536 .f32) (harg20 : arg20.IsWhole) (arg21 : Memref sig .tc .vmem S2x128x512 .f32) (harg21 : arg21.IsWhole) (hc0 : cond0_0 i)
    (x0 : Vec Ideal S1x512x1024 .f32) (x1 : Vec Ideal S1x3x1024 .f32) (x2 : Vec Ideal S1x1024 .f32) (x3 : Vec Ideal S1024x4624 .bf16) (x4 : Vec Ideal S1024x128 .bf16) (x5 : Vec Ideal S2048x1024 .bf16) (x6 : Vec Ideal S1x1024 .f32) (x7 : Vec Ideal S8x128x128 .f32) (x8 : Vec Ideal S128x1024 .f32) (x9 : Vec Ideal S4x1536 .f32) (x10 : Vec Ideal S1x1536 .f32) (x11 : Vec Ideal S1x128 .f32) (x12 : Vec Ideal S1x128 .f32) (x13 : Vec Ideal S1x1024 .f32) (x14 : Vec Ideal S1x1024 .f32) (x15 : Vec Ideal S128x2048 .bf16) (x16 : Vec Ideal S128x128 .bf16) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 = block x0 x1 x2 x3 x4 x5 x6 x7 x8 x9 x10 x11 x12 x13 x14 x15 x16 (k0_pay2 : FVec Ideal S8x1536 .f32) (View.ld (k0_pay3 : FVec Ideal S2x128x512 .f32) (Rect.unit (s := S2x128x512) ![0, 0, 0] S1x128x512.size inb_S2x128x512_S1x128x512_0_0_0)) (View.ld (k0_pay3 : FVec Ideal S2x128x512 .f32) (Rect.unit (s := S2x128x512) ![1, 0, 0] S1x128x512.size inb_S2x128x512_S1x128x512_1_0_0)) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.readCov_cons_toLoadRect, skip_0, skip_1, fill_0, fill_1, skip_rows]
  rw [View.canon_unit_zero zeros3]
  rfl

set_option maxHeartbeats 4000000 in
/-- The rows kept of the convolution. -/
theorem kept_A (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x4624 .bf16) (harg5 : arg5.IsWhole) (arg6 : Memref sig .tc .vmem S1024x128 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x2048 .bf16) (harg17 : arg17.IsWhole) (arg18 : Memref sig .tc .vmem S128x128 .bf16) (harg18 : arg18.IsWhole) (arg19 : Memref sig .tc .vmem S1x512x1024 .f32) (harg19 : arg19.IsWhole) (arg20 : Memref sig .tc .vmem S520x1536 .f32) (harg20 : arg20.IsWhole) (arg21 : Memref sig .tc .vmem S2x128x512 .f32) (harg21 : arg21.IsWhole) (hc0 : cond0_0 i)
    (x0 : Vec Ideal S1x512x1024 .f32) (x1 : Vec Ideal S1x3x1024 .f32) (x2 : Vec Ideal S1x1024 .f32) (x3 : Vec Ideal S1024x4624 .bf16) (x4 : Vec Ideal S1024x128 .bf16) (x5 : Vec Ideal S2048x1024 .bf16) (x6 : Vec Ideal S1x1024 .f32) (x7 : Vec Ideal S8x128x128 .f32) (x8 : Vec Ideal S128x1024 .f32) (x9 : Vec Ideal S4x1536 .f32) (x10 : Vec Ideal S1x1536 .f32) (x11 : Vec Ideal S1x128 .f32) (x12 : Vec Ideal S1x128 .f32) (x13 : Vec Ideal S1x1024 .f32) (x14 : Vec Ideal S1x1024 .f32) (x15 : Vec Ideal S128x2048 .bf16) (x16 : Vec Ideal S128x128 .bf16) :
    View.ld (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16) (Rect.unit ![0, 0] S8x1536.size inb_S520x1536_S8x1536_0_0) = tail (raw x0 x1 x2 x3) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, ld_own_rows]
  unfold k0_pay52
  simp only [shapeCast_self, load_tail]
  rfl

set_option maxHeartbeats 4000000 in
/-- The state kept of group 0. -/
theorem state0_A (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x4624 .bf16) (harg5 : arg5.IsWhole) (arg6 : Memref sig .tc .vmem S1024x128 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x2048 .bf16) (harg17 : arg17.IsWhole) (arg18 : Memref sig .tc .vmem S128x128 .bf16) (harg18 : arg18.IsWhole) (arg19 : Memref sig .tc .vmem S1x512x1024 .f32) (harg19 : arg19.IsWhole) (arg20 : Memref sig .tc .vmem S520x1536 .f32) (harg20 : arg20.IsWhole) (arg21 : Memref sig .tc .vmem S2x128x512 .f32) (harg21 : arg21.IsWhole) (hc0 : cond0_0 i)
    (x0 : Vec Ideal S1x512x1024 .f32) (x1 : Vec Ideal S1x3x1024 .f32) (x2 : Vec Ideal S1x1024 .f32) (x3 : Vec Ideal S1024x4624 .bf16) (x4 : Vec Ideal S1024x128 .bf16) (x5 : Vec Ideal S2048x1024 .bf16) (x6 : Vec Ideal S1x1024 .f32) (x7 : Vec Ideal S8x128x128 .f32) (x8 : Vec Ideal S128x1024 .f32) (x9 : Vec Ideal S4x1536 .f32) (x10 : Vec Ideal S1x1536 .f32) (x11 : Vec Ideal S1x128 .f32) (x12 : Vec Ideal S1x128 .f32) (x13 : Vec Ideal S1x1024 .f32) (x14 : Vec Ideal S1x1024 .f32) (x15 : Vec Ideal S128x2048 .bf16) (x16 : Vec Ideal S128x128 .bf16) :
    View.ld (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16) (Rect.unit ![0, 0, 0] S1x128x512.size inb_S2x128x512_S1x128x512_0_0_0)
      = st4_0 x0 x1 x2 x3 x4 x9 x10 x11 x12 x15 x16 (k0_pay2 : FVec Ideal S8x1536 .f32) (View.ld (k0_pay3 : FVec Ideal S2x128x512 .f32) (Rect.unit (s := S2x128x512) ![0, 0, 0] S1x128x512.size inb_S2x128x512_S1x128x512_0_0_0)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.readCov_cons_toLoadRect, skip_0, skip_1, fill_0, fill_1, skip_rows, own_0, own_1, past_1]
  rfl

set_option maxHeartbeats 4000000 in
/-- The state kept of group 1. -/
theorem state1_A (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x4624 .bf16) (harg5 : arg5.IsWhole) (arg6 : Memref sig .tc .vmem S1024x128 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x2048 .bf16) (harg17 : arg17.IsWhole) (arg18 : Memref sig .tc .vmem S128x128 .bf16) (harg18 : arg18.IsWhole) (arg19 : Memref sig .tc .vmem S1x512x1024 .f32) (harg19 : arg19.IsWhole) (arg20 : Memref sig .tc .vmem S520x1536 .f32) (harg20 : arg20.IsWhole) (arg21 : Memref sig .tc .vmem S2x128x512 .f32) (harg21 : arg21.IsWhole) (hc0 : cond0_0 i)
    (x0 : Vec Ideal S1x512x1024 .f32) (x1 : Vec Ideal S1x3x1024 .f32) (x2 : Vec Ideal S1x1024 .f32) (x3 : Vec Ideal S1024x4624 .bf16) (x4 : Vec Ideal S1024x128 .bf16) (x5 : Vec Ideal S2048x1024 .bf16) (x6 : Vec Ideal S1x1024 .f32) (x7 : Vec Ideal S8x128x128 .f32) (x8 : Vec Ideal S128x1024 .f32) (x9 : Vec Ideal S4x1536 .f32) (x10 : Vec Ideal S1x1536 .f32) (x11 : Vec Ideal S1x128 .f32) (x12 : Vec Ideal S1x128 .f32) (x13 : Vec Ideal S1x1024 .f32) (x14 : Vec Ideal S1x1024 .f32) (x15 : Vec Ideal S128x2048 .bf16) (x16 : Vec Ideal S128x128 .bf16) :
    View.ld (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16) (Rect.unit ![1, 0, 0] S1x128x512.size inb_S2x128x512_S1x128x512_1_0_0)
      = st4_1 x0 x1 x2 x3 x4 x9 x10 x11 x12 x15 x16 (k0_pay2 : FVec Ideal S8x1536 .f32) (View.ld (k0_pay3 : FVec Ideal S2x128x512 .f32) (Rect.unit (s := S2x128x512) ![1, 0, 0] S1x128x512.size inb_S2x128x512_S1x128x512_1_0_0)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.readCov_cons_toLoadRect, skip_0, skip_1, fill_0, fill_1, skip_rows, own_0, own_1, past_1]
  rfl

end Cert.Kernel7Ideal.Hybrid
-- ==== Proof.Hybrid.WordsB.lean ====
/-
  What a grid point leaves in its block and in what it keeps, as the plain vector functions of Model.lean: every later point.
-/
module

public import proofs.«01_k».proof.Proof.Hybrid.Loads

@[expose] public section

set_option maxRecDepth 65536

noncomputable section

namespace Cert.Kernel7Ideal.Hybrid

open Idealize.ShloMosaic
open Cert.Kernel7Ideal Cert.Kernel7Ideal.Gen

set_option maxHeartbeats 4000000 in
/-- The block written. -/
theorem out_B (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x4624 .bf16) (harg5 : arg5.IsWhole) (arg6 : Memref sig .tc .vmem S1024x128 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x2048 .bf16) (harg17 : arg17.IsWhole) (arg18 : Memref sig .tc .vmem S128x128 .bf16) (harg18 : arg18.IsWhole) (arg19 : Memref sig .tc .vmem S1x512x1024 .f32) (harg19 : arg19.IsWhole) (arg20 : Memref sig .tc .vmem S520x1536 .f32) (harg20 : arg20.IsWhole) (arg21 : Memref sig .tc .vmem S2x128x512 .f32) (harg21 : arg21.IsWhole) (hc0 : ¬cond0_0 i)
    (x0 : Vec Ideal S1x512x1024 .f32) (x1 : Vec Ideal S1x3x1024 .f32) (x2 : Vec Ideal S1x1024 .f32) (x3 : Vec Ideal S1024x4624 .bf16) (x4 : Vec Ideal S1024x128 .bf16) (x5 : Vec Ideal S2048x1024 .bf16) (x6 : Vec Ideal S1x1024 .f32) (x7 : Vec Ideal S8x128x128 .f32) (x8 : Vec Ideal S128x1024 .f32) (x9 : Vec Ideal S4x1536 .f32) (x10 : Vec Ideal S1x1536 .f32) (x11 : Vec Ideal S1x128 .f32) (x12 : Vec Ideal S1x128 .f32) (x13 : Vec Ideal S1x1024 .f32) (x14 : Vec Ideal S1x1024 .f32) (x15 : Vec Ideal S128x2048 .bf16) (x16 : Vec Ideal S128x128 .bf16) (xs0 : Vec Ideal S520x1536 .f32) (xs1 : Vec Ideal S2x128x512 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1 = block x0 x1 x2 x3 x4 x5 x6 x7 x8 x9 x10 x11 x12 x13 x14 x15 x16 (View.ld xs0 (Rect.unit ![0, 0] S8x1536.size inb_S520x1536_S8x1536_0_0)) (View.ld xs1 (Rect.unit (s := S2x128x512) ![0, 0, 0] S1x128x512.size inb_S2x128x512_S1x128x512_0_0_0)) (View.ld xs1 (Rect.unit (s := S2x128x512) ![1, 0, 0] S1x128x512.size inb_S2x128x512_S1x128x512_1_0_0)) := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread, harg21.read_unread, View.readCov_cons_toLoadRect, skip_0, skip_1]
  rw [View.canon_unit_zero zeros3]
  rfl

set_option maxHeartbeats 4000000 in
/-- The rows kept of the convolution. -/
theorem kept_B (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x4624 .bf16) (harg5 : arg5.IsWhole) (arg6 : Memref sig .tc .vmem S1024x128 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x2048 .bf16) (harg17 : arg17.IsWhole) (arg18 : Memref sig .tc .vmem S128x128 .bf16) (harg18 : arg18.IsWhole) (arg19 : Memref sig .tc .vmem S1x512x1024 .f32) (harg19 : arg19.IsWhole) (arg20 : Memref sig .tc .vmem S520x1536 .f32) (harg20 : arg20.IsWhole) (arg21 : Memref sig .tc .vmem S2x128x512 .f32) (harg21 : arg21.IsWhole) (hc0 : ¬cond0_0 i)
    (x0 : Vec Ideal S1x512x1024 .f32) (x1 : Vec Ideal S1x3x1024 .f32) (x2 : Vec Ideal S1x1024 .f32) (x3 : Vec Ideal S1024x4624 .bf16) (x4 : Vec Ideal S1024x128 .bf16) (x5 : Vec Ideal S2048x1024 .bf16) (x6 : Vec Ideal S1x1024 .f32) (x7 : Vec Ideal S8x128x128 .f32) (x8 : Vec Ideal S128x1024 .f32) (x9 : Vec Ideal S4x1536 .f32) (x10 : Vec Ideal S1x1536 .f32) (x11 : Vec Ideal S1x128 .f32) (x12 : Vec Ideal S1x128 .f32) (x13 : Vec Ideal S1x1024 .f32) (x14 : Vec Ideal S1x1024 .f32) (x15 : Vec Ideal S128x2048 .bf16) (x16 : Vec Ideal S128x128 .bf16) (xs0 : Vec Ideal S520x1536 .f32) (xs1 : Vec Ideal S2x128x512 .f32) :
    View.ld (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1) (Rect.unit ![0, 0] S8x1536.size inb_S520x1536_S8x1536_0_0) = tail (raw x0 x1 x2 x3) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread, harg21.read_unread, ld_own_rows]
  unfold k0_pay52
  simp only [shapeCast_self, load_tail]
  rfl

set_option maxHeartbeats 4000000 in
/-- The state kept of group 0. -/
theorem state0_B (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x4624 .bf16) (harg5 : arg5.IsWhole) (arg6 : Memref sig .tc .vmem S1024x128 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x2048 .bf16) (harg17 : arg17.IsWhole) (arg18 : Memref sig .tc .vmem S128x128 .bf16) (harg18 : arg18.IsWhole) (arg19 : Memref sig .tc .vmem S1x512x1024 .f32) (harg19 : arg19.IsWhole) (arg20 : Memref sig .tc .vmem S520x1536 .f32) (harg20 : arg20.IsWhole) (arg21 : Memref sig .tc .vmem S2x128x512 .f32) (harg21 : arg21.IsWhole) (hc0 : ¬cond0_0 i)
    (x0 : Vec Ideal S1x512x1024 .f32) (x1 : Vec Ideal S1x3x1024 .f32) (x2 : Vec Ideal S1x1024 .f32) (x3 : Vec Ideal S1024x4624 .bf16) (x4 : Vec Ideal S1024x128 .bf16) (x5 : Vec Ideal S2048x1024 .bf16) (x6 : Vec Ideal S1x1024 .f32) (x7 : Vec Ideal S8x128x128 .f32) (x8 : Vec Ideal S128x1024 .f32) (x9 : Vec Ideal S4x1536 .f32) (x10 : Vec Ideal S1x1536 .f32) (x11 : Vec Ideal S1x128 .f32) (x12 : Vec Ideal S1x128 .f32) (x13 : Vec Ideal S1x1024 .f32) (x14 : Vec Ideal S1x1024 .f32) (x15 : Vec Ideal S128x2048 .bf16) (x16 : Vec Ideal S128x128 .bf16) (xs0 : Vec Ideal S520x1536 .f32) (xs1 : Vec Ideal S2x128x512 .f32) :
    View.ld (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1) (Rect.unit ![0, 0, 0] S1x128x512.size inb_S2x128x512_S1x128x512_0_0_0)
      = st4_0 x0 x1 x2 x3 x4 x9 x10 x11 x12 x15 x16 (View.ld xs0 (Rect.unit ![0, 0] S8x1536.size inb_S520x1536_S8x1536_0_0)) (View.ld xs1 (Rect.unit (s := S2x128x512) ![0, 0, 0] S1x128x512.size inb_S2x128x512_S1x128x512_0_0_0)) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread, harg21.read_unread, View.readCov_cons_toLoadRect, skip_0, skip_1, own_0, own_1, past_1]
  rfl

set_option maxHeartbeats 4000000 in
/-- The state kept of group 1. -/
theorem state1_B (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x4624 .bf16) (harg5 : arg5.IsWhole) (arg6 : Memref sig .tc .vmem S1024x128 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S128x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x2048 .bf16) (harg17 : arg17.IsWhole) (arg18 : Memref sig .tc .vmem S128x128 .bf16) (harg18 : arg18.IsWhole) (arg19 : Memref sig .tc .vmem S1x512x1024 .f32) (harg19 : arg19.IsWhole) (arg20 : Memref sig .tc .vmem S520x1536 .f32) (harg20 : arg20.IsWhole) (arg21 : Memref sig .tc .vmem S2x128x512 .f32) (harg21 : arg21.IsWhole) (hc0 : ¬cond0_0 i)
    (x0 : Vec Ideal S1x512x1024 .f32) (x1 : Vec Ideal S1x3x1024 .f32) (x2 : Vec Ideal S1x1024 .f32) (x3 : Vec Ideal S1024x4624 .bf16) (x4 : Vec Ideal S1024x128 .bf16) (x5 : Vec Ideal S2048x1024 .bf16) (x6 : Vec Ideal S1x1024 .f32) (x7 : Vec Ideal S8x128x128 .f32) (x8 : Vec Ideal S128x1024 .f32) (x9 : Vec Ideal S4x1536 .f32) (x10 : Vec Ideal S1x1536 .f32) (x11 : Vec Ideal S1x128 .f32) (x12 : Vec Ideal S1x128 .f32) (x13 : Vec Ideal S1x1024 .f32) (x14 : Vec Ideal S1x1024 .f32) (x15 : Vec Ideal S128x2048 .bf16) (x16 : Vec Ideal S128x128 .bf16) (xs0 : Vec Ideal S520x1536 .f32) (xs1 : Vec Ideal S2x128x512 .f32) :
    View.ld (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1) (Rect.unit ![1, 0, 0] S1x128x512.size inb_S2x128x512_S1x128x512_1_0_0)
      = st4_1 x0 x1 x2 x3 x4 x9 x10 x11 x12 x15 x16 (View.ld xs0 (Rect.unit ![0, 0] S8x1536.size inb_S520x1536_S8x1536_0_0)) (View.ld xs1 (Rect.unit (s := S2x128x512) ![1, 0, 0] S1x128x512.size inb_S2x128x512_S1x128x512_1_0_0)) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread, harg21.read_unread, View.readCov_cons_toLoadRect, skip_0, skip_1, own_0, own_1, past_1]
  rfl

end Cert.Kernel7Ideal.Hybrid
-- ==== Proof.Hybrid.Steps.lean ====
/-
  The grid points of a batch entry, one after the other: what each leaves for the next, and the rows that it writes.
-/
module

public import proofs.«01_k».proof.Proof.Hybrid.Operands
public import proofs.«01_k».proof.Proof.Hybrid.Tables
public import proofs.«01_k».proof.Proof.Hybrid.WordsA
public import proofs.«01_k».proof.Proof.Hybrid.WordsB

@[expose] public section

set_option maxRecDepth 16384

noncomputable section

namespace Cert.Kernel7Ideal.Hybrid

open Idealize.ShloMosaic Idealize.ShloMosaic.TcCoe Idealize.SL.Sem
open Idealize.ShloMosaic.Pipeline (Dat)
open Cert.Kernel7Ideal Cert.Kernel7Ideal.Gen Cert.Hybrid

variable (m : (ℓ : Loc nD τ sig) → Buf (Elt Ideal) ℓ) (c : Dev nD)

theorem args_h (b : Fin 8) (u : Fin 4096) (d : Fin 1024) : (args m c b).h u.val d = (m ((c.tc : Thread nD τ).loc main_arg0) : FVec Ideal S8x4096x1024 .f32) (ix3 b u d) :=
  dif_pos u.isLt

/-- A grid point's operands are its batch entry's rows and the weights. -/
theorem readings (t : Fin cfg0.N) (R : (args m c (batch t)).IsReal) :
    Reads (args m c (batch t)) (512 * (t.val % 8)) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (iblk m c 16 t) where
  real := R
  whole := by omega
  e0 := fun r d => (op0 m c t r d).trans (args_h m c (batch t) ⟨512 * (t.val % 8) + r.val, by omega⟩ d).symm
  e1a := fun d => op1 m c t 0 d
  e1b := fun d => op1 m c t 1 d
  e1c := fun d => op1 m c t 2 d
  e2 := fun d => op2 m c t d
  e3 := fun d f => op3 m c t d f
  e4 := fun d h => op4 m c t d h
  e5 := fun k d => op5 m c t k d
  e6 := fun d => op6 m c t d
  e7 := fun g r s => op7 m c t g r s
  e8 := fun r d => op8 m c t r d
  e9 := fun k f => op9 m c t k f
  e10 := fun f => op10 m c t f
  e11 := fun h => op11 m c t h
  e12 := fun h => op12 m c t h
  e13 := fun d => op13 m c t d
  e14 := fun d => op14 m c t d
  e15 := fun k l => op15 m c t k l
  e16 := fun r j => op16 m c t r j

/-- What a grid point leaves: the last rows before `T` and the two groups' states at `T`. -/
structure After (A : Args) (T : ℕ) (s0 : Vec Ideal S520x1536 .f32) (s1 : Vec Ideal S2x128x512 .f32) : Prop where
  kept : Kept A T (View.ld s0 (Rect.unit ![0, 0] S8x1536.size inb_S520x1536_S8x1536_0_0))
  low : States A T 0 (View.ld s1 (Rect.unit ![0, 0, 0] S1x128x512.size inb_S2x128x512_S1x128x512_0_0_0))
  high : States A T 1 (View.ld s1 (Rect.unit ![1, 0, 0] S1x128x512.size inb_S2x128x512_S1x128x512_1_0_0))

theorem kept_zero (A : Args) : Kept A 0 (k0_pay2 : FVec Ideal S8x1536 .f32) := fun j f => by
  have e : (k0_pay2 : FVec Ideal S8x1536 .f32) (ix2 j f) = (0 : EReal) := by
    pointwise [k0_pay2]
  rw [e]
  unfold Args.back
  rw [if_neg (by omega)]

theorem state0_zero (A : Args) : States A 0 0 (View.ld (k0_pay3 : FVec Ideal S2x128x512 .f32) (Rect.unit (s := S2x128x512) ![0, 0, 0] S1x128x512.size inb_S2x128x512_S1x128x512_0_0_0)) := fun n l => by
  have e : (View.ld (k0_pay3 : FVec Ideal S2x128x512 .f32) (Rect.unit (s := S2x128x512) ![0, 0, 0] S1x128x512.size inb_S2x128x512_S1x128x512_0_0_0) : Vec Ideal S1x128x512 .f32) (ix3 0 n l) = (0 : EReal) := by
    pointwise [k0_pay3]
  rw [e]
  unfold state
  rw [Finset.sum_range_zero]
  rfl

theorem state1_zero (A : Args) : States A 0 1 (View.ld (k0_pay3 : FVec Ideal S2x128x512 .f32) (Rect.unit (s := S2x128x512) ![1, 0, 0] S1x128x512.size inb_S2x128x512_S1x128x512_1_0_0)) := fun n l => by
  have e : (View.ld (k0_pay3 : FVec Ideal S2x128x512 .f32) (Rect.unit (s := S2x128x512) ![1, 0, 0] S1x128x512.size inb_S2x128x512_S1x128x512_1_0_0) : Vec Ideal S1x128x512 .f32) (ix3 0 n l) = (0 : EReal) := by
    pointwise [k0_pay3]
  rw [e]
  unfold state
  rw [Finset.sum_range_zero]
  rfl

theorem step_A (t : Fin cfg0.N) (h0 : t.val % 8 = 0) (R : (args m c (batch t)).IsReal) :
    After (args m c (batch t)) (512 * (t.val % 8) + 512) (outsAt0 m c t.val t.isLt).2.1 (outsAt0 m c t.val t.isLt).2.2
      ∧ ∀ (r : Fin 512) (d : Fin 1024), (outsAt0 m c t.val t.isLt).1 (ix3 0 r d) = (args m c (batch t)).out (512 * (t.val % 8) + r.val) d := by
  have H := readings m c t R
  rw [outsAt0_A m c t h0]
  dsimp only
  have e0 : 512 * (t.val % 8) = 0 := by omega
  have K : Kept (args m c (batch t)) (512 * (t.val % 8)) _ := e0.symm ▸ kept_zero (args m c (batch t))
  have G0 : States (args m c (batch t)) (512 * (t.val % 8)) 0 (View.ld (k0_pay3 : FVec Ideal S2x128x512 .f32) (Rect.unit (s := S2x128x512) ![0, 0, 0] S1x128x512.size inb_S2x128x512_S1x128x512_0_0_0)) := by
    rw [e0]
    exact state0_zero _
  have G1 : States (args m c (batch t)) (512 * (t.val % 8)) 1 (View.ld (k0_pay3 : FVec Ideal S2x128x512 .f32) (Rect.unit (s := S2x128x512) ![1, 0, 0] S1x128x512.size inb_S2x128x512_S1x128x512_1_0_0)) := by
    rw [e0]
    exact state1_zero _
  refine ⟨⟨?_, ?_, ?_⟩, fun r d => ?_⟩
  · rw [kept_A]
    exact fun j f => tail_eq H j f
  · rw [state0_A]
    exact st4_0_eq H K G0
  · rw [state1_A]
    exact st4_1_eq H K G1
  · rw [out_A]
    exact block_eq H K G0 G1 r d

theorem step_B (t : Fin cfg0.N) (h0 : ¬t.val % 8 = 0) (R : (args m c (batch t)).IsReal)
    (P : After (args m c (batch t)) (512 * (t.val % 8)) (outsAt0 m c (t.val - 1) (Nat.lt_of_le_of_lt (Nat.sub_le _ _) t.isLt)).2.1
      (outsAt0 m c (t.val - 1) (Nat.lt_of_le_of_lt (Nat.sub_le _ _) t.isLt)).2.2) :
    After (args m c (batch t)) (512 * (t.val % 8) + 512) (outsAt0 m c t.val t.isLt).2.1 (outsAt0 m c t.val t.isLt).2.2
      ∧ ∀ (r : Fin 512) (d : Fin 1024), (outsAt0 m c t.val t.isLt).1 (ix3 0 r d) = (args m c (batch t)).out (512 * (t.val % 8) + r.val) d := by
  have H := readings m c t R
  rw [outsAt0_B m c t h0]
  dsimp only
  refine ⟨⟨?_, ?_, ?_⟩, fun r d => ?_⟩
  · rw [kept_B]
    exact fun j f => tail_eq H j f
  · rw [state0_B]
    exact st4_0_eq H P.kept P.low
  · rw [state1_B]
    exact st4_1_eq H P.kept P.high
  · rw [out_B]
    exact block_eq H P.kept P.low P.high r d

theorem at_point (R : ∀ b, (args m c b).IsReal) : ∀ (n : ℕ) (hn : n < cfg0.N),
    After (args m c (batch ⟨n, hn⟩)) (512 * (n % 8) + 512) (outsAt0 m c n hn).2.1 (outsAt0 m c n hn).2.2
      ∧ ∀ (r : Fin 512) (d : Fin 1024), (outsAt0 m c n hn).1 (ix3 0 r d) = (args m c (batch ⟨n, hn⟩)).out (512 * (n % 8) + r.val) d
  | 0, hn => step_A m c ⟨0, hn⟩ rfl (R _)
  | n + 1, hn => by
    by_cases h0 : (n + 1) % 8 = 0
    · exact step_A m c ⟨n + 1, hn⟩ h0 (R _)
    · refine step_B m c ⟨n + 1, hn⟩ h0 (R _) ?_
      have P := (at_point R n (Nat.lt_of_succ_lt hn)).1
      have eb : batch ⟨n, Nat.lt_of_succ_lt hn⟩ = batch ⟨n + 1, hn⟩ := Fin.ext (by show n / 8 = (n + 1) / 8; omega)
      have eT : 512 * (n % 8) + 512 = 512 * ((n + 1) % 8) := by omega
      rw [eb, eT] at P
      exact P

/-- The result array over this program's arguments. -/
abbrev result (c : Dev nD) : FVec Ideal S8x4096x1024 .f32 := fun i => (args m c (i 0)).out (i 1).val (i 2)

set_option maxHeartbeats 1600000 in
theorem final (R : ∀ b, (args m c b).IsReal) : (dats m 0 c).arrAt 17 (cfgs 0).N = result m c := by
  refine (dats m 0 c).arrAt_eq_of_covers 17 _ (by decide +kernel) fun t _ y => ?_
  blk_simp
  rw [after0_17]
  have hy : y = ix3 (0 : Fin 1) (y 1) (y 2) := (eq_ix3 y).trans (congrArg (fun z : Fin 1 => ix3 z (y 1) (y 2)) (Subsingleton.elim ..))
  rw [hy]
  have hn : ∀ i : S8x4096x1024.Idx, (i = ix3 (batch t) (⟨t.val % 8 * 512 + (y 1).val, by have h1 : (y 1).val < 512 := (y 1).isLt; omega⟩ : Fin 4096) (y 2)) →
      result m c i = (outsAt0 m c t.val t.isLt).1 (ix3 (0 : Fin 1) (y 1) (y 2)) := fun i hi => by
    rw [hi]
    show (args m c (batch t)).out (t.val % 8 * 512 + (y 1).val) (y 2) = _
    rw [Nat.mul_comm]
    exact ((at_point m c R t.val t.isLt).2 (y 1) (y 2)).symm
  refine (hn _ rfl).symm.trans (congrArg _ ?_)
  unfold batch
  refine funext fun a => Fin.ext ?_
  fin_cases a <;> (blk_simp [idx t]; try rfl)

end Cert.Kernel7Ideal.Hybrid
-- ==== Proof.Hybrid.RefA.lean ====
/-
  The hybrid mixer's reference at one index: the rows of the mathematics.
-/
module

public import proofs.«01_k».proof.Proof.Gen.Reference7Ideal.Run
public import proofs.«01_k».proof.Proof.Hybrid.Spec
public import proofs.«01_k».proof.Proof.Hybrid.Inputs
public import Idealize.ShloMosaic.Lib.Pointwise

@[expose] public section

set_option maxRecDepth 16384

noncomputable section

namespace Cert.Reference7Ideal.Hybrid

open Idealize.ShloMosaic Idealize.ShloMosaic.TcCoe Idealize.SL.Sem Idealize.ShloMosaic.StableHlo
open Cert.Reference7Ideal Cert.Reference7Ideal.Gen Cert.Reference7Ideal.Value Cert.Ffn Cert.Hybrid

variable (V0 : Valuation τ sig (Elt Ideal))

/-- A batch entry's inputs, of the arguments' contents. -/
abbrev ins (b : Fin 8) : Args :=
  argsOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) b

theorem ins_h (b : Fin 8) (t : Fin 4096) : (ins V0 b).h t.val = fun d => (V0 (Proc.devRef .tc main_arg0) : FVec Ideal S8x4096x1024 .f32) (ix3 b t d) :=
  funext fun d => dif_pos t.isLt

theorem pre_at (b : Fin 8) (t : Fin 4096) (f : Fin 4624) : (res_main_v25 V0 : FVec Ideal S8x4096x4624 .f32) (ix3 b t f) = (ins V0 b).pre t.val f := by
  unfold Args.pre Args.y
  rw [ins_h]
  unfold res_main_v25
  pointwise [ins, argsOf, modulated, rinv]

theorem hid_at (b : Fin 8) (t : Fin 4096) (f : Fin 2048) : (res_main_v42 V0 : FVec Ideal S8x4096x2048 .f32) (ix3 b t f) = (ins V0 b).hid t.val f := by
  unfold Args.hid
  rw [← pre_at]
  unfold res_main_v42 res_main_v26
  generalize (res_main_v25 V0 : FVec Ideal S8x4096x4624 .f32) = w
  pointwise [gelu]

theorem hid2_at (b : Fin 8) (n : Fin 32) (s : Fin 128) (g : Fin 8) (d : Fin 128) : (res_main_v45 V0 : FVec Ideal S8x32x128x8x128 .f32) (ix5 b n s g d)
    = (ins V0 b).hid (n.val * 128 + s.val) ⟨1024 + (g.val * 128 + d.val), by omega⟩ := by
  refine Eq.trans ?_ (hid_at V0 b ⟨n.val * 128 + s.val, by omega⟩ ⟨1024 + (g.val * 128 + d.val), by omega⟩)
  unfold res_main_v45
  generalize (res_main_v42 V0 : FVec Ideal S8x4096x2048 .f32) = w
  pointwise []

theorem zero_word (φ : FTy) : (FloatOps.sitofp (F := Ideal) φ 0#32 : EReal) = 0 := by
  show (((0#32 : BitVec 32).toInt : ℝ) : EReal) = 0
  simp

theorem padded_at (b : Fin 8) (u : Fin 4099) (f : Fin 1536) : (res_main_v75 V0 : FVec Ideal S8x4099x1536 .f32) (ix3 b u f)
    = if h : 3 ≤ u.val ∧ u.val - 3 < 4096 then (res_main_v25 V0 : FVec Ideal S8x4096x4624 .f32) (ix3 b ⟨u.val - 3, by omega⟩ ⟨3072 + f.val, by omega⟩) else (0 : EReal) := by
  unfold res_main_v75
  generalize (res_main_v25 V0 : FVec Ideal S8x4096x4624 .f32) = w
  pointwise [zero_word]

theorem back_at (b : Fin 8) (t : Fin 4096) (j : Fin 4) (f : Fin 1536) : (res_main_v75 V0 : FVec Ideal S8x4099x1536 .f32) (ix3 b ⟨t.val + (3 - j.val), by omega⟩ f) = (ins V0 b).back j.val t.val f := by
  rw [padded_at]
  unfold Args.back Args.raw
  by_cases h : j.val ≤ t.val
  · rw [dif_pos (show 3 ≤ t.val + (3 - j.val) ∧ t.val + (3 - j.val) - 3 < 4096 by omega), if_pos h, pre_at]
    dsimp only
    rw [show t.val + (3 - j.val) - 3 = t.val - j.val by omega]
  · rw [dif_neg (show ¬(3 ≤ t.val + (3 - j.val) ∧ t.val + (3 - j.val) - 3 < 4096) by omega), if_neg h]

theorem sum_at (b : Fin 8) (t : Fin 4096) (f : Fin 1536) : (res_main_v107 V0 : FVec Ideal S8x4096x1536 .f32) (ix3 b t f)
    = (ins V0 b).cb f + (ins V0 b).raw t.val f * (ins V0 b).cw 3 f + (ins V0 b).back 1 t.val f * (ins V0 b).cw 2 f + (ins V0 b).back 2 t.val f * (ins V0 b).cw 1 f + (ins V0 b).back 3 t.val f * (ins V0 b).cw 0 f := by
  have e0 : (ins V0 b).raw t.val f = (ins V0 b).back 0 t.val f := by
    unfold Args.back
    rw [if_pos (Nat.zero_le _)]
    rfl
  obtain ⟨p, hp⟩ : ∃ p : FVec Ideal S8x4099x1536 .f32, p = res_main_v75 V0 := ⟨_, rfl⟩
  have e1 : p (ix3 b ⟨t.val + 0, by omega⟩ f) = (ins V0 b).back 3 t.val f := by
    rw [hp]
    exact back_at V0 b t 3 f
  have e2 : p (ix3 b ⟨t.val + 1, by omega⟩ f) = (ins V0 b).back 2 t.val f := by
    rw [hp]
    exact back_at V0 b t 2 f
  have e3 : p (ix3 b ⟨t.val + 2, by omega⟩ f) = (ins V0 b).back 1 t.val f := by
    rw [hp]
    exact back_at V0 b t 1 f
  have e4 : p (ix3 b ⟨t.val + 3, by omega⟩ f) = (ins V0 b).back 0 t.val f := by
    rw [hp]
    exact back_at V0 b t 0 f
  have key : (res_main_v107 V0 : FVec Ideal S8x4096x1536 .f32) (ix3 b t f)
      = (0 : EReal) + p (ix3 b ⟨t.val + 0, by omega⟩ f) * (ins V0 b).cw 0 f + p (ix3 b ⟨t.val + 1, by omega⟩ f) * (ins V0 b).cw 1 f
        + p (ix3 b ⟨t.val + 2, by omega⟩ f) * (ins V0 b).cw 2 f + p (ix3 b ⟨t.val + 3, by omega⟩ f) * (ins V0 b).cw 3 f + (ins V0 b).cb f := by
    unfold res_main_v107
    rw [← hp]
    pointwise [ins, argsOf]
    rw [show (⟨1 + t.val, by omega⟩ : Fin 4099) = ⟨t.val + 1, by omega⟩ from Fin.ext (Nat.add_comm _ _), show (⟨2 + t.val, by omega⟩ : Fin 4099) = ⟨t.val + 2, by omega⟩ from Fin.ext (Nat.add_comm _ _),
      show (⟨3 + t.val, by omega⟩ : Fin 4099) = ⟨t.val + 3, by omega⟩ from Fin.ext (Nat.add_comm _ _)]
  rw [key, e0, e1, e2, e3, e4, zero_add]
  ac_rfl

/-- The logistic gate as the reference takes it. -/
theorem gate_eq (v : EReal) : v * Ideal.div 1 (1 + Ideal.exp (-v)) = silu v := by
  unfold silu
  rw [zero_sub, Ideal.div, Ideal.div, if_neg (exp_ne_neg_one _), if_neg (exp_ne_neg_one _), one_mul]

theorem conv_at (b : Fin 8) (t : Fin 4096) (f : Fin 1536) : (res_main_v108 V0 : FVec Ideal S8x4096x1536 .f32) (ix3 b t f) = (ins V0 b).conv t.val f := by
  unfold Args.conv
  rw [← sum_at, ← gate_eq]
  unfold res_main_v108
  generalize (res_main_v107 V0 : FVec Ideal S8x4096x1536 .f32) = w
  pointwise []

theorem silu_z_at (b : Fin 8) (t : Fin 4096) (c : Fin 1024) : (mulf (res_main_v27 V0) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (res_main_v27 V0))))) : FVec Ideal S8x4096x1024 .f32) (ix3 b t c)
    = silu ((ins V0 b).pre t.val ⟨2048 + c.val, by omega⟩) := by
  rw [← pre_at, ← gate_eq]
  unfold res_main_v27
  generalize (res_main_v25 V0 : FVec Ideal S8x4096x4624 .f32) = w
  pointwise []

/-- The softplus as the reference takes it. -/
theorem soft_eq (v : EReal) : Scalar.select (FloatOps.cmpf (F := Ideal) (φ := .f32) .une (v - 0 : EReal) (v - 0 : EReal)) (v + 0 : EReal)
    (max v 0 + Ideal.log1p (Ideal.exp (-(FloatOps.absf (F := Ideal) (φ := .f32) (v - 0 : EReal) : EReal)))) = softplus v := by
  have e : FloatOps.cmpf (F := Ideal) (φ := .f32) .une (v - 0 : EReal) (v - 0 : EReal) = 0#1 := by
    simp [FloatOps.cmpf, Ideal.cmp]
  rw [e, sub_zero]
  unfold softplus
  rw [zero_sub]
  rfl

theorem step_at (b : Fin 8) (t : Fin 4096) (p : Fin 2) (q : Fin 8) : (res_main_v119 V0 : FVec Ideal S8x4096x2x8 .f32) (ix4 b t p q) = (ins V0 b).step t.val (p.val * 8 + q.val) := by
  unfold Args.step lane
  rw [dif_pos (show p.val * 8 + q.val < 16 by omega), dif_pos (show p.val * 8 + q.val < 16 by omega), ← soft_eq]
  dsimp only
  rw [← pre_at]
  unfold res_main_v119 res_main_call5_v3 res_main_v117 res_main_call5_cst
  generalize (res_main_v25 V0 : FVec Ideal S8x4096x4624 .f32) = w
  pointwise [ins, argsOf]

theorem xs_at (b : Fin 8) (t : Fin 4096) (p : Fin 2) (q : Fin 8) (d : Fin 64) : (res_main_v112 V0 : FVec Ideal S8x4096x2x8x64 .f32) (ix5 b t p q d)
    = (ins V0 b).conv t.val ⟨p.val * 512 + q.val * 64 + d.val, by omega⟩ := by
  rw [← conv_at]
  unfold res_main_v112
  generalize (res_main_v108 V0 : FVec Ideal S8x4096x1536 .f32) = w
  pointwise []

end Cert.Reference7Ideal.Hybrid
-- ==== Proof.Hybrid.RefC.lean ====
/-
  The hybrid mixer's reference at one index: the gated rows and the sum.
-/
module

public import proofs.«01_k».proof.Proof.Hybrid.RefA
public import proofs.«01_k».proof.Proof.Hybrid.Tables

@[expose] public section

set_option maxRecDepth 16384

noncomputable section

namespace Cert.Reference7Ideal.Hybrid

open Idealize.ShloMosaic Idealize.ShloMosaic.TcCoe Idealize.SL.Sem Idealize.ShloMosaic.StableHlo
open Cert.Reference7Ideal Cert.Reference7Ideal.Gen Cert.Reference7Ideal.Value Cert.Ffn Cert.Hybrid

variable (V0 : Valuation τ sig (Elt Ideal))

/-- Which rows of a block read which. -/
def mask : IVec S128x128 1 := cmpi .sle (select (andi (cmpi .ne (signi (iotaInDim S128x128 32 1)) (broadcastInDim S128x128 ![] bcast_S_S128x128 (signi (id (constantI S_ 32 64#32))))) (cmpi .ne (Host.remsi (iotaInDim S128x128 32 1) (broadcastInDim S128x128 ![] bcast_S_S128x128 (id (constantI S_ 32 64#32)))) (broadcastInDim S128x128 ![] bcast_S_S128x128 (constantI S_ 32 0#32)))) (subi (Host.divsi (iotaInDim S128x128 32 1) (broadcastInDim S128x128 ![] bcast_S_S128x128 (id (constantI S_ 32 64#32)))) (broadcastInDim S128x128 ![] bcast_S_S128x128 (constantI S_ 32 1#32))) (Host.divsi (iotaInDim S128x128 32 1) (broadcastInDim S128x128 ![] bcast_S_S128x128 (id (constantI S_ 32 64#32))))) (select (andi (cmpi .ne (signi (iotaInDim S128x128 32 0)) (broadcastInDim S128x128 ![] bcast_S_S128x128 (signi (id (constantI S_ 32 64#32))))) (cmpi .ne (Host.remsi (iotaInDim S128x128 32 0) (broadcastInDim S128x128 ![] bcast_S_S128x128 (id (constantI S_ 32 64#32)))) (broadcastInDim S128x128 ![] bcast_S_S128x128 (constantI S_ 32 0#32)))) (subi (Host.divsi (iotaInDim S128x128 32 0) (broadcastInDim S128x128 ![] bcast_S_S128x128 (id (constantI S_ 32 64#32)))) (broadcastInDim S128x128 ![] bcast_S_S128x128 (constantI S_ 32 1#32))) (Host.divsi (iotaInDim S128x128 32 0) (broadcastInDim S128x128 ![] bcast_S_S128x128 (id (constantI S_ 32 64#32)))))

open Cert.Kernel7Ideal.Hybrid in
theorem quarter_at : ∀ r s : Fin 128, IntOp.cmpi .sle (floorq (BitVec.ofNat 32 s.val) 64#32) (floorq (BitVec.ofNat 32 r.val) 64#32) = if s.val / 64 ≤ r.val / 64 then 1#1 else 0#1 := by
  decide +kernel

open Cert.Kernel7Ideal.Hybrid in
theorem mask_at (r s : Fin 128) : mask (ix2 r s) = if s.val / 64 ≤ r.val / 64 then 1#1 else 0#1 := by
  rw [← quarter_at]
  pointwise [mask, floorq, sgn, id]

/-- A block of 128 rows mixed, over any operands. -/
def mix (W : FVec Ideal S8x32x128x8x128 .f32) (vg : FVec Ideal S1024 .f32) (ws : FVec Ideal S8x128x128 .f32) (bs : FVec Ideal S8x128 .f32) : FVec Ideal S8x32x128x8x128 .f32 :=
  addf (transpose S8x32x128x8x128 [1, 2, 4, 0, 3] (Host.dotGeneral dot_S8x32x128x8x128_S8x128x128_S8x8x32x128x128_2_2_014_1_3_0 none (mulf (mulf W (broadcastInDim S8x32x128x8x128 ![0, 1, 2, 3, 4] bcast_S8x32x128x8x1_S8x32x128x8x128_0_1_2_3_4 (Host.rsqrt (addf (Host.divf (broadcastInDim S8x32x128x8x1 ![0, 1, 2, 3] bcast_S8x32x128x8_S8x32x128x8x1_0_1_2_3 (Host.reduceAdd (mulf W W) (constant S_ .f32 0x00000000#32) reducesTo_S8x32x128x8x128_S8x32x128x8_d4 h_S_)) (broadcastInDim S8x32x128x8x1 ![] bcast_S_S8x32x128x8x1 (constant S_ .f32 0x43000000#32))) (broadcastInDim S8x32x128x8x1 ![] bcast_S_S8x32x128x8x1 (constant S_ .f32 0x358637BD#32)))))) (broadcastInDim S8x32x128x8x128 ![0, 1, 2, 3, 4] bcast_S1x1x1x8x128_S8x32x128x8x128_0_1_2_3_4 (broadcastInDim S1x1x1x8x128 ![3, 4] bcast_S8x128_S1x1x1x8x128_3_4 (shapeCast _ vg shapeCasts_S1024_S8x128)))) (select (broadcastInDim S8x128x128 ![1, 2] bcast_S128x128_S8x128x128_1_2 mask) ws (broadcastInDim S8x128x128 ![] bcast_S_S8x128x128 (id (constant S_ .f32 0x00000000#32))))) transposes_S8x8x32x128x128_S8x32x128x8x128_1_2_4_0_3) (broadcastInDim S8x32x128x8x128 ![0, 1, 2, 3, 4] bcast_S1x1x128x8x1_S8x32x128x8x128_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] bs transposes_S8x128_S128x8_1_0))))

theorem mix_at (W : FVec Ideal S8x32x128x8x128 .f32) (vg : FVec Ideal S1024 .f32) (ws : FVec Ideal S8x128x128 .f32) (bs : FVec Ideal S8x128 .f32) (b : Fin 8) (n : Fin 32) (r : Fin 128) (g : Fin 8) (d : Fin 128) :
    mix W vg ws bs (ix5 b n r g d)
      = (∑ s : Fin 128, ((W (ix5 b n s g d) : EReal) * rinv128 (fun e => W (ix5 b n s g e)) * vg (ix1 ⟨g.val * 128 + d.val, by omega⟩))
          * (if s.val / 64 ≤ r.val / 64 then (ws (ix3 g r s) : EReal) else 0)) + bs (ix2 g r) := by
  have e : ∀ s : Fin 128, (if s.val / 64 ≤ r.val / 64 then (ws (ix3 g r s) : EReal) else 0) = Scalar.select (mask (ix2 r s)) (ws (ix3 g r s) : EReal) 0 := fun s => by
    rw [mask_at, Cert.Kernel7Ideal.Hybrid.select_ite]
  simp only [e]
  unfold mix
  generalize mask = M
  pointwise [rinv128, id]

/-- The gMLP's rows. -/
def gmlp : FVec Ideal S8x4096x1024 .f32 := (mulf (extractStridedSlice S8x4096x1024 ![0, 0, 0] (res_main_v42 V0) slices_S8x4096x2048_S8x4096x1024_0_0_0) (shapeCast _ (mix (res_main_v45 V0) (V0 (Proc.devRef .tc main_arg5)) (V0 (Proc.devRef .tc main_arg6)) (V0 (Proc.devRef .tc main_arg7))) shapeCasts_S8x32x128x8x128_S8x4096x1024))

/-- The recurrence's rows, normalised. -/
def normed : FVec Ideal S8x4096x1024 .f32 := (mulf (mulf (res_main_v156 V0) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v156 V0) (res_main_v156 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (V0 (Proc.devRef .tc main_arg13)))))

/-- The mixer's rows. -/
def total : FVec Ideal S8x4096x1024 .f32 := addf (V0 (Proc.devRef .tc main_arg0)) (mulf (broadcastInDim S8x4096x1024 ![0, 1, 2] bcast_S8x1x1024_S8x4096x1024_0_1_2 (broadcastInDim S8x1x1024 ![0, 2] bcast_S8x1024_S8x1x1024_0_2 (shapeCast _ (extractStridedSlice S8x1x1024 ![0, 2, 0] (V0 (Proc.devRef .tc main_arg1)) slices_S8x3x1024_S8x1x1024_0_2_0) shapeCasts_S8x1x1024_S8x1024))) (Host.dotGeneral (φ₁ := .f32) (φ₂ := .f32) dot_S8x4096x2048_S2048x1024_S8x4096x1024_2_0_01_1_n_n none (concatenate S8x4096x2048 2 [⟨S8x4096x1024, gmlp V0⟩, ⟨S8x4096x1024, normed V0⟩] concatenates_S8x4096x1024_S8x4096x1024_S8x4096x2048_d2) (V0 (Proc.devRef .tc main_arg4) : FVec Ideal S2048x1024 .f32)))

theorem gmlp_at (b : Fin 8) (t : Fin 4096) (c : Fin 1024) : gmlp V0 (ix3 b t c) = (ins V0 b).ya t.val c := by
  obtain ⟨H, hH⟩ : ∃ H : FVec Ideal S8x4096x2048 .f32, H = res_main_v42 V0 := ⟨_, rfl⟩
  have key : gmlp V0 (ix3 b t c) = (H (ix3 b t ⟨c.val, by omega⟩) : EReal)
      * mix (res_main_v45 V0) (V0 (Proc.devRef .tc main_arg5)) (V0 (Proc.devRef .tc main_arg6)) (V0 (Proc.devRef .tc main_arg7)) (ix5 b ⟨t.val / 128, by omega⟩ ⟨t.val % 128, by omega⟩ ⟨c.val / 128, by omega⟩ ⟨c.val % 128, by omega⟩) := by
    unfold gmlp
    rw [← hH]
    generalize mix (res_main_v45 V0) (V0 (Proc.devRef .tc main_arg5)) (V0 (Proc.devRef .tc main_arg6)) (V0 (Proc.devRef .tc main_arg7)) = M
    pointwise []
  rw [key, hH, hid_at, mix_at]
  unfold Args.ya
  refine congrArg (_ * ·) (congrArg (· + _) (Finset.sum_congr rfl fun s _ => ?_))
  simp only [hid2_at, Nat.mul_comm _ 128, Nat.div_add_mod]
  by_cases hs : s.val / 64 ≤ t.val % 128 / 64
  · rw [if_pos hs, if_pos hs]
    exact mul_comm _ _
  · rw [if_neg hs, if_neg hs, mul_zero]

theorem total_at (b : Fin 8) (t : Fin 4096) (c : Fin 1024) : total V0 (ix3 b t c) = (ins V0 b).h t.val c
    + (ins V0 b).gt c * ((∑ k : Fin 1024, (gmlp V0 (ix3 b t k) : EReal) * (ins V0 b).wo ⟨k.val, by omega⟩ c)
      + ∑ k : Fin 1024, (normed V0 (ix3 b t k) : EReal) * (ins V0 b).wo ⟨1024 + k.val, by omega⟩ c) := by
  rw [ins_h]
  unfold total
  generalize gmlp V0 = G
  generalize normed V0 = N
  pointwise [ins, argsOf]

end Cert.Reference7Ideal.Hybrid
-- ==== Proof.Hybrid.RefB.lean ====
/-
  The hybrid mixer's reference at one index: the recurrence.
-/
module

public import proofs.«01_k».proof.Proof.Hybrid.RefA
public import Idealize.ShloMosaic.Lib.WordCmp

@[expose] public section

set_option maxRecDepth 16384

noncomputable section

namespace Cert.Reference7Ideal.Hybrid

open Idealize.ShloMosaic Idealize.ShloMosaic.TcCoe Idealize.SL.Sem Idealize.ShloMosaic.StableHlo
open Cert.Reference7Ideal Cert.Reference7Ideal.Gen Cert.Reference7Ideal.Value Cert.Ffn Cert.Hybrid

variable (V0 : Valuation τ sig (Elt Ideal))

/-- The recurrence's rows and the inputs' direct part, over any operands. -/
def att (X : FVec Ideal S8x4096x2x8x64 .f32) (V : FVec Ideal S8x4096x1536 .f32) (Cm D : FVec Ideal S8x4096x2x8 .f32) (dsk : FVec Ideal S16 .f32) : FVec Ideal S8x4096x2x8x64 .f32 :=
  addf (transpose S8x4096x2x8x64 [0, 4, 1, 2, 3] (Host.dotGeneral dot_S8x4096x2x8x64_S8x4096x4096x2x8_S8x2x8x64x4096_1_2_4_1_023_034 none X (mulf (mulf (broadcastInDim S8x4096x4096x2x8 ![0, 1, 2, 3, 4] bcast_S8x4096x4096x2x1_S8x4096x4096x2x8_0_1_2_3_4 (broadcastInDim S8x4096x4096x2x1 ![0, 1, 2, 3] bcast_S8x4096x4096x2_S8x4096x4096x2x1_0_1_2_3 (transpose S8x4096x4096x2 [0, 3, 2, 1] (Host.dotGeneral dot_S8x4096x2x128_S8x4096x2x128_S8x2x4096x4096_3_3_1_1_02_02 none (shapeCast _ (extractStridedSlice S8x4096x256 ![0, 0, 1024] V slices_S8x4096x1536_S8x4096x256_0_0_1024) shapeCasts_S8x4096x256_S8x4096x2x128) (shapeCast _ (extractStridedSlice S8x4096x256 ![0, 0, 1280] V slices_S8x4096x1536_S8x4096x256_0_0_1280) shapeCasts_S8x4096x256_S8x4096x2x128)) transposes_S8x2x4096x4096_S8x4096x4096x2_0_3_2_1))) (Host.exp (select (broadcastInDim S8x4096x4096x2x8 ![1, 2, 3, 4] bcast_S4096x4096x1x1_S8x4096x4096x2x8_1_2_3_4 (broadcastInDim S4096x4096x1x1 ![0, 1] bcast_S4096x4096_S4096x4096x1x1_0_1 (cmpi .sge (iotaInDim S4096x4096 32 0) (iotaInDim S4096x4096 32 1)))) (subf (broadcastInDim S8x4096x4096x2x8 ![0, 1, 2, 3, 4] bcast_S8x4096x1x2x8_S8x4096x4096x2x8_0_1_2_3_4 (broadcastInDim S8x4096x1x2x8 ![0, 1, 3, 4] bcast_S8x4096x2x8_S8x4096x1x2x8_0_1_3_4 Cm)) (broadcastInDim S8x4096x4096x2x8 ![0, 1, 2, 3, 4] bcast_S8x1x4096x2x8_S8x4096x4096x2x8_0_1_2_3_4 (broadcastInDim S8x1x4096x2x8 ![0, 2, 3, 4] bcast_S8x4096x2x8_S8x1x4096x2x8_0_2_3_4 Cm))) (broadcastInDim S8x4096x4096x2x8 ![] bcast_S_S8x4096x4096x2x8 (id (constant S_ .f32 0xFF800000#32)))))) (broadcastInDim S8x4096x4096x2x8 ![0, 1, 2, 3, 4] bcast_S8x1x4096x2x8_S8x4096x4096x2x8_0_1_2_3_4 (broadcastInDim S8x1x4096x2x8 ![0, 2, 3, 4] bcast_S8x4096x2x8_S8x1x4096x2x8_0_2_3_4 D)))) transposes_S8x2x8x64x4096_S8x4096x2x8x64_0_4_1_2_3) (mulf (broadcastInDim S8x4096x2x8x64 ![0, 1, 2, 3, 4] bcast_S1x1x2x8x1_S8x4096x2x8x64_0_1_2_3_4 (broadcastInDim S1x1x2x8x1 ![2, 3, 4] bcast_S2x8x1_S1x1x2x8x1_2_3_4 (broadcastInDim S2x8x1 ![0, 1] bcast_S2x8_S2x8x1_0_1 (shapeCast _ dsk shapeCasts_S16_S2x8)))) X)

theorem att_at (X : FVec Ideal S8x4096x2x8x64 .f32) (V : FVec Ideal S8x4096x1536 .f32) (Cm D : FVec Ideal S8x4096x2x8 .f32) (dsk : FVec Ideal S16 .f32) (b : Fin 8) (t : Fin 4096) (p : Fin 2) (q : Fin 8) (d : Fin 64) :
    att X V Cm D dsk (ix5 b t p q d)
      = (∑ s : Fin 4096, (X (ix5 b s p q d) : EReal) * (((∑ n : Fin 128, (V (ix3 b s ⟨1024 + (p.val * 128 + n.val), by omega⟩) : EReal) * V (ix3 b t ⟨1280 + (p.val * 128 + n.val), by omega⟩))
          * Ideal.exp (Scalar.select (IntOp.cmpi .sge (BitVec.ofNat 32 t.val) (BitVec.ofNat 32 s.val)) ((Cm (ix4 b t p q) : EReal) - Cm (ix4 b s p q)) (Ideal.ofBits .f32 0xFF800000#32))) * D (ix4 b s p q)))
        + (dsk (ix1 ⟨p.val * 8 + q.val, by omega⟩) : EReal) * X (ix5 b t p q d) := by
  pointwise [att, id]

theorem v156_eq : (res_main_v156 V0 : FVec Ideal S8x4096x1024 .f32) = mulf (shapeCast _ (att (res_main_v112 V0) (res_main_v108 V0) (res_main_v126 V0) (res_main_v119 V0) (V0 (Proc.devRef .tc main_arg12))) shapeCasts_S8x4096x2x8x64_S8x4096x1024) (mulf (res_main_v27 V0) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (res_main_v27 V0)))))) := rfl

theorem upto_at (t s : Fin 4096) (x y : EReal) : Scalar.select (IntOp.cmpi .sge (BitVec.ofNat 32 t.val) (BitVec.ofNat 32 s.val)) x y = if s.val ≤ t.val then x else y := by
  have := t.isLt
  have := s.isLt
  simp (disch := word_cmp_side) only [hlo_ix]

theorem exp_bot : Ideal.exp (Ideal.ofBits .f32 0xFF800000#32) = 0 := by
  have e : Ideal.ofBits .f32 0xFF800000#32 = ⊥ := by
    simp [Ideal.ofBits, Ideal.ieee]
  rw [e]
  rfl

theorem foldl_add {ι : Type} (l : List ι) (g : ι → EReal) (x : EReal) : l.foldl (fun r i => r + g i) x = x + (l.map g).sum := by
  induction l generalizing x with
  | nil => simp
  | cons a l ih => rw [List.foldl_cons, ih, List.map_cons, List.sum_cons, add_assoc]

/-- The positions of a window along the rows. -/
def positions : (⟨4, ![1, 4096, 1, 1]⟩ : Shape).Idx ≃ Fin 4096 where
  toFun i := i 1
  invFun k := ix4 0 k 0 0
  left_inv i := by
    refine Eq.trans ?_ (eq_ix4 i).symm
    rw [Subsingleton.elim (α := Fin 1) (i 0) 0, Subsingleton.elim (α := Fin 1) (i 2) 0, Subsingleton.elim (α := Fin 1) (i 3) 0]
  right_inv k := rfl

/-- A window of all rows ending at a row: the sum over the rows up to it. -/
theorem window_at (x : FVec Ideal S8x4096x2x8 .f32) (h : S8x4096x2x8.ReduceWindows ![1, 4096, 1, 1] ![1, 1, 1, 1] ![0, 4095, 0, 0] ![0, 0, 0, 0] S8x4096x2x8) (b : Fin 8) (t : Fin 4096) (p : Fin 2) (q : Fin 8) :
    Ideal.hostReduceWindowAdd ![1, 4096, 1, 1] ![1, 1, 1, 1] ![0, 4095, 0, 0] ![0, 0, 0, 0] h x 0 (ix4 b t p q)
      = ∑ k : Fin 4096, if hk : 4095 ≤ t.val + k.val then (x (ix4 b ⟨t.val + k.val - 4095, by omega⟩ p q) : EReal) else 0 := by
  unfold Ideal.hostReduceWindowAdd Host.reduceWindow
  dsimp only
  refine (foldl_add _ _ _).trans ?_
  rw [zero_add, ← Fin.sum_univ_def]
  refine Fintype.sum_equiv ((⟨4, ![1, 4096, 1, 1]⟩ : Shape).rowMajor.symm.trans positions) _ _ fun n => ?_
  obtain ⟨k, hk⟩ : ∃ k : Fin 4096, (⟨4, ![1, 4096, 1, 1]⟩ : Shape).rowMajor.symm n = ix4 0 k 0 0 := ⟨positions _, (positions.symm_apply_apply _).symm⟩
  have hp : ((⟨4, ![1, 4096, 1, 1]⟩ : Shape).rowMajor.symm.trans positions) n = k := by
    show positions ((⟨4, ![1, 4096, 1, 1]⟩ : Shape).rowMajor.symm n) = k
    rw [hk]
    rfl
  rw [hp]
  have h0 : (((⟨4, ![1, 4096, 1, 1]⟩ : Shape).rowMajor.symm n) 0 : ℕ) = 0 := by
    rw [hk]
    rfl
  have h1 : (((⟨4, ![1, 4096, 1, 1]⟩ : Shape).rowMajor.symm n) 1 : ℕ) = k.val := by
    rw [hk]
    rfl
  have h2 : (((⟨4, ![1, 4096, 1, 1]⟩ : Shape).rowMajor.symm n) 2 : ℕ) = 0 := by
    rw [hk]
    rfl
  have h3 : (((⟨4, ![1, 4096, 1, 1]⟩ : Shape).rowMajor.symm n) 3 : ℕ) = 0 := by
    rw [hk]
    rfl
  have := b.isLt
  have := t.isLt
  have := p.isLt
  have := q.isLt
  have := k.isLt
  by_cases hh : 4095 ≤ t.val + k.val
  · rw [dif_pos hh]
    split
    · refine congrArg x (funext fun a => Fin.ext ?_)
      match a with
      | ⟨0, _⟩ => show b.val * 1 + (((⟨4, ![1, 4096, 1, 1]⟩ : Shape).rowMajor.symm n) 0 : ℕ) - 0 = b.val; rw [h0]; omega
      | ⟨1, _⟩ => show t.val * 1 + (((⟨4, ![1, 4096, 1, 1]⟩ : Shape).rowMajor.symm n) 1 : ℕ) - 4095 = t.val + k.val - 4095; rw [h1]; omega
      | ⟨2, _⟩ => show p.val * 1 + (((⟨4, ![1, 4096, 1, 1]⟩ : Shape).rowMajor.symm n) 2 : ℕ) - 0 = p.val; rw [h2]; omega
      | ⟨3, _⟩ => show q.val * 1 + (((⟨4, ![1, 4096, 1, 1]⟩ : Shape).rowMajor.symm n) 3 : ℕ) - 0 = q.val; rw [h3]; omega
    · next hin =>
      refine absurd (fun a => ?_) hin
      match a with
      | ⟨0, _⟩ => show 0 ≤ b.val * 1 + (((⟨4, ![1, 4096, 1, 1]⟩ : Shape).rowMajor.symm n) 0 : ℕ) ∧ b.val * 1 + (((⟨4, ![1, 4096, 1, 1]⟩ : Shape).rowMajor.symm n) 0 : ℕ) - 0 < 8; rw [h0]; omega
      | ⟨1, _⟩ => show 4095 ≤ t.val * 1 + (((⟨4, ![1, 4096, 1, 1]⟩ : Shape).rowMajor.symm n) 1 : ℕ) ∧ t.val * 1 + (((⟨4, ![1, 4096, 1, 1]⟩ : Shape).rowMajor.symm n) 1 : ℕ) - 4095 < 4096; rw [h1]; omega
      | ⟨2, _⟩ => show 0 ≤ p.val * 1 + (((⟨4, ![1, 4096, 1, 1]⟩ : Shape).rowMajor.symm n) 2 : ℕ) ∧ p.val * 1 + (((⟨4, ![1, 4096, 1, 1]⟩ : Shape).rowMajor.symm n) 2 : ℕ) - 0 < 2; rw [h2]; omega
      | ⟨3, _⟩ => show 0 ≤ q.val * 1 + (((⟨4, ![1, 4096, 1, 1]⟩ : Shape).rowMajor.symm n) 3 : ℕ) ∧ q.val * 1 + (((⟨4, ![1, 4096, 1, 1]⟩ : Shape).rowMajor.symm n) 3 : ℕ) - 0 < 8; rw [h3]; omega
  · rw [dif_neg hh]
    split
    · next hin =>
      have h5 : 4095 ≤ t.val * 1 + (((⟨4, ![1, 4096, 1, 1]⟩ : Shape).rowMajor.symm n) 1 : ℕ) ∧ t.val * 1 + (((⟨4, ![1, 4096, 1, 1]⟩ : Shape).rowMajor.symm n) 1 : ℕ) - 4095 < 4096 := hin (1 : Fin 4)
      rw [h1] at h5
      omega
    · rfl

theorem upto_sum (t : ℕ) (ht : t < 4096) (g : ℕ → ℝ) :
    (∑ k : Fin 4096, if 4095 ≤ t + k.val then ((g (t + k.val - 4095) : ℝ) : EReal) else 0) = ((∑ s ∈ Finset.range (t + 1), g s : ℝ) : EReal) := by
  rw [Fin.sum_univ_eq_sum_range (fun k => if 4095 ≤ t + k then ((g (t + k - 4095) : ℝ) : EReal) else 0) 4096, show 4096 = (4095 - t) + (t + 1) by omega, Finset.sum_range_add, Cert.Stick.coe_sum,
    Finset.sum_eq_zero (s := Finset.range (4095 - t)) fun k hk => if_neg (by have := Finset.mem_range.mp hk; omega), zero_add]
  refine Finset.sum_congr rfl fun k _ => ?_
  rw [if_pos (by omega), show t + (4095 - t + k) - 4095 = k by omega]

theorem zero_bits : Ideal.ofBits .f32 0x00000000#32 = 0 := by
  simp [Ideal.ofBits, Ideal.ieee]

theorem windowAdd_eq (x : FVec Ideal S8x4096x2x8 .f32) (init : FVec Ideal S_ .f32) (hi : init (Shape.Idx.first h_S_) = (0 : EReal)) :
    Host.reduceWindowAdd ![1, 4096, 1, 1] ![1, 1, 1, 1] ![0, 4095, 0, 0] ![0, 0, 0, 0] x init reduceWindows_S8x4096x2x8_S8x4096x2x8_w1s1p0_0_w4096s1p4095_0_w1s1p0_0_w1s1p0_0 h_S_
      = Ideal.hostReduceWindowAdd ![1, 4096, 1, 1] ![1, 1, 1, 1] ![0, 4095, 0, 0] ![0, 0, 0, 0] reduceWindows_S8x4096x2x8_S8x4096x2x8_w1s1p0_0_w4096s1p4095_0_w1s1p0_0_w1s1p0_0 x 0 := by
  unfold Host.reduceWindowAdd
  rw [hi]
  rfl

end Cert.Reference7Ideal.Hybrid
-- ==== Proof.Hybrid.RefD.lean ====
/-
  The hybrid mixer's reference at one index: the recurrence's rows.
-/
module

public import proofs.«01_k».proof.Proof.Hybrid.RefB
public import Idealize.ShloMosaic.Lib.Pipeline.ValueKit

@[expose] public section

set_option maxRecDepth 16384

noncomputable section

namespace Cert.Reference7Ideal.Hybrid

open Idealize.ShloMosaic Idealize.ShloMosaic.TcCoe Idealize.SL.Sem Idealize.ShloMosaic.StableHlo
open Cert.Reference7Ideal Cert.Reference7Ideal.Gen Cert.Reference7Ideal.Value Cert.Ffn Cert.Hybrid

variable (V0 : Valuation τ sig (Elt Ideal))

/-- What a row adds to a head's decay. -/
def growth : FVec Ideal S8x4096x2x8 .f32 := mulf (res_main_v119 V0) (broadcastInDim S8x4096x2x8 ![0, 1, 2, 3] bcast_S1x1x2x8_S8x4096x2x8_0_1_2_3 (broadcastInDim S1x1x2x8 ![2, 3] bcast_S2x8_S1x1x2x8_2_3 (Host.negf (shapeCast _ (Host.exp (V0 (Proc.devRef .tc main_arg11))) shapeCasts_S16_S2x8))))

theorem growth_at (b : Fin 8) (t : Fin 4096) (p : Fin 2) (q : Fin 8) : growth V0 (ix4 b t p q) = (ins V0 b).step t.val (p.val * 8 + q.val) * (ins V0 b).rate (p.val * 8 + q.val) := by
  rw [← step_at]
  unfold Args.rate lane growth
  rw [dif_pos (show p.val * 8 + q.val < 16 by omega), zero_sub]
  generalize (res_main_v119 V0 : FVec Ideal S8x4096x2x8 .f32) = w
  pointwise [ins, argsOf]

variable {V0} in
theorem cum_at (b : Fin 8) (R : (ins V0 b).IsReal) (t : Fin 4096) (p : Fin 2) (q : Fin 8) : (res_main_v126 V0 : FVec Ideal S8x4096x2x8 .f32) (ix4 b t p q)
    = ((cum (ins V0 b).a (ins V0 b).D (t.val + 1) (p.val * 8 + q.val) : ℝ) : EReal) := by
  have e : (res_main_v126 V0 : FVec Ideal S8x4096x2x8 .f32) = Host.reduceWindowAdd ![1, 4096, 1, 1] ![1, 1, 1, 1] ![0, 4095, 0, 0] ![0, 0, 0, 0] (growth V0) (broadcastInDim S_ ![] bcast_S_S_ (constant S_ .f32 0x00000000#32)) reduceWindows_S8x4096x2x8_S8x4096x2x8_w1s1p0_0_w4096s1p4095_0_w1s1p0_0_w1s1p0_0 h_S_ := rfl
  refine (congrFun (e.trans (windowAdd_eq _ _ zero_bits)) _).trans ((window_at _ _ b t p q).trans ?_)
  unfold cum
  rw [← upto_sum t.val t.isLt]
  refine Finset.sum_congr rfl fun k _ => ?_
  by_cases hk : 4095 ≤ t.val + k.val
  · rw [dif_pos hk, if_pos hk, growth_at, Args.D_coe R, Args.a_coe R, ← EReal.coe_mul]
  · rw [dif_neg hk, if_neg hk]

theorem link_at {A : Args} (R : A.IsReal) (V : FVec Ideal S8x4096x1536 .f32) {b : Fin 8} (hV : ∀ (t : Fin 4096) (f : Fin 1536), V (ix3 b t f) = A.conv t.val f) (s t : Fin 4096) (p : Fin 2) :
    (∑ n : Fin 128, (V (ix3 b s ⟨1024 + (p.val * 128 + n.val), by omega⟩) : EReal) * V (ix3 b t ⟨1280 + (p.val * 128 + n.val), by omega⟩)) = ((link A.B A.C t.val s.val p.val : ℝ) : EReal) := by
  unfold link
  rw [Cert.Stick.coe_sum]
  refine Finset.sum_congr rfl fun n _ => ?_
  rw [hV, hV, Args.B_coe R _ _ (show p.val * 128 + n.val < 256 by omega), Args.C_coe R _ _ (show p.val * 128 + n.val < 256 by omega), ← EReal.coe_mul, Nat.mul_comm p.val 128, mul_comm]

variable {V0} in
theorem att_real (b : Fin 8) (R : (ins V0 b).IsReal) (t : Fin 4096) (p : Fin 2) (q : Fin 8) (d : Fin 64) :
    att (res_main_v112 V0) (res_main_v108 V0) (res_main_v126 V0) (res_main_v119 V0) (V0 (Proc.devRef .tc main_arg12)) (ix5 b t p q d)
      = (ins V0 b).summed t.val ⟨p.val * 512 + q.val * 64 + d.val, by omega⟩ := by
  have hl : p.val * 512 + q.val * 64 + d.val < 1024 := by omega
  have h5 : (p.val * 512 + q.val * 64 + d.val) / 512 = p.val := by omega
  have h6 : (p.val * 512 + q.val * 64 + d.val) / 64 = p.val * 8 + q.val := by omega
  rw [att_at]
  unfold Args.summed
  dsimp only
  refine congrArg₂ (· + ·) ?_ ?_
  · rw [← attend_all _ _ _ _ _ 4096 t.val (p.val * 512 + q.val * 64 + d.val) t.isLt, Cert.Stick.coe_sum, h5, h6]
    refine Finset.sum_congr rfl fun s _ => ?_
    rw [xs_at, Args.X_coe R _ _ hl, cum_at b R, cum_at b R, step_at, Args.D_coe R, upto_at]
    rw [link_at R _ (conv_at V0 b)]
    by_cases hs : s.val ≤ t.val
    · rw [if_pos hs, if_pos hs, ← EReal.coe_sub, show ∀ r : ℝ, Ideal.exp (r : EReal) = ((Real.exp r : ℝ) : EReal) from fun _ => rfl, ← EReal.coe_mul, ← EReal.coe_mul, ← EReal.coe_mul]
      congr 1
      ring
    · rw [if_neg hs, if_neg hs, exp_bot, mul_zero, zero_mul, mul_zero, mul_zero, zero_mul, zero_mul]
      rfl
  · rw [xs_at]
    refine congrArg (· * _) ?_
    exact congrArg (V0 (Proc.devRef .tc main_arg12) : FVec Ideal S16 .f32) (congrArg ix1 (Fin.ext h6.symm))

theorem mul_reshape (W : FVec Ideal S8x4096x2x8x64 .f32) (G : FVec Ideal S8x4096x1024 .f32) (h : S8x4096x2x8x64.ShapeCasts S8x4096x1024) (b : Fin 8) (t : Fin 4096) (c : Fin 1024) :
    mulf (shapeCast S8x4096x1024 W h) G (ix3 b t c) = (W (ix5 b t ⟨c.val / 512, by omega⟩ ⟨c.val / 64 % 8, by omega⟩ ⟨c.val % 64, by omega⟩) : EReal) * G (ix3 b t c) := by
  pointwise []

variable {V0} in
theorem gated_at (b : Fin 8) (R : (ins V0 b).IsReal) (t : Fin 4096) (c : Fin 1024) : (res_main_v156 V0 : FVec Ideal S8x4096x1024 .f32) (ix3 b t c) = (ins V0 b).gated t.val c := by
  refine (congrFun (v156_eq V0) (ix3 b t c)).trans ((mul_reshape _ _ _ b t c).trans ?_)
  have e := att_real b R t ⟨c.val / 512, by omega⟩ ⟨c.val / 64 % 8, by omega⟩ ⟨c.val % 64, by omega⟩
  rw [show (⟨c.val / 512 * 512 + c.val / 64 % 8 * 64 + c.val % 64, by omega⟩ : Fin 1024) = c from Fin.ext (by dsimp only; omega)] at e
  exact congrArg₂ (fun x y : EReal => x * y) e (silu_z_at V0 b t c)

end Cert.Reference7Ideal.Hybrid
-- ==== Proof.Hybrid.RefE.lean ====
/-
  The hybrid mixer's reference at one index: its result.
-/
module

public import proofs.«01_k».proof.Defs
public import proofs.«01_k».proof.Proof.Hybrid.RefC
public import proofs.«01_k».proof.Proof.Hybrid.RefD

@[expose] public section

set_option maxRecDepth 16384

noncomputable section

namespace Cert.Proof.Hybrid

open Idealize.ShloMosaic Idealize.ShloMosaic.TcCoe Idealize.SL.Sem
open Cert.Hybrid Cert.Reference7Ideal.Hybrid

open Cert.Reference7Ideal Cert.Reference7Ideal.Gen Cert.Reference7Ideal.Value

/-- Rows normalised, over any operands. -/
def rows (W : FVec Ideal S8x4096x1024 .f32) (n : FVec Ideal S1024 .f32) : FVec Ideal S8x4096x1024 .f32 := (mulf (mulf W (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf W W) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 n)))

theorem rows_at (W : FVec Ideal S8x4096x1024 .f32) (n : FVec Ideal S1024 .f32) (b : Fin 8) (t : Fin 4096) (c : Fin 1024) :
    rows W n (ix3 b t c) = (W (ix3 b t c) : EReal) * Cert.Ffn.rinv (fun k => W (ix3 b t k)) * n (ix1 c) := by
  pointwise [rows, Cert.Ffn.rinv]

variable (V0 : Valuation τ sig (Elt Ideal))

theorem normed_at (b : Fin 8) (R : (ins V0 b).IsReal) (t : Fin 4096) (c : Fin 1024) : normed V0 (ix3 b t c) = (ins V0 b).yb t.val c := by
  have e : normed V0 = rows (res_main_v156 V0) (V0 (Proc.devRef .tc main_arg13)) := rfl
  rw [e]
  exact (rows_at _ _ b t c).trans (congrArg₂ (fun (x : EReal) (y : Fin 1024 → EReal) => x * Cert.Ffn.rinv y * (ins V0 b).ng c) (gated_at b R t c) (funext fun k => gated_at b R t k))

theorem out_at (b : Fin 8) (R : (ins V0 b).IsReal) (t : Fin 4096) (c : Fin 1024) : total V0 (ix3 b t c) = (ins V0 b).out t.val c := by
  rw [total_at]
  unfold Args.out
  simp only [gmlp_at, normed_at V0 b R]

end Cert.Proof.Hybrid
-- ==== Proof.Hybrid.Pre.lean ====
/-
  The hybrid mixer, its precondition: finite inputs are reals.
-/
module

public import proofs.«01_k».proof.Defs
public import proofs.«01_k».proof.Proof.Hybrid.RefC
public import Idealize.ShloMosaic.Lib.ReduceAll
public import Idealize.ShloMosaic.Lib.Quiescent

@[expose] public section

set_option maxRecDepth 16384

noncomputable section

namespace Cert.Proof.Hybrid

open Idealize.ShloMosaic Idealize.ShloMosaic.TcCoe Idealize.SL.Sem
open Cert.Hybrid Cert.Reference7Ideal.Hybrid

/-- The precondition's shape relations. -/
theorem facts : Cert.Pre_finite_inputs.Facts := ⟨by decide, by decide, by decide, by decide, by decide, by decide, by decide, by decide, by decide, by decide, by decide, by decide, by decide⟩

attribute [local instance] facts

/-- An extended real whose absolute value is below infinity is a real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have ht : Ideal.ofBits .f32 0x7F800000#32 = ⊤ := by
    simp [Ideal.ofBits, Ideal.ieee]
  have hb : ¬ max x (-x) < ⊤ → False := fun hn => by
    rw [ht] at h
    have e : FloatOps.cmpf (F := Ideal) (φ := .f32) .olt (FloatOps.hostAbsf (F := Ideal) (φ := .f32) x) (⊤ : EReal) = BitVec.ofBool (decide (max x (-x) < ⊤)) := rfl
    rw [e, decide_eq_false hn] at h
    exact absurd h (by decide)
  induction x using EReal.rec with
  | bot => exact (hb (by simp)).elim
  | coe r => exact ⟨r, rfl⟩
  | top => exact (hb (by simp)).elim

open Cert.Pre_finite_inputs in
theorem real_of_pre (a0 : FVec Ideal S8x4096x1024 .f32) (a1 : FVec Ideal S8x3x1024 .f32) (a2 : FVec Ideal S1024 .f32) (a3 : FVec Ideal S1024x4624 .f32) (a4 : FVec Ideal S2048x1024 .f32) (a5 : FVec Ideal S1024 .f32)
    (a6 : FVec Ideal S8x128x128 .f32) (a7 : FVec Ideal S8x128 .f32) (a8 : FVec Ideal S4x1536 .f32) (a9 : FVec Ideal S1536 .f32) (a10 a11 a12 : FVec Ideal S16 .f32) (a13 : FVec Ideal S1024 .f32)
    (h : fn (F := Ideal) a0 a1 a2 a3 a4 a5 a6 a7 a8 a9 a10 a11 a12 a13 = fun _ => 1#1) (b : Fin 8) : (argsOf a0 a1 a2 a3 a4 a5 a6 a7 a8 a9 a10 a11 a12 a13 b).IsReal := by
  have h0 := congrFun h ix0
  have k6 := IntOp.andi_eq_one.1 (show IntOp.andi _ _ = 1#1 from h0)
  have k5 := IntOp.andi_eq_one.1 (show IntOp.andi _ _ = 1#1 from k6.1)
  have k4 := IntOp.andi_eq_one.1 (show IntOp.andi _ _ = 1#1 from k5.1)
  have k3 := IntOp.andi_eq_one.1 (show IntOp.andi _ _ = 1#1 from k4.1)
  have k2 := IntOp.andi_eq_one.1 (show IntOp.andi _ _ = 1#1 from k3.1)
  have k1 := IntOp.andi_eq_one.1 (show IntOp.andi _ _ = 1#1 from k2.1)
  haveI : Subsingleton S_.Idx := ⟨fun a b => funext fun i => i.elim0⟩
  exact {
    sh := fun d => real_of_lt _ (Host.reduce_andi_all _ _ _ _ _ k1.1 (ix3 b 0 d))
    sc := fun d => real_of_lt _ (Host.reduce_andi_all _ _ _ _ _ k1.1 (ix3 b 1 d))
    g := fun d => real_of_lt _ (Host.reduce_andi_all _ _ _ _ _ k1.2 (ix1 d))
    w := fun d f => real_of_lt _ (Host.reduce_andi_all _ _ _ _ _ k2.2 (ix2 d f))
    cw := fun k f => real_of_lt _ (Host.reduce_andi_all _ _ _ _ _ k3.2 (ix2 k f))
    cb := fun f => real_of_lt _ (Host.reduce_andi_all _ _ _ _ _ k4.2 (ix1 f))
    db := fun k => real_of_lt _ (Host.reduce_andi_all _ _ _ _ _ k5.2 (ix1 k))
    al := fun k => real_of_lt _ (Host.reduce_andi_all _ _ _ _ _ k6.2 (ix1 k)) }

end Cert.Proof.Hybrid
-- ==== Proof.Hybrid.Claims.lean ====
/-
  The hybrid mixer, the claims about it: its frames, and its result against the reference over the reals, where the inputs are finite.
-/
module

public import proofs.«01_k».proof.Defs
public import proofs.«01_k».proof.Proof.Gen.Kernel7.Frame
public import proofs.«01_k».proof.Proof.Gen.Kernel7Ideal.Value
public import proofs.«01_k».proof.Proof.Hybrid.Steps
public import proofs.«01_k».proof.Proof.Hybrid.RefE
public import proofs.«01_k».proof.Proof.Hybrid.Pre
public import Idealize.ShloMosaic.Lib.Quiescent

@[expose] public section

set_option maxRecDepth 16384

noncomputable section

namespace Cert.Proof.Hybrid

open Idealize.ShloMosaic Idealize.ShloMosaic.TcCoe Idealize.SL.Sem Idealize.ShloMosaic.StableHlo
open Cert.Hybrid Cert.Reference7Ideal.Hybrid

attribute [local instance] facts

theorem frame : Cert.quiescent_Kernel7 := fun m ρ _ => Cert.Kernel7.Gen.frame m ρ

theorem frame_ideal : Cert.quiescent_Kernel7Ideal := fun m ρ _ => Cert.Kernel7Ideal.Gen.frame m ρ

theorem frame_ideal_pre : Cert.quiescent_Kernel7Ideal_pre_finite_inputs := fun m ρ _ => Cert.Kernel7Ideal.Gen.frame m ρ

theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_reference_pre : Cert.quiescent_Reference7Ideal_pre_finite_inputs := fun m ρ _ => frame_reference m ρ trivial

theorem algebraic : Cert.algebraic_Kernel7Ideal_Reference7Ideal_pre_finite_inputs := by
  intro m ρ m' ρ' hpre hag
  have hr := fun c b => real_of_pre _ _ _ _ _ _ _ _ _ _ _ _ _ _ (hpre c) b
  refine ⟨fun c => Cert.Kernel7Ideal.Hybrid.result m c, ?_, ?_⟩
  · exact (θ_run Cert.Kernel7Ideal.defs _ _).mono
      (fun _ h c => ⟨(h c).1.trans (Cert.Kernel7Ideal.Hybrid.final m c (hr c)), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    obtain ⟨h0, h1, h2, h3, h4, h5, h6, h7, h8, h9, h10, h11, h12, h13⟩ := hag c
    have e : ∀ b, ins (launchContents m' c) b = Cert.Kernel7Ideal.Hybrid.args m c b := fun b => by
      show argsOf (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg11)) (m' ((c.tc : Thread Cert.Reference7Ideal.nD Cert.Reference7Ideal.τ).loc Cert.Reference7Ideal.main_arg12)) (m' ((c.tc : Thread Cert.Reference7Ideal.nD Cert.Reference7Ideal.τ).loc Cert.Reference7Ideal.main_arg13)) b = _
      rw [h0, h1, h2, h3, h4, h5, h6, h7, h8, h9, h10, h11, h12, h13]
    have hR : ∀ b, (ins (launchContents m' c) b).IsReal := fun b => by
      rw [e]
      exact hr c b
    funext i
    exact (congrArg _ (eq_ix3 i)).trans ((out_at (launchContents m' c) (i 0) (hR (i 0)) (i 1) (i 2)).trans
      (congrArg (fun A : Args => A.out (i 1 : Fin 4096).val (i 2)) (e (i 0))))

end Cert.Proof.Hybrid
-- ==== Proof.lean ====
/-
  The proof of `Cert.Claim`, put together from the modules of the attention, the feed-forward calls, the projection, the modulation vectors and the hybrid mixer.
-/
module

public import proofs.«01_k».proof.Defs
public import proofs.«01_k».proof.Proof.Attn.Claims
public import proofs.«01_k».proof.Proof.Stick.Claims
public import proofs.«01_k».proof.Proof.Ffn.Claims
public import proofs.«01_k».proof.Proof.FirstFfn.Claims
public import proofs.«01_k».proof.Proof.EvenFfn.Claims
public import proofs.«01_k».proof.Proof.Qkv.Claims
public import proofs.«01_k».proof.Proof.Modulation.Claims
public import proofs.«01_k».proof.Proof.Hybrid.Claims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel4
public import proofs.«01_k».proof.Proof.Gen.Kernel4Ideal
public import proofs.«01_k».proof.Proof.Gen.Reference4Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel7
public import proofs.«01_k».proof.Proof.Gen.Kernel7Ideal
public import proofs.«01_k».proof.Proof.Gen.Reference7Ideal
public import proofs.«01_k».proof.Proof.Gen.Kernel6
public import proofs.«01_k».proof.Proof.Gen.Kernel6Ideal
public import proofs.«01_k».proof.Proof.Gen.Kernel5
public import proofs.«01_k».proof.Proof.Gen.Kernel5Ideal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Stick.facts, Hybrid.facts,
  Attn.frame, Attn.frame_ideal, Stick.frame_ideal, Attn.frame_reference, Stick.frame_reference,
  Ffn.frame, Ffn.frame_ideal, Ffn.frame_reference,
  FirstFfn.frame, FirstFfn.frame_ideal, FirstFfn.frame_reference,
  EvenFfn.frame, EvenFfn.frame_ideal, EvenFfn.frame_reference,
  Qkv.frame, Qkv.frame_ideal, Qkv.frame_reference,
  Modulation.frame, Modulation.frame_ideal, Modulation.frame_reference,
  Hybrid.frame, Hybrid.frame_ideal, Hybrid.frame_ideal_pre, Hybrid.frame_reference, Hybrid.frame_reference_pre,
  Attn.preserves, Stick.algebraic,
  trivial, Ffn.algebraic,
  trivial, FirstFfn.algebraic,
  trivial, EvenFfn.algebraic,
  trivial, Qkv.algebraic,
  trivial, Modulation.algebraic,
  trivial, Hybrid.algebraic⟩

end Cert.Proof

end
